-- ==== Defs.lean ====
def Pre_Kernel [hPre_tables : Cert.Pre_tables.Facts] (m : (ℓ : Loc Cert.Kernel.nD Cert.Kernel.τ Cert.Kernel.sig) → Buf (Elt Bits) ℓ) : Prop :=
  ∀ c : Dev Cert.Kernel.nD,
    (Cert.Pre_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_tables : Cert.Pre_tables.Facts] (m : (ℓ : Loc Cert.KernelIdeal.nD Cert.KernelIdeal.τ Cert.KernelIdeal.sig) → Buf (Elt Ideal) ℓ) : Prop :=
  ∀ c : Dev Cert.KernelIdeal.nD,
    (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_tables : Cert.Pre_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_scored [hPre_scored : Cert.Pre_scored.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_scored.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_scored [hPre_scored : Cert.Pre_scored.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_scored.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] [hPre_tables : Cert.Pre_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_tables : Cert.Pre_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Kernel3Ideal_pre_scored [hKernel3Ideal : Cert.Kernel3Ideal.Facts] [hPre_scored : Cert.Pre_scored.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_scored m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Reference3Ideal_pre_scored [hReference3Ideal : Cert.Reference3Ideal.Facts] [hPre_scored : Cert.Pre_scored.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_scored m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.bf16_pair.Statement Cert.KernelIdeal.S1x2048x512 Cert.KernelIdeal.S1x1024x512
  ∧ IdealRules.bf16_pair.Statement Cert.KernelIdeal.S2048x512 Cert.KernelIdeal.S1024x512
  ∧ IdealRules.bf16_pair.Statement Cert.KernelIdeal.S1x1024x256 Cert.KernelIdeal.S1x512x256
  ∧ IdealRules.bf16_pair.Statement Cert.KernelIdeal.S1024x256 Cert.KernelIdeal.S512x256
  ∧ IdealRules.bf16_pack.Statement Cert.KernelIdeal.S1x512x256

def algebraic_KernelIdeal_ReferenceIdeal_on_live_rows [hKernelIdeal : Cert.KernelIdeal.Facts] [hReferenceIdeal : Cert.ReferenceIdeal.Facts] [hPre_tables : Cert.Pre_tables.Facts] [hOn_live_rows : Cert.On_live_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![81920, 1024]⟩ : Shape).Idx, (Cert.On_live_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) i = 1#1 → r.2.mem ((c.tc : Thread Cert.KernelIdeal.nD Cert.KernelIdeal.τ).loc Cert.KernelIdeal.main_v40) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![81920, 1024]⟩ : Shape).Idx, (Cert.On_live_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) i = 1#1 → r.2.mem ((c.tc : Thread Cert.ReferenceIdeal.nD Cert.ReferenceIdeal.τ).loc Cert.ReferenceIdeal.main_v33) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  IdealRules.bf16_pair.Statement Cert.Kernel2Ideal.S1x1x1024x256 Cert.Kernel2Ideal.S1x1x512x256
  ∧ IdealRules.bf16_pair.Statement Cert.Kernel2Ideal.S1024x256 Cert.Kernel2Ideal.S512x256

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.bf16_pair.Statement Cert.Kernel3Ideal.S1x1024x256 Cert.Kernel3Ideal.S1x512x256
  ∧ IdealRules.bf16_pack.Statement Cert.Kernel3Ideal.S1x512x256

def algebraic_Kernel3Ideal_Reference3Ideal_pre_scored [hKernel3Ideal : Cert.Kernel3Ideal.Facts] [hReference3Ideal : Cert.Reference3Ideal.Facts] [hPre_scored : Cert.Pre_scored.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_scored m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_2)) (v2 : (c : Dev Cert.Kernel3Ideal.nD) → Buf (Elt Ideal) ((c.tc : Thread Cert.Kernel3Ideal.nD Cert.Kernel3Ideal.τ).loc Cert.Kernel3Ideal.main_v8_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_2) = v1 c
          ∧ r.2.mem ((c.tc : Thread Cert.Kernel3Ideal.nD Cert.Kernel3Ideal.τ).loc Cert.Kernel3Ideal.main_v8_4) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_v30) = v1 c
          ∧ r.2.mem ((c.tc : Thread Cert.Reference3Ideal.nD Cert.Reference3Ideal.τ).loc Cert.Reference3Ideal.main_v41) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v21_0)) (v1 : (c : Dev Cert.Kernel4Ideal.nD) → Buf (Elt Ideal) ((c.tc : Thread Cert.Kernel4Ideal.nD Cert.Kernel4Ideal.τ).loc Cert.Kernel4Ideal.main_v21_1)) (v2 : (c : Dev Cert.Kernel4Ideal.nD) → Buf (Elt Ideal) ((c.tc : Thread Cert.Kernel4Ideal.nD Cert.Kernel4Ideal.τ).loc Cert.Kernel4Ideal.main_v21_2)) (v3 : (c : Dev Cert.Kernel4Ideal.nD) → Buf (Elt Ideal) ((c.tc : Thread Cert.Kernel4Ideal.nD Cert.Kernel4Ideal.τ).loc Cert.Kernel4Ideal.main_v21_3)) (v4 : (c : Dev Cert.Kernel4Ideal.nD) → Buf (Elt Ideal) ((c.tc : Thread Cert.Kernel4Ideal.nD Cert.Kernel4Ideal.τ).loc Cert.Kernel4Ideal.main_v21_4)) (v5 : (c : Dev Cert.Kernel4Ideal.nD) → Buf (Elt Ideal) ((c.tc : Thread Cert.Kernel4Ideal.nD Cert.Kernel4Ideal.τ).loc Cert.Kernel4Ideal.main_v21_5)) (v6 : (c : Dev Cert.Kernel4Ideal.nD) → Buf (Elt Ideal) ((c.tc : Thread Cert.Kernel4Ideal.nD Cert.Kernel4Ideal.τ).loc Cert.Kernel4Ideal.main_v21_6)) (v7 : (c : Dev Cert.Kernel4Ideal.nD) → Buf (Elt Ideal) ((c.tc : Thread Cert.Kernel4Ideal.nD Cert.Kernel4Ideal.τ).loc Cert.Kernel4Ideal.main_v21_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21_0) = v0 c
          ∧ r.2.mem ((c.tc : Thread Cert.Kernel4Ideal.nD Cert.Kernel4Ideal.τ).loc Cert.Kernel4Ideal.main_v21_1) = v1 c
          ∧ r.2.mem ((c.tc : Thread Cert.Kernel4Ideal.nD Cert.Kernel4Ideal.τ).loc Cert.Kernel4Ideal.main_v21_2) = v2 c
          ∧ r.2.mem ((c.tc : Thread Cert.Kernel4Ideal.nD Cert.Kernel4Ideal.τ).loc Cert.Kernel4Ideal.main_v21_3) = v3 c
          ∧ r.2.mem ((c.tc : Thread Cert.Kernel4Ideal.nD Cert.Kernel4Ideal.τ).loc Cert.Kernel4Ideal.main_v21_4) = v4 c
          ∧ r.2.mem ((c.tc : Thread Cert.Kernel4Ideal.nD Cert.Kernel4Ideal.τ).loc Cert.Kernel4Ideal.main_v21_5) = v5 c
          ∧ r.2.mem ((c.tc : Thread Cert.Kernel4Ideal.nD Cert.Kernel4Ideal.τ).loc Cert.Kernel4Ideal.main_v21_6) = v6 c
          ∧ r.2.mem ((c.tc : Thread Cert.Kernel4Ideal.nD Cert.Kernel4Ideal.τ).loc Cert.Kernel4Ideal.main_v21_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v49) = v0 c
          ∧ r.2.mem ((c.tc : Thread Cert.Reference4Ideal.nD Cert.Reference4Ideal.τ).loc Cert.Reference4Ideal.main_v50) = v1 c
          ∧ r.2.mem ((c.tc : Thread Cert.Reference4Ideal.nD Cert.Reference4Ideal.τ).loc Cert.Reference4Ideal.main_v51) = v2 c
          ∧ r.2.mem ((c.tc : Thread Cert.Reference4Ideal.nD Cert.Reference4Ideal.τ).loc Cert.Reference4Ideal.main_v52) = v3 c
          ∧ r.2.mem ((c.tc : Thread Cert.Reference4Ideal.nD Cert.Reference4Ideal.τ).loc Cert.Reference4Ideal.main_v53) = v4 c
          ∧ r.2.mem ((c.tc : Thread Cert.Reference4Ideal.nD Cert.Reference4Ideal.τ).loc Cert.Reference4Ideal.main_v54) = v5 c
          ∧ r.2.mem ((c.tc : Thread Cert.Reference4Ideal.nD Cert.Reference4Ideal.τ).loc Cert.Reference4Ideal.main_v55) = v6 c
          ∧ r.2.mem ((c.tc : Thread Cert.Reference4Ideal.nD Cert.Reference4Ideal.τ).loc Cert.Reference4Ideal.main_v56) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_tables : Cert.Pre_tables.Facts) (hPre_scored : Cert.Pre_scored.Facts) (hOn_live_rows : Cert.On_live_rows.Facts),
    quiescent_Kernel (hKernel := hKernel) (hPre_tables := hPre_tables)
    ∧ quiescent_KernelIdeal (hKernelIdeal := hKernelIdeal) (hPre_tables := hPre_tables)
    ∧ quiescent_ReferenceIdeal (hReferenceIdeal := hReferenceIdeal) (hPre_tables := hPre_tables)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_scored (hKernel3Ideal := hKernel3Ideal) (hPre_scored := hPre_scored)
    ∧ quiescent_Reference3Ideal (hReference3Ideal := hReference3Ideal)
    ∧ quiescent_Reference3Ideal_pre_scored (hReference3Ideal := hReference3Ideal) (hPre_scored := hPre_scored)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_on_live_rows (hKernelIdeal := hKernelIdeal) (hReferenceIdeal := hReferenceIdeal) (hPre_tables := hPre_tables) (hOn_live_rows := hOn_live_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_scored (hKernel3Ideal := hKernel3Ideal) (hReference3Ideal := hReference3Ideal) (hPre_scored := hPre_scored)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== On_live_rows.lean ====
abbrev S160 : Shape := ⟨1, ![160]⟩
abbrev S1 : Shape := ⟨1, ![1]⟩
abbrev S81920x1024 : Shape := ⟨2, ![81920, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  shapeCasts_S1_S_ : S1.ShapeCasts S_
  bcast_S_S81920x1024 : S_.BroadcastsInDim S81920x1024 (![] : Fin 0 → Fin S81920x1024.rank)

variable [Facts]

def fn {F : FTy → Type} [FloatOps F] (main_arg0 : IVec S160 32) (main_arg1 : IVec S1 32) (main_arg2 : FVec F S81920x1024 .f32) (main_arg3 : FVec F S32x1024x2048 .f32) (main_arg4 : FVec F S32x2048 .f32) (main_arg5 : FVec F S32x1024x1024 .f32) (main_arg6 : FVec F S32x1024 .f32) : IVec S81920x1024 1 :=
  let main_v0 : IVec S81920x1024 32 := iotaInDim S81920x1024 32 0
  let main_v1 : IVec S_ 32 := shapeCast S_ main_arg1 shapeCasts_S1_S_
  let main_c : IVec S_ 32 := constantI S_ 32 512#32
  let main_v2 : IVec S_ 32 := muli main_v1 main_c
  let main_v3 : IVec S81920x1024 32 := broadcastInDim S81920x1024 ![] bcast_S_S81920x1024 main_v2
  let main_v4 : IVec S81920x1024 1 := cmpi .slt main_v0 main_v3
  main_v4
-- ==== Pre_scored.lean ====
abbrev S16384x1024 : Shape := ⟨2, ![16384, 1024]⟩
abbrev S16384x512 : Shape := ⟨2, ![16384, 512]⟩
abbrev S512x1024 : Shape := ⟨2, ![512, 1024]⟩
abbrev S1024x1024 : Shape := ⟨2, ![1024, 1024]⟩
abbrev S1x1024 : Shape := ⟨2, ![1, 1024]⟩
abbrev S1024x32 : Shape := ⟨2, ![1024, 32]⟩
abbrev S1x32 : Shape := ⟨2, ![1, 32]⟩
abbrev S_ : Shape := ⟨0, ![]⟩
abbrev S16384 : Shape := ⟨1, ![16384]⟩
abbrev S16384x1 : Shape := ⟨2, ![16384, 1]⟩
abbrev S16384x32 : Shape := ⟨2, ![16384, 32]⟩
abbrev S16384x4 : Shape := ⟨2, ![16384, 4]⟩

class Facts : Prop where
  bcast_S1x1024_S16384x1024_0_1 : S1x1024.BroadcastsInDim S16384x1024 (![0, 1] : Fin 2 → Fin S16384x1024.rank)
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  bcast_S_S1x1024 : S_.BroadcastsInDim S1x1024 (![] : Fin 0 → Fin S1x1024.rank)
  bcast_S1x32_S16384x32_0_1 : S1x32.BroadcastsInDim S16384x32 (![0, 1] : Fin 2 → Fin S16384x32.rank)
  sliceFits_S16384x32_S16384x4 : S16384x32.Slices (fun _ => 0) S16384x4
  bcast_S_S16384x4 : S_.BroadcastsInDim S16384x4 (![] : Fin 0 → Fin S16384x4.rank)
  reducesTo_S16384x4_S_d0_1 : S16384x4.ReducesTo [0, 1] S_
  dot_S16384x512_S512x1024_S16384x1024_1_0_0_1_n_n_wf : DotDims.WF S16384x512 S512x1024 S16384x1024 [1] [0] [0] [1] [] []
  dot_S16384x1024_S1024x1024_S16384x1024_1_0_0_1_n_n_wf : DotDims.WF S16384x1024 S1024x1024 S16384x1024 [1] [0] [0] [1] [] []
  dot_S16384x1024_S1024x32_S16384x32_1_0_0_1_n_n_wf : DotDims.WF S16384x1024 S1024x32 S16384x32 [1] [0] [0] [1] [] []

variable [Facts]

def dot_S16384x512_S512x1024_S16384x1024_1_0_0_1_n_n : DotDims S16384x512 S512x1024 S16384x1024 where
  lhsContracting := [1]
  rhsContracting := [0]
  lhsNonContracting := [0]
  rhsNonContracting := [1]
  lhsBatch := []
  rhsBatch := []
  wf := dot_S16384x512_S512x1024_S16384x1024_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x1024_S1024x32_S16384x32_1_0_0_1_n_n : DotDims S16384x1024 S1024x32 S16384x32 where
  lhsContracting := [1]
  rhsContracting := [0]
  lhsNonContracting := [0]
  rhsNonContracting := [1]
  lhsBatch := []
  rhsBatch := []
  wf := dot_S16384x1024_S1024x32_S16384x32_1_0_0_1_n_n_wf
def fn_part1 {F : FTy → Type} [FloatOps F] (main_arg10 : FVec F S1x1024 .f32) (main_arg11 : FVec F S1x1024 .f32) (main_arg12 : FVec F S1024x32 .f32) (main_arg13 : FVec F S1x32 .f32) (main_v20 : FVec F S16384x1024 .f32) : IVec S_ 1 :=
  let main_cst_2 : FVec F S_ .f32 := constant S_ .f32 0x3F800000#32
  let main_v21 : FVec F S1x1024 .f32 := broadcastInDim S1x1024 ![] bcast_S_S1x1024 main_cst_2
  let main_v22 : FVec F S1x1024 .f32 := addf main_v21 main_arg11
  let main_v23 : FVec F S16384x1024 .f32 := broadcastInDim S16384x1024 ![0, 1] bcast_S1x1024_S16384x1024_0_1 main_v22
  let main_v24 : FVec F S16384x1024 .f32 := mulf main_v20 main_v23
  let main_v25 : FVec F S16384x1024 .f32 := broadcastInDim S16384x1024 ![0, 1] bcast_S1x1024_S16384x1024_0_1 main_arg10
  let main_v26 : FVec F S16384x1024 .f32 := addf main_v24 main_v25
  let main_v27 : FVec F S16384x32 .f32 := (fun l r => Host.dotGeneral dot_S16384x1024_S1024x32_S16384x32_1_0_0_1_n_n none l r) main_v26 main_arg12
  let main_v28 : FVec F S16384x32 .f32 := broadcastInDim S16384x32 ![0, 1] bcast_S1x32_S16384x32_0_1 main_arg13
  let main_v29 : FVec F S16384x32 .f32 := addf main_v27 main_v28
  let main_values : FVec F S16384x4 .f32 := (fun x => (Host.topK S16384x4 1 (FloatOps.cmpfTotal .gt) x sliceFits_S16384x32_S16384x4).1) main_v29
  let main_indices : IVec S16384x4 32 := (fun x => (Host.topK S16384x4 1 (FloatOps.cmpfTotal .gt) x sliceFits_S16384x32_S16384x4).2) main_v29
  let main_cst_3 : FVec F S_ .f32 := constant S_ .f32 0xFF800000#32
  let main_v30 : FVec F S16384x4 .f32 := broadcastInDim S16384x4 ![] bcast_S_S16384x4 main_cst_3
  let main_v31 : IVec S16384x4 1 := cmpf .ogt main_values main_v30
  let main_c : IVec S_ 1 := constantI S_ 1 1#1
  let main_v32 : IVec S_ 1 := (fun x v => Host.reduce IntOp.andi x v reducesTo_S16384x4_S_d0_1 h_S_) main_v31 main_c
  main_v32

def fn {F : FTy → Type} [FloatOps F] (main_arg0 : FVec F S16384x1024 .f32) (main_arg1 : FVec F S16384x512 .f32) (main_arg2 : FVec F S16384x512 .f32) (main_arg3 : FVec F S16384x1024 .f32) (main_arg4 : FVec F S16384x1024 .f32) (main_arg5 : FVec F S512x1024 .f32) (main_arg6 : FVec F S512x1024 .f32) (main_arg7 : FVec F S1024x1024 .f32) (main_arg8 : FVec F S1x1024 .f32) (main_arg9 : FVec F S1x1024 .f32) (main_arg10 : FVec F S1x1024 .f32) (main_arg11 : FVec F S1x1024 .f32) (main_arg12 : FVec F S1024x32 .f32) (main_arg13 : FVec F S1x32 .f32) : IVec S_ 1 :=
  let main_v0 : FVec F S16384x1024 .f32 := (fun l r => Host.dotGeneral dot_S16384x512_S512x1024_S16384x1024_1_0_0_1_n_n none l r) main_arg1 main_arg5
  let main_v1 : FVec F S16384x1024 .f32 := mulf main_arg3 main_v0
  let main_v2 : FVec F S16384x1024 .f32 := (fun l r => Host.dotGeneral dot_S16384x512_S512x1024_S16384x1024_1_0_0_1_n_n none l r) main_arg2 main_arg6
  let main_v3 : FVec F S16384x1024 .f32 := mulf main_arg4 main_v2
  let main_v4 : FVec F S16384x1024 .f32 := addf main_v1 main_v3
  let main_v5 : FVec F S16384x1024 .f32 := (fun l r => Host.dotGeneral dot_S16384x1024_S1024x1024_S16384x1024_1_0_0_1_n_n none l r) main_v4 main_arg7
  let main_v6 : FVec F S16384x1024 .f32 := broadcastInDim S16384x1024 ![0, 1] bcast_S1x1024_S16384x1024_0_1 main_arg8
  let main_v7 : FVec F S16384x1024 .f32 := mulf main_v6 main_v5
  let main_v8 : FVec F S16384x1024 .f32 := addf main_arg0 main_v7
  let main_v9 : FVec F S16384x1024 .f32 := mulf main_v8 main_v8
  let main_cst : FVec F S_ .f32 := constant S_ .f32 0x00000000#32
  let main_v10 : FVec F S16384 .f32 := (fun x v => Host.reduceAdd x v reducesTo_S16384x1024_S16384_d1 h_S_) main_v9 main_cst
  let main_v11 : FVec F S16384x1 .f32 := broadcastInDim S16384x1 ![0] bcast_S16384_S16384x1_0 main_v10
  let main_cst_0 : FVec F S_ .f32 := constant S_ .f32 0x44800000#32
  let main_v12 : FVec F S16384x1 .f32 := broadcastInDim S16384x1 ![] bcast_S_S16384x1 main_cst_0
  let main_v13 : FVec F S16384x1 .f32 := Host.divf main_v11 main_v12
  let main_cst_1 : FVec F S_ .f32 := constant S_ .f32 0x3727C5AC#32
  let main_v14 : FVec F S16384x1 .f32 := broadcastInDim S16384x1 ![] bcast_S_S16384x1 main_cst_1
  let main_v15 : FVec F S16384x1 .f32 := addf main_v13 main_v14
  let main_v16 : FVec F S16384x1 .f32 := Host.rsqrt main_v15
  let main_v17 : FVec F S16384x1024 .f32 := broadcastInDim S16384x1024 ![0, 1] bcast_S16384x1_S16384x1024_0_1 main_v16
  let main_v18 : FVec F S16384x1024 .f32 := mulf main_v8 main_v17
  let main_v19 : FVec F S16384x1024 .f32 := broadcastInDim S16384x1024 ![0, 1] bcast_S1x1024_S16384x1024_0_1 main_arg9
  let main_v20 : FVec F S16384x1024 .f32 := mulf main_v18 main_v19
  fn_part1 (F := F) main_arg10 main_arg11 main_arg12 main_arg13 main_v20
-- ==== Pre_tables.lean ====
abbrev S160 : Shape := ⟨1, ![160]⟩
abbrev S1 : Shape := ⟨1, ![1]⟩
abbrev S81920x1024 : Shape := ⟨2, ![81920, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S160 : S_.BroadcastsInDim S160 (![] : Fin 0 → Fin S160.rank)
  reducesTo_S160_S_d0 : S160.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S160 32) (main_arg1 : IVec S1 32) (main_arg2 : FVec F S81920x1024 .f32) (main_arg3 : FVec F S32x1024x2048 .f32) (main_arg4 : FVec F S32x2048 .f32) (main_arg5 : FVec F S32x1024x1024 .f32) (main_arg6 : FVec F S32x1024 .f32) : IVec S_ 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 1 := constantI S_ 1 1#1
  let main_v2 : IVec S_ 1 := (fun x v => Host.reduce IntOp.andi x v reducesTo_S160_S_d0 h_S_) main_v1 main_c_0
  let main_c_1 : IVec S_ 32 := constantI S_ 32 32#32
  let main_v3 : IVec S160 32 := broadcastInDim S160 ![] bcast_S_S160 main_c_1
  let main_v4 : IVec S160 1 := cmpi .slt main_arg0 main_v3
  let main_c_2 : IVec S_ 1 := constantI S_ 1 1#1
  let main_v5 : IVec S_ 1 := (fun x v => Host.reduce IntOp.andi x v reducesTo_S160_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg1 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  let main_c_5 : IVec S_ 32 := constantI S_ 32 160#32
  let main_v11 : IVec S1 32 := broadcastInDim S1 ![] bcast_S_S1 main_c_5
  let main_v12 : IVec S1 1 := cmpi .sle main_arg1 main_v11
  let main_c_6 : IVec S_ 1 := constantI S_ 1 1#1
  let main_v13 : IVec S_ 1 := (fun x v => Host.reduce IntOp.andi x v reducesTo_S1_S_d0 h_S_) main_v12 main_c_6
  let main_v14 : IVec S_ 1 := andi main_v10 main_v13
  main_v14
-- ==== Kernel.lean ====
abbrev S160 : Shape := ⟨1, ![160]⟩
abbrev S1 : Shape := ⟨1, ![1]⟩
abbrev S81920x1024 : Shape := ⟨2, ![81920, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S159 : Shape := ⟨1, ![159]⟩
abbrev S160x1 : Shape := ⟨2, ![160, 1]⟩
abbrev S81920x2x2x256 : Shape := ⟨4, ![81920, 2, 2, 256]⟩
abbrev S2x81920x2x256 : Shape := ⟨4, ![2, 81920, 2, 256]⟩
abbrev S2x163840x256 : Shape := ⟨3, ![2, 163840, 256]⟩
abbrev S32x1024x2x512x2 : Shape := ⟨5, ![32, 1024, 2, 512, 2]⟩
abbrev S32x1024x2x2x512 : Shape := ⟨5, ![32, 1024, 2, 2, 512]⟩
abbrev S32x2048x1024 : Shape := ⟨3, ![32, 2048, 1024]⟩
abbrev S32x2048x512 : Shape := ⟨3, ![32, 2048, 512]⟩
abbrev S32x1024x2 : Shape := ⟨3, ![32, 1024, 2]⟩
abbrev S32x1024x1 : Shape := ⟨3, ![32, 1024, 1]⟩
abbrev S32x1x1024 : Shape := ⟨3, ![32, 1, 1024]⟩
abbrev S2x1024x256 : Shape := ⟨3, ![2, 1024, 256]⟩
abbrev S1x2048x1024 : Shape := ⟨3, ![1, 2048, 1024]⟩
abbrev S1x1x1024 : Shape := ⟨3, ![1, 1, 1024]⟩
abbrev S1x2048x512 : Shape := ⟨3, ![1, 2048, 512]⟩
abbrev S1024x1024 : Shape := ⟨2, ![1024, 1024]⟩
abbrev S1x1024x1024 : Shape := ⟨3, ![1, 1024, 1024]⟩
abbrev S1x1024x512 : Shape := ⟨3, ![1, 1024, 512]⟩
abbrev S1024x512 : Shape := ⟨2, ![1024, 512]⟩
abbrev S2x512x256 : Shape := ⟨3, ![2, 512, 256]⟩
abbrev S1x512x256 : Shape := ⟨3, ![1, 512, 256]⟩
abbrev S1x1024x256 : Shape := ⟨3, ![1, 1024, 256]⟩
abbrev S512x256 : Shape := ⟨2, ![512, 256]⟩
abbrev S512x1024 : Shape := ⟨2, ![512, 1024]⟩
abbrev S1x1024 : Shape := ⟨2, ![1, 1024]⟩

abbrev nBuf : Space → Nat
  | .hbm => 49
  | .vmem => 17
  | .smem => 3
  | _ => 0

abbrev bufTy : (tb : Table) → Fin (tcTables nBuf tb) → BufTy
  | .hbm, ⟨0, _⟩ => ⟨S160, .i32⟩
  | .hbm, ⟨1, _⟩ => ⟨S81920x1024, .f32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S_, .i32⟩
  | .hbm, ⟨7, _⟩ => ⟨S1, .i32⟩
  | .hbm, ⟨8, _⟩ => ⟨S159, .i32⟩
  | .hbm, ⟨9, _⟩ => ⟨S159, .i32⟩
  | .hbm, ⟨10, _⟩ => ⟨S159, .i1⟩
  | .hbm, ⟨11, _⟩ => ⟨S159, .i32⟩
  | .hbm, ⟨12, _⟩ => ⟨S160, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S160, .i32⟩
  | .hbm, ⟨17, _⟩ => ⟨S160, .i32⟩
  | .hbm, ⟨18, _⟩ => ⟨S_, .i32⟩
  | .hbm, ⟨19, _⟩ => ⟨S160, .i32⟩
  | .hbm, ⟨20, _⟩ => ⟨S160, .i1⟩
  | .hbm, ⟨21, _⟩ => ⟨S_, .i32⟩
  | .hbm, ⟨22, _⟩ => ⟨S160, .i32⟩
  | .hbm, ⟨23, _⟩ => ⟨S160, .i32⟩
  | .hbm, ⟨24, _⟩ => ⟨S160, .i32⟩
  | .hbm, ⟨25, _⟩ => ⟨S160x1, .i32⟩
  | .hbm, ⟨26, _⟩ => ⟨S81920x1024, .bf16⟩
  | .hbm, ⟨27, _⟩ => ⟨S81920x2x2x256, .bf16⟩
  | .hbm, ⟨28, _⟩ => ⟨S2x81920x2x256, .bf16⟩
  | .hbm, ⟨29, _⟩ => ⟨S2x163840x256, .bf16⟩
  | .hbm, ⟨30, _⟩ => ⟨S32x1024x2048, .bf16⟩
  | .hbm, ⟨31, _⟩ => ⟨S32x1024x2x512x2, .bf16⟩
  | .hbm, ⟨32, _⟩ => ⟨S32x1024x2x2x512, .bf16⟩
  | .hbm, ⟨33, _⟩ => ⟨S32x2048x1024, .bf16⟩
  | .hbm, ⟨34, _⟩ => ⟨S32x1024x1024, .bf16⟩
  | .hbm, ⟨35, _⟩ => ⟨S32x2048x512, .bf16⟩
  | .hbm, ⟨36, _⟩ => ⟨S32x1024x2, .f32⟩
  | .hbm, ⟨37, _⟩ => ⟨S32x1024x1, .f32⟩
  | .hbm, ⟨38, _⟩ => ⟨S32x1024, .f32⟩
  | .hbm, ⟨39, _⟩ => ⟨S32x1x1024, .f32⟩
  | .hbm, ⟨40, _⟩ => ⟨S32x1024x1, .f32⟩
  | .hbm, ⟨41, _⟩ => ⟨S32x1024, .f32⟩
  | .hbm, ⟨42, _⟩ => ⟨S32x1x1024, .f32⟩
  | .hbm, ⟨43, _⟩ => ⟨S32x1x1024, .f32⟩
  | .hbm, ⟨44, _⟩ => ⟨S2x163840x256, .bf16⟩
  | .hbm, ⟨45, _⟩ => ⟨S2x81920x2x256, .bf16⟩
  | .hbm, ⟨46, _⟩ => ⟨S81920x2x2x256, .bf16⟩
  | .hbm, ⟨47, _⟩ => ⟨S81920x1024, .bf16⟩
  | .hbm, ⟨48, _⟩ => ⟨S81920x1024, .f32⟩
  | .local _ .vmem, ⟨0, _⟩ => ⟨S2x1024x256, .bf16⟩
  | .local _ .vmem, ⟨1, _⟩ => ⟨S2x1024x256, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x2048x512, .bf16⟩
  | .local _ .vmem, ⟨9, _⟩ => ⟨S1x2048x512, .bf16⟩
  | .local _ .vmem, ⟨10, _⟩ => ⟨S1x1x1024, .f32⟩
  | .local _ .vmem, ⟨11, _⟩ => ⟨S1x1x1024, .f32⟩
  | .local _ .vmem, ⟨12, _⟩ => ⟨S2x1024x256, .bf16⟩
  | .local _ .vmem, ⟨13, _⟩ => ⟨S2x1024x256, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .smem, ⟨0, _⟩ => ⟨S160, .i32⟩
  | .local _ .smem, ⟨1, _⟩ => ⟨S160, .i32⟩
  | .local _ .smem, ⟨2, _⟩ => ⟨S1, .i32⟩
  | _, _ => ⟨S160, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v17 : Ref sig .tc := ⟨.smem, 0, rfl⟩
abbrev main_v5 : Ref sig .tc := ⟨.smem, 1, rfl⟩
abbrev main_arg1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨1, ![160], ![false]⟩

abbrev pre0 : Pipeline.Prefetch sig := ⟨3, ![main_v17.idx, main_v5.idx, main_arg1.idx], fun | 0 => main_v17.names | 1 => main_v5.names | 2 => main_arg1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) (v0 : BitVec 32) : BitVec 1 :=
  let arg0 : BitVec 32 := BitVec.ofNat 32 (i 0).val
  let v1 : BitVec 1 := Scalar.cmpi .slt arg0 v0
  let v8 : BitVec 32 := Scalar.extui v1
  let c0_i32_0 : BitVec 32 := 0#32
  let v9 : BitVec 1 := Scalar.cmpi .ne v8 c0_i32_0
  v9

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![c0_i32.toNat, v2.toNat, c0_i32_0.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![c0_i32.toNat, v2.toNat, c0_i32_0.toNat]

abbrev stage0_0 : Fin 2 → Memref sig .tc .vmem S2x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
abbrev S2048x512 : Shape := ⟨2, ![2048, 512]⟩
abbrev S1024x256 : Shape := ⟨2, ![1024, 256]⟩
variable {F : FTy → Type} [FloatOps F]
-- ==== ReferenceIdeal.lean ====
abbrev S160 : Shape := ⟨1, ![160]⟩
abbrev S1 : Shape := ⟨1, ![1]⟩
abbrev S81920x1024 : Shape := ⟨2, ![81920, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S160x1 : Shape := ⟨2, ![160, 1]⟩
abbrev S160x512 : Shape := ⟨2, ![160, 512]⟩
abbrev S81920 : Shape := ⟨1, ![81920]⟩
abbrev S81920x1 : Shape := ⟨2, ![81920, 1]⟩
abbrev S1x32 : Shape := ⟨2, ![1, 32]⟩
abbrev S81920x32 : Shape := ⟨2, ![81920, 32]⟩
abbrev S81920x32x2048 : Shape := ⟨3, ![81920, 32, 2048]⟩
abbrev S1x32x2048 : Shape := ⟨3, ![1, 32, 2048]⟩
abbrev S81920x32x1024 : Shape := ⟨3, ![81920, 32, 1024]⟩
abbrev S_ : Shape := ⟨0, ![]⟩
abbrev S32x81920x1024 : Shape := ⟨3, ![32, 81920, 1024]⟩
abbrev S32x1x1024 : Shape := ⟨3, ![32, 1, 1024]⟩
abbrev S32x81920 : Shape := ⟨2, ![32, 81920]⟩
abbrev S32x81920x1 : Shape := ⟨3, ![32, 81920, 1]⟩

abbrev nBuf : Space → Nat
  | .hbm => 59
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S81920x1024, .f32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S160x1, .i32⟩
  | .hbm, ⟨8, _⟩ => ⟨S160x512, .i32⟩
  | .hbm, ⟨9, _⟩ => ⟨S81920, .i32⟩
  | .hbm, ⟨10, _⟩ => ⟨S81920x1, .i32⟩
  | .hbm, ⟨11, _⟩ => ⟨S1x32, .i32⟩
  | .hbm, ⟨12, _⟩ => ⟨S81920x32, .i32⟩
  | .hbm, ⟨13, _⟩ => ⟨S81920x32, .i32⟩
  | .hbm, ⟨14, _⟩ => ⟨S81920x32, .i1⟩
  | .hbm, ⟨15, _⟩ => ⟨S81920x32, .f32⟩
  | .hbm, ⟨16, _⟩ => ⟨S81920x32x2048, .f32⟩
  | .hbm, ⟨17, _⟩ => ⟨S1x32x2048, .f32⟩
  | .hbm, ⟨18, _⟩ => ⟨S81920x32x2048, .f32⟩
  | .hbm, ⟨19, _⟩ => ⟨S81920x32x2048, .f32⟩
  | .hbm, ⟨20, _⟩ => ⟨S81920x32x1024, .f32⟩
  | .hbm, ⟨21, _⟩ => ⟨S_, .f32⟩
  | .hbm, ⟨22, _⟩ => ⟨S81920x32x1024, .f32⟩
  | .hbm, ⟨23, _⟩ => ⟨S81920x32x1024, .f32⟩
  | .hbm, ⟨24, _⟩ => ⟨S81920x32x1024, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S81920x32x1024, .f32⟩
  | .hbm, ⟨29, _⟩ => ⟨S81920x32x1024, .f32⟩
  | .hbm, ⟨30, _⟩ => ⟨S_, .f32⟩
  | .hbm, ⟨31, _⟩ => ⟨S81920x32x1024, .f32⟩
  | .hbm, ⟨32, _⟩ => ⟨S81920x32x1024, .f32⟩
  | .hbm, ⟨33, _⟩ => ⟨S_, .f32⟩
  | .hbm, ⟨34, _⟩ => ⟨S81920x32x1024, .f32⟩
  | .hbm, ⟨35, _⟩ => ⟨S81920x32x1024, .f32⟩
  | .hbm, ⟨36, _⟩ => ⟨S81920x32x1024, .f32⟩
  | .hbm, ⟨37, _⟩ => ⟨S81920x32x1024, .f32⟩
  | .hbm, ⟨38, _⟩ => ⟨S_, .f32⟩
  | .hbm, ⟨39, _⟩ => ⟨S81920x32x1024, .f32⟩
  | .hbm, ⟨40, _⟩ => ⟨S81920x32x1024, .f32⟩
  | .hbm, ⟨41, _⟩ => ⟨S_, .f32⟩
  | .hbm, ⟨42, _⟩ => ⟨S81920x32x1024, .f32⟩
  | .hbm, ⟨43, _⟩ => ⟨S81920x32x1024, .f32⟩
  | .hbm, ⟨44, _⟩ => ⟨S81920x32x1024, .f32⟩
  | .hbm, ⟨45, _⟩ => ⟨S_, .f32⟩
  | .hbm, ⟨46, _⟩ => ⟨S81920x32x1024, .f32⟩
  | .hbm, ⟨47, _⟩ => ⟨S81920x32x1024, .f32⟩
  | .hbm, ⟨48, _⟩ => ⟨S81920x32x1024, .f32⟩
  | .hbm, ⟨49, _⟩ => ⟨S32x81920x1024, .f32⟩
  | .hbm, ⟨50, _⟩ => ⟨S32x1x1024, .f32⟩
  | .hbm, ⟨51, _⟩ => ⟨S32x81920x1024, .f32⟩
  | .hbm, ⟨52, _⟩ => ⟨S32x81920x1024, .f32⟩
  | .hbm, ⟨53, _⟩ => ⟨S32x81920, .f32⟩
  | .hbm, ⟨54, _⟩ => ⟨S32x81920x1, .f32⟩
  | .hbm, ⟨55, _⟩ => ⟨S32x81920x1024, .f32⟩
  | .hbm, ⟨56, _⟩ => ⟨S32x81920x1024, .f32⟩
  | .hbm, ⟨57, _⟩ => ⟨S_, .f32⟩
  | .hbm, ⟨58, _⟩ => ⟨S81920x1024, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_cst_1 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_v17 : Ref sig .tc := ⟨.hbm, 39, rfl⟩
abbrev main_v18 : Ref sig .tc := ⟨.hbm, 40, rfl⟩
abbrev main_cst_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_6 : Ref sig .tc := ⟨.hbm, 57, rfl⟩
abbrev main_v33 : Ref sig .tc := ⟨.hbm, 58, rfl⟩

abbrev nD : Nat := 1
abbrev τ : Topo := Topo.v7x

variable {F : FTy → Type} [FloatOps F]
-- ==== Kernel2.lean ====
abbrev S16384x1024 : Shape := ⟨2, ![16384, 1024]⟩
abbrev S4x16384x1024 : Shape := ⟨3, ![4, 16384, 1024]⟩
abbrev S16384x4 : Shape := ⟨2, ![16384, 4]⟩
abbrev S1x1024 : Shape := ⟨2, ![1, 1024]⟩
abbrev S1024 : Shape := ⟨1, ![1024]⟩
abbrev S4x16384x2x2x256 : Shape := ⟨5, ![4, 16384, 2, 2, 256]⟩
abbrev S2x4x16384x2x256 : Shape := ⟨5, ![2, 4, 16384, 2, 256]⟩
abbrev S2x4x32768x256 : Shape := ⟨4, ![2, 4, 32768, 256]⟩
abbrev S512x1024 : Shape := ⟨2, ![512, 1024]⟩
abbrev S2x4x1024x256 : Shape := ⟨4, ![2, 4, 1024, 256]⟩
abbrev S512x4 : Shape := ⟨2, ![512, 4]⟩
abbrev S2x4x512x256 : Shape := ⟨4, ![2, 4, 512, 256]⟩
abbrev S1x1x512x256 : Shape := ⟨4, ![1, 1, 512, 256]⟩
abbrev S1x1x1024x256 : Shape := ⟨4, ![1, 1, 1024, 256]⟩
abbrev S512x256 : Shape := ⟨2, ![512, 256]⟩
abbrev S512x1 : Shape := ⟨2, ![512, 1]⟩
abbrev S512 : Shape := ⟨1, ![512]⟩

abbrev nBuf : Space → Nat
  | .hbm => 11
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S4x16384x1024, .f32⟩
  | .hbm, ⟨2, _⟩ => ⟨S16384x4, .f32⟩
  | .hbm, ⟨3, _⟩ => ⟨S1x1024, .f32⟩
  | .hbm, ⟨4, _⟩ => ⟨S1024, .f32⟩
  | .hbm, ⟨5, _⟩ => ⟨S4x16384x1024, .bf16⟩
  | .hbm, ⟨6, _⟩ => ⟨S4x16384x2x2x256, .bf16⟩
  | .hbm, ⟨7, _⟩ => ⟨S2x4x16384x2x256, .bf16⟩
  | .hbm, ⟨8, _⟩ => ⟨S2x4x32768x256, .bf16⟩
  | .hbm, ⟨9, _⟩ => ⟨S1x1024, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S2x4x1024x256, .bf16⟩
  | .local _ .vmem, ⟨3, _⟩ => ⟨S2x4x1024x256, .bf16⟩
  | .local _ .vmem, ⟨4, _⟩ => ⟨S512x4, .f32⟩
  | .local _ .vmem, ⟨5, _⟩ => ⟨S512x4, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x4x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel2Ideal.lean ====
abbrev S1024x256 : Shape := ⟨2, ![1024, 256]⟩
variable {F : FTy → Type} [FloatOps F]
-- ==== Reference2Ideal.lean ====
abbrev S16384x1024 : Shape := ⟨2, ![16384, 1024]⟩
abbrev S4x16384x1024 : Shape := ⟨3, ![4, 16384, 1024]⟩
abbrev S16384x4 : Shape := ⟨2, ![16384, 4]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x16384x1024, .f32⟩
  | .hbm, ⟨2, _⟩ => ⟨S16384x4, .f32⟩
  | .hbm, ⟨3, _⟩ => ⟨S1x1024, .f32⟩
  | .hbm, ⟨4, _⟩ => ⟨S1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel3.lean ====
abbrev S16384x1024 : Shape := ⟨2, ![16384, 1024]⟩
abbrev S16384x512 : Shape := ⟨2, ![16384, 512]⟩
abbrev S512x1024 : Shape := ⟨2, ![512, 1024]⟩
abbrev S1024x1024 : Shape := ⟨2, ![1024, 1024]⟩
abbrev S1x1024 : Shape := ⟨2, ![1, 1024]⟩
abbrev S1024x32 : Shape := ⟨2, ![1024, 32]⟩
abbrev S1x32 : Shape := ⟨2, ![1, 32]⟩
abbrev S2x32768x256 : Shape := ⟨3, ![2, 32768, 256]⟩
abbrev S4x16384 : Shape := ⟨2, ![4, 16384]⟩
abbrev S16384x4 : Shape := ⟨2, ![16384, 4]⟩
abbrev S512x512 : Shape := ⟨2, ![512, 512]⟩
abbrev S2x1024x256 : Shape := ⟨3, ![2, 1024, 256]⟩
abbrev S4x512 : Shape := ⟨2, ![4, 512]⟩
abbrev S512x4 : Shape := ⟨2, ![512, 4]⟩
abbrev S512 : Shape := ⟨1, ![512]⟩
abbrev S512x1 : Shape := ⟨2, ![512, 1]⟩
abbrev S512x256 : Shape := ⟨2, ![512, 256]⟩
abbrev S1x512x256 : Shape := ⟨3, ![1, 512, 256]⟩
abbrev S2x512x256 : Shape := ⟨3, ![2, 512, 256]⟩
abbrev S1x1024x256 : Shape := ⟨3, ![1, 1024, 256]⟩
abbrev S512x32 : Shape := ⟨2, ![512, 32]⟩
abbrev S32 : Shape := ⟨1, ![32]⟩
abbrev S512x16 : Shape := ⟨2, ![512, 16]⟩
abbrev S16x16 : Shape := ⟨2, ![16, 16]⟩
abbrev S16x512 : Shape := ⟨2, ![16, 512]⟩

abbrev nBuf : Space → Nat
  | .hbm => 28
  | .vmem => 31
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x1024, .f32⟩
  | .hbm, ⟨4, _⟩ => ⟨S16384x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024x32, .f32⟩
  | .hbm, ⟨13, _⟩ => ⟨S1x32, .f32⟩
  | .hbm, ⟨14, _⟩ => ⟨S16384x512, .bf16⟩
  | .hbm, ⟨15, _⟩ => ⟨S16384x512, .bf16⟩
  | .hbm, ⟨16, _⟩ => ⟨S16384x1024, .bf16⟩
  | .hbm, ⟨17, _⟩ => ⟨S16384x1024, .bf16⟩
  | .hbm, ⟨18, _⟩ => ⟨S512x1024, .bf16⟩
  | .hbm, ⟨19, _⟩ => ⟨S512x1024, .bf16⟩
  | .hbm, ⟨20, _⟩ => ⟨S1024x1024, .bf16⟩
  | .hbm, ⟨21, _⟩ => ⟨S1024x32, .bf16⟩
  | .hbm, ⟨22, _⟩ => ⟨S16384x1024, .f32⟩
  | .hbm, ⟨23, _⟩ => ⟨S2x32768x256, .bf16⟩
  | .hbm, ⟨24, _⟩ => ⟨S4x16384, .i32⟩
  | .hbm, ⟨25, _⟩ => ⟨S4x16384, .i32⟩
  | .hbm, ⟨26, _⟩ => ⟨S16384x4, .f32⟩
  | .hbm, ⟨27, _⟩ => ⟨S1x32, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1024x32, .bf16⟩
  | .local _ .vmem, ⟨18, _⟩ => ⟨S1x32, .f32⟩
  | .local _ .vmem, ⟨19, _⟩ => ⟨S512x1024, .f32⟩
  | .local _ .vmem, ⟨20, _⟩ => ⟨S512x1024, .f32⟩
  | .local _ .vmem, ⟨21, _⟩ => ⟨S2x1024x256, .bf16⟩
  | .local _ .vmem, ⟨22, _⟩ => ⟨S2x1024x256, .bf16⟩
  | .local _ .vmem, ⟨23, _⟩ => ⟨S4x512, .i32⟩
  | .local _ .vmem, ⟨24, _⟩ => ⟨S4x512, .i32⟩
  | .local _ .vmem, ⟨25, _⟩ => ⟨S4x512, .i32⟩
  | .local _ .vmem, ⟨26, _⟩ => ⟨S4x512, .i32⟩
  | .local _ .vmem, ⟨27, _⟩ => ⟨S512x4, .f32⟩
  | .local _ .vmem, ⟨28, _⟩ => ⟨S512x4, .f32⟩
  | .local _ .vmem, ⟨29, _⟩ => ⟨S1x32, .f32⟩
  | .local _ .vmem, ⟨30, _⟩ => ⟨S1x32, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev main_v8_2 : Ref sig .tc := ⟨.hbm, 24, rfl⟩
abbrev main_v8_3 : Ref sig .tc := ⟨.hbm, 25, rfl⟩
abbrev main_v8_4 : Ref sig .tc := ⟨.hbm, 26, rfl⟩
abbrev main_v8_5 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x32 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x512 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x512 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x4 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x32 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Kernel3Ideal.lean ====
variable {F : FTy → Type} [FloatOps F]
-- ==== Reference3Ideal.lean ====
abbrev S16384x1024 : Shape := ⟨2, ![16384, 1024]⟩
abbrev S16384x512 : Shape := ⟨2, ![16384, 512]⟩
abbrev S512x1024 : Shape := ⟨2, ![512, 1024]⟩
abbrev S1024x1024 : Shape := ⟨2, ![1024, 1024]⟩
abbrev S1x1024 : Shape := ⟨2, ![1, 1024]⟩
abbrev S1024x32 : Shape := ⟨2, ![1024, 32]⟩
abbrev S1x32 : Shape := ⟨2, ![1, 32]⟩
abbrev S_ : Shape := ⟨0, ![]⟩
abbrev S16384 : Shape := ⟨1, ![16384]⟩
abbrev S16384x1 : Shape := ⟨2, ![16384, 1]⟩
abbrev S16384x32 : Shape := ⟨2, ![16384, 32]⟩
abbrev S16384x4 : Shape := ⟨2, ![16384, 4]⟩
abbrev S4x16384 : Shape := ⟨2, ![4, 16384]⟩

abbrev nBuf : Space → Nat
  | .hbm => 65
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x1024, .f32⟩
  | .hbm, ⟨4, _⟩ => ⟨S16384x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024x32, .f32⟩
  | .hbm, ⟨13, _⟩ => ⟨S1x32, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S1x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x32, .f32⟩
  | .hbm, ⟨46, _⟩ => ⟨S16384x32, .f32⟩
  | .hbm, ⟨47, _⟩ => ⟨S16384x32, .f32⟩
  | .hbm, ⟨48, _⟩ => ⟨S16384x4, .f32⟩
  | .hbm, ⟨49, _⟩ => ⟨S16384x4, .i32⟩
  | .hbm, ⟨50, _⟩ => ⟨S4x16384, .i32⟩
  | .hbm, ⟨51, _⟩ => ⟨S_, .f32⟩
  | .hbm, ⟨52, _⟩ => ⟨S16384, .f32⟩
  | .hbm, ⟨53, _⟩ => ⟨S_, .f32⟩
  | .hbm, ⟨54, _⟩ => ⟨S16384, .f32⟩
  | .hbm, ⟨55, _⟩ => ⟨S16384, .f32⟩
  | .hbm, ⟨56, _⟩ => ⟨S16384x1, .f32⟩
  | .hbm, ⟨57, _⟩ => ⟨S16384x4, .f32⟩
  | .hbm, ⟨58, _⟩ => ⟨S16384x4, .f32⟩
  | .hbm, ⟨59, _⟩ => ⟨S16384x4, .f32⟩
  | .hbm, ⟨60, _⟩ => ⟨S_, .f32⟩
  | .hbm, ⟨61, _⟩ => ⟨S16384, .f32⟩
  | .hbm, ⟨62, _⟩ => ⟨S16384x1, .f32⟩
  | .hbm, ⟨63, _⟩ => ⟨S16384x4, .f32⟩
  | .hbm, ⟨64, _⟩ => ⟨S16384x4, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_values : Ref sig .tc := ⟨.hbm, 48, rfl⟩
abbrev main_indices : Ref sig .tc := ⟨.hbm, 49, rfl⟩
abbrev main_v30 : Ref sig .tc := ⟨.hbm, 50, rfl⟩
abbrev main_cst_3 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_5 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩

abbrev nD : Nat := 1
abbrev τ : Topo := Topo.v7x

variable {F : FTy → Type} [FloatOps F]
-- ==== Kernel4.lean ====
abbrev S16384x1024 : Shape := ⟨2, ![16384, 1024]⟩
abbrev S1x1024 : Shape := ⟨2, ![1, 1024]⟩
abbrev S1024x4360 : Shape := ⟨2, ![1024, 4360]⟩
abbrev S1x8 : Shape := ⟨2, ![1, 8]⟩
abbrev S512x8 : Shape := ⟨2, ![512, 8]⟩
abbrev S3x8x128 : Shape := ⟨3, ![3, 8, 128]⟩
abbrev S1024x512 : Shape := ⟨2, ![1024, 512]⟩
abbrev S1024x128 : Shape := ⟨2, ![1024, 128]⟩
abbrev S1024x64 : Shape := ⟨2, ![1024, 64]⟩
abbrev S1024x256 : Shape := ⟨2, ![1024, 256]⟩
abbrev S1024x768 : Shape := ⟨2, ![1024, 768]⟩
abbrev S_ : Shape := ⟨0, ![]⟩
abbrev S1024x120 : Shape := ⟨2, ![1024, 120]⟩
abbrev S1024x1024 : Shape := ⟨2, ![1024, 1024]⟩
abbrev S1024x8 : Shape := ⟨2, ![1024, 8]⟩
abbrev S1024x1152 : Shape := ⟨2, ![1024, 1152]⟩
abbrev S1024x640 : Shape := ⟨2, ![1024, 640]⟩
abbrev S640x1024 : Shape := ⟨2, ![640, 1024]⟩
abbrev S1024x2048 : Shape := ⟨2, ![1024, 2048]⟩
abbrev S16384x512 : Shape := ⟨2, ![16384, 512]⟩
abbrev S16384x256 : Shape := ⟨2, ![16384, 256]⟩
abbrev S128x16384 : Shape := ⟨2, ![128, 16384]⟩
abbrev S512x16384 : Shape := ⟨2, ![512, 16384]⟩
abbrev S16384x128 : Shape := ⟨2, ![16384, 128]⟩
abbrev S64x1x8 : Shape := ⟨3, ![64, 1, 8]⟩
abbrev S512x1024 : Shape := ⟨2, ![512, 1024]⟩
abbrev S512x512 : Shape := ⟨2, ![512, 512]⟩
abbrev S512x256 : Shape := ⟨2, ![512, 256]⟩
abbrev S128x512 : Shape := ⟨2, ![128, 512]⟩
abbrev S512x128 : Shape := ⟨2, ![512, 128]⟩
abbrev S2x1x8 : Shape := ⟨3, ![2, 1, 8]⟩
abbrev S512 : Shape := ⟨1, ![512]⟩
abbrev S512x1 : Shape := ⟨2, ![512, 1]⟩
abbrev S512x768 : Shape := ⟨2, ![512, 768]⟩
abbrev S512x1152 : Shape := ⟨2, ![512, 1152]⟩
abbrev S640x512 : Shape := ⟨2, ![640, 512]⟩
abbrev S256x8 : Shape := ⟨2, ![256, 8]⟩
abbrev S8 : Shape := ⟨1, ![8]⟩
abbrev S1x1x8 : Shape := ⟨3, ![1, 1, 8]⟩
abbrev S512x2048 : Shape := ⟨2, ![512, 2048]⟩
abbrev S256x256 : Shape := ⟨2, ![256, 256]⟩
abbrev S1x8x128 : Shape := ⟨3, ![1, 8, 128]⟩
abbrev S8x128 : Shape := ⟨2, ![8, 128]⟩
abbrev S256x128 : Shape := ⟨2, ![256, 128]⟩

abbrev nBuf : Space → Nat
  | .hbm => 44
  | .vmem => 41
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x4360, .f32⟩
  | .hbm, ⟨5, _⟩ => ⟨S1x8, .f32⟩
  | .hbm, ⟨6, _⟩ => ⟨S512x8, .bf16⟩
  | .hbm, ⟨7, _⟩ => ⟨S3x8x128, .bf16⟩
  | .hbm, ⟨8, _⟩ => ⟨S1024x512, .f32⟩
  | .hbm, ⟨9, _⟩ => ⟨S1024x128, .f32⟩
  | .hbm, ⟨10, _⟩ => ⟨S1024x64, .f32⟩
  | .hbm, ⟨11, _⟩ => ⟨S1024x64, .f32⟩
  | .hbm, ⟨12, _⟩ => ⟨S1024x64, .f32⟩
  | .hbm, ⟨13, _⟩ => ⟨S1024x64, .f32⟩
  | .hbm, ⟨14, _⟩ => ⟨S1024x256, .f32⟩
  | .hbm, ⟨15, _⟩ => ⟨S1024x768, .f32⟩
  | .hbm, ⟨16, _⟩ => ⟨S1024x768, .bf16⟩
  | .hbm, ⟨17, _⟩ => ⟨S_, .f32⟩
  | .hbm, ⟨18, _⟩ => ⟨S1024x120, .f32⟩
  | .hbm, ⟨19, _⟩ => ⟨S1024x1024, .f32⟩
  | .hbm, ⟨20, _⟩ => ⟨S1024x8, .f32⟩
  | .hbm, ⟨21, _⟩ => ⟨S1024x1152, .f32⟩
  | .hbm, ⟨22, _⟩ => ⟨S1024x1152, .bf16⟩
  | .hbm, ⟨23, _⟩ => ⟨S1024x512, .f32⟩
  | .hbm, ⟨24, _⟩ => ⟨S1024x128, .f32⟩
  | .hbm, ⟨25, _⟩ => ⟨S1024x640, .f32⟩
  | .hbm, ⟨26, _⟩ => ⟨S640x1024, .f32⟩
  | .hbm, ⟨27, _⟩ => ⟨S640x1024, .bf16⟩
  | .hbm, ⟨28, _⟩ => ⟨S1024x2048, .f32⟩
  | .hbm, ⟨29, _⟩ => ⟨S1024x2048, .bf16⟩
  | .hbm, ⟨30, _⟩ => ⟨S16384x512, .bf16⟩
  | .hbm, ⟨31, _⟩ => ⟨S16384x256, .bf16⟩
  | .hbm, ⟨32, _⟩ => ⟨S128x16384, .bf16⟩
  | .hbm, ⟨33, _⟩ => ⟨S16384x512, .bf16⟩
  | .hbm, ⟨34, _⟩ => ⟨S16384x512, .bf16⟩
  | .hbm, ⟨35, _⟩ => ⟨S512x16384, .bf16⟩
  | .hbm, ⟨36, _⟩ => ⟨S16384x1024, .bf16⟩
  | .hbm, ⟨37, _⟩ => ⟨S16384x1024, .bf16⟩
  | .hbm, ⟨38, _⟩ => ⟨S16384x128, .bf16⟩
  | .hbm, ⟨39, _⟩ => ⟨S64x1x8, .f32⟩
  | .hbm, ⟨40, _⟩ => ⟨S64x1x8, .f32⟩
  | .hbm, ⟨41, _⟩ => ⟨S64x1x8, .f32⟩
  | .hbm, ⟨42, _⟩ => ⟨S64x1x8, .f32⟩
  | .hbm, ⟨43, _⟩ => ⟨S64x1x8, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x768, .bf16⟩
  | .local _ .vmem, ⟨6, _⟩ => ⟨S1024x1152, .bf16⟩
  | .local _ .vmem, ⟨7, _⟩ => ⟨S640x1024, .bf16⟩
  | .local _ .vmem, ⟨8, _⟩ => ⟨S1024x2048, .bf16⟩
  | .local _ .vmem, ⟨9, _⟩ => ⟨S1x8, .f32⟩
  | .local _ .vmem, ⟨10, _⟩ => ⟨S512x8, .bf16⟩
  | .local _ .vmem, ⟨11, _⟩ => ⟨S3x8x128, .bf16⟩
  | .local _ .vmem, ⟨12, _⟩ => ⟨S512x512, .bf16⟩
  | .local _ .vmem, ⟨13, _⟩ => ⟨S512x512, .bf16⟩
  | .local _ .vmem, ⟨14, _⟩ => ⟨S512x256, .bf16⟩
  | .local _ .vmem, ⟨15, _⟩ => ⟨S512x256, .bf16⟩
  | .local _ .vmem, ⟨16, _⟩ => ⟨S128x512, .bf16⟩
  | .local _ .vmem, ⟨17, _⟩ => ⟨S128x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x128, .bf16⟩
  | .local _ .vmem, ⟨29, _⟩ => ⟨S512x128, .bf16⟩
  | .local _ .vmem, ⟨30, _⟩ => ⟨S2x1x8, .f32⟩
  | .local _ .vmem, ⟨31, _⟩ => ⟨S2x1x8, .f32⟩
  | .local _ .vmem, ⟨32, _⟩ => ⟨S2x1x8, .f32⟩
  | .local _ .vmem, ⟨33, _⟩ => ⟨S2x1x8, .f32⟩
  | .local _ .vmem, ⟨34, _⟩ => ⟨S2x1x8, .f32⟩
  | .local _ .vmem, ⟨35, _⟩ => ⟨S2x1x8, .f32⟩
  | .local _ .vmem, ⟨36, _⟩ => ⟨S2x1x8, .f32⟩
  | .local _ .vmem, ⟨37, _⟩ => ⟨S2x1x8, .f32⟩
  | .local _ .vmem, ⟨38, _⟩ => ⟨S2x1x8, .f32⟩
  | .local _ .vmem, ⟨39, _⟩ => ⟨S2x1x8, .f32⟩
  | .local _ .vmem, ⟨40, _⟩ => ⟨S1x8, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev main_v21_4 : Ref sig .tc := ⟨.hbm, 34, rfl⟩
abbrev main_v21_5 : Ref sig .tc := ⟨.hbm, 35, rfl⟩
abbrev main_v21_6 : Ref sig .tc := ⟨.hbm, 36, rfl⟩
abbrev main_v21_7 : Ref sig .tc := ⟨.hbm, 37, rfl⟩
abbrev main_v21_8 : Ref sig .tc := ⟨.hbm, 38, rfl⟩
abbrev main_v21_9 : Ref sig .tc := ⟨.hbm, 39, rfl⟩
abbrev main_v21_10 : Ref sig .tc := ⟨.hbm, 40, rfl⟩
abbrev main_v21_11 : Ref sig .tc := ⟨.hbm, 41, rfl⟩
abbrev main_v21_12 : Ref sig .tc := ⟨.hbm, 42, rfl⟩
abbrev main_v21_13 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_stg23_0 : Ref sig .tc := ⟨.vmem, 36, rfl⟩
abbrev cc0_stg23_1 : Ref sig .tc := ⟨.vmem, 37, rfl⟩
abbrev cc0_stg24_0 : Ref sig .tc := ⟨.vmem, 38, rfl⟩
abbrev cc0_stg24_1 : Ref sig .tc := ⟨.vmem, 39, rfl⟩
abbrev cc0_scratch0 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35
abbrev cc0_sem23_0 : DmaSem sig := 36
abbrev cc0_sem23_1 : DmaSem sig := 37
abbrev cc0_sem24_0 : DmaSem sig := 38
abbrev cc0_sem24_1 : DmaSem sig := 39

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1152 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S640x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x8 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x8x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S2x1x8 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S2x1x8 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S2x1x8 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S2x1x8 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S2x1x8 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== Reference4Ideal.lean ====
abbrev S16384x1024 : Shape := ⟨2, ![16384, 1024]⟩
abbrev S1x1024 : Shape := ⟨2, ![1, 1024]⟩
abbrev S1024x4360 : Shape := ⟨2, ![1024, 4360]⟩
abbrev S1x8 : Shape := ⟨2, ![1, 8]⟩
abbrev S_ : Shape := ⟨0, ![]⟩
abbrev S16384 : Shape := ⟨1, ![16384]⟩
abbrev S16384x1 : Shape := ⟨2, ![16384, 1]⟩
abbrev S16384x4360 : Shape := ⟨2, ![16384, 4360]⟩
abbrev S16384x512 : Shape := ⟨2, ![16384, 512]⟩
abbrev S16384x128 : Shape := ⟨2, ![16384, 128]⟩
abbrev S16384x8 : Shape := ⟨2, ![16384, 8]⟩
abbrev S16384x2x1x64 : Shape := ⟨4, ![16384, 2, 1, 64]⟩
abbrev S16384x2x2x64 : Shape := ⟨4, ![16384, 2, 2, 64]⟩
abbrev S16384x256 : Shape := ⟨2, ![16384, 256]⟩
abbrev S128x16384 : Shape := ⟨2, ![128, 16384]⟩
abbrev S512x16384 : Shape := ⟨2, ![512, 16384]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x4360, .f32⟩
  | .hbm, ⟨5, _⟩ => ⟨S1x8, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x4360, .f32⟩
  | .hbm, ⟨29, _⟩ => ⟨S16384x512, .f32⟩
  | .hbm, ⟨30, _⟩ => ⟨S16384x128, .f32⟩
  | .hbm, ⟨31, _⟩ => ⟨S16384x128, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x8, .f32⟩
  | .hbm, ⟨36, _⟩ => ⟨S16384x1024, .f32⟩
  | .hbm, ⟨37, _⟩ => ⟨S16384x1024, .f32⟩
  | .hbm, ⟨38, _⟩ => ⟨S16384x2x1x64, .f32⟩
  | .hbm, ⟨39, _⟩ => ⟨S16384x2x2x64, .f32⟩
  | .hbm, ⟨40, _⟩ => ⟨S16384x256, .f32⟩
  | .hbm, ⟨41, _⟩ => ⟨S_, .f32⟩
  | .hbm, ⟨42, _⟩ => ⟨S16384x512, .f32⟩
  | .hbm, ⟨43, _⟩ => ⟨S16384x512, .f32⟩
  | .hbm, ⟨44, _⟩ => ⟨S128x16384, .f32⟩
  | .hbm, ⟨45, _⟩ => ⟨S_, .f32⟩
  | .hbm, ⟨46, _⟩ => ⟨S16384x512, .f32⟩
  | .hbm, ⟨47, _⟩ => ⟨S16384x512, .f32⟩
  | .hbm, ⟨48, _⟩ => ⟨S512x16384, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384x1024, .f32⟩
  | .hbm, ⟨64, _⟩ => ⟨S16384x1024, .f32⟩
  | .hbm, ⟨65, _⟩ => ⟨S16384x512, .bf16⟩
  | .hbm, ⟨66, _⟩ => ⟨S16384x256, .bf16⟩
  | .hbm, ⟨67, _⟩ => ⟨S128x16384, .bf16⟩
  | .hbm, ⟨68, _⟩ => ⟨S16384x512, .bf16⟩
  | .hbm, ⟨69, _⟩ => ⟨S16384x512, .bf16⟩
  | .hbm, ⟨70, _⟩ => ⟨S512x16384, .bf16⟩
  | .hbm, ⟨71, _⟩ => ⟨S16384x1024, .bf16⟩
  | .hbm, ⟨72, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩

abbrev nD : Nat := 1
abbrev τ : Topo := Topo.v7x

variable {F : FTy → Type} [FloatOps F]
-- ==== Kernel5.lean ====
abbrev S1x1024 : Shape := ⟨2, ![1, 1024]⟩
abbrev S1024x6144 : Shape := ⟨2, ![1024, 6144]⟩
abbrev S1x6144 : Shape := ⟨2, ![1, 6144]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 5
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1024x6144, .f32⟩
  | .hbm, ⟨2, _⟩ => ⟨S1x6144, .f32⟩
  | .hbm, ⟨3, _⟩ => ⟨S1024x1, .f32⟩
  | .hbm, ⟨4, _⟩ => ⟨S1x6144, .f32⟩
  | .local _ .vmem, ⟨0, _⟩ => ⟨S1024x1, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S1x1024 : Shape := ⟨2, ![1, 1024]⟩
abbrev S1024x6144 : Shape := ⟨2, ![1024, 6144]⟩
abbrev S1x6144 : Shape := ⟨2, ![1, 6144]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1024x6144, .f32⟩
  | .hbm, ⟨2, _⟩ => ⟨S1x6144, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x6144, .f32⟩
  | .hbm, ⟨13, _⟩ => ⟨S1x6144, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩

abbrev nD : Nat := 1
abbrev τ : Topo := Topo.v7x

variable {F : FTy → Type} [FloatOps F]
-- ==== Proof.Word.Runs.lean ====
/- The kernel body of the routed experts run once, path by path (program `Kernel`): what it leaves in the staging buffer of the
   result and in the three weight scratches, at any contents of the staging buffers it is handed. -/
module

public import proofs.«01_k».proof.Defs
public import proofs.«01_k».proof.Proof.Gen.Kernel
public import proofs.«01_k».proof.Proof.Gen.Kernel.Launch
public import proofs.«01_k».proof.Proof.Gen.Kernel.Skeleton
public import Idealize.ShloMosaic.Lib.Pipeline.Kit
public import Idealize.ShloMosaic.Lib.Pipeline.TableIdle
public import Idealize.ShloMosaic.Lib.Pipeline.FrameBody
public import Idealize.ShloMosaic.Lib.Pipeline.FrameSuffix
public import Idealize.ShloMosaic.Lib.Pipeline.Quiescent
public import Idealize.ShloMosaic.Lib.Claim
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel.Moe

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ

/-- The prefetched tables (expert of the tile, load flag, number of live tiles) and the weight scratches, whole. -/
abbrev tbM0_0 : Memref sig .tc .smem S160 .i32 := Memref.whole main_v17
abbrev tbM0_1 : Memref sig .tc .smem S160 .i32 := Memref.whole main_v5
abbrev tbM0_2 : Memref sig .tc .smem S1 .i32 := Memref.whole main_arg1
abbrev scM0_0 : Memref sig .tc .vmem S1024x1024 .bf16 := Memref.whole cc0_scratch0
abbrev scM0_1 : Memref sig .tc .vmem S1024x1024 .bf16 := Memref.whole cc0_scratch1
abbrev scM0_2 : Memref sig .tc .vmem S1024x1024 .bf16 := Memref.whole cc0_scratch2

/-! ## The kernel body per control path, on symbolic staging memrefs: a subtype the run finds -/

/-- One staging buffer of output window 6, through which its contents are stated (`View.read_writes_of_cover`). -/
abbrev VO0_6 : View sig .tc .vmem S2x1024x256 .bf16 := (Memref.whole cc0_stg6_0 : Memref sig .tc .vmem S2x1024x256 .bf16).view

set_option backward.proofsInPublic true in
set_option maxHeartbeats 8000000 in
/-- PATH A: what the body leaves — per stored output its pieces (last first), per scratch its
    contents — WITH the proof that, on whole staging memrefs, from the inputs at their blocks, the tables, the outputs
    (6: stored) and the scratches (0: covered, 1: covered, 2: covered), under the path's decisions as
    hypotheses over the words the body reads (`hc0`; `k0_h2`), the body runs to the continuation holding all of it as stated. The
    skeleton (`Gen.*_eq_skeleton`) run by `sl_exec`, loops of literal trip count unrolled by the run, the others by `sl_unroll`. -/
noncomputable def kernelRun0_A (c : Dev nD) (i : grid0.Coords) (arg4 : Memref sig .tc .vmem S2x1024x256 .bf16) (harg4 : arg4.IsWhole) (arg5 : Memref sig .tc .vmem S1x2048x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x2048x512 .bf16) (harg8 : arg8.IsWhole) (arg9 : Memref sig .tc .vmem S1x1x1024 .f32) (harg9 : arg9.IsWhole) (arg10 : Memref sig .tc .vmem S2x1024x256 .bf16) (harg10 : arg10.IsWhole) (T0 : (S160.Idx → Elt Bits .i32)) (T1 : (S160.Idx → Elt Bits .i32)) (T2 : (S1.Idx → Elt Bits .i32))
     (x0 : (S2x1024x256.Idx → Elt Bits .bf16)) (x1 : (S1x2048x1024.Idx → Elt Bits .bf16)) (x2 : (S1x1x1024.Idx → Elt Bits .f32)) (x3 : (S1x1x1024.Idx → Elt Bits .f32)) (x4 : (S1x2048x512.Idx → Elt Bits .bf16)) (x5 : (S1x1x1024.Idx → Elt Bits .f32)) (hc0 : (Scalar.cmpi .ne (Scalar.extui (Scalar.andi (Scalar.cmpi .slt (BitVec.ofNat 32 (i 0).val) (View.readAt (Elt Bits) (tbM0_2).view (Rect.unit (s := S1) ![0] S1.size inb_S1_S1_0).toLoadRect T2 (Shape.Idx.first (numel1_S1.symm ▸ Nat.one_pos)))) (Scalar.cmpi .eq (View.readAt (Elt Bits) (tbM0_1).view (Rect.unit (s := S160) (k0_off1 i) S1.size (k0_off1_inb i)).toLoadRect T1 (Shape.Idx.first (numel1_S1.symm ▸ Nat.one_pos))) 1#32))) 0#32) = 1#1) (k0_h2 : k0_cond2 i (View.readAt (Elt Bits) (tbM0_2).view (Rect.unit (s := S1) ![0] S1.size inb_S1_S1_0).toLoadRect T2 (Shape.Idx.first (numel1_S1.symm ▸ Nat.one_pos))) = 1#1) :
    Σ' (out0 : List (View.Piece (Elt Bits) S2x1024x256 .bf16)) (out1 : Buf (Elt Bits) ((c : Thread nD τ).loc cc0_scratch0)) (out2 : Buf (Elt Bits) ((c : Thread nD τ).loc cc0_scratch1)), { out3 : Buf (Elt Bits) ((c : Thread nD τ).loc cc0_scratch2) //
      ∀ (xa0 : Buf (Elt Bits) ((c : Thread nD τ).loc cc0_scratch0)) (xa1 : Buf (Elt Bits) ((c : Thread nD τ).loc cc0_scratch1)) (xa2 : Buf (Elt Bits) ((c : Thread nD τ).loc cc0_scratch2)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (∃ d, owns (c : Thread nD τ) arg10 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (∃ f, arg10.view.loc (c : Thread nD τ) ↦[arg10.view.set]{fullShare} arg10.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Bits)) Variants.none c none) Set.univ (cc0_moe_routed i tbM0_0 (Memref.isWhole_whole _) tbM0_1 (Memref.isWhole_whole _) tbM0_2 (Memref.isWhole_whole _) arg4 harg4 arg5 harg5 arg6 harg6 arg7 harg7 arg8 harg8 arg9 harg9 arg10 harg10 scM0_0 (Memref.isWhole_whole _) scM0_1 (Memref.isWhole_whole _) scM0_2 (Memref.isWhole_whole _)) K } :=
  ⟨_, _, _, _, fun (xa0 : Buf (Elt Bits) ((c : Thread nD τ).loc cc0_scratch0)) (xa1 : Buf (Elt Bits) ((c : Thread nD τ).loc cc0_scratch1)) (xa2 : Buf (Elt Bits) ((c : Thread nD τ).loc cc0_scratch2)) K => by
    unfold owns
    rw [cc0_moe_routed_eq_skeleton]; unfold cc0_moe_routed_skel
    iintro ⟨H0, H1, H2, H3, H4, H5, HT0, HT1, HT2, ⟨%d6, %f6, -, HO6⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = Scalar.cmpi = _; exact hc0) | (guard_target = k0_cond2 _ _ = _; exact k0_h2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HT2]; · iexact HT2
    isplitl [HO6]; · iexists _; iexact HO6
    isplitl [HS0]; · iexact HS0
    isplitl [HS1]; · iexact HS1
    iexact HS2⟩

/-- Path A's pieces for output 6 tile its block (2 stores of `S1x1024x256`: the kernel evaluates the tiling, Lib/Ring.lean `Piece.tiledL`). -/
theorem cover0_A_6 (c : Dev nD) (i : grid0.Coords) (arg4 : Memref sig .tc .vmem S2x1024x256 .bf16) (harg4 : arg4.IsWhole) (arg5 : Memref sig .tc .vmem S1x2048x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x2048x512 .bf16) (harg8 : arg8.IsWhole) (arg9 : Memref sig .tc .vmem S1x1x1024 .f32) (harg9 : arg9.IsWhole) (arg10 : Memref sig .tc .vmem S2x1024x256 .bf16) (harg10 : arg10.IsWhole) (T0 : (S160.Idx → Elt Bits .i32)) (T1 : (S160.Idx → Elt Bits .i32)) (T2 : (S1.Idx → Elt Bits .i32))
     (x0 : (S2x1024x256.Idx → Elt Bits .bf16)) (x1 : (S1x2048x1024.Idx → Elt Bits .bf16)) (x2 : (S1x1x1024.Idx → Elt Bits .f32)) (x3 : (S1x1x1024.Idx → Elt Bits .f32)) (x4 : (S1x2048x512.Idx → Elt Bits .bf16)) (x5 : (S1x1x1024.Idx → Elt Bits .f32)) (hc0 : (Scalar.cmpi .ne (Scalar.extui (Scalar.andi (Scalar.cmpi .slt (BitVec.ofNat 32 (i 0).val) (View.readAt (Elt Bits) (tbM0_2).view (Rect.unit (s := S1) ![0] S1.size inb_S1_S1_0).toLoadRect T2 (Shape.Idx.first (numel1_S1.symm ▸ Nat.one_pos)))) (Scalar.cmpi .eq (View.readAt (Elt Bits) (tbM0_1).view (Rect.unit (s := S160) (k0_off1 i) S1.size (k0_off1_inb i)).toLoadRect T1 (Shape.Idx.first (numel1_S1.symm ▸ Nat.one_pos))) 1#32))) 0#32) = 1#1) (k0_h2 : k0_cond2 i (View.readAt (Elt Bits) (tbM0_2).view (Rect.unit (s := S1) ![0] S1.size inb_S1_S1_0).toLoadRect T2 (Shape.Idx.first (numel1_S1.symm ▸ Nat.one_pos))) = 1#1) (y : S2x1024x256.Idx) :
    ∃ pc ∈ (kernelRun0_A c i arg4 harg4 arg5 harg5 arg6 harg6 arg7 harg7 arg8 harg8 arg9 harg9 arg10 harg10 T0 T1 T2 x0 x1 x2 x3 x4 x5 hc0 k0_h2).1, y ∈ pc.1.set :=
  View.cover_of_tiledL (kernelRun0_A c i arg4 harg4 arg5 harg5 arg6 harg6 arg7 harg7 arg8 harg8 arg9 harg9 arg10 harg10 T0 T1 T2 x0 x1 x2 x3 x4 x5 hc0 k0_h2).1 S1x1024x256.size (by sl_kernel_rfl) y

/-- What path A leaves in output 6's staging buffer: its pieces read back over junk. -/
def out0_A_6 (c : Dev nD) (i : grid0.Coords) (arg4 : Memref sig .tc .vmem S2x1024x256 .bf16) (harg4 : arg4.IsWhole) (arg5 : Memref sig .tc .vmem S1x2048x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x2048x512 .bf16) (harg8 : arg8.IsWhole) (arg9 : Memref sig .tc .vmem S1x1x1024 .f32) (harg9 : arg9.IsWhole) (arg10 : Memref sig .tc .vmem S2x1024x256 .bf16) (harg10 : arg10.IsWhole) (T0 : (S160.Idx → Elt Bits .i32)) (T1 : (S160.Idx → Elt Bits .i32)) (T2 : (S1.Idx → Elt Bits .i32))
     (x0 : (S2x1024x256.Idx → Elt Bits .bf16)) (x1 : (S1x2048x1024.Idx → Elt Bits .bf16)) (x2 : (S1x1x1024.Idx → Elt Bits .f32)) (x3 : (S1x1x1024.Idx → Elt Bits .f32)) (x4 : (S1x2048x512.Idx → Elt Bits .bf16)) (x5 : (S1x1x1024.Idx → Elt Bits .f32)) (hc0 : (Scalar.cmpi .ne (Scalar.extui (Scalar.andi (Scalar.cmpi .slt (BitVec.ofNat 32 (i 0).val) (View.readAt (Elt Bits) (tbM0_2).view (Rect.unit (s := S1) ![0] S1.size inb_S1_S1_0).toLoadRect T2 (Shape.Idx.first (numel1_S1.symm ▸ Nat.one_pos)))) (Scalar.cmpi .eq (View.readAt (Elt Bits) (tbM0_1).view (Rect.unit (s := S160) (k0_off1 i) S1.size (k0_off1_inb i)).toLoadRect T1 (Shape.Idx.first (numel1_S1.symm ▸ Nat.one_pos))) 1#32))) 0#32) = 1#1) (k0_h2 : k0_cond2 i (View.readAt (Elt Bits) (tbM0_2).view (Rect.unit (s := S1) ![0] S1.size inb_S1_S1_0).toLoadRect T2 (Shape.Idx.first (numel1_S1.symm ▸ Nat.one_pos))) = 1#1) : (S2x1024x256.Idx → Elt Bits .bf16) :=
  VO0_6.read (Elt Bits) (VO0_6.writes (Elt Bits) VO0_6.junk (kernelRun0_A c i arg4 harg4 arg5 harg5 arg6 harg6 arg7 harg7 arg8 harg8 arg9 harg9 arg10 harg10 T0 T1 T2 x0 x1 x2 x3 x4 x5 hc0 k0_h2).1)

set_option backward.proofsInPublic true in
set_option maxHeartbeats 8000000 in
/-- PATH B: what the body leaves — per stored output its pieces (last first), per scratch its
    contents — WITH the proof that, on whole staging memrefs, from the inputs at their blocks, the tables, the outputs
    (6: stored) and the scratches (0: carried, 1: carried, 2: carried), under the path's decisions as
    hypotheses over the words the body reads (`hc0`; `k0_h2`), the body runs to the continuation holding all of it as stated. The
    skeleton (`Gen.*_eq_skeleton`) run by `sl_exec`, loops of literal trip count unrolled by the run, the others by `sl_unroll`. -/
noncomputable def kernelRun0_B (c : Dev nD) (i : grid0.Coords) (arg4 : Memref sig .tc .vmem S2x1024x256 .bf16) (harg4 : arg4.IsWhole) (arg5 : Memref sig .tc .vmem S1x2048x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x2048x512 .bf16) (harg8 : arg8.IsWhole) (arg9 : Memref sig .tc .vmem S1x1x1024 .f32) (harg9 : arg9.IsWhole) (arg10 : Memref sig .tc .vmem S2x1024x256 .bf16) (harg10 : arg10.IsWhole) (T0 : (S160.Idx → Elt Bits .i32)) (T1 : (S160.Idx → Elt Bits .i32)) (T2 : (S1.Idx → Elt Bits .i32))
     (x0 : (S2x1024x256.Idx → Elt Bits .bf16)) (x1 : (S1x2048x1024.Idx → Elt Bits .bf16)) (x2 : (S1x1x1024.Idx → Elt Bits .f32)) (x3 : (S1x1x1024.Idx → Elt Bits .f32)) (x4 : (S1x2048x512.Idx → Elt Bits .bf16)) (x5 : (S1x1x1024.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.andi (Scalar.cmpi .slt (BitVec.ofNat 32 (i 0).val) (View.readAt (Elt Bits) (tbM0_2).view (Rect.unit (s := S1) ![0] S1.size inb_S1_S1_0).toLoadRect T2 (Shape.Idx.first (numel1_S1.symm ▸ Nat.one_pos)))) (Scalar.cmpi .eq (View.readAt (Elt Bits) (tbM0_1).view (Rect.unit (s := S160) (k0_off1 i) S1.size (k0_off1_inb i)).toLoadRect T1 (Shape.Idx.first (numel1_S1.symm ▸ Nat.one_pos))) 1#32))) 0#32) = 1#1)) (k0_h2 : k0_cond2 i (View.readAt (Elt Bits) (tbM0_2).view (Rect.unit (s := S1) ![0] S1.size inb_S1_S1_0).toLoadRect T2 (Shape.Idx.first (numel1_S1.symm ▸ Nat.one_pos))) = 1#1) :
    Σ' (out0 : List (View.Piece (Elt Bits) S2x1024x256 .bf16)) (out1 : Buf (Elt Bits) ((c : Thread nD τ).loc cc0_scratch0)) (out2 : Buf (Elt Bits) ((c : Thread nD τ).loc cc0_scratch1)), { out3 : Buf (Elt Bits) ((c : Thread nD τ).loc cc0_scratch2) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (∃ d, owns (c : Thread nD τ) arg10 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (∃ f, arg10.view.loc (c : Thread nD τ) ↦[arg10.view.set]{fullShare} arg10.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Bits)) Variants.none c none) Set.univ (cc0_moe_routed i tbM0_0 (Memref.isWhole_whole _) tbM0_1 (Memref.isWhole_whole _) tbM0_2 (Memref.isWhole_whole _) arg4 harg4 arg5 harg5 arg6 harg6 arg7 harg7 arg8 harg8 arg9 harg9 arg10 harg10 scM0_0 (Memref.isWhole_whole _) scM0_1 (Memref.isWhole_whole _) scM0_2 (Memref.isWhole_whole _)) K } :=
  ⟨_, _, _, _, fun K => by
    unfold owns
    rw [cc0_moe_routed_eq_skeleton]; unfold cc0_moe_routed_skel
    iintro ⟨H0, H1, H2, H3, H4, H5, HT0, HT1, HT2, ⟨%d6, %f6, -, HO6⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = ¬(Scalar.cmpi = _); exact hc0) | (guard_target = k0_cond2 _ _ = _; exact k0_h2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HT2]; · iexact HT2
    isplitl [HO6]; · iexists _; iexact HO6
    isplitl [HS0]; · iexact HS0
    isplitl [HS1]; · iexact HS1
    iexact HS2⟩

/-- Path B's pieces for output 6 tile its block (2 stores of `S1x1024x256`: the kernel evaluates the tiling, Lib/Ring.lean `Piece.tiledL`). -/
theorem cover0_B_6 (c : Dev nD) (i : grid0.Coords) (arg4 : Memref sig .tc .vmem S2x1024x256 .bf16) (harg4 : arg4.IsWhole) (arg5 : Memref sig .tc .vmem S1x2048x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x2048x512 .bf16) (harg8 : arg8.IsWhole) (arg9 : Memref sig .tc .vmem S1x1x1024 .f32) (harg9 : arg9.IsWhole) (arg10 : Memref sig .tc .vmem S2x1024x256 .bf16) (harg10 : arg10.IsWhole) (T0 : (S160.Idx → Elt Bits .i32)) (T1 : (S160.Idx → Elt Bits .i32)) (T2 : (S1.Idx → Elt Bits .i32))
     (x0 : (S2x1024x256.Idx → Elt Bits .bf16)) (x1 : (S1x2048x1024.Idx → Elt Bits .bf16)) (x2 : (S1x1x1024.Idx → Elt Bits .f32)) (x3 : (S1x1x1024.Idx → Elt Bits .f32)) (x4 : (S1x2048x512.Idx → Elt Bits .bf16)) (x5 : (S1x1x1024.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.andi (Scalar.cmpi .slt (BitVec.ofNat 32 (i 0).val) (View.readAt (Elt Bits) (tbM0_2).view (Rect.unit (s := S1) ![0] S1.size inb_S1_S1_0).toLoadRect T2 (Shape.Idx.first (numel1_S1.symm ▸ Nat.one_pos)))) (Scalar.cmpi .eq (View.readAt (Elt Bits) (tbM0_1).view (Rect.unit (s := S160) (k0_off1 i) S1.size (k0_off1_inb i)).toLoadRect T1 (Shape.Idx.first (numel1_S1.symm ▸ Nat.one_pos))) 1#32))) 0#32) = 1#1)) (k0_h2 : k0_cond2 i (View.readAt (Elt Bits) (tbM0_2).view (Rect.unit (s := S1) ![0] S1.size inb_S1_S1_0).toLoadRect T2 (Shape.Idx.first (numel1_S1.symm ▸ Nat.one_pos))) = 1#1) (y : S2x1024x256.Idx) :
    ∃ pc ∈ (kernelRun0_B c i arg4 harg4 arg5 harg5 arg6 harg6 arg7 harg7 arg8 harg8 arg9 harg9 arg10 harg10 T0 T1 T2 x0 x1 x2 x3 x4 x5 xa0 xa1 xa2 hc0 k0_h2).1, y ∈ pc.1.set :=
  View.cover_of_tiledL (kernelRun0_B c i arg4 harg4 arg5 harg5 arg6 harg6 arg7 harg7 arg8 harg8 arg9 harg9 arg10 harg10 T0 T1 T2 x0 x1 x2 x3 x4 x5 xa0 xa1 xa2 hc0 k0_h2).1 S1x1024x256.size (by sl_kernel_rfl) y

/-- What path B leaves in output 6's staging buffer: its pieces read back over junk. -/
def out0_B_6 (c : Dev nD) (i : grid0.Coords) (arg4 : Memref sig .tc .vmem S2x1024x256 .bf16) (harg4 : arg4.IsWhole) (arg5 : Memref sig .tc .vmem S1x2048x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x2048x512 .bf16) (harg8 : arg8.IsWhole) (arg9 : Memref sig .tc .vmem S1x1x1024 .f32) (harg9 : arg9.IsWhole) (arg10 : Memref sig .tc .vmem S2x1024x256 .bf16) (harg10 : arg10.IsWhole) (T0 : (S160.Idx → Elt Bits .i32)) (T1 : (S160.Idx → Elt Bits .i32)) (T2 : (S1.Idx → Elt Bits .i32))
     (x0 : (S2x1024x256.Idx → Elt Bits .bf16)) (x1 : (S1x2048x1024.Idx → Elt Bits .bf16)) (x2 : (S1x1x1024.Idx → Elt Bits .f32)) (x3 : (S1x1x1024.Idx → Elt Bits .f32)) (x4 : (S1x2048x512.Idx → Elt Bits .bf16)) (x5 : (S1x1x1024.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.andi (Scalar.cmpi .slt (BitVec.ofNat 32 (i 0).val) (View.readAt (Elt Bits) (tbM0_2).view (Rect.unit (s := S1) ![0] S1.size inb_S1_S1_0).toLoadRect T2 (Shape.Idx.first (numel1_S1.symm ▸ Nat.one_pos)))) (Scalar.cmpi .eq (View.readAt (Elt Bits) (tbM0_1).view (Rect.unit (s := S160) (k0_off1 i) S1.size (k0_off1_inb i)).toLoadRect T1 (Shape.Idx.first (numel1_S1.symm ▸ Nat.one_pos))) 1#32))) 0#32) = 1#1)) (k0_h2 : k0_cond2 i (View.readAt (Elt Bits) (tbM0_2).view (Rect.unit (s := S1) ![0] S1.size inb_S1_S1_0).toLoadRect T2 (Shape.Idx.first (numel1_S1.symm ▸ Nat.one_pos))) = 1#1) : (S2x1024x256.Idx → Elt Bits .bf16) :=
  VO0_6.read (Elt Bits) (VO0_6.writes (Elt Bits) VO0_6.junk (kernelRun0_B c i arg4 harg4 arg5 harg5 arg6 harg6 arg7 harg7 arg8 harg8 arg9 harg9 arg10 harg10 T0 T1 T2 x0 x1 x2 x3 x4 x5 xa0 xa1 xa2 hc0 k0_h2).1)

set_option backward.proofsInPublic true in
set_option maxHeartbeats 8000000 in
/-- PATH C: what the body leaves — per stored output its pieces (last first), per scratch its
    contents — WITH the proof that, on whole staging memrefs, from the inputs at their blocks, the tables, the outputs
    (6: idle) and the scratches (0: any, 1: any, 2: any), under the path's decisions as
    hypotheses over the words the body reads (`hc0`; `k0_h2`), the body runs to the continuation holding all of it as stated. The
    skeleton (`Gen.*_eq_skeleton`) run by `sl_exec`, loops of literal trip count unrolled by the run, the others by `sl_unroll`. -/
noncomputable def kernelRun0_C (c : Dev nD) (i : grid0.Coords) (arg4 : Memref sig .tc .vmem S2x1024x256 .bf16) (harg4 : arg4.IsWhole) (arg5 : Memref sig .tc .vmem S1x2048x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x2048x512 .bf16) (harg8 : arg8.IsWhole) (arg9 : Memref sig .tc .vmem S1x1x1024 .f32) (harg9 : arg9.IsWhole) (arg10 : Memref sig .tc .vmem S2x1024x256 .bf16) (harg10 : arg10.IsWhole) (T0 : (S160.Idx → Elt Bits .i32)) (T1 : (S160.Idx → Elt Bits .i32)) (T2 : (S1.Idx → Elt Bits .i32))
     (x0 : (S2x1024x256.Idx → Elt Bits .bf16)) (x1 : (S1x2048x1024.Idx → Elt Bits .bf16)) (x2 : (S1x1x1024.Idx → Elt Bits .f32)) (x3 : (S1x1x1024.Idx → Elt Bits .f32)) (x4 : (S1x2048x512.Idx → Elt Bits .bf16)) (x5 : (S1x1x1024.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.andi (Scalar.cmpi .slt (BitVec.ofNat 32 (i 0).val) (View.readAt (Elt Bits) (tbM0_2).view (Rect.unit (s := S1) ![0] S1.size inb_S1_S1_0).toLoadRect T2 (Shape.Idx.first (numel1_S1.symm ▸ Nat.one_pos)))) (Scalar.cmpi .eq (View.readAt (Elt Bits) (tbM0_1).view (Rect.unit (s := S160) (k0_off1 i) S1.size (k0_off1_inb i)).toLoadRect T1 (Shape.Idx.first (numel1_S1.symm ▸ Nat.one_pos))) 1#32))) 0#32) = 1#1)) (k0_h2 : ¬(k0_cond2 i (View.readAt (Elt Bits) (tbM0_2).view (Rect.unit (s := S1) ![0] S1.size inb_S1_S1_0).toLoadRect T2 (Shape.Idx.first (numel1_S1.symm ▸ Nat.one_pos))) = 1#1)) :
    Σ' (out0 : Buf (Elt Bits) ((c : Thread nD τ).loc cc0_scratch0)) (out1 : Buf (Elt Bits) ((c : Thread nD τ).loc cc0_scratch1)), { out2 : Buf (Elt Bits) ((c : Thread nD τ).loc cc0_scratch2) //
      ∀ (y6 : (S2x1024x256.Idx → Elt Bits .bf16)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ owns (c : Thread nD τ) arg10 fullShare y6
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ owns (c : Thread nD τ) arg10 fullShare y6
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Bits)) Variants.none c none) Set.univ (cc0_moe_routed i tbM0_0 (Memref.isWhole_whole _) tbM0_1 (Memref.isWhole_whole _) tbM0_2 (Memref.isWhole_whole _) arg4 harg4 arg5 harg5 arg6 harg6 arg7 harg7 arg8 harg8 arg9 harg9 arg10 harg10 scM0_0 (Memref.isWhole_whole _) scM0_1 (Memref.isWhole_whole _) scM0_2 (Memref.isWhole_whole _)) K } :=
  ⟨_, _, _, fun (y6 : (S2x1024x256.Idx → Elt Bits .bf16)) K => by
    unfold owns
    rw [cc0_moe_routed_eq_skeleton]; unfold cc0_moe_routed_skel
    iintro ⟨H0, H1, H2, H3, H4, H5, HT0, HT1, HT2, ⟨%f6, %hf6, HO6⟩, HS0, HS1, HS2, Hk⟩
    obtain rfl := harg10.eq_unread hf6
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = ¬(Scalar.cmpi = _); exact hc0) | (guard_target = ¬(k0_cond2 _ _ = _); exact k0_h2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HT2]; · iexact HT2
    isplitl [HO6]
    · iexists _; isplitr; · ipureintro; exact harg10.read_unread _
      iexact HO6
    isplitl [HS0]; · iexact HS0
    isplitl [HS1]; · iexact HS1
    iexact HS2⟩

end Cert.Kernel.Moe

end
-- ==== Proof.Tables.lean ====
/- The tables that steer the routed experts, read off the arguments: the precondition as bounds on the words, the expert of a tile
   past the last live one (the last live tile's), and the flag that says a tile's expert differs from the tile's before. -/
module

public import proofs.«01_k».proof.Defs
public import proofs.«01_k».proof.Proof.Gen.Pre_tables
public import Idealize.ShloMosaic.Lib.StableHlo.Predicate
public import Idealize.ShloMosaic.Lib.ReduceAll
public import Idealize.ShloMosaic.Lib.Pipeline.Value

@[expose] public section

noncomputable section

namespace Cert.Tab

open Idealize.ShloMosaic Idealize.ShloMosaic.StableHlo

abbrev T160 : Shape := ⟨1, ![160]⟩
abbrev T159 : Shape := ⟨1, ![159]⟩
abbrev T1 : Shape := ⟨1, ![1]⟩

/-- The word of tile `n`. -/
def at160 (te : IVec T160 32) (n : ℕ) (h : n < 160) : BitVec 32 := te (Shape.Idx.ofFin (⟨n, h⟩ : Fin 160))
/-- The number of live tiles. -/
def live (na : IVec T1 32) : ℕ := (na (Shape.Idx.ofFin (0 : Fin 1))).toNat

/-- What the precondition says: every expert below 32, between one and 160 tiles live. -/
structure Ok (te : IVec T160 32) (na : IVec T1 32) : Prop where
  te_lt : ∀ n h, (at160 te n h).toNat < 32
  pos : 1 ≤ live na
  le : live na ≤ 160

theorem ofFin_eta {n : ℕ} (x : (⟨1, ![n]⟩ : Shape).Idx) : Shape.Idx.ofFin (x 0) = x := by
  funext a
  have ha : a = 0 := Subsingleton.elim _ _
  subst ha; rfl

theorem bv_small {a : BitVec 32} {k : ℕ} (hk : k < 2 ^ 31) (h0 : IntOp.cmpi .sge a 0#32 = 1#1)
    (h1 : IntOp.cmpi .slt a (BitVec.ofNat 32 k) = 1#1) : a.toNat < k := by
  have h0' : (0 : ℤ) ≤ a.toInt := by
    simpa [IntOp.cmpi, Predicate.ofBool_eq_one_iff, BitVec.sle] using h0
  have h1' : a.toInt < (BitVec.ofNat 32 k).toInt := by
    simpa [IntOp.cmpi, Predicate.ofBool_eq_one_iff, BitVec.slt] using h1
  rw [Predicate.toInt_ofNat_small k hk] at h1'
  have := BitVec.toInt_eq_toNat_cond a
  have hl := a.isLt
  split at this <;> omega

theorem bv_range {a : BitVec 32} (h0 : IntOp.cmpi .sge a 1#32 = 1#1)
    (h1 : IntOp.cmpi .sle a 160#32 = 1#1) : 1 ≤ a.toNat ∧ a.toNat ≤ 160 := by
  have h0' : (1#32).toInt ≤ a.toInt := by
    simpa [IntOp.cmpi, Predicate.ofBool_eq_one_iff, BitVec.sle] using h0
  have h1' : a.toInt ≤ (160#32).toInt := by
    simpa [IntOp.cmpi, Predicate.ofBool_eq_one_iff, BitVec.sle] using h1
  have e1 : (1#32).toInt = 1 := by decide
  have e2 : (160#32).toInt = 160 := by decide
  rw [e1] at h0'; rw [e2] at h1'
  have := BitVec.toInt_eq_toNat_cond a
  have hl := a.isLt
  split at this <;> omega

theorem andi_one {a b : BitVec 1} (h : a &&& b = 1#1) : a = 1#1 ∧ b = 1#1 := by
  revert a b; decide

/-- The precondition read. -/
theorem ok_of_pre {F : FTy → Type} [FloatOps F] (te : IVec T160 32) (na : IVec T1 32) (x w1 b1 w2 b2)
    (h : @Cert.Pre_tables.fn Cert.Pre_tables.Gen.facts F _ te na x w1 b1 w2 b2 = fun _ => 1#1) : Ok te na := by
  have e := congrFun h (Shape.Idx.first (Cert.Pre_tables.Gen.facts.h_S_))
  simp only [Cert.Pre_tables.fn] at e
  obtain ⟨e, e5⟩ := andi_one e
  obtain ⟨e, e4⟩ := andi_one e
  obtain ⟨e2, e3⟩ := andi_one e
  haveI : Subsingleton Cert.Pre_tables.S_.Idx := ⟨fun a b => funext fun i => Fin.elim0 i⟩
  have e2' := fun i => Host.reduce_andi_all _ _ _ _ _ e2 i
  have e3' := fun i => Host.reduce_andi_all _ _ _ _ _ e3 i
  have e4' := fun i => Host.reduce_andi_all _ _ _ _ _ e4 i
  have e5' := fun i => Host.reduce_andi_all _ _ _ _ _ e5 i
  refine ⟨fun n hn => ?_, ?_, ?_⟩
  · exact bv_small (by norm_num) (e2' (Shape.Idx.ofFin (⟨n, hn⟩ : Fin 160))) (e3' (Shape.Idx.ofFin (⟨n, hn⟩ : Fin 160)))
  · exact (bv_range (e4' (Shape.Idx.ofFin (0 : Fin 1))) (e5' (Shape.Idx.ofFin (0 : Fin 1)))).1
  · exact (bv_range (e4' (Shape.Idx.ofFin (0 : Fin 1))) (e5' (Shape.Idx.ofFin (0 : Fin 1)))).2

/-- The expert whose weights tile `n` uses: its own, or the last live tile's past it. -/
def expert (te : IVec T160 32) (na : IVec T1 32) (n : ℕ) : BitVec 32 :=
  if h : min n (live na - 1) < 160 then at160 te (min n (live na - 1)) h else 0#32

theorem expert_lt {te : IVec T160 32} {na : IVec T1 32} (o : Ok te na) (n : ℕ) : (expert te na n).toNat < 32 := by
  unfold expert; split
  · exact o.te_lt _ _
  · decide

theorem expert_live {te : IVec T160 32} {na : IVec T1 32} {n : ℕ} (h : n < live na) (hn : n < 160) :
    expert te na n = at160 te n hn := by
  have e : min n (live na - 1) = n := by omega
  unfold expert; simp only [e, hn, ↓reduceDIte]

theorem expert_past {te : IVec T160 32} {na : IVec T1 32} {n : ℕ} (h : live na ≤ n) (hn : n ≠ 0) :
    expert te na n = expert te na (n - 1) := by
  have e : min n (live na - 1) = min (n - 1) (live na - 1) := by omega
  unfold expert; rw [e]

/-- The flag of tile `n`: set at tile 0 and where the given expert differs from the tile's before. -/
def flag (te : IVec T160 32) (n : ℕ) (h : n < 160) : BitVec 32 :=
  if n = 0 then 1#32 else if at160 te n h = at160 te (n - 1) (by omega) then 0#32 else 1#32

theorem natSub_eq {a : BitVec 32} (h1 : 1 ≤ a.toNat) : (a - 1#32).toNat = a.toNat - 1 := by
  have hl := a.isLt
  have : (1#32).toNat = 1 := by decide
  rw [BitVec.toNat_sub_of_le (by rw [BitVec.le_def, this]; exact h1), this]

theorem minsi_small {a b : BitVec 32} (ha : a.toNat < 2 ^ 31) (hb : b.toNat < 2 ^ 31) :
    (IntOp.minsi a b).toNat = min a.toNat b.toNat := by
  unfold IntOp.minsi
  have e := Predicate.slt_bool_iff_toNat ha hb
  have e' := Predicate.sle_bool_iff_toNat ha hb
  simp only [Predicate.ofBool_eq_one_iff] at *
  split <;> rename_i hh <;> simp [hh] at e e' <;> omega

/-- The composed table: the gather of the experts at `min n (na − 1)`. -/
theorem gather_expert (te : IVec T160 32) (na : IVec T1 32) (o : Ok te na)
    (d : GatherDims T160 ⟨2, ![160, 1]⟩ T160)
    (hcoll : d.collapsedSliceDims = [0]) (hob : d.operandBatchingDims = [])
    (hsim : d.startIndexMap = [0]) (hivd : d.indexVectorDim = 1)
    (hb : (⟨0, ![]⟩ : Shape).BroadcastsInDim T160 ![]) (hb' : T160.BroadcastsInDim ⟨2, ![160, 1]⟩ ![0])
    (hs : T1.ShapeCasts ⟨0, ![]⟩) :
    Host.gather d te (broadcastInDim ⟨2, ![160, 1]⟩ ![0] hb'
      (select (cmpi .slt (minsi (iotaInDim T160 32 0) (broadcastInDim T160 ![] hb (subi (shapeCast ⟨0, ![]⟩ na hs) (constantI ⟨0, ![]⟩ 32 1#32))))
          (broadcastInDim T160 ![] hb (constantI ⟨0, ![]⟩ 32 0#32)))
        (addi (minsi (iotaInDim T160 32 0) (broadcastInDim T160 ![] hb (subi (shapeCast ⟨0, ![]⟩ na hs) (constantI ⟨0, ![]⟩ 32 1#32))))
          (broadcastInDim T160 ![] hb (constantI ⟨0, ![]⟩ 32 160#32)))
        (minsi (iotaInDim T160 32 0) (broadcastInDim T160 ![] hb (subi (shapeCast ⟨0, ![]⟩ na hs) (constantI ⟨0, ![]⟩ 32 1#32))))))
      = fun x => expert te na (x 0).val := by
  funext x
  rw [← ofFin_eta x]
  generalize (x 0 : Fin 160) = p
  change Host.gather d te _ (Shape.Idx.ofFin p) = expert te na p.val
  revert p; intro (p : Fin 160)
  rw [Predicate.gather_take d hcoll hob hsim hivd te _ p (by norm_num)]
  have hidx : ∀ q : Fin 160, (minsi (iotaInDim T160 32 0) (broadcastInDim T160 ![] hb (subi (shapeCast ⟨0, ![]⟩ na hs) (constantI ⟨0, ![]⟩ 32 1#32)))
      (Shape.Idx.ofFin q)).toNat = min q.val (live na - 1) := by
    intro q
    have hna : (broadcastInDim T160 ![] hb (subi (shapeCast ⟨0, ![]⟩ na hs) (constantI ⟨0, ![]⟩ 32 1#32))) (Shape.Idx.ofFin q)
        = na (Shape.Idx.ofFin (0 : Fin 1)) - 1#32 := by
      rw [Predicate.bcast_scalar hb Nat.one_pos]
      show IntOp.subi (shapeCast ⟨0, ![]⟩ na hs _) 1#32 = _
      have : shapeCast ⟨0, ![]⟩ na hs (Shape.Idx.first Nat.one_pos) = na (Shape.Idx.ofFin (0 : Fin 1)) := by
        unfold shapeCast
        congr 1
        funext a
        have ha : a = 0 := Subsingleton.elim _ _
        subst ha
        exact Subsingleton.elim (α := Fin 1) _ _
      rw [this]; rfl
    show (IntOp.minsi (BitVec.ofNat 32 q.val) _).toNat = _
    have hq := q.isLt
    have hp := o.pos
    have hle := o.le
    have hnat : (na (Shape.Idx.ofFin (0 : Fin 1)) - 1#32).toNat = live na - 1 := natSub_eq hp
    rw [hna, minsi_small (by rw [BitVec.toNat_ofNat]; omega) (by rw [hnat]; omega), hnat, BitVec.toNat_ofNat,
      Nat.mod_eq_of_lt (by omega)]
  have hsel : (select (cmpi .slt (minsi (iotaInDim T160 32 0) (broadcastInDim T160 ![] hb (subi (shapeCast ⟨0, ![]⟩ na hs) (constantI ⟨0, ![]⟩ 32 1#32))))
          (broadcastInDim T160 ![] hb (constantI ⟨0, ![]⟩ 32 0#32)))
        (addi (minsi (iotaInDim T160 32 0) (broadcastInDim T160 ![] hb (subi (shapeCast ⟨0, ![]⟩ na hs) (constantI ⟨0, ![]⟩ 32 1#32))))
          (broadcastInDim T160 ![] hb (constantI ⟨0, ![]⟩ 32 160#32)))
        (minsi (iotaInDim T160 32 0) (broadcastInDim T160 ![] hb (subi (shapeCast ⟨0, ![]⟩ na hs) (constantI ⟨0, ![]⟩ 32 1#32)))))
        (Shape.Idx.ofFin p)
      = minsi (iotaInDim T160 32 0) (broadcastInDim T160 ![] hb (subi (shapeCast ⟨0, ![]⟩ na hs) (constantI ⟨0, ![]⟩ 32 1#32))) (Shape.Idx.ofFin p) := by
    have hz : (broadcastInDim T160 ![] hb (constantI ⟨0, ![]⟩ 32 0#32)) (Shape.Idx.ofFin p) = 0#32 := by
      rw [Predicate.bcast_scalar hb Nat.one_pos]; rfl
    have hn := hidx p
    generalize minsi (iotaInDim T160 32 0) (broadcastInDim T160 ![] hb (subi (shapeCast ⟨0, ![]⟩ na hs) (constantI ⟨0, ![]⟩ 32 1#32))) = g at hn ⊢
    have hp := p.isLt
    have hc : cmpi .slt g (broadcastInDim T160 ![] hb (constantI ⟨0, ![]⟩ 32 0#32)) (Shape.Idx.ofFin p) ≠ 1#1 := by
      show IntOp.cmpi .slt (g (Shape.Idx.ofFin p)) _ ≠ 1#1
      rw [hz]
      intro hh
      have := (Predicate.slt_iff_toNat (by rw [hn]; omega) (by decide)).1 hh
      simp at this
    unfold select
    exact if_neg hc
  have hp := p.isLt
  have hm : min p.val (live na - 1) < 160 := by omega
  unfold expert at160
  rw [dif_pos hm]
  refine congrArg te (congrArg _ (Fin.ext ?_))
  show min (BitVec.toInt (broadcastInDim _ _ hb' _ (Predicate.ixP p))).toNat (160 - 1) = min p.val (live na - 1)
  rw [Predicate.bcast_col1 hb' _ p, hsel]
  have hn := hidx p
  generalize minsi (iotaInDim T160 32 0) (broadcastInDim T160 ![] hb (subi (shapeCast ⟨0, ![]⟩ na hs) (constantI ⟨0, ![]⟩ 32 1#32))) (Shape.Idx.ofFin p) = g at hn ⊢
  rw [Predicate.toInt_eq_toNat_of_lt (by rw [hn]; omega), Int.toNat_natCast, hn]; omega

/-- The load flags: one, then where a tile's expert differs from the tile's before. -/
theorem concat_flag (te : IVec T160 32) (hb : (⟨0, ![]⟩ : Shape).BroadcastsInDim T1 ![]) (hw : 1 < 32)
    (h1 : T160.Slices ![1] T159) (h0 : T160.Slices ![0] T159) (hc : Shape.Concatenates [T1, T159] T160 0) :
    concatenate T160 0 [⟨T1, broadcastInDim T1 ![] hb (constantI ⟨0, ![]⟩ 32 1#32)⟩,
      ⟨T159, extui 32 (cmpi .ne (extractStridedSlice T159 ![1] te h1) (extractStridedSlice T159 ![0] te h0)) hw⟩] hc
      = fun x => flag te (x 0).val (x 0).isLt := by
  funext x
  rw [← ofFin_eta x]
  generalize (x 0 : Fin 160) = p
  revert p; intro (p : Fin 160)
  change _ = flag te p.val p.isLt
  have hp160 : p.val < 160 := p.isLt
  by_cases hp : p.val = 0
  · refine (concatenate_pair_apply_left (t := T160) (s₁ := T1) (s₂ := T159) 0 _ _ hc (Shape.Idx.ofFin p) rfl (Shape.Idx.ofFin (0 : Fin 1))
      (fun b => by
        have hb0 : b = 0 := Subsingleton.elim _ _
        subst hb0; exact hp.symm)).trans ?_
    rw [Predicate.bcast_scalar hb Nat.one_pos]
    unfold flag; rw [if_pos hp]; rfl
  · have hlt : p.val - 1 < 159 := by omega
    refine (concatenate_pair_apply_right (t := T160) (s₁ := T1) (s₂ := T159) 0 _ _ hc (Shape.Idx.ofFin p) rfl rfl
      (Shape.Idx.ofFin (⟨p.val - 1, hlt⟩ : Fin 159))
      (fun b hne => by
        have hb0 : b = 0 := Subsingleton.elim _ _
        subst hb0; exact absurd rfl hne)
      (show p.val - 1 + 1 = p.val by omega)).trans ?_
    show (IntOp.cmpi .ne (extractStridedSlice T159 ![1] te h1 _) (extractStridedSlice T159 ![0] te h0 _)).setWidth 32 = _
    have e1 : extractStridedSlice T159 ![1] te h1 (Shape.Idx.ofFin (⟨p.val - 1, hlt⟩ : Fin 159)) = at160 te p.val p.isLt := by
      unfold extractStridedSlice at160
      congr 1
      funext a
      have ha : a = 0 := Subsingleton.elim _ _
      subst ha
      apply Fin.ext
      show 1 + (p.val - 1) = p.val
      omega
    have e0 : extractStridedSlice T159 ![0] te h0 (Shape.Idx.ofFin (⟨p.val - 1, hlt⟩ : Fin 159)) = at160 te (p.val - 1) (by omega) := by
      unfold extractStridedSlice at160
      congr 1
      funext a
      have ha : a = 0 := Subsingleton.elim _ _
      subst ha
      apply Fin.ext
      show 0 + (p.val - 1) = p.val - 1
      omega
    rw [e1, e0]
    unfold flag; rw [if_neg hp]
    split <;> rename_i hh
    · rw [hh]; simp [IntOp.cmpi]
    · have hb : (at160 te p.val p.isLt != at160 te (p.val - 1) (by omega)) = true := by simpa using hh
      simp only [IntOp.cmpi, hb]; decide

end Cert.Tab

end
-- ==== Proof.Word.Run.lean ====
/- The run of the whole program (program `Kernel`): host code, the pipelined call, host code. -/
module

public import proofs.«01_k».proof.Proof.Word.Frame

@[expose] public section

set_option maxRecDepth 16384
set_option Elab.async false

noncomputable section

namespace Cert.Kernel.Moe

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Bits) ℓ) (ok : Tab.Ok (teOf m) (naOf m))

/-- What every buffer of core `c` other than the windows' arrays holds at the end. -/
abbrev tailV (c : Dev nD) (b : Ref sig .tc) : Buf (Elt Bits) ((c : Thread nD τ).loc b) :=
  Pipeline.afterTail pcfgs (fun _ => adm m ok) (dats m ok) 0 (V₀ m) [hostOps1] c b

theorem head_fresh : (hostOps0 : List (HloOp τ sig (Elt Bits))).Forall fun op => op.fresh = ∅ := by
  repeat' apply And.intro
  all_goals rfl

theorem tail_fresh : ∀ op ∈ (hostOps1 : List (HloOp τ sig (Elt Bits))), op.fresh = ∅ := by
  intro op hop
  simp only [List.mem_cons, List.not_mem_nil, or_false] at hop
  rcases hop with rfl | rfl | rfl | rfl <;> rfl

theorem tail_keep : ∀ op ∈ (hostOps1 : List (HloOp τ sig (Elt Bits))), ∀ w : Fin 7, Proc.devRef .tc (Pipeline.arrRef spec0 w) ∉ op.writes := by
  intro op hop w
  simp only [List.mem_cons, List.not_mem_nil, or_false] at hop
  rcases hop with rfl | rfl | rfl | rfl <;> revert w <;> decide

theorem tail_sub : ∀ op ∈ (hostOps1 : List (HloOp τ sig (Elt Bits))), op.bufs ⊆ Pipeline.tailRefs (τ := τ) sig pre0 spec0 := by
  intro op hop
  refine Pipeline.sub_tailRefs _ _ _ (List.forall_iff_forall_mem.1 hostOps1_sub op hop) ?_
  simp only [List.mem_cons, List.not_mem_nil, or_false] at hop
  rcases hop with rfl | rfl | rfl | rfl <;> decide

set_option backward.isDefEq.respectTransparency.types false in
set_option maxHeartbeats 4000000 in
/-- Every weakly fair execution ends with each array at the computed contents, every other buffer at what the closing host
    operations leave, and every semaphore at zero. -/
theorem run_main (ρ : Dev nD → PrngReg) :
    θ_run (defs (F := Bits)) (onTc (τ := τ) (main (F := Bits))) ⟨m, fun _ => 0, ρ⟩
      (fun r => Pipeline.FramePost (Pipeline.pin (pcfgs (F := Bits)) fun _ => adm m ok) (dats m ok) 0 (tailV m ok) r ∧ r.2.sem = fun _ => 0) :=
  Pipeline.θ_run_frameP_around_track pcfgs (fun _ => adm m ok) (dats m ok) 0 (launch0 (F := Bits)) defs₀ Variants.none m ρ main
    (fun c => (body_obligation m ok c).loose) (share_eq m ok) (fun _ _ => rfl) (V₀ m) [hostOps1]
    (hsub := by
      intro ops hops op hop
      obtain rfl := List.mem_singleton.1 hops
      exact tail_sub op hop)
    (hfresh := by
      intro ops hops op hop
      obtain rfl := List.mem_singleton.1 hops
      exact tail_fresh op hop)
    (hkeep := by
      intro ops hops op hop w
      obtain rfl := List.mem_singleton.1 hops
      exact tail_keep op hop w)
    (hmain := Pipeline.hmainP_around pcfgs 0 defs₀ Variants.none m main [hostOps0] [hostOps1] hostOps0_sub head_fresh main_chain)
    (hA := fun c w => rfl)
    (hpf := V₀_pre m ok)
    (hin := phi0_intro m ok)
    (hout := phiN_exit m ok)
    (Q' := _) (hQ' := fun _ h => h)

end Cert.Kernel.Moe
-- ==== Proof.Ideal.Runs.lean ====
/- The kernel body of the routed experts run once, path by path (program `KernelIdeal`): what it leaves in the staging buffer of the
   result and in the three weight scratches, at any contents of the staging buffers it is handed. -/
module

public import proofs.«01_k».proof.Defs
public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.TableIdle
public import Idealize.ShloMosaic.Lib.Pipeline.FrameBody
public import Idealize.ShloMosaic.Lib.Pipeline.FrameSuffix
public import Idealize.ShloMosaic.Lib.Pipeline.Quiescent
public import Idealize.ShloMosaic.Lib.Claim
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

/-- The prefetched tables (expert of the tile, load flag, number of live tiles) and the weight scratches, whole. -/
abbrev tbM0_0 : Memref sig .tc .smem S160 .i32 := Memref.whole main_v17
abbrev tbM0_1 : Memref sig .tc .smem S160 .i32 := Memref.whole main_v5
abbrev tbM0_2 : Memref sig .tc .smem S1 .i32 := Memref.whole main_arg1
abbrev scM0_0 : Memref sig .tc .vmem S1024x1024 .bf16 := Memref.whole cc0_scratch0
abbrev scM0_1 : Memref sig .tc .vmem S1024x1024 .bf16 := Memref.whole cc0_scratch1
abbrev scM0_2 : Memref sig .tc .vmem S1024x1024 .bf16 := Memref.whole cc0_scratch2

/-! ## The kernel body per control path, on symbolic staging memrefs: a subtype the run finds -/

/-- One staging buffer of output window 6, through which its contents are stated (`View.read_writes_of_cover`). -/
abbrev VO0_6 : View sig .tc .vmem S2x1024x256 .bf16 := (Memref.whole cc0_stg6_0 : Memref sig .tc .vmem S2x1024x256 .bf16).view

set_option backward.proofsInPublic true in
set_option maxHeartbeats 8000000 in
/-- PATH A: what the body leaves — per stored output its pieces (last first), per scratch its
    contents — WITH the proof that, on whole staging memrefs, from the inputs at their blocks, the tables, the outputs
    (6: stored) and the scratches (0: covered, 1: covered, 2: covered), under the path's decisions as
    hypotheses over the words the body reads (`hc0`; `k0_h2`), the body runs to the continuation holding all of it as stated. The
    skeleton (`Gen.*_eq_skeleton`) run by `sl_exec`, loops of literal trip count unrolled by the run, the others by `sl_unroll`. -/
noncomputable def kernelRun0_A (c : Dev nD) (i : grid0.Coords) (arg4 : Memref sig .tc .vmem S2x1024x256 .bf16) (harg4 : arg4.IsWhole) (arg5 : Memref sig .tc .vmem S1x2048x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x2048x512 .bf16) (harg8 : arg8.IsWhole) (arg9 : Memref sig .tc .vmem S1x1x1024 .f32) (harg9 : arg9.IsWhole) (arg10 : Memref sig .tc .vmem S2x1024x256 .bf16) (harg10 : arg10.IsWhole) (T0 : (S160.Idx → Elt Ideal .i32)) (T1 : (S160.Idx → Elt Ideal .i32)) (T2 : (S1.Idx → Elt Ideal .i32))
     (x0 : (S2x1024x256.Idx → Elt Ideal .bf16)) (x1 : (S1x2048x1024.Idx → Elt Ideal .bf16)) (x2 : (S1x1x1024.Idx → Elt Ideal .f32)) (x3 : (S1x1x1024.Idx → Elt Ideal .f32)) (x4 : (S1x2048x512.Idx → Elt Ideal .bf16)) (x5 : (S1x1x1024.Idx → Elt Ideal .f32)) (hc0 : (Scalar.cmpi .ne (Scalar.extui (Scalar.andi (Scalar.cmpi .slt (BitVec.ofNat 32 (i 0).val) (View.readAt (Elt Ideal) (tbM0_2).view (Rect.unit (s := S1) ![0] S1.size inb_S1_S1_0).toLoadRect T2 (Shape.Idx.first (numel1_S1.symm ▸ Nat.one_pos)))) (Scalar.cmpi .eq (View.readAt (Elt Ideal) (tbM0_1).view (Rect.unit (s := S160) (k0_off1 i) S1.size (k0_off1_inb i)).toLoadRect T1 (Shape.Idx.first (numel1_S1.symm ▸ Nat.one_pos))) 1#32))) 0#32) = 1#1) (k0_h2 : k0_cond2 i (View.readAt (Elt Ideal) (tbM0_2).view (Rect.unit (s := S1) ![0] S1.size inb_S1_S1_0).toLoadRect T2 (Shape.Idx.first (numel1_S1.symm ▸ Nat.one_pos))) = 1#1) :
    Σ' (out0 : List (View.Piece (Elt Ideal) S2x1024x256 .bf16)) (out1 : Buf (Elt Ideal) ((c : Thread nD τ).loc cc0_scratch0)) (out2 : Buf (Elt Ideal) ((c : Thread nD τ).loc cc0_scratch1)), { out3 : Buf (Elt Ideal) ((c : Thread nD τ).loc cc0_scratch2) //
      ∀ (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (∃ d, owns (c : Thread nD τ) arg10 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (∃ f, arg10.view.loc (c : Thread nD τ) ↦[arg10.view.set]{fullShare} arg10.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Ideal)) Variants.none c none) Set.univ (cc0_moe_routed i tbM0_0 (Memref.isWhole_whole _) tbM0_1 (Memref.isWhole_whole _) tbM0_2 (Memref.isWhole_whole _) arg4 harg4 arg5 harg5 arg6 harg6 arg7 harg7 arg8 harg8 arg9 harg9 arg10 harg10 scM0_0 (Memref.isWhole_whole _) scM0_1 (Memref.isWhole_whole _) scM0_2 (Memref.isWhole_whole _)) K } :=
  ⟨_, _, _, _, fun (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) K => by
    unfold owns
    rw [cc0_moe_routed_eq_skeleton]; unfold cc0_moe_routed_skel
    iintro ⟨H0, H1, H2, H3, H4, H5, HT0, HT1, HT2, ⟨%d6, %f6, -, HO6⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = Scalar.cmpi = _; exact hc0) | (guard_target = k0_cond2 _ _ = _; exact k0_h2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HT2]; · iexact HT2
    isplitl [HO6]; · iexists _; iexact HO6
    isplitl [HS0]; · iexact HS0
    isplitl [HS1]; · iexact HS1
    iexact HS2⟩

/-- Path A's pieces for output 6 tile its block (2 stores of `S1x1024x256`: the kernel evaluates the tiling, Lib/Ring.lean `Piece.tiledL`). -/
theorem cover0_A_6 (c : Dev nD) (i : grid0.Coords) (arg4 : Memref sig .tc .vmem S2x1024x256 .bf16) (harg4 : arg4.IsWhole) (arg5 : Memref sig .tc .vmem S1x2048x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x2048x512 .bf16) (harg8 : arg8.IsWhole) (arg9 : Memref sig .tc .vmem S1x1x1024 .f32) (harg9 : arg9.IsWhole) (arg10 : Memref sig .tc .vmem S2x1024x256 .bf16) (harg10 : arg10.IsWhole) (T0 : (S160.Idx → Elt Ideal .i32)) (T1 : (S160.Idx → Elt Ideal .i32)) (T2 : (S1.Idx → Elt Ideal .i32))
     (x0 : (S2x1024x256.Idx → Elt Ideal .bf16)) (x1 : (S1x2048x1024.Idx → Elt Ideal .bf16)) (x2 : (S1x1x1024.Idx → Elt Ideal .f32)) (x3 : (S1x1x1024.Idx → Elt Ideal .f32)) (x4 : (S1x2048x512.Idx → Elt Ideal .bf16)) (x5 : (S1x1x1024.Idx → Elt Ideal .f32)) (hc0 : (Scalar.cmpi .ne (Scalar.extui (Scalar.andi (Scalar.cmpi .slt (BitVec.ofNat 32 (i 0).val) (View.readAt (Elt Ideal) (tbM0_2).view (Rect.unit (s := S1) ![0] S1.size inb_S1_S1_0).toLoadRect T2 (Shape.Idx.first (numel1_S1.symm ▸ Nat.one_pos)))) (Scalar.cmpi .eq (View.readAt (Elt Ideal) (tbM0_1).view (Rect.unit (s := S160) (k0_off1 i) S1.size (k0_off1_inb i)).toLoadRect T1 (Shape.Idx.first (numel1_S1.symm ▸ Nat.one_pos))) 1#32))) 0#32) = 1#1) (k0_h2 : k0_cond2 i (View.readAt (Elt Ideal) (tbM0_2).view (Rect.unit (s := S1) ![0] S1.size inb_S1_S1_0).toLoadRect T2 (Shape.Idx.first (numel1_S1.symm ▸ Nat.one_pos))) = 1#1) (y : S2x1024x256.Idx) :
    ∃ pc ∈ (kernelRun0_A c i arg4 harg4 arg5 harg5 arg6 harg6 arg7 harg7 arg8 harg8 arg9 harg9 arg10 harg10 T0 T1 T2 x0 x1 x2 x3 x4 x5 hc0 k0_h2).1, y ∈ pc.1.set :=
  View.cover_of_tiledL (kernelRun0_A c i arg4 harg4 arg5 harg5 arg6 harg6 arg7 harg7 arg8 harg8 arg9 harg9 arg10 harg10 T0 T1 T2 x0 x1 x2 x3 x4 x5 hc0 k0_h2).1 S1x1024x256.size (by sl_kernel_rfl) y

/-- What path A leaves in output 6's staging buffer: its pieces read back over junk. -/
def out0_A_6 (c : Dev nD) (i : grid0.Coords) (arg4 : Memref sig .tc .vmem S2x1024x256 .bf16) (harg4 : arg4.IsWhole) (arg5 : Memref sig .tc .vmem S1x2048x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x2048x512 .bf16) (harg8 : arg8.IsWhole) (arg9 : Memref sig .tc .vmem S1x1x1024 .f32) (harg9 : arg9.IsWhole) (arg10 : Memref sig .tc .vmem S2x1024x256 .bf16) (harg10 : arg10.IsWhole) (T0 : (S160.Idx → Elt Ideal .i32)) (T1 : (S160.Idx → Elt Ideal .i32)) (T2 : (S1.Idx → Elt Ideal .i32))
     (x0 : (S2x1024x256.Idx → Elt Ideal .bf16)) (x1 : (S1x2048x1024.Idx → Elt Ideal .bf16)) (x2 : (S1x1x1024.Idx → Elt Ideal .f32)) (x3 : (S1x1x1024.Idx → Elt Ideal .f32)) (x4 : (S1x2048x512.Idx → Elt Ideal .bf16)) (x5 : (S1x1x1024.Idx → Elt Ideal .f32)) (hc0 : (Scalar.cmpi .ne (Scalar.extui (Scalar.andi (Scalar.cmpi .slt (BitVec.ofNat 32 (i 0).val) (View.readAt (Elt Ideal) (tbM0_2).view (Rect.unit (s := S1) ![0] S1.size inb_S1_S1_0).toLoadRect T2 (Shape.Idx.first (numel1_S1.symm ▸ Nat.one_pos)))) (Scalar.cmpi .eq (View.readAt (Elt Ideal) (tbM0_1).view (Rect.unit (s := S160) (k0_off1 i) S1.size (k0_off1_inb i)).toLoadRect T1 (Shape.Idx.first (numel1_S1.symm ▸ Nat.one_pos))) 1#32))) 0#32) = 1#1) (k0_h2 : k0_cond2 i (View.readAt (Elt Ideal) (tbM0_2).view (Rect.unit (s := S1) ![0] S1.size inb_S1_S1_0).toLoadRect T2 (Shape.Idx.first (numel1_S1.symm ▸ Nat.one_pos))) = 1#1) : (S2x1024x256.Idx → Elt Ideal .bf16) :=
  VO0_6.read (Elt Ideal) (VO0_6.writes (Elt Ideal) VO0_6.junk (kernelRun0_A c i arg4 harg4 arg5 harg5 arg6 harg6 arg7 harg7 arg8 harg8 arg9 harg9 arg10 harg10 T0 T1 T2 x0 x1 x2 x3 x4 x5 hc0 k0_h2).1)

set_option backward.proofsInPublic true in
set_option maxHeartbeats 8000000 in
/-- PATH B: what the body leaves — per stored output its pieces (last first), per scratch its
    contents — WITH the proof that, on whole staging memrefs, from the inputs at their blocks, the tables, the outputs
    (6: stored) and the scratches (0: carried, 1: carried, 2: carried), under the path's decisions as
    hypotheses over the words the body reads (`hc0`; `k0_h2`), the body runs to the continuation holding all of it as stated. The
    skeleton (`Gen.*_eq_skeleton`) run by `sl_exec`, loops of literal trip count unrolled by the run, the others by `sl_unroll`. -/
noncomputable def kernelRun0_B (c : Dev nD) (i : grid0.Coords) (arg4 : Memref sig .tc .vmem S2x1024x256 .bf16) (harg4 : arg4.IsWhole) (arg5 : Memref sig .tc .vmem S1x2048x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x2048x512 .bf16) (harg8 : arg8.IsWhole) (arg9 : Memref sig .tc .vmem S1x1x1024 .f32) (harg9 : arg9.IsWhole) (arg10 : Memref sig .tc .vmem S2x1024x256 .bf16) (harg10 : arg10.IsWhole) (T0 : (S160.Idx → Elt Ideal .i32)) (T1 : (S160.Idx → Elt Ideal .i32)) (T2 : (S1.Idx → Elt Ideal .i32))
     (x0 : (S2x1024x256.Idx → Elt Ideal .bf16)) (x1 : (S1x2048x1024.Idx → Elt Ideal .bf16)) (x2 : (S1x1x1024.Idx → Elt Ideal .f32)) (x3 : (S1x1x1024.Idx → Elt Ideal .f32)) (x4 : (S1x2048x512.Idx → Elt Ideal .bf16)) (x5 : (S1x1x1024.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.andi (Scalar.cmpi .slt (BitVec.ofNat 32 (i 0).val) (View.readAt (Elt Ideal) (tbM0_2).view (Rect.unit (s := S1) ![0] S1.size inb_S1_S1_0).toLoadRect T2 (Shape.Idx.first (numel1_S1.symm ▸ Nat.one_pos)))) (Scalar.cmpi .eq (View.readAt (Elt Ideal) (tbM0_1).view (Rect.unit (s := S160) (k0_off1 i) S1.size (k0_off1_inb i)).toLoadRect T1 (Shape.Idx.first (numel1_S1.symm ▸ Nat.one_pos))) 1#32))) 0#32) = 1#1)) (k0_h2 : k0_cond2 i (View.readAt (Elt Ideal) (tbM0_2).view (Rect.unit (s := S1) ![0] S1.size inb_S1_S1_0).toLoadRect T2 (Shape.Idx.first (numel1_S1.symm ▸ Nat.one_pos))) = 1#1) :
    Σ' (out0 : List (View.Piece (Elt Ideal) S2x1024x256 .bf16)) (out1 : Buf (Elt Ideal) ((c : Thread nD τ).loc cc0_scratch0)) (out2 : Buf (Elt Ideal) ((c : Thread nD τ).loc cc0_scratch1)), { out3 : Buf (Elt Ideal) ((c : Thread nD τ).loc cc0_scratch2) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (∃ d, owns (c : Thread nD τ) arg10 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (∃ f, arg10.view.loc (c : Thread nD τ) ↦[arg10.view.set]{fullShare} arg10.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Ideal)) Variants.none c none) Set.univ (cc0_moe_routed i tbM0_0 (Memref.isWhole_whole _) tbM0_1 (Memref.isWhole_whole _) tbM0_2 (Memref.isWhole_whole _) arg4 harg4 arg5 harg5 arg6 harg6 arg7 harg7 arg8 harg8 arg9 harg9 arg10 harg10 scM0_0 (Memref.isWhole_whole _) scM0_1 (Memref.isWhole_whole _) scM0_2 (Memref.isWhole_whole _)) K } :=
  ⟨_, _, _, _, fun K => by
    unfold owns
    rw [cc0_moe_routed_eq_skeleton]; unfold cc0_moe_routed_skel
    iintro ⟨H0, H1, H2, H3, H4, H5, HT0, HT1, HT2, ⟨%d6, %f6, -, HO6⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = ¬(Scalar.cmpi = _); exact hc0) | (guard_target = k0_cond2 _ _ = _; exact k0_h2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HT2]; · iexact HT2
    isplitl [HO6]; · iexists _; iexact HO6
    isplitl [HS0]; · iexact HS0
    isplitl [HS1]; · iexact HS1
    iexact HS2⟩

/-- Path B's pieces for output 6 tile its block (2 stores of `S1x1024x256`: the kernel evaluates the tiling, Lib/Ring.lean `Piece.tiledL`). -/
theorem cover0_B_6 (c : Dev nD) (i : grid0.Coords) (arg4 : Memref sig .tc .vmem S2x1024x256 .bf16) (harg4 : arg4.IsWhole) (arg5 : Memref sig .tc .vmem S1x2048x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x2048x512 .bf16) (harg8 : arg8.IsWhole) (arg9 : Memref sig .tc .vmem S1x1x1024 .f32) (harg9 : arg9.IsWhole) (arg10 : Memref sig .tc .vmem S2x1024x256 .bf16) (harg10 : arg10.IsWhole) (T0 : (S160.Idx → Elt Ideal .i32)) (T1 : (S160.Idx → Elt Ideal .i32)) (T2 : (S1.Idx → Elt Ideal .i32))
     (x0 : (S2x1024x256.Idx → Elt Ideal .bf16)) (x1 : (S1x2048x1024.Idx → Elt Ideal .bf16)) (x2 : (S1x1x1024.Idx → Elt Ideal .f32)) (x3 : (S1x1x1024.Idx → Elt Ideal .f32)) (x4 : (S1x2048x512.Idx → Elt Ideal .bf16)) (x5 : (S1x1x1024.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.andi (Scalar.cmpi .slt (BitVec.ofNat 32 (i 0).val) (View.readAt (Elt Ideal) (tbM0_2).view (Rect.unit (s := S1) ![0] S1.size inb_S1_S1_0).toLoadRect T2 (Shape.Idx.first (numel1_S1.symm ▸ Nat.one_pos)))) (Scalar.cmpi .eq (View.readAt (Elt Ideal) (tbM0_1).view (Rect.unit (s := S160) (k0_off1 i) S1.size (k0_off1_inb i)).toLoadRect T1 (Shape.Idx.first (numel1_S1.symm ▸ Nat.one_pos))) 1#32))) 0#32) = 1#1)) (k0_h2 : k0_cond2 i (View.readAt (Elt Ideal) (tbM0_2).view (Rect.unit (s := S1) ![0] S1.size inb_S1_S1_0).toLoadRect T2 (Shape.Idx.first (numel1_S1.symm ▸ Nat.one_pos))) = 1#1) (y : S2x1024x256.Idx) :
    ∃ pc ∈ (kernelRun0_B c i arg4 harg4 arg5 harg5 arg6 harg6 arg7 harg7 arg8 harg8 arg9 harg9 arg10 harg10 T0 T1 T2 x0 x1 x2 x3 x4 x5 xa0 xa1 xa2 hc0 k0_h2).1, y ∈ pc.1.set :=
  View.cover_of_tiledL (kernelRun0_B c i arg4 harg4 arg5 harg5 arg6 harg6 arg7 harg7 arg8 harg8 arg9 harg9 arg10 harg10 T0 T1 T2 x0 x1 x2 x3 x4 x5 xa0 xa1 xa2 hc0 k0_h2).1 S1x1024x256.size (by sl_kernel_rfl) y

/-- What path B leaves in output 6's staging buffer: its pieces read back over junk. -/
def out0_B_6 (c : Dev nD) (i : grid0.Coords) (arg4 : Memref sig .tc .vmem S2x1024x256 .bf16) (harg4 : arg4.IsWhole) (arg5 : Memref sig .tc .vmem S1x2048x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x2048x512 .bf16) (harg8 : arg8.IsWhole) (arg9 : Memref sig .tc .vmem S1x1x1024 .f32) (harg9 : arg9.IsWhole) (arg10 : Memref sig .tc .vmem S2x1024x256 .bf16) (harg10 : arg10.IsWhole) (T0 : (S160.Idx → Elt Ideal .i32)) (T1 : (S160.Idx → Elt Ideal .i32)) (T2 : (S1.Idx → Elt Ideal .i32))
     (x0 : (S2x1024x256.Idx → Elt Ideal .bf16)) (x1 : (S1x2048x1024.Idx → Elt Ideal .bf16)) (x2 : (S1x1x1024.Idx → Elt Ideal .f32)) (x3 : (S1x1x1024.Idx → Elt Ideal .f32)) (x4 : (S1x2048x512.Idx → Elt Ideal .bf16)) (x5 : (S1x1x1024.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.andi (Scalar.cmpi .slt (BitVec.ofNat 32 (i 0).val) (View.readAt (Elt Ideal) (tbM0_2).view (Rect.unit (s := S1) ![0] S1.size inb_S1_S1_0).toLoadRect T2 (Shape.Idx.first (numel1_S1.symm ▸ Nat.one_pos)))) (Scalar.cmpi .eq (View.readAt (Elt Ideal) (tbM0_1).view (Rect.unit (s := S160) (k0_off1 i) S1.size (k0_off1_inb i)).toLoadRect T1 (Shape.Idx.first (numel1_S1.symm ▸ Nat.one_pos))) 1#32))) 0#32) = 1#1)) (k0_h2 : k0_cond2 i (View.readAt (Elt Ideal) (tbM0_2).view (Rect.unit (s := S1) ![0] S1.size inb_S1_S1_0).toLoadRect T2 (Shape.Idx.first (numel1_S1.symm ▸ Nat.one_pos))) = 1#1) : (S2x1024x256.Idx → Elt Ideal .bf16) :=
  VO0_6.read (Elt Ideal) (VO0_6.writes (Elt Ideal) VO0_6.junk (kernelRun0_B c i arg4 harg4 arg5 harg5 arg6 harg6 arg7 harg7 arg8 harg8 arg9 harg9 arg10 harg10 T0 T1 T2 x0 x1 x2 x3 x4 x5 xa0 xa1 xa2 hc0 k0_h2).1)

set_option backward.proofsInPublic true in
set_option maxHeartbeats 8000000 in
/-- PATH C: what the body leaves — per stored output its pieces (last first), per scratch its
    contents — WITH the proof that, on whole staging memrefs, from the inputs at their blocks, the tables, the outputs
    (6: idle) and the scratches (0: any, 1: any, 2: any), under the path's decisions as
    hypotheses over the words the body reads (`hc0`; `k0_h2`), the body runs to the continuation holding all of it as stated. The
    skeleton (`Gen.*_eq_skeleton`) run by `sl_exec`, loops of literal trip count unrolled by the run, the others by `sl_unroll`. -/
noncomputable def kernelRun0_C (c : Dev nD) (i : grid0.Coords) (arg4 : Memref sig .tc .vmem S2x1024x256 .bf16) (harg4 : arg4.IsWhole) (arg5 : Memref sig .tc .vmem S1x2048x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x2048x512 .bf16) (harg8 : arg8.IsWhole) (arg9 : Memref sig .tc .vmem S1x1x1024 .f32) (harg9 : arg9.IsWhole) (arg10 : Memref sig .tc .vmem S2x1024x256 .bf16) (harg10 : arg10.IsWhole) (T0 : (S160.Idx → Elt Ideal .i32)) (T1 : (S160.Idx → Elt Ideal .i32)) (T2 : (S1.Idx → Elt Ideal .i32))
     (x0 : (S2x1024x256.Idx → Elt Ideal .bf16)) (x1 : (S1x2048x1024.Idx → Elt Ideal .bf16)) (x2 : (S1x1x1024.Idx → Elt Ideal .f32)) (x3 : (S1x1x1024.Idx → Elt Ideal .f32)) (x4 : (S1x2048x512.Idx → Elt Ideal .bf16)) (x5 : (S1x1x1024.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.andi (Scalar.cmpi .slt (BitVec.ofNat 32 (i 0).val) (View.readAt (Elt Ideal) (tbM0_2).view (Rect.unit (s := S1) ![0] S1.size inb_S1_S1_0).toLoadRect T2 (Shape.Idx.first (numel1_S1.symm ▸ Nat.one_pos)))) (Scalar.cmpi .eq (View.readAt (Elt Ideal) (tbM0_1).view (Rect.unit (s := S160) (k0_off1 i) S1.size (k0_off1_inb i)).toLoadRect T1 (Shape.Idx.first (numel1_S1.symm ▸ Nat.one_pos))) 1#32))) 0#32) = 1#1)) (k0_h2 : ¬(k0_cond2 i (View.readAt (Elt Ideal) (tbM0_2).view (Rect.unit (s := S1) ![0] S1.size inb_S1_S1_0).toLoadRect T2 (Shape.Idx.first (numel1_S1.symm ▸ Nat.one_pos))) = 1#1)) :
    Σ' (out0 : Buf (Elt Ideal) ((c : Thread nD τ).loc cc0_scratch0)) (out1 : Buf (Elt Ideal) ((c : Thread nD τ).loc cc0_scratch1)), { out2 : Buf (Elt Ideal) ((c : Thread nD τ).loc cc0_scratch2) //
      ∀ (y6 : (S2x1024x256.Idx → Elt Ideal .bf16)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ owns (c : Thread nD τ) arg10 fullShare y6
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ owns (c : Thread nD τ) arg10 fullShare y6
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Ideal)) Variants.none c none) Set.univ (cc0_moe_routed i tbM0_0 (Memref.isWhole_whole _) tbM0_1 (Memref.isWhole_whole _) tbM0_2 (Memref.isWhole_whole _) arg4 harg4 arg5 harg5 arg6 harg6 arg7 harg7 arg8 harg8 arg9 harg9 arg10 harg10 scM0_0 (Memref.isWhole_whole _) scM0_1 (Memref.isWhole_whole _) scM0_2 (Memref.isWhole_whole _)) K } :=
  ⟨_, _, _, fun (y6 : (S2x1024x256.Idx → Elt Ideal .bf16)) K => by
    unfold owns
    rw [cc0_moe_routed_eq_skeleton]; unfold cc0_moe_routed_skel
    iintro ⟨H0, H1, H2, H3, H4, H5, HT0, HT1, HT2, ⟨%f6, %hf6, HO6⟩, HS0, HS1, HS2, Hk⟩
    obtain rfl := harg10.eq_unread hf6
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = ¬(Scalar.cmpi = _); exact hc0) | (guard_target = ¬(k0_cond2 _ _ = _); exact k0_h2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HT2]; · iexact HT2
    isplitl [HO6]
    · iexists _; isplitr; · ipureintro; exact harg10.read_unread _
      iexact HO6
    isplitl [HS0]; · iexact HS0
    isplitl [HS1]; · iexact HS1
    iexact HS2⟩

end Cert.KernelIdeal.Moe

end
-- ==== Proof.Ideal.Host.lean ====
/- The tables as the pipeline meets them (program `KernelIdeal`): what the host code before the call leaves in them, each window's
   block in terms of them, and the pipeline configured at them. -/
module

public import proofs.«01_k».proof.Proof.Ideal.Runs
public import proofs.«01_k».proof.Proof.Tables

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

/-- The experts of the tiles and the number of live tiles, as the program is given them. -/
abbrev teOf : IVec S160 32 := m (((0 : Dev nD) : Thread nD τ).loc main_arg0)
abbrev naOf : IVec S1 32 := m (((0 : Dev nD) : Thread nD τ).loc main_arg1)

/-- The tables the kernel reads: the expert in force at each tile, the load flags, the number of live tiles. -/
def tab0 : S160.Idx → BitVec 32 := fun x => Tab.expert (teOf m) (naOf m) (x 0).val
def tab1 : S160.Idx → BitVec 32 := fun x => Tab.flag (teOf m) (x 0).val (x 0).isLt
def tab2 : S1.Idx → BitVec 32 := naOf m

/-- The device's memory when the call is reached. -/
def V₀ (c : Dev nD) : Valuation τ sig (Elt Ideal) := StableHlo.after hostOps0 (fun b => m (c, b))

set_option maxHeartbeats 4000000 in
theorem V₀_tab0 (ok : Tab.Ok (teOf m) (naOf m)) (c : Dev nD) : V₀ m c (Proc.devRef .tc main_v17) = tab0 m := by
  obtain rfl : c = 0 := Subsingleton.elim _ _
  refine Eq.trans (b := ?t) ?_ ?h
  case h => exact Tab.gather_expert (teOf m) (naOf m) ok gather_S160_S160x1_S160_n_0_n_n_0_1_1 rfl rfl rfl rfl bcast_S_S160 bcast_S160_S160x1_0 shapeCasts_S1_S_
  · unfold V₀
    after_results_simp
    rfl

set_option maxHeartbeats 4000000 in
theorem V₀_tab1 (c : Dev nD) : V₀ m c (Proc.devRef .tc main_v5) = tab1 m := by
  obtain rfl : c = 0 := Subsingleton.elim _ _
  refine Eq.trans (b := ?t) ?_ ?h
  case h => exact Tab.concat_flag (teOf m) bcast_S_S1 natLt_1_32 slices_S160_S159_1 slices_S160_S159_0 concatenates_S1_S159_S160_d0
  · unfold V₀
    after_results_simp
    rfl

set_option maxHeartbeats 4000000 in
theorem V₀_tab2 (c : Dev nD) : V₀ m c (Proc.devRef .tc main_arg1) = tab2 m := by
  obtain rfl : c = 0 := Subsingleton.elim _ _
  unfold V₀
  after_results_simp
  rfl

set_option backward.proofsInPublic true in
/-- The tables' contents together. -/
def pfN : pre0.Contents (Elt Ideal) := fun | ⟨0, _⟩ => tab0 m | ⟨1, _⟩ => tab1 m | ⟨2, _⟩ => tab2 m | ⟨_ + 3, h⟩ => absurd h (by simp)

theorem V₀_pre (ok : Tab.Ok (teOf m) (naOf m)) (c : Dev nD) (k : Fin 3) : V₀ m c (Proc.devRef .tc (pre0.ref k)) = pfN m k := by
  fin_cases k
  · exact V₀_tab0 m ok c
  · exact V₀_tab1 m c
  · exact V₀_tab2 m c

/-- The expert in force at tile `n`, and the number of live tiles. -/
abbrev ex (n : ℕ) : ℕ := (Tab.expert (teOf m) (naOf m) n).toNat
abbrev lv : ℕ := Tab.live (naOf m)

theorem coord_lt (i : grid0.Coords) : (i 0).val < 160 := (i 0).isLt

theorem off_val (i : grid0.Coords) : k0_off1 i 0 = (i 0).val := congrFun (k0_off1_eq i) 0

theorem tr_w (i : grid0.Coords) : cc0_transform_1 k0_off1_inb numel1_S1 (pfN m) i = ![ex m (i 0).val, 0, 0] := by
  unfold cc0_transform_1
  refine congrArg (fun n : ℕ => (![n, 0, 0] : Fin 3 → ℕ)) (congrArg BitVec.toNat ?_)
  refine (congrArg (fun n : ℕ => Tab.expert (teOf m) (naOf m) n) (?_ : k0_off1 i 0 + 1 * 0 = (i 0).val))
  exact off_val i

theorem one_idx (z : S1.Idx) : z = Shape.Idx.ofFin (0 : Fin 1) := by
  rw [← Tab.ofFin_eta z]
  exact congrArg Shape.Idx.ofFin (Subsingleton.elim (α := Fin 1) _ _)

theorem read2 (z : S1.Idx) : tab2 m z = naOf m (Shape.Idx.ofFin (0 : Fin 1)) := congrArg (naOf m) (one_idx z)

theorem small_coord (n : ℕ) (h : n < 160) : (BitVec.ofNat 32 n).toNat = n := by
  rw [BitVec.toNat_ofNat]; exact Nat.mod_eq_of_lt (by omega)

theorem min_live (ok : Tab.Ok (teOf m) (naOf m)) (n : ℕ) (hn : n < 160) :
    (Scalar.minsi (BitVec.ofNat 32 n) (Scalar.subi (naOf m (Shape.Idx.ofFin (0 : Fin 1))) 1#32)).toNat = min n (lv m - 1) := by
  have h1 : 1 ≤ (naOf m (Shape.Idx.ofFin (0 : Fin 1))).toNat := ok.pos
  have h2 : (naOf m (Shape.Idx.ofFin (0 : Fin 1))).toNat ≤ 160 := ok.le
  unfold lv Tab.live
  generalize naOf m (Shape.Idx.ofFin (0 : Fin 1)) = a at h1 h2 ⊢
  have hs := Tab.natSub_eq (a := a) h1
  show (IntOp.minsi (BitVec.ofNat 32 n) (a - 1#32)).toNat = _
  rw [Tab.minsi_small (by rw [small_coord _ hn]; omega) (by rw [hs]; omega), hs, small_coord _ hn]

theorem tr_x (ok : Tab.Ok (teOf m) (naOf m)) (i : grid0.Coords) :
    cc0_transform_0 inb_S1_S1_0 numel1_S1 (pfN m) i = ![0, min (i 0).val (lv m - 1), 0] := by
  unfold cc0_transform_0
  refine congrArg (fun n : ℕ => (![0, n, 0] : Fin 3 → ℕ)) (Eq.trans ?_ (min_live m ok (i 0).val (coord_lt i)))
  refine congrArg (fun a : BitVec 32 => (Scalar.minsi (BitVec.ofNat 32 (i 0).val) (Scalar.subi a 1#32)).toNat) ?_
  exact congrArg (naOf m) (one_idx _)

theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

theorem inb_x (ok : Tab.Ok (teOf m) (naOf m)) (i : grid0.Coords) (a) :
    (cc0_transform_0 inb_S1_S1_0 numel1_S1 (pfN m) i a + 1) * S2x1024x256.size a ≤ S2x163840x256.size a := by
  have h2 : lv m ≤ 160 := ok.le
  have h3 : min (i 0).val (lv m - 1) < 160 := by have := coord_lt i; omega
  rw [tr_x m ok]
  exact okcons (by omega) (okcons (by omega) (okcons (by omega) (fun a => a.elim0))) a

theorem inb_w {B C E : ℕ} (ok : Tab.Ok (teOf m) (naOf m)) (i : grid0.Coords) (a : Fin 3) :
    ((![ex m (i 0).val, 0, 0] : Fin 3 → ℕ) a + 1) * (![1, B, C] : Fin 3 → ℕ) a ≤ (![32, B, C] : Fin 3 → ℕ) a := by
  have h : ex m (i 0).val < 32 := Tab.expert_lt ok _
  exact okcons (by omega) (okcons (by omega) (okcons (by omega) (fun a => a.elim0))) a

/-- Every block of every window lies inside its array. -/
theorem ok_pfN (ok : Tab.Ok (teOf m) (naOf m)) : ok0 (F := Ideal) (pfN m) := by
  refine ⟨fun i => ⟨inb_x m ok i, .inr (Affine.block_words_dvd (s := S2x163840x256) (p := EltTy.packing .bf16) (by decide) (by decide))⟩,
    fun i => ⟨?_, .inr (Affine.block_words_dvd (s := S32x2048x1024) (p := EltTy.packing .bf16) (by decide) (by decide))⟩,
    fun i => ⟨?_, .inl rfl⟩, fun i => ⟨?_, .inl rfl⟩,
    fun i => ⟨?_, .inr (Affine.block_words_dvd (s := S32x2048x512) (p := EltTy.packing .bf16) (by decide) (by decide))⟩,
    fun i => ⟨?_, .inl rfl⟩,
    fun i => ⟨inb_x m ok i, .inr (Affine.block_words_dvd (s := S2x163840x256) (p := EltTy.packing .bf16) (by decide) (by decide))⟩⟩
  · intro a; rw [tr_w m i]; exact inb_w m (B := 2048) (C := 1024) (E := 0) ok i a
  · intro a; rw [show cc0_transform_2 k0_off1_inb numel1_S1 (pfN m) i = _ from tr_w m i]; exact inb_w m (B := 1) (C := 1024) (E := 0) ok i a
  · intro a; rw [show cc0_transform_3 k0_off1_inb numel1_S1 (pfN m) i = _ from tr_w m i]; exact inb_w m (B := 1) (C := 1024) (E := 0) ok i a
  · intro a; rw [show cc0_transform_4 k0_off1_inb numel1_S1 (pfN m) i = _ from tr_w m i]; exact inb_w m (B := 2048) (C := 512) (E := 0) ok i a
  · intro a; rw [show cc0_transform_5 k0_off1_inb numel1_S1 (pfN m) i = _ from tr_w m i]; exact inb_w m (B := 1) (C := 1024) (E := 0) ok i a

variable (ok : Tab.Ok (teOf m) (naOf m))

/-- The admissible contents and the pipeline at them. -/
def adm : (pcfg0 (F := Ideal)).Adm := ⟨pfN m, ok_pfN m ok⟩
abbrev cfgA : Pipeline.Cfg sig Λ₀ := cfg0 (F := Ideal) (adm m ok)
abbrev pcs : Fin 1 → Pipeline.Cfg sig Λ₀ := Pipeline.pin (pcfgs (F := Ideal)) fun _ => adm m ok

/-- Point `t`'s coordinates: the one coordinate is `t`. -/
abbrev crd (t : Fin (cfgA m ok).N) : (cfgA m ok).grid.Coords := (cfgA m ok).grid.coords t

theorem crd_val : ∀ t : Fin grid0.N, (grid0.coords t 0).val = t.val := by decide +kernel

/-- Tile `t` is live and its expert is to be loaded; tile `t` is live. -/
abbrev P0_0 (t : Fin (cfgA m ok).N) : Prop := (Scalar.cmpi .ne (Scalar.extui (Scalar.andi (Scalar.cmpi .slt (BitVec.ofNat 32 ((crd m ok t) 0).val) (View.readAt (Elt Ideal) (tbM0_2).view (Rect.unit (s := S1) ![0] S1.size inb_S1_S1_0).toLoadRect (tab2 m) (Shape.Idx.first (numel1_S1.symm ▸ Nat.one_pos)))) (Scalar.cmpi .eq (View.readAt (Elt Ideal) (tbM0_1).view (Rect.unit (s := S160) (k0_off1 (crd m ok t)) S1.size (k0_off1_inb (crd m ok t))).toLoadRect (tab1 m) (Shape.Idx.first (numel1_S1.symm ▸ Nat.one_pos))) 1#32))) 0#32) = 1#1
abbrev P0_1 (t : Fin (cfgA m ok).N) : Prop := k0_cond2 (crd m ok t) (View.readAt (Elt Ideal) (tbM0_2).view (Rect.unit (s := S1) ![0] S1.size inb_S1_S1_0).toLoadRect (tab2 m) (Shape.Idx.first (numel1_S1.symm ▸ Nat.one_pos))) = 1#1

theorem slt_live {a b : BitVec 32} (ha : a.toNat < 2 ^ 31) (hb : b.toNat < 2 ^ 31) : (Scalar.cmpi .slt a b = 1#1) ↔ a.toNat < b.toNat := by
  have e := StableHlo.Predicate.slt_bool_iff_toNat ha hb
  exact e

theorem ne_ext (b : BitVec 1) : (Scalar.cmpi .ne (Scalar.extui b : BitVec 32) 0#32 = 1#1) ↔ b = 1#1 := by
  revert b; decide

theorem and_one (a b : BitVec 1) : Scalar.andi a b = 1#1 ↔ a = 1#1 ∧ b = 1#1 := by
  revert a b; decide

include ok in
theorem live_iff (i : grid0.Coords) : Scalar.cmpi .slt (BitVec.ofNat 32 (i 0).val) (naOf m (Shape.Idx.ofFin (0 : Fin 1))) = 1#1 ↔ (i 0).val < lv m := by
  have h2 : lv m ≤ 160 := ok.le
  rw [slt_live (by rw [small_coord _ (coord_lt i)]; have := coord_lt i; omega) (by unfold lv Tab.live at h2; omega), small_coord _ (coord_lt i)]
  exact Iff.rfl

theorem P0_1_iff (t : Fin (cfgA m ok).N) : P0_1 m ok t ↔ t.val < lv m := by
  unfold P0_1 k0_cond2
  refine (ne_ext _).trans ?_
  refine Iff.trans (iff_of_eq (congrArg (fun a => Scalar.cmpi .slt (BitVec.ofNat 32 ((crd m ok t) 0).val) a = 1#1) (read2 m _))) ?_
  refine (live_iff m ok (crd m ok t)).trans ?_
  rw [show ((crd m ok t) 0).val = t.val from crd_val t]

theorem read1 (i : grid0.Coords) : View.readAt (Elt Ideal) (tbM0_1).view (Rect.unit (s := S160) (k0_off1 i) S1.size (k0_off1_inb i)).toLoadRect (tab1 m) (Shape.Idx.first (numel1_S1.symm ▸ Nat.one_pos)) = Tab.flag (teOf m) (i 0).val (coord_lt i) := by
  show tab1 m _ = _
  unfold tab1
  have e : k0_off1 i 0 + 1 * 0 = (i 0).val := off_val i
  have key : ∀ (n : ℕ) (h : n < 160), n = (i 0).val → Tab.flag (teOf m) n h = Tab.flag (teOf m) (i 0).val (coord_lt i) := by
    intro n h hn; subst hn; rfl
  exact key _ _ e

theorem eq_one (a : BitVec 32) : Scalar.cmpi .eq a 1#32 = 1#1 ↔ a = 1#32 := by
  show BitVec.ofBool _ = 1#1 ↔ _
  rw [StableHlo.Predicate.ofBool_eq_one_iff]; simp

theorem P0_0_iff (t : Fin (cfgA m ok).N) : P0_0 m ok t ↔ t.val < lv m ∧ Tab.flag (teOf m) t.val t.isLt = 1#32 := by
  unfold P0_0
  refine (ne_ext _).trans ((and_one _ _).trans ?_)
  refine _root_.and_congr ((iff_of_eq (congrArg (fun a => Scalar.cmpi .slt (BitVec.ofNat 32 ((crd m ok t) 0).val) a = 1#1) (read2 m _))).trans ((live_iff m ok (crd m ok t)).trans ?_)) ?_
  · rw [show ((crd m ok t) 0).val = t.val from crd_val t]
  · rw [eq_one, read1]
    have h : ((crd m ok t) 0).val = t.val := crd_val t
    constructor <;> intro e <;> simpa only [h] using e

theorem P0_0_first (t : Fin (cfgA m ok).N) (h : t.val = 0) : P0_0 m ok t := by
  rw [P0_0_iff]
  refine ⟨by rw [h]; exact ok.pos, ?_⟩
  unfold Tab.flag; rw [if_pos h]

theorem P0_0_live (t : Fin (cfgA m ok).N) (h : P0_0 m ok t) : P0_1 m ok t := (P0_1_iff m ok t).2 ((P0_0_iff m ok t).1 h).1

theorem N_val : (cfgA m ok).N = 160 := N_0

/-- Away from a load the expert in force is the tile's before. -/
theorem ex_keep (t : Fin (cfgA m ok).N) (h : ¬ P0_0 m ok t) (h0 : t.val ≠ 0) : Tab.expert (teOf m) (naOf m) t.val = Tab.expert (teOf m) (naOf m) (t.val - 1) := by
  have ht : t.val < 160 := t.isLt
  by_cases hl : t.val < lv m
  · have hf : Tab.flag (teOf m) t.val t.isLt ≠ 1#32 := fun e => h ((P0_0_iff m ok t).2 ⟨hl, e⟩)
    unfold Tab.flag at hf
    rw [if_neg h0] at hf
    rw [Tab.expert_live hl t.isLt, Tab.expert_live (show t.val - 1 < Tab.live (naOf m) from by unfold lv at hl; omega) (by omega)]
    by_contra hne
    rw [if_neg hne] at hf
    exact hf rfl
  · exact Tab.expert_past (Nat.not_lt.1 hl) h0

theorem idle6 (t : Fin (cfgA m ok).N) : (cfgA m ok).idle (6 : Fin 7) ((cfgA m ok).grid.coords t) = !decide (P0_1 m ok t) := by
  show (!(k0_cond2 (crd m ok t) _ == 1#1)) = _
  rfl

end Cert.KernelIdeal.Moe
-- ==== Proof.Ideal.Frame.lean ====
/- The whole run (program `KernelIdeal`): what the staging buffers and the weight scratches hold before and after every grid point,
   the kernel body at a point, and the launch. -/
module

public import proofs.«01_k».proof.Proof.Ideal.Host

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ok : Tab.Ok (teOf m) (naOf m))

local notation "𝕄" => MT nD τ sig Unit (Elt Ideal) ℕ (UR sig nD τ) ℕ

/-- The resource algebra of the pipeline's staging cells, embedded whole. -/
abbrev EP : Emb (UR sig nD τ) 𝕄 := emb₁

/-! ## The schedule of the result's window -/

theorem idle_live (t : Fin (cfgA m ok).N) (h : P0_1 m ok t) : (cfgA m ok).idle (6 : Fin 7) ((cfgA m ok).grid.coords t) = false := by
  rw [idle6, decide_eq_true h]; rfl

theorem idle_past (t : Fin (cfgA m ok).N) (h : ¬ P0_1 m ok t) : (cfgA m ok).idle (6 : Fin 7) ((cfgA m ok).grid.coords t) = true := by
  rw [idle6, decide_eq_false h]; rfl

/-- The block of the result at point `t`. -/
theorem index6 (t : Fin (cfgA m ok).N) : ((cfgA m ok).win (6 : Fin 7)).index t = ![0, min t.val (lv m - 1), 0] := by
  have h := tr_x m ok (crd m ok t)
  rw [show ((crd m ok t) 0).val = t.val from crd_val t] at h
  exact h

/-- From the last live point on the block stays, so it is not written back before the last point. -/
theorem flush_past (t : Fin (cfgA m ok).N) (h : lv m ≤ t.val + 1) (hN : t.val + 1 < (cfgA m ok).N) : ((cfgA m ok).win (6 : Fin 7)).flush t = false := by
  have h1 : 1 ≤ lv m := ok.pos
  unfold Window.flush
  have hne : ¬ (t.val + 1 = (cfgA m ok).grid.N) := Nat.ne_of_lt hN
  have hi : ¬ ∃ h : t.val + 1 < (cfgA m ok).grid.N, ((cfgA m ok).win (6 : Fin 7)).index ⟨t.val + 1, h⟩ ≠ ((cfgA m ok).win (6 : Fin 7)).index t := by
    rintro ⟨h', hx⟩
    refine hx ?_
    rw [index6 m ok t, index6 m ok ⟨t.val + 1, h'⟩]
    have : min (t.val + 1) (lv m - 1) = min t.val (lv m - 1) := by omega
    rw [this]
  simp only [hne, hi, decide_false, Bool.or_self, Bool.and_false]

theorem fresh_step : ∀ n, n < (cfgA m ok).N → lv m ≤ n → (cfgA m ok).fresh (6 : Fin 7) n = false
  | 0, _, h => absurd h (by have : 1 ≤ lv m := ok.pos; omega)
  | n + 1, hN, h => by
    have hn : n < (cfgA m ok).N := Nat.lt_of_succ_lt hN
    rw [(cfgA m ok).fresh_succ (6 : Fin 7) n hn, flush_past m ok ⟨n, hn⟩ h hN]
    by_cases hl : lv m ≤ n
    · rw [fresh_step n hn hl, Bool.and_false]; rfl
    · rw [idle_live m ok ⟨n, hn⟩ ((P0_1_iff m ok ⟨n, hn⟩).2 (Nat.not_le.1 hl))]; rfl

/-- Past the live tiles the staging buffer of the result still holds the last live tile's block. -/
theorem fresh_past (t : Fin (cfgA m ok).N) (h : ¬ P0_1 m ok t) : (cfgA m ok).fresh (6 : Fin 7) t.val = false :=
  fresh_step m ok t.val t.isLt (Nat.not_lt.1 fun e => h ((P0_1_iff m ok t).2 e))

/-! ## The staging buffers and the windows' blocks -/

abbrev ms0_0 (t : Fin (cfgA m ok).N) : Memref sig .tc .vmem S2x1024x256 .bf16 := spec0_0.stage ((cfgA m ok).slots t (0 : Fin 7))
abbrev hs0_0 (t : Fin (cfgA m ok).N) : (ms0_0 m ok t).IsWhole := hstage0_0 (((cfgA m ok).slots t (0 : Fin 7)).cast nbuf0_0)
abbrev ms0_1 (t : Fin (cfgA m ok).N) : Memref sig .tc .vmem S1x2048x1024 .bf16 := spec0_1.stage ((cfgA m ok).slots t (1 : Fin 7))
abbrev hs0_1 (t : Fin (cfgA m ok).N) : (ms0_1 m ok t).IsWhole := hstage0_1 (((cfgA m ok).slots t (1 : Fin 7)).cast nbuf0_1)
abbrev ms0_2 (t : Fin (cfgA m ok).N) : Memref sig .tc .vmem S1x1x1024 .f32 := spec0_2.stage ((cfgA m ok).slots t (2 : Fin 7))
abbrev hs0_2 (t : Fin (cfgA m ok).N) : (ms0_2 m ok t).IsWhole := hstage0_2 (((cfgA m ok).slots t (2 : Fin 7)).cast nbuf0_2)
abbrev ms0_3 (t : Fin (cfgA m ok).N) : Memref sig .tc .vmem S1x1x1024 .f32 := spec0_3.stage ((cfgA m ok).slots t (3 : Fin 7))
abbrev hs0_3 (t : Fin (cfgA m ok).N) : (ms0_3 m ok t).IsWhole := hstage0_3 (((cfgA m ok).slots t (3 : Fin 7)).cast nbuf0_3)
abbrev ms0_4 (t : Fin (cfgA m ok).N) : Memref sig .tc .vmem S1x2048x512 .bf16 := spec0_4.stage ((cfgA m ok).slots t (4 : Fin 7))
abbrev hs0_4 (t : Fin (cfgA m ok).N) : (ms0_4 m ok t).IsWhole := hstage0_4 (((cfgA m ok).slots t (4 : Fin 7)).cast nbuf0_4)
abbrev ms0_5 (t : Fin (cfgA m ok).N) : Memref sig .tc .vmem S1x1x1024 .f32 := spec0_5.stage ((cfgA m ok).slots t (5 : Fin 7))
abbrev hs0_5 (t : Fin (cfgA m ok).N) : (ms0_5 m ok t).IsWhole := hstage0_5 (((cfgA m ok).slots t (5 : Fin 7)).cast nbuf0_5)
abbrev ms0_6 (t : Fin (cfgA m ok).N) : Memref sig .tc .vmem S2x1024x256 .bf16 := spec0_6.stage ((cfgA m ok).slots t (6 : Fin 7))
abbrev hs0_6 (t : Fin (cfgA m ok).N) : (ms0_6 m ok t).IsWhole := hstage0_6 (((cfgA m ok).slots t (6 : Fin 7)).cast nbuf0_6)

/-- Window `w`'s block at point `t`, read off its array where the region begins. -/
def iblk (c : Dev nD) (w : Fin (cfgA m ok).W) (t : Fin (cfgA m ok).N) : (((cfgA m ok).win w).xblock (crd m ok t)).Idx → Elt Ideal ((cfgA m ok).win w).elt :=
  (((cfgA m ok).win w).blk t).view.read (Elt Ideal) (V₀ m c (Proc.devRef .tc (Pipeline.arrRef (cfgA m ok).spec w)))

/-! ## What the outputs and scratches hold after each point -/

/-- ONE STEP of the trajectory: what the outputs' current buffers and the scratches hold after the body at point `t`
    (output 6, scratch 0, scratch 1, scratch 2), from what they held before (`prev`): the path the decisions select at `t`, its
    run's contents; an output the path leaves idle keeps what it held (junk — `default`, named by nothing — where fresh). -/
def step0 (c : Dev nD) (t : Fin (cfgA m ok).N) (prev : (S2x1024x256.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)) : (S2x1024x256.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) :=
  if q0 : P0_0 m ok t then
    (out0_A_6 c (crd m ok t) (ms0_0 m ok t) (hs0_0 m ok t) (ms0_1 m ok t) (hs0_1 m ok t) (ms0_2 m ok t) (hs0_2 m ok t) (ms0_3 m ok t) (hs0_3 m ok t) (ms0_4 m ok t) (hs0_4 m ok t) (ms0_5 m ok t) (hs0_5 m ok t) (ms0_6 m ok t) (hs0_6 m ok t) (tab0 m) (tab1 m) (tab2 m) (iblk m ok c (0 : Fin 7) t) (iblk m ok c (1 : Fin 7) t) (iblk m ok c (2 : Fin 7) t) (iblk m ok c (3 : Fin 7) t) (iblk m ok c (4 : Fin 7) t) (iblk m ok c (5 : Fin 7) t) q0 (P0_0_live m ok t q0), (kernelRun0_A c (crd m ok t) (ms0_0 m ok t) (hs0_0 m ok t) (ms0_1 m ok t) (hs0_1 m ok t) (ms0_2 m ok t) (hs0_2 m ok t) (ms0_3 m ok t) (hs0_3 m ok t) (ms0_4 m ok t) (hs0_4 m ok t) (ms0_5 m ok t) (hs0_5 m ok t) (ms0_6 m ok t) (hs0_6 m ok t) (tab0 m) (tab1 m) (tab2 m) (iblk m ok c (0 : Fin 7) t) (iblk m ok c (1 : Fin 7) t) (iblk m ok c (2 : Fin 7) t) (iblk m ok c (3 : Fin 7) t) (iblk m ok c (4 : Fin 7) t) (iblk m ok c (5 : Fin 7) t) q0 (P0_0_live m ok t q0)).2.1, (kernelRun0_A c (crd m ok t) (ms0_0 m ok t) (hs0_0 m ok t) (ms0_1 m ok t) (hs0_1 m ok t) (ms0_2 m ok t) (hs0_2 m ok t) (ms0_3 m ok t) (hs0_3 m ok t) (ms0_4 m ok t) (hs0_4 m ok t) (ms0_5 m ok t) (hs0_5 m ok t) (ms0_6 m ok t) (hs0_6 m ok t) (tab0 m) (tab1 m) (tab2 m) (iblk m ok c (0 : Fin 7) t) (iblk m ok c (1 : Fin 7) t) (iblk m ok c (2 : Fin 7) t) (iblk m ok c (3 : Fin 7) t) (iblk m ok c (4 : Fin 7) t) (iblk m ok c (5 : Fin 7) t) q0 (P0_0_live m ok t q0)).2.2.1, (kernelRun0_A c (crd m ok t) (ms0_0 m ok t) (hs0_0 m ok t) (ms0_1 m ok t) (hs0_1 m ok t) (ms0_2 m ok t) (hs0_2 m ok t) (ms0_3 m ok t) (hs0_3 m ok t) (ms0_4 m ok t) (hs0_4 m ok t) (ms0_5 m ok t) (hs0_5 m ok t) (ms0_6 m ok t) (hs0_6 m ok t) (tab0 m) (tab1 m) (tab2 m) (iblk m ok c (0 : Fin 7) t) (iblk m ok c (1 : Fin 7) t) (iblk m ok c (2 : Fin 7) t) (iblk m ok c (3 : Fin 7) t) (iblk m ok c (4 : Fin 7) t) (iblk m ok c (5 : Fin 7) t) q0 (P0_0_live m ok t q0)).2.2.2.1)
  else
    if q1 : P0_1 m ok t then
      (out0_B_6 c (crd m ok t) (ms0_0 m ok t) (hs0_0 m ok t) (ms0_1 m ok t) (hs0_1 m ok t) (ms0_2 m ok t) (hs0_2 m ok t) (ms0_3 m ok t) (hs0_3 m ok t) (ms0_4 m ok t) (hs0_4 m ok t) (ms0_5 m ok t) (hs0_5 m ok t) (ms0_6 m ok t) (hs0_6 m ok t) (tab0 m) (tab1 m) (tab2 m) (iblk m ok c (0 : Fin 7) t) (iblk m ok c (1 : Fin 7) t) (iblk m ok c (2 : Fin 7) t) (iblk m ok c (3 : Fin 7) t) (iblk m ok c (4 : Fin 7) t) (iblk m ok c (5 : Fin 7) t) prev.2.1 prev.2.2.1 prev.2.2.2 q0 q1, (kernelRun0_B c (crd m ok t) (ms0_0 m ok t) (hs0_0 m ok t) (ms0_1 m ok t) (hs0_1 m ok t) (ms0_2 m ok t) (hs0_2 m ok t) (ms0_3 m ok t) (hs0_3 m ok t) (ms0_4 m ok t) (hs0_4 m ok t) (ms0_5 m ok t) (hs0_5 m ok t) (ms0_6 m ok t) (hs0_6 m ok t) (tab0 m) (tab1 m) (tab2 m) (iblk m ok c (0 : Fin 7) t) (iblk m ok c (1 : Fin 7) t) (iblk m ok c (2 : Fin 7) t) (iblk m ok c (3 : Fin 7) t) (iblk m ok c (4 : Fin 7) t) (iblk m ok c (5 : Fin 7) t) prev.2.1 prev.2.2.1 prev.2.2.2 q0 q1).2.1, (kernelRun0_B c (crd m ok t) (ms0_0 m ok t) (hs0_0 m ok t) (ms0_1 m ok t) (hs0_1 m ok t) (ms0_2 m ok t) (hs0_2 m ok t) (ms0_3 m ok t) (hs0_3 m ok t) (ms0_4 m ok t) (hs0_4 m ok t) (ms0_5 m ok t) (hs0_5 m ok t) (ms0_6 m ok t) (hs0_6 m ok t) (tab0 m) (tab1 m) (tab2 m) (iblk m ok c (0 : Fin 7) t) (iblk m ok c (1 : Fin 7) t) (iblk m ok c (2 : Fin 7) t) (iblk m ok c (3 : Fin 7) t) (iblk m ok c (4 : Fin 7) t) (iblk m ok c (5 : Fin 7) t) prev.2.1 prev.2.2.1 prev.2.2.2 q0 q1).2.2.1, (kernelRun0_B c (crd m ok t) (ms0_0 m ok t) (hs0_0 m ok t) (ms0_1 m ok t) (hs0_1 m ok t) (ms0_2 m ok t) (hs0_2 m ok t) (ms0_3 m ok t) (hs0_3 m ok t) (ms0_4 m ok t) (hs0_4 m ok t) (ms0_5 m ok t) (hs0_5 m ok t) (ms0_6 m ok t) (hs0_6 m ok t) (tab0 m) (tab1 m) (tab2 m) (iblk m ok c (0 : Fin 7) t) (iblk m ok c (1 : Fin 7) t) (iblk m ok c (2 : Fin 7) t) (iblk m ok c (3 : Fin 7) t) (iblk m ok c (4 : Fin 7) t) (iblk m ok c (5 : Fin 7) t) prev.2.1 prev.2.2.1 prev.2.2.2 q0 q1).2.2.2.1)
    else
      ((if (cfgA m ok).fresh (6 : Fin 7) t.val then default else prev.1), (kernelRun0_C c (crd m ok t) (ms0_0 m ok t) (hs0_0 m ok t) (ms0_1 m ok t) (hs0_1 m ok t) (ms0_2 m ok t) (hs0_2 m ok t) (ms0_3 m ok t) (hs0_3 m ok t) (ms0_4 m ok t) (hs0_4 m ok t) (ms0_5 m ok t) (hs0_5 m ok t) (ms0_6 m ok t) (hs0_6 m ok t) (tab0 m) (tab1 m) (tab2 m) (iblk m ok c (0 : Fin 7) t) (iblk m ok c (1 : Fin 7) t) (iblk m ok c (2 : Fin 7) t) (iblk m ok c (3 : Fin 7) t) (iblk m ok c (4 : Fin 7) t) (iblk m ok c (5 : Fin 7) t) prev.2.1 prev.2.2.1 prev.2.2.2 q0 q1).1, (kernelRun0_C c (crd m ok t) (ms0_0 m ok t) (hs0_0 m ok t) (ms0_1 m ok t) (hs0_1 m ok t) (ms0_2 m ok t) (hs0_2 m ok t) (ms0_3 m ok t) (hs0_3 m ok t) (ms0_4 m ok t) (hs0_4 m ok t) (ms0_5 m ok t) (hs0_5 m ok t) (ms0_6 m ok t) (hs0_6 m ok t) (tab0 m) (tab1 m) (tab2 m) (iblk m ok c (0 : Fin 7) t) (iblk m ok c (1 : Fin 7) t) (iblk m ok c (2 : Fin 7) t) (iblk m ok c (3 : Fin 7) t) (iblk m ok c (4 : Fin 7) t) (iblk m ok c (5 : Fin 7) t) prev.2.1 prev.2.2.1 prev.2.2.2 q0 q1).2.1, (kernelRun0_C c (crd m ok t) (ms0_0 m ok t) (hs0_0 m ok t) (ms0_1 m ok t) (hs0_1 m ok t) (ms0_2 m ok t) (hs0_2 m ok t) (ms0_3 m ok t) (hs0_3 m ok t) (ms0_4 m ok t) (hs0_4 m ok t) (ms0_5 m ok t) (hs0_5 m ok t) (ms0_6 m ok t) (hs0_6 m ok t) (tab0 m) (tab1 m) (tab2 m) (iblk m ok c (0 : Fin 7) t) (iblk m ok c (1 : Fin 7) t) (iblk m ok c (2 : Fin 7) t) (iblk m ok c (3 : Fin 7) t) (iblk m ok c (4 : Fin 7) t) (iblk m ok c (5 : Fin 7) t) prev.2.1 prev.2.2.1 prev.2.2.2 q0 q1).2.2.1)

/-- THE TRAJECTORY: after position `n`. -/
def traj0 (c : Dev nD) : (n : ℕ) → n < (cfgA m ok).N → (S2x1024x256.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)
  | 0, h => step0 m ok c ⟨0, h⟩ (default, default, default, default)
  | n + 1, h => step0 m ok c ⟨n + 1, h⟩ (traj0 c n (Nat.lt_of_succ_lt h))

/-- What they held BEFORE point `t` (junk before the first). -/
def prev0 (c : Dev nD) (t : Fin (cfgA m ok).N) : (S2x1024x256.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) :=
  if h : t.val = 0 then (default, default, default, default) else traj0 m ok c (t.val - 1) (by omega)

theorem traj0_eq (c : Dev nD) (t : Fin (cfgA m ok).N) : traj0 m ok c t.val t.isLt = step0 m ok c t (prev0 m ok c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA m ok).N) (prev : (S2x1024x256.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)) (q0 : P0_0 m ok t) :
    step0 m ok c t prev = (out0_A_6 c (crd m ok t) (ms0_0 m ok t) (hs0_0 m ok t) (ms0_1 m ok t) (hs0_1 m ok t) (ms0_2 m ok t) (hs0_2 m ok t) (ms0_3 m ok t) (hs0_3 m ok t) (ms0_4 m ok t) (hs0_4 m ok t) (ms0_5 m ok t) (hs0_5 m ok t) (ms0_6 m ok t) (hs0_6 m ok t) (tab0 m) (tab1 m) (tab2 m) (iblk m ok c (0 : Fin 7) t) (iblk m ok c (1 : Fin 7) t) (iblk m ok c (2 : Fin 7) t) (iblk m ok c (3 : Fin 7) t) (iblk m ok c (4 : Fin 7) t) (iblk m ok c (5 : Fin 7) t) q0 (P0_0_live m ok t q0), (kernelRun0_A c (crd m ok t) (ms0_0 m ok t) (hs0_0 m ok t) (ms0_1 m ok t) (hs0_1 m ok t) (ms0_2 m ok t) (hs0_2 m ok t) (ms0_3 m ok t) (hs0_3 m ok t) (ms0_4 m ok t) (hs0_4 m ok t) (ms0_5 m ok t) (hs0_5 m ok t) (ms0_6 m ok t) (hs0_6 m ok t) (tab0 m) (tab1 m) (tab2 m) (iblk m ok c (0 : Fin 7) t) (iblk m ok c (1 : Fin 7) t) (iblk m ok c (2 : Fin 7) t) (iblk m ok c (3 : Fin 7) t) (iblk m ok c (4 : Fin 7) t) (iblk m ok c (5 : Fin 7) t) q0 (P0_0_live m ok t q0)).2.1, (kernelRun0_A c (crd m ok t) (ms0_0 m ok t) (hs0_0 m ok t) (ms0_1 m ok t) (hs0_1 m ok t) (ms0_2 m ok t) (hs0_2 m ok t) (ms0_3 m ok t) (hs0_3 m ok t) (ms0_4 m ok t) (hs0_4 m ok t) (ms0_5 m ok t) (hs0_5 m ok t) (ms0_6 m ok t) (hs0_6 m ok t) (tab0 m) (tab1 m) (tab2 m) (iblk m ok c (0 : Fin 7) t) (iblk m ok c (1 : Fin 7) t) (iblk m ok c (2 : Fin 7) t) (iblk m ok c (3 : Fin 7) t) (iblk m ok c (4 : Fin 7) t) (iblk m ok c (5 : Fin 7) t) q0 (P0_0_live m ok t q0)).2.2.1, (kernelRun0_A c (crd m ok t) (ms0_0 m ok t) (hs0_0 m ok t) (ms0_1 m ok t) (hs0_1 m ok t) (ms0_2 m ok t) (hs0_2 m ok t) (ms0_3 m ok t) (hs0_3 m ok t) (ms0_4 m ok t) (hs0_4 m ok t) (ms0_5 m ok t) (hs0_5 m ok t) (ms0_6 m ok t) (hs0_6 m ok t) (tab0 m) (tab1 m) (tab2 m) (iblk m ok c (0 : Fin 7) t) (iblk m ok c (1 : Fin 7) t) (iblk m ok c (2 : Fin 7) t) (iblk m ok c (3 : Fin 7) t) (iblk m ok c (4 : Fin 7) t) (iblk m ok c (5 : Fin 7) t) q0 (P0_0_live m ok t q0)).2.2.2.1) := by
  unfold step0; simp only [dif_pos q0]

/-- `step0` at a point of path B. -/
theorem step0_B (c : Dev nD) (t : Fin (cfgA m ok).N) (prev : (S2x1024x256.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)) (q0 : ¬P0_0 m ok t) (q1 : P0_1 m ok t) :
    step0 m ok c t prev = (out0_B_6 c (crd m ok t) (ms0_0 m ok t) (hs0_0 m ok t) (ms0_1 m ok t) (hs0_1 m ok t) (ms0_2 m ok t) (hs0_2 m ok t) (ms0_3 m ok t) (hs0_3 m ok t) (ms0_4 m ok t) (hs0_4 m ok t) (ms0_5 m ok t) (hs0_5 m ok t) (ms0_6 m ok t) (hs0_6 m ok t) (tab0 m) (tab1 m) (tab2 m) (iblk m ok c (0 : Fin 7) t) (iblk m ok c (1 : Fin 7) t) (iblk m ok c (2 : Fin 7) t) (iblk m ok c (3 : Fin 7) t) (iblk m ok c (4 : Fin 7) t) (iblk m ok c (5 : Fin 7) t) prev.2.1 prev.2.2.1 prev.2.2.2 q0 q1, (kernelRun0_B c (crd m ok t) (ms0_0 m ok t) (hs0_0 m ok t) (ms0_1 m ok t) (hs0_1 m ok t) (ms0_2 m ok t) (hs0_2 m ok t) (ms0_3 m ok t) (hs0_3 m ok t) (ms0_4 m ok t) (hs0_4 m ok t) (ms0_5 m ok t) (hs0_5 m ok t) (ms0_6 m ok t) (hs0_6 m ok t) (tab0 m) (tab1 m) (tab2 m) (iblk m ok c (0 : Fin 7) t) (iblk m ok c (1 : Fin 7) t) (iblk m ok c (2 : Fin 7) t) (iblk m ok c (3 : Fin 7) t) (iblk m ok c (4 : Fin 7) t) (iblk m ok c (5 : Fin 7) t) prev.2.1 prev.2.2.1 prev.2.2.2 q0 q1).2.1, (kernelRun0_B c (crd m ok t) (ms0_0 m ok t) (hs0_0 m ok t) (ms0_1 m ok t) (hs0_1 m ok t) (ms0_2 m ok t) (hs0_2 m ok t) (ms0_3 m ok t) (hs0_3 m ok t) (ms0_4 m ok t) (hs0_4 m ok t) (ms0_5 m ok t) (hs0_5 m ok t) (ms0_6 m ok t) (hs0_6 m ok t) (tab0 m) (tab1 m) (tab2 m) (iblk m ok c (0 : Fin 7) t) (iblk m ok c (1 : Fin 7) t) (iblk m ok c (2 : Fin 7) t) (iblk m ok c (3 : Fin 7) t) (iblk m ok c (4 : Fin 7) t) (iblk m ok c (5 : Fin 7) t) prev.2.1 prev.2.2.1 prev.2.2.2 q0 q1).2.2.1, (kernelRun0_B c (crd m ok t) (ms0_0 m ok t) (hs0_0 m ok t) (ms0_1 m ok t) (hs0_1 m ok t) (ms0_2 m ok t) (hs0_2 m ok t) (ms0_3 m ok t) (hs0_3 m ok t) (ms0_4 m ok t) (hs0_4 m ok t) (ms0_5 m ok t) (hs0_5 m ok t) (ms0_6 m ok t) (hs0_6 m ok t) (tab0 m) (tab1 m) (tab2 m) (iblk m ok c (0 : Fin 7) t) (iblk m ok c (1 : Fin 7) t) (iblk m ok c (2 : Fin 7) t) (iblk m ok c (3 : Fin 7) t) (iblk m ok c (4 : Fin 7) t) (iblk m ok c (5 : Fin 7) t) prev.2.1 prev.2.2.1 prev.2.2.2 q0 q1).2.2.2.1) := by
  unfold step0; simp only [dif_neg q0, dif_pos q1]

/-- `step0` at a point of path C. -/
theorem step0_C (c : Dev nD) (t : Fin (cfgA m ok).N) (prev : (S2x1024x256.Idx → Elt Ideal .bf16) × Buf (Elt Ideal) ((c : Thread nD τ).loc cc0_scratch0) × Buf (Elt Ideal) ((c : Thread nD τ).loc cc0_scratch1) × Buf (Elt Ideal) ((c : Thread nD τ).loc cc0_scratch2)) (q0 : ¬P0_0 m ok t) (q1 : ¬P0_1 m ok t) :
    step0 m ok c t prev = ((if (cfgA m ok).fresh (6 : Fin 7) t.val then default else prev.1), (kernelRun0_C c (crd m ok t) (ms0_0 m ok t) (hs0_0 m ok t) (ms0_1 m ok t) (hs0_1 m ok t) (ms0_2 m ok t) (hs0_2 m ok t) (ms0_3 m ok t) (hs0_3 m ok t) (ms0_4 m ok t) (hs0_4 m ok t) (ms0_5 m ok t) (hs0_5 m ok t) (ms0_6 m ok t) (hs0_6 m ok t) (tab0 m) (tab1 m) (tab2 m) (iblk m ok c (0 : Fin 7) t) (iblk m ok c (1 : Fin 7) t) (iblk m ok c (2 : Fin 7) t) (iblk m ok c (3 : Fin 7) t) (iblk m ok c (4 : Fin 7) t) (iblk m ok c (5 : Fin 7) t) prev.2.1 prev.2.2.1 prev.2.2.2 q0 q1).1, (kernelRun0_C c (crd m ok t) (ms0_0 m ok t) (hs0_0 m ok t) (ms0_1 m ok t) (hs0_1 m ok t) (ms0_2 m ok t) (hs0_2 m ok t) (ms0_3 m ok t) (hs0_3 m ok t) (ms0_4 m ok t) (hs0_4 m ok t) (ms0_5 m ok t) (hs0_5 m ok t) (ms0_6 m ok t) (hs0_6 m ok t) (tab0 m) (tab1 m) (tab2 m) (iblk m ok c (0 : Fin 7) t) (iblk m ok c (1 : Fin 7) t) (iblk m ok c (2 : Fin 7) t) (iblk m ok c (3 : Fin 7) t) (iblk m ok c (4 : Fin 7) t) (iblk m ok c (5 : Fin 7) t) prev.2.1 prev.2.2.1 prev.2.2.2 q0 q1).2.1, (kernelRun0_C c (crd m ok t) (ms0_0 m ok t) (hs0_0 m ok t) (ms0_1 m ok t) (hs0_1 m ok t) (ms0_2 m ok t) (hs0_2 m ok t) (ms0_3 m ok t) (hs0_3 m ok t) (ms0_4 m ok t) (hs0_4 m ok t) (ms0_5 m ok t) (hs0_5 m ok t) (ms0_6 m ok t) (hs0_6 m ok t) (tab0 m) (tab1 m) (tab2 m) (iblk m ok c (0 : Fin 7) t) (iblk m ok c (1 : Fin 7) t) (iblk m ok c (2 : Fin 7) t) (iblk m ok c (3 : Fin 7) t) (iblk m ok c (4 : Fin 7) t) (iblk m ok c (5 : Fin 7) t) prev.2.1 prev.2.2.1 prev.2.2.2 q0 q1).2.2.1) := by
  unfold step0; simp only [dif_neg q0, dif_neg q1]

/-! ## The pipeline's proof data -/

/-- What the tracked buffers held before position `t` of `Fin (N+1)` (the invariant's index). -/
def prev0T (c : Dev nD) (t : Fin ((cfgA m ok).N + 1)) : (S2x1024x256.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) :=
  if h : t.val = 0 then (default, default, default, default) else traj0 m ok c (t.val - 1) (by omega)

theorem prev0T_castSucc (c : Dev nD) (t : Fin (cfgA m ok).N) : prev0T m ok c t.castSucc = prev0 m ok c t := by
  unfold prev0T prev0; simp only [Fin.val_castSucc]
theorem prev0T_succ (c : Dev nD) (t : Fin (cfgA m ok).N) : prev0T m ok c t.succ = traj0 m ok c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (c : Dev nD) (t : Fin ((cfgA m ok).N + 1)) : sProp 𝕄 :=
  iprop((∃ a, ⌜t.val ≠ 0 → a = (prev0T m ok c t).2.1⌝ ∗ (scM0_0.view.loc (c : Thread nD τ) ↦{fullShare} a)) ∗ (∃ a, ⌜t.val ≠ 0 → a = (prev0T m ok c t).2.2.1⌝ ∗ (scM0_1.view.loc (c : Thread nD τ) ↦{fullShare} a)) ∗ (∃ a, ⌜t.val ≠ 0 → a = (prev0T m ok c t).2.2.2⌝ ∗ (scM0_2.view.loc (c : Thread nD τ) ↦{fullShare} a)) ∗ (tbM0_0.view.loc (c : Thread nD τ) ↦{fullShare.right} tab0 m) ∗ (tbM0_1.view.loc (c : Thread nD τ) ↦{fullShare.right} tab1 m) ∗ (tbM0_2.view.loc (c : Thread nD τ) ↦{fullShare.right} tab2 m) ∗ ∃ r, prngReg c r)

/-- The proof data of the one pipeline on core `c`. -/
def dats (_ : Fin 1) (c : Dev nD) : Dat τ (Elt Ideal) Unit ℕ (UR sig nD τ) ℕ (cfgA m ok) c where
  A w := V₀ m c (Proc.devRef .tc (Pipeline.arrRef (cfgA m ok).spec w))
  after w t := match w with
    | ⟨0, _⟩ => iblk m ok c (0 : Fin 7) t
    | ⟨1, _⟩ => iblk m ok c (1 : Fin 7) t
    | ⟨2, _⟩ => iblk m ok c (2 : Fin 7) t
    | ⟨3, _⟩ => iblk m ok c (3 : Fin 7) t
    | ⟨4, _⟩ => iblk m ok c (4 : Fin 7) t
    | ⟨5, _⟩ => iblk m ok c (5 : Fin 7) t
    | ⟨6, _⟩ => (traj0 m ok c t.val t.isLt).1
  Φ t := Phi m ok c t
  q _ := fullShare
  owed _ := 0

theorem after0_0 (c : Dev nD) (t : Fin (cfgA m ok).N) : (dats m ok 0 c).after (0 : Fin 7) t = iblk m ok c (0 : Fin 7) t := rfl
theorem after0_1 (c : Dev nD) (t : Fin (cfgA m ok).N) : (dats m ok 0 c).after (1 : Fin 7) t = iblk m ok c (1 : Fin 7) t := rfl
theorem after0_2 (c : Dev nD) (t : Fin (cfgA m ok).N) : (dats m ok 0 c).after (2 : Fin 7) t = iblk m ok c (2 : Fin 7) t := rfl
theorem after0_3 (c : Dev nD) (t : Fin (cfgA m ok).N) : (dats m ok 0 c).after (3 : Fin 7) t = iblk m ok c (3 : Fin 7) t := rfl
theorem after0_4 (c : Dev nD) (t : Fin (cfgA m ok).N) : (dats m ok 0 c).after (4 : Fin 7) t = iblk m ok c (4 : Fin 7) t := rfl
theorem after0_5 (c : Dev nD) (t : Fin (cfgA m ok).N) : (dats m ok 0 c).after (5 : Fin 7) t = iblk m ok c (5 : Fin 7) t := rfl
theorem after0_6 (c : Dev nD) (t : Fin (cfgA m ok).N) : (dats m ok 0 c).after (6 : Fin 7) t = (traj0 m ok c t.val t.isLt).1 := rfl

/-! ## What each window's staging buffer holds when the body runs -/

/-- Input window 0 holds its block, fetched there or not. -/
theorem before0_0 (c : Dev nD) (t : Fin (cfgA m ok).N) (d) : (dats m ok 0 c).before (0 : Fin 7) t d = iblk m ok c (0 : Fin 7) t :=
  ((dats m ok 0 c).before_in_eq_fetched (0 : Fin 7) rfl (fun _ => rfl) (fun _ _ _ => rfl) (fun t => by rw [after0_0]; unfold Dat.blockOf iblk; rfl) t d).trans
    (by unfold Dat.fetched Dat.blockOf iblk; rfl)

/-- Input window 1 holds its block, fetched there or not. -/
theorem before0_1 (c : Dev nD) (t : Fin (cfgA m ok).N) (d) : (dats m ok 0 c).before (1 : Fin 7) t d = iblk m ok c (1 : Fin 7) t :=
  ((dats m ok 0 c).before_in_eq_fetched (1 : Fin 7) rfl (fun _ => rfl) (fun _ _ _ => rfl) (fun t => by rw [after0_1]; unfold Dat.blockOf iblk; rfl) t d).trans
    (by unfold Dat.fetched Dat.blockOf iblk; rfl)

/-- Input window 2 holds its block, fetched there or not. -/
theorem before0_2 (c : Dev nD) (t : Fin (cfgA m ok).N) (d) : (dats m ok 0 c).before (2 : Fin 7) t d = iblk m ok c (2 : Fin 7) t :=
  ((dats m ok 0 c).before_in_eq_fetched (2 : Fin 7) rfl (fun _ => rfl) (fun _ _ _ => rfl) (fun t => by rw [after0_2]; unfold Dat.blockOf iblk; rfl) t d).trans
    (by unfold Dat.fetched Dat.blockOf iblk; rfl)

/-- Input window 3 holds its block, fetched there or not. -/
theorem before0_3 (c : Dev nD) (t : Fin (cfgA m ok).N) (d) : (dats m ok 0 c).before (3 : Fin 7) t d = iblk m ok c (3 : Fin 7) t :=
  ((dats m ok 0 c).before_in_eq_fetched (3 : Fin 7) rfl (fun _ => rfl) (fun _ _ _ => rfl) (fun t => by rw [after0_3]; unfold Dat.blockOf iblk; rfl) t d).trans
    (by unfold Dat.fetched Dat.blockOf iblk; rfl)

/-- Input window 4 holds its block, fetched there or not. -/
theorem before0_4 (c : Dev nD) (t : Fin (cfgA m ok).N) (d) : (dats m ok 0 c).before (4 : Fin 7) t d = iblk m ok c (4 : Fin 7) t :=
  ((dats m ok 0 c).before_in_eq_fetched (4 : Fin 7) rfl (fun _ => rfl) (fun _ _ _ => rfl) (fun t => by rw [after0_4]; unfold Dat.blockOf iblk; rfl) t d).trans
    (by unfold Dat.fetched Dat.blockOf iblk; rfl)

/-- Input window 5 holds its block, fetched there or not. -/
theorem before0_5 (c : Dev nD) (t : Fin (cfgA m ok).N) (d) : (dats m ok 0 c).before (5 : Fin 7) t d = iblk m ok c (5 : Fin 7) t :=
  ((dats m ok 0 c).before_in_eq_fetched (5 : Fin 7) rfl (fun _ => rfl) (fun _ _ _ => rfl) (fun t => by rw [after0_5]; unfold Dat.blockOf iblk; rfl) t d).trans
    (by unfold Dat.fetched Dat.blockOf iblk; rfl)

/-- Output 6's `after` carries through the points that leave it idle. -/
theorem hcarry0_6 (c : Dev nD) : ∀ (t : Fin (cfgA m ok).N) (ht : t.val ≠ 0), (cfgA m ok).idle (6 : Fin 7) ((cfgA m ok).grid.coords t) = true → (cfgA m ok).fresh (6 : Fin 7) t.val = false →
    (dats m ok 0 c).after (6 : Fin 7) t = (dats m ok 0 c).after (6 : Fin 7) ⟨t.val - 1, by omega⟩ := by
  intro t ht hi hf
  rw [after0_6, after0_6, traj0_eq]
  by_cases q0 : P0_0 m ok t
  · have i6 := idle_live m ok t (P0_0_live m ok t q0)
    rw [i6] at hi; exact absurd hi (by decide)
  · by_cases q1 : P0_1 m ok t
    · have i6 := idle_live m ok t q1
      rw [i6] at hi; exact absurd hi (by decide)
    · rw [step0_C m ok c t _ q0 q1]
      simp only [hf, Bool.false_eq_true, ↓reduceIte]
      unfold prev0; rw [dif_neg ht]

/-- Output window 6 holds, when the body runs at `t`: junk if nothing was stored since its last write-back (`Cfg.fresh`),
    else what the point before left. -/
theorem before0_6 (c : Dev nD) (t : Fin (cfgA m ok).N) (d) :
    (dats m ok 0 c).before (6 : Fin 7) t d = if (cfgA m ok).fresh (6 : Fin 7) t.val then d else (prev0 m ok c t).1 := by
  rw [(dats m ok 0 c).before_out_traj (6 : Fin 7) rfl (fun _ _ => rfl) (hcarry0_6 m ok c) t.val t rfl d]
  by_cases hf : (cfgA m ok).fresh (6 : Fin 7) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_6]; unfold prev0; rw [dif_neg h0]

/-! ## The body obligation, at a generic point, by path -/

/-- The body at point `t` on its staging memrefs, as the pipeline calls it. -/
abbrev bodyAt0 (t : Fin (cfgA m ok).N) : Prog (TpuEff nD τ sig (Elt Ideal) Λ₀ .tc) PUnit :=
  cc0_moe_routed (crd m ok t) (Memref.whole main_v17) (Memref.isWhole_whole _) (Memref.whole main_v5) (Memref.isWhole_whole _) (Memref.whole main_arg1) (Memref.isWhole_whole _) (ms0_0 m ok t) (hs0_0 m ok t) (ms0_1 m ok t) (hs0_1 m ok t) (ms0_2 m ok t) (hs0_2 m ok t) (ms0_3 m ok t) (hs0_3 m ok t) (ms0_4 m ok t) (hs0_4 m ok t) (ms0_5 m ok t) (hs0_5 m ok t) (ms0_6 m ok t) (hs0_6 m ok t) (Memref.whole cc0_scratch0) (Memref.isWhole_whole _) (Memref.whole cc0_scratch1) (Memref.isWhole_whole _) (Memref.whole cc0_scratch2) (Memref.isWhole_whole _)

set_option maxHeartbeats 4000000 in
/-- THE BODY OBLIGATION at point `t`: the decisions there tell the path (`by_cases` on `P0_·`); its hypotheses and schedule are
    the control's; the inputs hold their blocks, a live buffer what the trajectory says; the path's run applies; the
    idle windows' matches in the post reduce by the schedule. -/
theorem sound_body (c : Dev nD) (t : Fin (cfgA m ok).N) :
    iprop((dats m ok 0 c).Φ t.castSucc ∗ (dats m ok 0 c).owesAt () t.castSucc
        ∗ (∃ d, owns (c : Thread nD τ) (ms0_0 m ok t) fullShare ((dats m ok 0 c).before (0 : Fin 7) t d))
        ∗ (∃ d, owns (c : Thread nD τ) (ms0_1 m ok t) fullShare ((dats m ok 0 c).before (1 : Fin 7) t d))
        ∗ (∃ d, owns (c : Thread nD τ) (ms0_2 m ok t) fullShare ((dats m ok 0 c).before (2 : Fin 7) t d))
        ∗ (∃ d, owns (c : Thread nD τ) (ms0_3 m ok t) fullShare ((dats m ok 0 c).before (3 : Fin 7) t d))
        ∗ (∃ d, owns (c : Thread nD τ) (ms0_4 m ok t) fullShare ((dats m ok 0 c).before (4 : Fin 7) t d))
        ∗ (∃ d, owns (c : Thread nD τ) (ms0_5 m ok t) fullShare ((dats m ok 0 c).before (5 : Fin 7) t d))
        ∗ (∃ d, owns (c : Thread nD τ) (ms0_6 m ok t) fullShare ((dats m ok 0 c).before (6 : Fin 7) t d)))
      ⊢ wp frame (wpE (defs₀ (F := Ideal)) Variants.none c none) Set.univ (bodyAt0 m ok t) fun _ =>
          iprop((dats m ok 0 c).Φ t.succ ∗ (dats m ok 0 c).owesAt () t.succ
            ∗ bigSep Finset.univ fun w : Fin (cfgA m ok).W =>
                match (cfgA m ok).idle w ((cfgA m ok).grid.coords t) with
                | true =>
                  match ((cfgA m ok).win w).flush t with
                  | false => iprop(∃ d, owns (c : Thread nD τ) (((cfgA m ok).win w).stage ((cfgA m ok).slots t w)) fullShare ((dats m ok 0 c).before w t d))
                  | true => owns (c : Thread nD τ) (((cfgA m ok).win w).stage ((cfgA m ok).slots t w)) fullShare ((dats m ok 0 c).after w t)
                | false => owns (c : Thread nD τ) (((cfgA m ok).win w).stage ((cfgA m ok).slots t w)) fullShare ((dats m ok 0 c).after w t)) := by
  rw [bigSep_W0]
  by_cases q0 : P0_0 m ok t
  · have i6 := idle_live m ok t (P0_0_live m ok t q0)
    have hc0 := q0
    have k0_h2 := P0_0_live m ok t q0
    rewrite [i6]
    simp only [before0_0, before0_1, before0_2, before0_3, before0_4, before0_5, before0_6, after0_0, after0_1, after0_2, after0_3, after0_4, after0_5, after0_6]
    rewrite [show (dats m ok 0 c).Φ t.succ = Phi m ok c t.succ from rfl, show (dats m ok 0 c).Φ t.castSucc = Phi m ok c t.castSucc from rfl,
      show (dats m ok 0 c).owesAt () t.succ = (dats m ok 0 c).owesAt () t.castSucc from rfl]
    try rewrite [traj0_eq, step0_A m ok c t _ q0]
    unfold Phi; simp only [prev0T_castSucc, prev0T_succ, traj0_eq, step0_A m ok c t _ q0, Fin.val_castSucc, Fin.val_succ]
    iintro ⟨⟨⟨%a0, %ha0, HS0⟩, ⟨%a1, %ha1, HS1⟩, ⟨%a2, %ha2, HS2⟩, HT0, HT1, HT2, HP⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (crd m ok t) (ms0_0 m ok t) (hs0_0 m ok t) (ms0_1 m ok t) (hs0_1 m ok t) (ms0_2 m ok t) (hs0_2 m ok t) (ms0_3 m ok t) (hs0_3 m ok t) (ms0_4 m ok t) (hs0_4 m ok t) (ms0_5 m ok t) (hs0_5 m ok t) (ms0_6 m ok t) (hs0_6 m ok t) (tab0 m) (tab1 m) (tab2 m) (iblk m ok c (0 : Fin 7) t) (iblk m ok c (1 : Fin 7) t) (iblk m ok c (2 : Fin 7) t) (iblk m ok c (3 : Fin 7) t) (iblk m ok c (4 : Fin 7) t) (iblk m ok c (5 : Fin 7) t) hc0 k0_h2).2.2.2.2 a0 a1 a2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    isplitl [HT1]; · iexact HT1
    isplitl [HT2]; · iexact HT2
    isplitl [H6]; · iexists _; iexact H6
    isplitl [HS0]; · iexact HS0
    isplitl [HS1]; · iexact HS1
    isplitl [HS2]; · iexact HS2
    iintro ⟨H0, H1, H2, H3, H4, H5, HT0, HT1, HT2, ⟨%e6, H6⟩, HS0, HS1, HS2⟩
    isplitl [HS0 HS1 HS2 HT0 HT1 HT2 HP]
    · isplitl [HS0]
      · iexists _; isplitr; swap
        · iexact HS0
        · ipureintro; intro hn; rfl
      isplitl [HS1]
      · iexists _; isplitr; swap
        · iexact HS1
        · ipureintro; intro hn; rfl
      isplitl [HS2]
      · iexists _; isplitr; swap
        · iexact HS2
        · ipureintro; intro hn; rfl
      isplitl [HT0]
      · iexact HT0
      isplitl [HT1]
      · iexact HT1
      isplitl [HT2]
      · iexact HT2
      iexact HP
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    isplitl [H5]
    · iapply owns_of_rep; iexact H5
    unfold owns; iexists _; isplitr; swap
    · iexact H6
    · ipureintro; exact View.read_writes_of_cover _ _ _ _ _ (cover0_A_6 c _ _ _ _ _ _ _ _ _ _ _ _ _ _ _ _ _ _ _ _ _ _ _ _ _ _)
  · by_cases q1 : P0_1 m ok t
    · have i6 := idle_live m ok t q1
      have sf0 : t.val ≠ 0 := fun e => q0 (P0_0_first m ok t e)
      have hc0 := q0
      have k0_h2 := q1
      rewrite [i6]
      simp only [before0_0, before0_1, before0_2, before0_3, before0_4, before0_5, before0_6, after0_0, after0_1, after0_2, after0_3, after0_4, after0_5, after0_6]
      rewrite [show (dats m ok 0 c).Φ t.succ = Phi m ok c t.succ from rfl, show (dats m ok 0 c).Φ t.castSucc = Phi m ok c t.castSucc from rfl,
        show (dats m ok 0 c).owesAt () t.succ = (dats m ok 0 c).owesAt () t.castSucc from rfl]
      try rewrite [traj0_eq, step0_B m ok c t _ q0 q1]
      unfold Phi; simp only [prev0T_castSucc, prev0T_succ, traj0_eq, step0_B m ok c t _ q0 q1, Fin.val_castSucc, Fin.val_succ]
      simp only [exists_held sf0]
      iintro ⟨⟨HS0, HS1, HS2, HT0, HT1, HT2, HP⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (crd m ok t) (ms0_0 m ok t) (hs0_0 m ok t) (ms0_1 m ok t) (hs0_1 m ok t) (ms0_2 m ok t) (hs0_2 m ok t) (ms0_3 m ok t) (hs0_3 m ok t) (ms0_4 m ok t) (hs0_4 m ok t) (ms0_5 m ok t) (hs0_5 m ok t) (ms0_6 m ok t) (hs0_6 m ok t) (tab0 m) (tab1 m) (tab2 m) (iblk m ok c (0 : Fin 7) t) (iblk m ok c (1 : Fin 7) t) (iblk m ok c (2 : Fin 7) t) (iblk m ok c (3 : Fin 7) t) (iblk m ok c (4 : Fin 7) t) (iblk m ok c (5 : Fin 7) t) _ _ _ hc0 k0_h2).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [HT2]; · iexact HT2
      isplitl [H6]; · iexists _; iexact H6
      isplitl [HS0]; · iexact HS0
      isplitl [HS1]; · iexact HS1
      isplitl [HS2]; · iexact HS2
      iintro ⟨H0, H1, H2, H3, H4, H5, HT0, HT1, HT2, ⟨%e6, H6⟩, HS0, HS1, HS2⟩
      isplitl [HS0 HS1 HS2 HT0 HT1 HT2 HP]
      · isplitl [HS0]
        · iexists _; isplitr; swap
          · iexact HS0
          · ipureintro; intro hn; rfl
        isplitl [HS1]
        · iexists _; isplitr; swap
          · iexact HS1
          · ipureintro; intro hn; rfl
        isplitl [HS2]
        · iexists _; isplitr; swap
          · iexact HS2
          · ipureintro; intro hn; rfl
        isplitl [HT0]
        · iexact HT0
        isplitl [HT1]
        · iexact HT1
        isplitl [HT2]
        · iexact HT2
        iexact HP
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      unfold owns; iexists _; isplitr; swap
      · iexact H6
      · ipureintro; exact View.read_writes_of_cover _ _ _ _ _ (cover0_B_6 c _ _ _ _ _ _ _ _ _ _ _ _ _ _ _ _ _ _ _ _ _ _ _ _ _ _ _ _ _)
    · have i6 := idle_past m ok t q1
      have fr6 := fresh_past m ok t q1
      have sf0 : t.val ≠ 0 := fun e => q0 (P0_0_first m ok t e)
      have hc0 := q0
      have k0_h2 := q1
      cases f6 : ((cfgA m ok).win (6 : Fin 7)).flush t
      · rewrite [i6]
        simp only [before0_0, before0_1, before0_2, before0_3, before0_4, before0_5, before0_6, after0_0, after0_1, after0_2, after0_3, after0_4, after0_5, after0_6, f6]
        simp only [fr6, Bool.false_eq_true, ↓reduceIte]
        rewrite [show (dats m ok 0 c).Φ t.succ = Phi m ok c t.succ from rfl, show (dats m ok 0 c).Φ t.castSucc = Phi m ok c t.castSucc from rfl,
          show (dats m ok 0 c).owesAt () t.succ = (dats m ok 0 c).owesAt () t.castSucc from rfl]
        try rewrite [traj0_eq, step0_C m ok c t _ q0 q1]
        unfold Phi; simp only [prev0T_castSucc, prev0T_succ, traj0_eq, step0_C m ok c t _ q0 q1, Fin.val_castSucc, Fin.val_succ]
        simp only [exists_held sf0]
        iintro ⟨⟨HS0, HS1, HS2, HT0, HT1, HT2, HP⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (crd m ok t) (ms0_0 m ok t) (hs0_0 m ok t) (ms0_1 m ok t) (hs0_1 m ok t) (ms0_2 m ok t) (hs0_2 m ok t) (ms0_3 m ok t) (hs0_3 m ok t) (ms0_4 m ok t) (hs0_4 m ok t) (ms0_5 m ok t) (hs0_5 m ok t) (ms0_6 m ok t) (hs0_6 m ok t) (tab0 m) (tab1 m) (tab2 m) (iblk m ok c (0 : Fin 7) t) (iblk m ok c (1 : Fin 7) t) (iblk m ok c (2 : Fin 7) t) (iblk m ok c (3 : Fin 7) t) (iblk m ok c (4 : Fin 7) t) (iblk m ok c (5 : Fin 7) t) _ _ _ hc0 k0_h2).2.2.2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [HT0]; · iexact HT0
        isplitl [HT1]; · iexact HT1
        isplitl [HT2]; · iexact HT2
        isplitl [H6]; · iexact H6
        isplitl [HS0]; · iexact HS0
        isplitl [HS1]; · iexact HS1
        isplitl [HS2]; · iexact HS2
        iintro ⟨H0, H1, H2, H3, H4, H5, HT0, HT1, HT2, H6, HS0, HS1, HS2⟩
        isplitl [HS0 HS1 HS2 HT0 HT1 HT2 HP]
        · isplitl [HS0]
          · iexists _; isplitr; swap
            · iexact HS0
            · ipureintro; intro hn; rfl
          isplitl [HS1]
          · iexists _; isplitr; swap
            · iexact HS1
            · ipureintro; intro hn; rfl
          isplitl [HS2]
          · iexists _; isplitr; swap
            · iexact HS2
            · ipureintro; intro hn; rfl
          isplitl [HT0]
          · iexact HT0
          isplitl [HT1]
          · iexact HT1
          isplitl [HT2]
          · iexact HT2
          iexact HP
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        isplitl [H5]
        · iapply owns_of_rep; iexact H5
        first | (iexists d6; iexact H6) | iexact H6
      · rewrite [i6]
        simp only [before0_0, before0_1, before0_2, before0_3, before0_4, before0_5, before0_6, after0_0, after0_1, after0_2, after0_3, after0_4, after0_5, after0_6, f6]
        simp only [fr6, Bool.false_eq_true, ↓reduceIte]
        rewrite [show (dats m ok 0 c).Φ t.succ = Phi m ok c t.succ from rfl, show (dats m ok 0 c).Φ t.castSucc = Phi m ok c t.castSucc from rfl,
          show (dats m ok 0 c).owesAt () t.succ = (dats m ok 0 c).owesAt () t.castSucc from rfl]
        try rewrite [traj0_eq, step0_C m ok c t _ q0 q1]
        unfold Phi; simp only [prev0T_castSucc, prev0T_succ, traj0_eq, step0_C m ok c t _ q0 q1, Fin.val_castSucc, Fin.val_succ, fr6, Bool.false_eq_true, ↓reduceIte]
        simp only [exists_held sf0]
        iintro ⟨⟨HS0, HS1, HS2, HT0, HT1, HT2, HP⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (crd m ok t) (ms0_0 m ok t) (hs0_0 m ok t) (ms0_1 m ok t) (hs0_1 m ok t) (ms0_2 m ok t) (hs0_2 m ok t) (ms0_3 m ok t) (hs0_3 m ok t) (ms0_4 m ok t) (hs0_4 m ok t) (ms0_5 m ok t) (hs0_5 m ok t) (ms0_6 m ok t) (hs0_6 m ok t) (tab0 m) (tab1 m) (tab2 m) (iblk m ok c (0 : Fin 7) t) (iblk m ok c (1 : Fin 7) t) (iblk m ok c (2 : Fin 7) t) (iblk m ok c (3 : Fin 7) t) (iblk m ok c (4 : Fin 7) t) (iblk m ok c (5 : Fin 7) t) _ _ _ hc0 k0_h2).2.2.2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [HT0]; · iexact HT0
        isplitl [HT1]; · iexact HT1
        isplitl [HT2]; · iexact HT2
        isplitl [H6]; · iexact H6
        isplitl [HS0]; · iexact HS0
        isplitl [HS1]; · iexact HS1
        isplitl [HS2]; · iexact HS2
        iintro ⟨H0, H1, H2, H3, H4, H5, HT0, HT1, HT2, H6, HS0, HS1, HS2⟩
        isplitl [HS0 HS1 HS2 HT0 HT1 HT2 HP]
        · isplitl [HS0]
          · iexists _; isplitr; swap
            · iexact HS0
            · ipureintro; intro hn; rfl
          isplitl [HS1]
          · iexists _; isplitr; swap
            · iexact HS1
            · ipureintro; intro hn; rfl
          isplitl [HS2]
          · iexists _; isplitr; swap
            · iexact HS2
            · ipureintro; intro hn; rfl
          isplitl [HT0]
          · iexact HT0
          isplitl [HT1]
          · iexact HT1
          isplitl [HT2]
          · iexact HT2
          iexact HP
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        isplitl [H5]
        · iapply owns_of_rep; iexact H5
        first | (iexists d6; iexact H6) | iexact H6

/-- The library's body obligation, at every point. -/
theorem body_obligation (c : Dev nD) : BodyObligation (dats m ok 0 c) (defs₀ (F := Ideal)) Variants.none () Set.univ := fun t => by
  rw [bigSep_W0]
  exact sound_body m ok c t

/-! ## The run -/

theorem share_eq (c : Dev nD) (w : Fin (cfgA m ok).W) : (dats m ok 0 c).share w = fullShare := by unfold Dat.share; split <;> rfl

/-- The tables as the region hands them to the body, one by one. -/
theorem prefHeld_eq (c : Dev nD) (q : Fin 3 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_v17) ↦{q 0} v 0) ∗ (((c : Thread nD τ).loc main_v5) ↦{q 1} v 1) ∗ (((c : Thread nD τ).loc main_arg1) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

theorem phi0_intro (c : Dev nD) :
    iprop(Pipeline.ΦA (cfgA m ok).spec c ∗ Pipeline.ΦT pre0 (adm m ok).1 c) ⊢ (dats m ok 0 c).Φ 0 := by
  unfold Pipeline.ΦA Pipeline.ΦT
  rw [prefHeld_eq, show Pipeline.scopedRest (Ix := Unit) (Name := ℕ) (U := UR sig nD τ) (Lvl := ℕ) (Val := Elt Ideal) (cfgA m ok).spec c = _ from scopedRest0_eq c, show (dats m ok 0 c).Φ 0 = Phi m ok c 0 from rfl]
  unfold Phi
  iintro ⟨⟨⟨⟨%a0, HS0⟩, ⟨%a1, HS1⟩, ⟨%a2, HS2⟩⟩, HP⟩, HT0, HT1, HT2⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HS2]
  · iexists a2; isplitr; swap
    · iexact HS2
    · ipureintro; intro h; exact absurd rfl h
  isplitl [HT0]
  · iexact HT0
  isplitl [HT1]
  · iexact HT1
  isplitl [HT2]
  · iexact HT2
  iexact HP

theorem phiN_exit (c : Dev nD) : (dats m ok 0 c).Φ (Fin.last (cfgA m ok).N) ⊢ Pipeline.ΦA (cfgA m ok).spec c := by
  unfold Pipeline.ΦA
  rw [show Pipeline.scopedRest (Ix := Unit) (Name := ℕ) (U := UR sig nD τ) (Lvl := ℕ) (Val := Elt Ideal) (cfgA m ok).spec c = _ from scopedRest0_eq c, show (dats m ok 0 c).Φ (Fin.last (cfgA m ok).N) = Phi m ok c (Fin.last _) from rfl]
  unfold Phi
  iintro ⟨⟨%a0, -, HS0⟩, ⟨%a1, -, HS1⟩, ⟨%a2, -, HS2⟩, -, -, -, HP⟩
  isplitr [HP]; swap
  · iexact HP
  isplitl [HS0]
  · iexists a0; iexact HS0
  isplitl [HS1]
  · iexists a1; iexact HS1
  iexists a2; iexact HS2

end Cert.KernelIdeal.Moe
-- ==== Proof.Ideal.Run.lean ====
/- The run of the whole program (program `KernelIdeal`): host code, the pipelined call, host code. -/
module

public import proofs.«01_k».proof.Proof.Ideal.Frame

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ok : Tab.Ok (teOf m) (naOf m))

/-- What every buffer of core `c` other than the windows' arrays holds at the end. -/
abbrev tailV (c : Dev nD) (b : Ref sig .tc) : Buf (Elt Ideal) ((c : Thread nD τ).loc b) :=
  Pipeline.afterTail pcfgs (fun _ => adm m ok) (dats m ok) 0 (V₀ m) [hostOps1] c b

theorem head_fresh : (hostOps0 : List (HloOp τ sig (Elt Ideal))).Forall fun op => op.fresh = ∅ := by
  repeat' apply And.intro
  all_goals rfl

theorem tail_fresh : ∀ op ∈ (hostOps1 : List (HloOp τ sig (Elt Ideal))), op.fresh = ∅ := by
  intro op hop
  simp only [List.mem_cons, List.not_mem_nil, or_false] at hop
  rcases hop with rfl | rfl | rfl | rfl <;> rfl

theorem tail_keep : ∀ op ∈ (hostOps1 : List (HloOp τ sig (Elt Ideal))), ∀ w : Fin 7, Proc.devRef .tc (Pipeline.arrRef spec0 w) ∉ op.writes := by
  intro op hop w
  simp only [List.mem_cons, List.not_mem_nil, or_false] at hop
  rcases hop with rfl | rfl | rfl | rfl <;> revert w <;> decide

theorem tail_sub : ∀ op ∈ (hostOps1 : List (HloOp τ sig (Elt Ideal))), op.bufs ⊆ Pipeline.tailRefs (τ := τ) sig pre0 spec0 := by
  intro op hop
  refine Pipeline.sub_tailRefs _ _ _ (List.forall_iff_forall_mem.1 hostOps1_sub op hop) ?_
  simp only [List.mem_cons, List.not_mem_nil, or_false] at hop
  rcases hop with rfl | rfl | rfl | rfl <;> decide

set_option backward.isDefEq.respectTransparency.types false in
set_option maxHeartbeats 4000000 in
/-- Every weakly fair execution ends with each array at the computed contents, every other buffer at what the closing host
    operations leave, and every semaphore at zero. -/
theorem run_main (ρ : Dev nD → PrngReg) :
    θ_run (defs (F := Ideal)) (onTc (τ := τ) (main (F := Ideal))) ⟨m, fun _ => 0, ρ⟩
      (fun r => Pipeline.FramePost (Pipeline.pin (pcfgs (F := Ideal)) fun _ => adm m ok) (dats m ok) 0 (tailV m ok) r ∧ r.2.sem = fun _ => 0) :=
  Pipeline.θ_run_frameP_around_track pcfgs (fun _ => adm m ok) (dats m ok) 0 (launch0 (F := Ideal)) defs₀ Variants.none m ρ main
    (fun c => (body_obligation m ok c).loose) (share_eq m ok) (fun _ _ => rfl) (V₀ m) [hostOps1]
    (hsub := by
      intro ops hops op hop
      obtain rfl := List.mem_singleton.1 hops
      exact tail_sub op hop)
    (hfresh := by
      intro ops hops op hop
      obtain rfl := List.mem_singleton.1 hops
      exact tail_fresh op hop)
    (hkeep := by
      intro ops hops op hop w
      obtain rfl := List.mem_singleton.1 hops
      exact tail_keep op hop w)
    (hmain := Pipeline.hmainP_around pcfgs 0 defs₀ Variants.none m main [hostOps0] [hostOps1] hostOps0_sub head_fresh main_chain)
    (hA := fun c w => rfl)
    (hpf := V₀_pre m ok)
    (hin := phi0_intro m ok)
    (hout := phiN_exit m ok)
    (Q' := _) (hQ' := fun _ h => h)

end Cert.KernelIdeal.Moe
-- ==== Proof.Ideal.Args.lean ====
/- Program `KernelIdeal`: the arguments after the run, and the claim about its launch. -/
module

public import proofs.«01_k».proof.Proof.Ideal.Run
public import proofs.«01_k».proof.Defs

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

theorem V₀_arg0 (c : Dev nD) : V₀ m c (Proc.devRef .tc main_arg0) = m ((c : Thread nD τ).loc main_arg0) := by
  unfold V₀; after_results_simp <;> rfl

theorem V₀_arg1 (c : Dev nD) : V₀ m c (Proc.devRef .tc main_arg1) = m ((c : Thread nD τ).loc main_arg1) := by
  unfold V₀; after_results_simp <;> rfl

theorem V₀_arg2 (c : Dev nD) : V₀ m c (Proc.devRef .tc main_arg2) = m ((c : Thread nD τ).loc main_arg2) := by
  unfold V₀; after_results_simp <;> rfl

theorem V₀_arg3 (c : Dev nD) : V₀ m c (Proc.devRef .tc main_arg3) = m ((c : Thread nD τ).loc main_arg3) := by
  unfold V₀; after_results_simp <;> rfl

theorem V₀_arg4 (c : Dev nD) : V₀ m c (Proc.devRef .tc main_arg4) = m ((c : Thread nD τ).loc main_arg4) := by
  unfold V₀; after_results_simp <;> rfl

theorem V₀_arg5 (c : Dev nD) : V₀ m c (Proc.devRef .tc main_arg5) = m ((c : Thread nD τ).loc main_arg5) := by
  unfold V₀; after_results_simp <;> rfl

theorem V₀_arg6 (c : Dev nD) : V₀ m c (Proc.devRef .tc main_arg6) = m ((c : Thread nD τ).loc main_arg6) := by
  unfold V₀; after_results_simp <;> rfl

variable (ok : Tab.Ok (teOf m) (naOf m))

/-- A buffer that is no window's array and that no closing host operation writes ends as the region's entry found it. -/
theorem tail_of_not_written (c : Dev nD) (b : Ref sig .tc) (ha : ∀ w : Fin 7, Pipeline.arrRef spec0 w ≠ b)
    (hw : ∀ op ∈ (hostOps1 : List (HloOp τ sig (Elt Ideal))), Proc.devRef .tc b ∉ op.writes) :
    tailV m ok c b = V₀ m c (Proc.devRef .tc b) := by
  unfold tailV Pipeline.afterTail
  rw [StableHlo.after_of_forall_not_mem _ _ fun op hop => ?_]
  · exact Pipeline.withArrays_of_ne _ c (V₀ m c) _ b ha
  · obtain ⟨ops, hops, hop'⟩ := List.mem_flatten.mp hop
    obtain rfl := List.mem_singleton.1 hops
    exact hw op hop'

theorem tail_arg0 (c : Dev nD) : tailV m ok c main_arg0 = m ((c : Thread nD τ).loc main_arg0) :=
  (tail_of_not_written m ok c main_arg0 (by decide) (by
    intro op hop
    simp only [List.mem_cons, List.not_mem_nil, or_false] at hop
    rcases hop with rfl | rfl | rfl | rfl <;> decide)).trans (V₀_arg0 m c)

theorem rest_arg0 : main_arg0 ∈ Pipeline.restRefs sig spec0 :=
  Pipeline.mem_restRefs_of _ rfl (by decide)

theorem tail_arg1 (c : Dev nD) : tailV m ok c main_arg1 = m ((c : Thread nD τ).loc main_arg1) :=
  (tail_of_not_written m ok c main_arg1 (by decide) (by
    intro op hop
    simp only [List.mem_cons, List.not_mem_nil, or_false] at hop
    rcases hop with rfl | rfl | rfl | rfl <;> decide)).trans (V₀_arg1 m c)

theorem rest_arg1 : main_arg1 ∈ Pipeline.restRefs sig spec0 :=
  Pipeline.mem_restRefs_of _ rfl (by decide)

theorem tail_arg2 (c : Dev nD) : tailV m ok c main_arg2 = m ((c : Thread nD τ).loc main_arg2) :=
  (tail_of_not_written m ok c main_arg2 (by decide) (by
    intro op hop
    simp only [List.mem_cons, List.not_mem_nil, or_false] at hop
    rcases hop with rfl | rfl | rfl | rfl <;> decide)).trans (V₀_arg2 m c)

theorem rest_arg2 : main_arg2 ∈ Pipeline.restRefs sig spec0 :=
  Pipeline.mem_restRefs_of _ rfl (by decide)

theorem tail_arg3 (c : Dev nD) : tailV m ok c main_arg3 = m ((c : Thread nD τ).loc main_arg3) :=
  (tail_of_not_written m ok c main_arg3 (by decide) (by
    intro op hop
    simp only [List.mem_cons, List.not_mem_nil, or_false] at hop
    rcases hop with rfl | rfl | rfl | rfl <;> decide)).trans (V₀_arg3 m c)

theorem rest_arg3 : main_arg3 ∈ Pipeline.restRefs sig spec0 :=
  Pipeline.mem_restRefs_of _ rfl (by decide)

theorem tail_arg4 (c : Dev nD) : tailV m ok c main_arg4 = m ((c : Thread nD τ).loc main_arg4) :=
  (tail_of_not_written m ok c main_arg4 (by decide) (by
    intro op hop
    simp only [List.mem_cons, List.not_mem_nil, or_false] at hop
    rcases hop with rfl | rfl | rfl | rfl <;> decide)).trans (V₀_arg4 m c)

theorem rest_arg4 : main_arg4 ∈ Pipeline.restRefs sig spec0 :=
  Pipeline.mem_restRefs_of _ rfl (by decide)

theorem tail_arg5 (c : Dev nD) : tailV m ok c main_arg5 = m ((c : Thread nD τ).loc main_arg5) :=
  (tail_of_not_written m ok c main_arg5 (by decide) (by
    intro op hop
    simp only [List.mem_cons, List.not_mem_nil, or_false] at hop
    rcases hop with rfl | rfl | rfl | rfl <;> decide)).trans (V₀_arg5 m c)

theorem rest_arg5 : main_arg5 ∈ Pipeline.restRefs sig spec0 :=
  Pipeline.mem_restRefs_of _ rfl (by decide)

theorem tail_arg6 (c : Dev nD) : tailV m ok c main_arg6 = m ((c : Thread nD τ).loc main_arg6) :=
  (tail_of_not_written m ok c main_arg6 (by decide) (by
    intro op hop
    simp only [List.mem_cons, List.not_mem_nil, or_false] at hop
    rcases hop with rfl | rfl | rfl | rfl <;> decide)).trans (V₀_arg6 m c)

theorem rest_arg6 : main_arg6 ∈ Pipeline.restRefs sig spec0 :=
  Pipeline.mem_restRefs_of _ rfl (by decide)

/-- The launch ends with the arguments as they were and every semaphore at zero. -/
theorem quiescent : @Cert.quiescent_KernelIdeal Cert.KernelIdeal.Gen.facts Cert.Pre_tables.Gen.facts := by
  intro m g hpre
  have ok : Tab.Ok (teOf m) (naOf m) := Tab.ok_of_pre _ _ _ _ _ _ _ (hpre 0)
  exact (θ_run _ _ _).mono (fun r h => ⟨fun c =>
      ⟨((h.1 c).2 main_arg0 rest_arg0).trans (tail_arg0 m ok c),
        ((h.1 c).2 main_arg1 rest_arg1).trans (tail_arg1 m ok c),
        ((h.1 c).2 main_arg2 rest_arg2).trans (tail_arg2 m ok c),
        ((h.1 c).2 main_arg3 rest_arg3).trans (tail_arg3 m ok c),
        ((h.1 c).2 main_arg4 rest_arg4).trans (tail_arg4 m ok c),
        ((h.1 c).2 main_arg5 rest_arg5).trans (tail_arg5 m ok c),
        ((h.1 c).2 main_arg6 rest_arg6).trans (tail_arg6 m ok c)⟩, h.2⟩) (run_main m ok g)

end Cert.KernelIdeal.Moe
-- ==== Proof.Ideal.Arrays.lean ====
module

public import proofs.«01_k».proof.Proof.Ideal.Host
public import Idealize.ShloMosaic.Lib.Pointwise

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! # The arrays the call is given, at an index (program `KernelIdeal`): the host code's packing of the rows and the weights -/

variable (m : (ℓ : Loc nD τ sig) → Buf (Elt Ideal) ℓ)

/-- The rows, the weights and the biases, as the program is given them. -/
abbrev xOf : FVec Ideal S81920x1024 .f32 := m (((0 : Dev nD) : Thread nD τ).loc main_arg2)
abbrev w1Of : FVec Ideal S32x1024x2048 .f32 := m (((0 : Dev nD) : Thread nD τ).loc main_arg3)
abbrev b1Of : FVec Ideal S32x2048 .f32 := m (((0 : Dev nD) : Thread nD τ).loc main_arg4)
abbrev w2In : FVec Ideal S32x1024x1024 .f32 := m (((0 : Dev nD) : Thread nD τ).loc main_arg5)
abbrev b2Of : FVec Ideal S32x1024 .f32 := m (((0 : Dev nD) : Thread nD τ).loc main_arg6)

set_option maxHeartbeats 4000000 in
theorem V_x (c : Dev nD) : V₀ m c (Proc.devRef .tc main_v21) = shapeCast S2x163840x256 (transpose S2x81920x2x256 [1, 0, 2, 3]
    (shapeCast S81920x2x2x256 (truncf .bf16 (xOf m) bitsLt_bf16_f32) shapeCasts_S81920x1024_S81920x2x2x256)
      transposes_S81920x2x2x256_S2x81920x2x256_1_0_2_3) shapeCasts_S2x81920x2x256_S2x163840x256 := by
  obtain rfl : c = 0 := Subsingleton.elim _ _
  unfold V₀
  after_results_simp
  rfl

set_option maxHeartbeats 4000000 in
theorem V_w1 (c : Dev nD) : V₀ m c (Proc.devRef .tc main_v25) = shapeCast S32x2048x1024 (transpose S32x1024x2x2x512 [0, 1, 2, 4, 3]
    (shapeCast S32x1024x2x512x2 (truncf .bf16 (w1Of m) bitsLt_bf16_f32) shapeCasts_S32x1024x2048_S32x1024x2x512x2)
      transposes_S32x1024x2x512x2_S32x1024x2x2x512_0_1_2_4_3) shapeCasts_S32x1024x2x2x512_S32x2048x1024 := by
  obtain rfl : c = 0 := Subsingleton.elim _ _
  unfold V₀
  after_results_simp
  rfl

set_option maxHeartbeats 4000000 in
theorem V_w2 (c : Dev nD) : V₀ m c (Proc.devRef .tc main_v27) = shapeCast S32x2048x512 (truncf .bf16 (w2In m) bitsLt_bf16_f32) shapeCasts_S32x1024x1024_S32x2048x512 := by
  obtain rfl : c = 0 := Subsingleton.elim _ _
  unfold V₀
  after_results_simp
  rfl

set_option maxHeartbeats 4000000 in
theorem V_bg (c : Dev nD) : V₀ m c (Proc.devRef .tc main_v31) = broadcastInDim S32x1x1024 ![0, 2] bcast_S32x1024_S32x1x1024_0_2
    (shapeCast S32x1024 (extractStridedSlice S32x1024x1 ![0, 0, 0] (shapeCast S32x1024x2 (b1Of m) shapeCasts_S32x2048_S32x1024x2) slices_S32x1024x2_S32x1024x1_0_0_0)
      shapeCasts_S32x1024x1_S32x1024) := by
  obtain rfl : c = 0 := Subsingleton.elim _ _
  unfold V₀
  after_results_simp
  rfl

set_option maxHeartbeats 4000000 in
theorem V_bl (c : Dev nD) : V₀ m c (Proc.devRef .tc main_v34) = broadcastInDim S32x1x1024 ![0, 2] bcast_S32x1024_S32x1x1024_0_2
    (shapeCast S32x1024 (extractStridedSlice S32x1024x1 ![0, 0, 1] (shapeCast S32x1024x2 (b1Of m) shapeCasts_S32x2048_S32x1024x2) slices_S32x1024x2_S32x1024x1_0_0_1)
      shapeCasts_S32x1024x1_S32x1024) := by
  obtain rfl : c = 0 := Subsingleton.elim _ _
  unfold V₀
  after_results_simp
  rfl

set_option maxHeartbeats 4000000 in
theorem V_b2 (c : Dev nD) : V₀ m c (Proc.devRef .tc main_v35) = broadcastInDim S32x1x1024 ![0, 2] bcast_S32x1024_S32x1x1024_0_2 (b2Of m) := by
  obtain rfl : c = 0 := Subsingleton.elim _ _
  unfold V₀
  after_results_simp

theorem at_x (c : Dev nD) (j : Fin 2) (r : Fin 163840) (k : Fin 256) : V₀ m c (Proc.devRef .tc main_v21) (ix3 j r k)
    = xOf m (ix2 (n0 := 81920) (n1 := 1024) ⟨r.val / 2, by omega⟩ ⟨j.val * 512 + r.val % 2 * 256 + k.val, by omega⟩) := by
  rw [V_x]
  pointwise

theorem at_w1 (c : Dev nD) (e : Fin 32) (r : Fin 2048) (k : Fin 1024) : V₀ m c (Proc.devRef .tc main_v25) (ix3 e r k)
    = w1Of m (ix3 (n0 := 32) (n1 := 1024) (n2 := 2048) e ⟨r.val / 2, by omega⟩ ⟨r.val % 2 * 1024 + k.val % 512 * 2 + k.val / 512, by omega⟩) := by
  rw [V_w1]
  pointwise

theorem at_w2 (c : Dev nD) (e : Fin 32) (r : Fin 2048) (k : Fin 512) : V₀ m c (Proc.devRef .tc main_v27) (ix3 e r k)
    = w2In m (ix3 (n0 := 32) (n1 := 1024) (n2 := 1024) e ⟨r.val / 2, by omega⟩ ⟨r.val % 2 * 512 + k.val, by omega⟩) := by
  rw [V_w2]
  pointwise

theorem at_bg (c : Dev nD) (e : Fin 32) (k : Fin 1024) : V₀ m c (Proc.devRef .tc main_v31) (ix3 e 0 k)
    = b1Of m (ix2 (n0 := 32) (n1 := 2048) e ⟨k.val * 2, by omega⟩) := by
  rw [V_bg]
  pointwise

theorem at_bl (c : Dev nD) (e : Fin 32) (k : Fin 1024) : V₀ m c (Proc.devRef .tc main_v34) (ix3 e 0 k)
    = b1Of m (ix2 (n0 := 32) (n1 := 2048) e ⟨k.val * 2 + 1, by omega⟩) := by
  rw [V_bl]
  pointwise

theorem at_b2 (c : Dev nD) (e : Fin 32) (k : Fin 1024) : V₀ m c (Proc.devRef .tc main_v35) (ix3 e 0 k) = b2Of m (ix2 e k) := by
  rw [V_b2]
  pointwise

end Cert.KernelIdeal.Moe
-- ==== Proof.Ideal.Unpack.lean ====
module

public import proofs.«01_k».proof.Proof.Ideal.Runs
public import Idealize.ShloMosaic.Lib.Pointwise
public import Idealize.ShloMosaic.Lib.VecWindow

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! # What the body computes, at an index (program `KernelIdeal`) -/

/-- An expert's gate weights, unpacked from its packed block: row `r`'s first half of columns sits in packed row `2r`, its
    second half in packed row `2r + 1`. -/
def wgOf (x : S1x2048x1024.Idx → Elt Ideal .bf16) : S1024x1024.Idx → Elt Ideal .bf16 := fun j =>
  x (ix3 (n0 := 1) (n1 := 2048) (n2 := 1024) 0 ⟨2 * (j 0).val + (j 1).val / 512, by have h0 : (j 0).val < 1024 := (j 0).isLt; have h1 : (j 1).val < 1024 := (j 1).isLt; omega⟩
    ⟨(j 1).val % 512, by omega⟩)

/-- An expert's linear weights, unpacked likewise from the block's right half. -/
def wlOf (x : S1x2048x1024.Idx → Elt Ideal .bf16) : S1024x1024.Idx → Elt Ideal .bf16 := fun j =>
  x (ix3 (n0 := 1) (n1 := 2048) (n2 := 1024) 0 ⟨2 * (j 0).val + (j 1).val / 512, by have h0 : (j 0).val < 1024 := (j 0).isLt; have h1 : (j 1).val < 1024 := (j 1).isLt; omega⟩
    ⟨512 + (j 1).val % 512, by omega⟩)

/-- An expert's output weights, unpacked likewise. -/
def w2Of (x : S1x2048x512.Idx → Elt Ideal .bf16) : S1024x1024.Idx → Elt Ideal .bf16 := fun j =>
  x (ix3 (n0 := 1) (n1 := 2048) (n2 := 512) 0 ⟨2 * (j 0).val + (j 1).val / 512, by have h0 : (j 0).val < 1024 := (j 0).isLt; have h1 : (j 1).val < 1024 := (j 1).isLt; omega⟩
    ⟨(j 1).val % 512, by omega⟩)

/-- Writes of two pieces that both agree with `G` leave `G` wherever one of the two covers. -/
theorem read_two {κ : Kind} {sp : Space} {s : Shape} {e : EltTy} (v : View sig κ sp s e) (f : v.ty.Contents (Elt Ideal))
    (p q : View.Piece (Elt Ideal) s e) (G : s.Idx → Elt Ideal e) (hp : ∀ x, p.2 x = G (p.1.emb x)) (hq : ∀ x, q.2 x = G (q.1.emb x))
    (y : s.Idx) (hy : ∃ r ∈ [p, q], y ∈ r.1.set) : v.read (Elt Ideal) (v.writes (Elt Ideal) f [p, q]) y = G y := by
  refine View.read_writes_apply_of_pieces v f G [p, q] ?_ y hy
  intro r hr x
  rcases List.mem_cons.mp hr with rfl | hr
  · exact hp x
  · rcases List.mem_cons.mp hr with rfl | hr
    · exact hq x
    · exact absurd hr List.not_mem_nil

theorem ix3_ext {n0 n1 n2 : ℕ} {i j : (⟨3, ![n0, n1, n2]⟩ : Shape).Idx} (h0 : (i 0).val = (j 0).val) (h1 : (i 1).val = (j 1).val)
    (h2 : (i 2).val = (j 2).val) : i = j := by
  funext a
  fin_cases a
  · exact Fin.ext h0
  · exact Fin.ext h1
  · exact Fin.ext h2

theorem scr0 (arg5 : Memref sig .tc .vmem S1x2048x1024 .bf16) (x1 : S1x2048x1024.Idx → Elt Ideal .bf16) (f : (View.whole cc0_scratch0).ty.Contents (Elt Ideal)) :
    (View.whole cc0_scratch0).writes (Elt Ideal) f (kernelRun0_A.sl.HS0_2 arg5 x1) = wgOf x1 := by
  rw [← View.read_whole (Val := Elt Ideal) cc0_scratch0 ((View.whole cc0_scratch0).writes (Elt Ideal) _ _)]
  funext y
  refine read_two (View.whole cc0_scratch0) _ _ _ (wgOf x1) ?_ ?_ y (View.cover_of_tiledL (kernelRun0_A.sl.HS0_2 arg5 x1) S1024x512.size (by sl_kernel_rfl) y)
  · intro x
    have h0 : (x 0).val < 1024 := (x 0).isLt
    have h1 : (x 1).val < 512 := (x 1).isLt
    dsimp only
    unfold k0_pay8
    pointwise
    rw [View.readAt_rep_unit _ _ _ rfl inb_S1x2048x1024_S1x2048x512_0_0_0]
    refine congrArg x1 (ix3_ext ?_ ?_ ?_)
    · show 0 + 1 * 0 = 0
      omega
    · show 0 + 1 * (2 * (x 0).val + 1) = 2 * (0 + 1 * (x 0).val) + (512 + 1 * (x 1).val) / 512
      omega
    · show 0 + 1 * (x 1).val = (512 + 1 * (x 1).val) % 512
      omega
  · intro x
    have h0 : (x 0).val < 1024 := (x 0).isLt
    have h1 : (x 1).val < 512 := (x 1).isLt
    dsimp only
    unfold k0_pay7
    pointwise
    rw [View.readAt_rep_unit _ _ _ rfl inb_S1x2048x1024_S1x2048x512_0_0_0]
    refine congrArg x1 (ix3_ext ?_ ?_ ?_)
    · show 0 + 1 * 0 = 0
      omega
    · show 0 + 1 * (2 * (x 0).val) = 2 * (0 + 1 * (x 0).val) + (0 + 1 * (x 1).val) / 512
      omega
    · show 0 + 1 * (x 1).val = (0 + 1 * (x 1).val) % 512
      omega

theorem scr1 (arg5 : Memref sig .tc .vmem S1x2048x1024 .bf16) (x1 : S1x2048x1024.Idx → Elt Ideal .bf16) (f : (View.whole cc0_scratch1).ty.Contents (Elt Ideal)) :
    (View.whole cc0_scratch1).writes (Elt Ideal) f (kernelRun0_A.sl.HS1_2 arg5 x1) = wlOf x1 := by
  rw [← View.read_whole (Val := Elt Ideal) cc0_scratch1 ((View.whole cc0_scratch1).writes (Elt Ideal) _ _)]
  funext y
  refine read_two (View.whole cc0_scratch1) _ _ _ (wlOf x1) ?_ ?_ y (View.cover_of_tiledL (kernelRun0_A.sl.HS1_2 arg5 x1) S1024x512.size (by sl_kernel_rfl) y)
  · intro x
    have h0 : (x 0).val < 1024 := (x 0).isLt
    have h1 : (x 1).val < 512 := (x 1).isLt
    dsimp only
    unfold k0_pay1 kernelRun0_A.sl.r_4 k0_pay10
    pointwise
    rw [View.readAt_rep_unit _ _ _ rfl inb_S1x2048x1024_S1x2048x512_0_0_512]
    refine congrArg x1 (ix3_ext ?_ ?_ ?_)
    · show 0 + 1 * 0 = 0
      omega
    · show 0 + 1 * (2 * (x 0).val + 1) = 2 * (0 + 1 * (x 0).val) + (512 + 1 * (x 1).val) / 512
      omega
    · show 512 + 1 * (x 1).val = 512 + (512 + 1 * (x 1).val) % 512
      omega
  · intro x
    have h0 : (x 0).val < 1024 := (x 0).isLt
    have h1 : (x 1).val < 512 := (x 1).isLt
    dsimp only
    unfold k0_pay9
    pointwise
    rw [View.readAt_rep_unit _ _ _ rfl inb_S1x2048x1024_S1x2048x512_0_0_512]
    refine congrArg x1 (ix3_ext ?_ ?_ ?_)
    · show 0 + 1 * 0 = 0
      omega
    · show 0 + 1 * (2 * (x 0).val) = 2 * (0 + 1 * (x 0).val) + (0 + 1 * (x 1).val) / 512
      omega
    · show 512 + 1 * (x 1).val = 512 + (0 + 1 * (x 1).val) % 512
      omega

theorem scr2 (arg8 : Memref sig .tc .vmem S1x2048x512 .bf16) (x4 : S1x2048x512.Idx → Elt Ideal .bf16) (f : (View.whole cc0_scratch2).ty.Contents (Elt Ideal)) :
    (View.whole cc0_scratch2).writes (Elt Ideal) f (kernelRun0_A.sl.HS2_2 arg8 x4) = w2Of x4 := by
  rw [← View.read_whole (Val := Elt Ideal) cc0_scratch2 ((View.whole cc0_scratch2).writes (Elt Ideal) _ _)]
  funext y
  refine read_two (View.whole cc0_scratch2) _ _ _ (w2Of x4) ?_ ?_ y (View.cover_of_tiledL (kernelRun0_A.sl.HS2_2 arg8 x4) S1024x512.size (by sl_kernel_rfl) y)
  · intro x
    have h0 : (x 0).val < 1024 := (x 0).isLt
    have h1 : (x 1).val < 512 := (x 1).isLt
    dsimp only
    unfold k0_pay3 kernelRun0_A.sl.r_3 k0_pay6
    pointwise
    rw [View.readAt_rep_unit _ _ _ rfl inb_S1x2048x512_S1x2048x512_0_0_0]
    refine congrArg x4 (ix3_ext ?_ ?_ ?_)
    · show 0 + 1 * 0 = 0
      omega
    · show 0 + 1 * (2 * (x 0).val + 1) = 2 * (0 + 1 * (x 0).val) + (512 + 1 * (x 1).val) / 512
      omega
    · show 0 + 1 * (x 1).val = (512 + 1 * (x 1).val) % 512
      omega
  · intro x
    have h0 : (x 0).val < 1024 := (x 0).isLt
    have h1 : (x 1).val < 512 := (x 1).isLt
    dsimp only
    unfold k0_pay2 kernelRun0_A.sl.r_2 k0_pay5
    pointwise
    rw [View.readAt_rep_unit _ _ _ rfl inb_S1x2048x512_S1x2048x512_0_0_0]
    refine congrArg x4 (ix3_ext ?_ ?_ ?_)
    · show 0 + 1 * 0 = 0
      omega
    · show 0 + 1 * (2 * (x 0).val) = 2 * (0 + 1 * (x 0).val) + (0 + 1 * (x 1).val) / 512
      omega
    · show 0 + 1 * (x 1).val = (0 + 1 * (x 1).val) % 512
      omega

end Cert.KernelIdeal.Moe
-- ==== Proof.Ffn.lean ====
module

public import Idealize.ShloMosaic.Lib.Pointwise

@[expose] public section

noncomputable section

namespace Cert.Moe

open Idealize.ShloMosaic

/-! # One expert on one row, as plain mathematics over the extended reals -/

/-- The gate's pre-activation, cut off above at 7. -/
def glu (x : Fin 1024 → EReal) (wg : Fin 1024 → Fin 1024 → EReal) (bg : Fin 1024 → EReal) (f : Fin 1024) : EReal :=
  min (∑ k, x k * wg k f + bg f) (Ideal.ofBits .f32 1088421888#32)

/-- The linear branch, kept between −7 and 7. -/
def lin (x : Fin 1024 → EReal) (wl : Fin 1024 → Fin 1024 → EReal) (bl : Fin 1024 → EReal) (f : Fin 1024) : EReal :=
  min (Ideal.ofBits .f32 1088421888#32) (max (Ideal.ofBits .f32 3235905536#32) (∑ k, x k * wl k f + bl f))

/-- The activation: the gate, times the logistic function of 1.702 times the gate, times one more than the linear branch. -/
def act (x : Fin 1024 → EReal) (wg wl : Fin 1024 → Fin 1024 → EReal) (bg bl : Fin 1024 → EReal) (f : Fin 1024) : EReal :=
  glu x wg bg f * Ideal.div 1 (1 + Ideal.exp (-(Ideal.ofBits .f32 1071242019#32 * glu x wg bg f))) * (lin x wl bl f + 1)

/-- The expert's result at column `c`. -/
def ffn (x : Fin 1024 → EReal) (wg wl : Fin 1024 → Fin 1024 → EReal) (bg bl : Fin 1024 → EReal) (w2 : Fin 1024 → Fin 1024 → EReal)
    (b2 : Fin 1024 → EReal) (c : Fin 1024) : EReal :=
  ∑ f, act x wg wl bg bl f * w2 f c + b2 c

end Cert.Moe
-- ==== Proof.Ideal.Block.lean ====
module

public import proofs.«01_k».proof.Proof.Ideal.Unpack
public import proofs.«01_k».proof.Proof.Ffn

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! # A block of the result from the blocks of the operands (program `KernelIdeal`) -/

open Cert.Moe

/-- Row `r` of a block of packed rows: each plane holds half of the columns, a row's two quarters of them in packed rows `2r` and `2r + 1`. -/
def rowOf (x : S2x1024x256.Idx → Elt Ideal .bf16) (r : Fin 512) (k : Fin 1024) : EReal :=
  x (ix3 (n0 := 2) (n1 := 1024) (n2 := 256) ⟨k.val / 512, by omega⟩ ⟨2 * r.val + k.val / 256 % 2, by omega⟩ ⟨k.val % 256, by omega⟩)

/-- The expert on row `r` at column `c`, the unpacked weights and the biases as the body holds them. -/
def valOf (x : S2x1024x256.Idx → Elt Ideal .bf16) (wg wl : S1024x1024.Idx → Elt Ideal .bf16) (bg bl : S1x1x1024.Idx → Elt Ideal .f32)
    (w2 : S1024x1024.Idx → Elt Ideal .bf16) (b2 : S1x1x1024.Idx → Elt Ideal .f32) (r : Fin 512) (c : Fin 1024) : EReal :=
  ffn (rowOf x r) (fun k f => wg (ix2 k f)) (fun k f => wl (ix2 k f)) (fun f => bg (ix3 0 0 f)) (fun f => bl (ix3 0 0 f))
    (fun f c => w2 (ix2 f c)) (fun c => b2 (ix3 0 0 c)) c

/-- The block of the result, packed as the rows are. -/
def blkOf (x : S2x1024x256.Idx → Elt Ideal .bf16) (wg wl : S1024x1024.Idx → Elt Ideal .bf16) (bg bl : S1x1x1024.Idx → Elt Ideal .f32)
    (w2 : S1024x1024.Idx → Elt Ideal .bf16) (b2 : S1x1x1024.Idx → Elt Ideal .f32) : S2x1024x256.Idx → Elt Ideal .bf16 := fun j =>
  valOf x wg wl bg bl w2 b2 ⟨(j 1).val / 2, by have h : (j 1).val < 1024 := (j 1).isLt; omega⟩
    ⟨(j 0).val * 512 + (j 1).val % 2 * 256 + (j 2).val, by
      have h0 : (j 0).val < 2 := (j 0).isLt; have h1 : (j 1).val < 1024 := (j 1).isLt; have h2 : (j 2).val < 256 := (j 2).isLt; omega⟩

theorem val_at (x wg wl bg bl w2 b2) (r : Fin 512) (c : Fin 1024) (j : S2x1024x256.Idx) (hr : r.val = (j 1).val / 2)
    (hc : c.val = (j 0).val * 512 + (j 1).val % 2 * 256 + (j 2).val) : valOf x wg wl bg bl w2 b2 r c = blkOf x wg wl bg bl w2 b2 j := by
  unfold blkOf
  exact congrArg₂ (valOf x wg wl bg bl w2 b2) (Fin.ext hr) (Fin.ext hc)

section
variable (x : S2x1024x256.Idx → Elt Ideal .bf16) (p q : S1x1024x256.Idx → Elt Ideal .bf16)
  (hp : ∀ (a : Fin 1024) (b : Fin 256), p (ix3 0 a b) = x (ix3 (n0 := 2) 0 a b)) (hq : ∀ (a : Fin 1024) (b : Fin 256), q (ix3 0 a b) = x (ix3 (n0 := 2) 1 a b))
include hp hq

/-- The body's rows, put together from the two planes. -/
theorem rows_eq (r : Fin 512) (k : Fin 1024) : k0_pay11 p q (ix2 r k) = rowOf x r k := by
  unfold k0_pay11
  pointwise
  unfold rowOf
  have hk := k.isLt
  have hr := r.isLt
  split
  · rename_i h
    refine (hp _ _).trans (congrArg x (ix3_ext ?_ ?_ ?_))
    · show 0 = k.val / 512; omega
    · show 2 * r.val = 2 * r.val + k.val / 256 % 2; omega
    · show k.val = k.val % 256; omega
  · split
    · refine (hp _ _).trans (congrArg x (ix3_ext ?_ ?_ ?_))
      · show 0 = k.val / 512; omega
      · show 2 * r.val + 1 = 2 * r.val + k.val / 256 % 2; omega
      · show k.val - 256 = k.val % 256; omega
    · split
      · refine (hq _ _).trans (congrArg x (ix3_ext ?_ ?_ ?_))
        · show 1 = k.val / 512; omega
        · show 2 * r.val = 2 * r.val + k.val / 256 % 2; omega
        · show k.val - 512 = k.val % 256; omega
      · refine (hq _ _).trans (congrArg x (ix3_ext ?_ ?_ ?_))
        · show 1 = k.val / 512; omega
        · show 2 * r.val + 1 = 2 * r.val + k.val / 256 % 2; omega
        · show k.val - 768 = k.val % 256; omega

theorem pay14_eq (wg wl : S1024x1024.Idx → Elt Ideal .bf16) (bg bl : S1x1x1024.Idx → Elt Ideal .f32)
    (w2 : S1024x1024.Idx → Elt Ideal .bf16) (b2 : S1x1x1024.Idx → Elt Ideal .f32) (r : Fin 512) (c : Fin 1024) :
    k0_pay14 (k0_pay12 p q wl bl) (k0_pay13 p q wg bg) w2 b2 (ix2 r c) = valOf x wg wl bg bl w2 b2 r c := by
  have e12 : ∀ f : Fin 1024, k0_pay12 p q wl bl (ix2 r f) = ∑ k, rowOf x r k * wl (ix2 k f) + bl (ix3 0 0 f) := fun f => by
    unfold k0_pay12
    pointwise
    simp only [rows_eq x p q hp hq]
    try rfl
  have e13 : ∀ f : Fin 1024, k0_pay13 p q wg bg (ix2 r f) = min (∑ k, rowOf x r k * wg (ix2 k f) + bg (ix3 0 0 f)) (Ideal.ofBits .f32 1088421888#32) := fun f => by
    unfold k0_pay13
    pointwise
    simp only [rows_eq x p q hp hq]
    try rfl
  unfold k0_pay14
  pointwise
  simp only [e12, e13]
  rfl
end

section
variable (x : S2x1024x256.Idx → Elt Ideal .bf16) (p q : S1x1024x256.Idx → Elt Ideal .bf16)
  (hp : ∀ (a : Fin 1024) (b : Fin 256), p (ix3 0 a b) = x (ix3 (n0 := 2) 0 a b)) (hq : ∀ (a : Fin 1024) (b : Fin 256), q (ix3 0 a b) = x (ix3 (n0 := 2) 1 a b))
  (wg wl : S1024x1024.Idx → Elt Ideal .bf16) (bg bl : S1x1x1024.Idx → Elt Ideal .f32)
  (w2 : S1024x1024.Idx → Elt Ideal .bf16) (b2 : S1x1x1024.Idx → Elt Ideal .f32)
include hp hq

/-- What the body stores into the first plane. -/
theorem store0 (y : (Rect.unit (s := S2x1024x256) ![0, 0, 0] S1x1024x256.size inb_S2x1024x256_S1x1024x256_0_0_0).shape.Idx) :
    k0_pay17 (k0_pay12 p q wl bl) (k0_pay13 p q wg bg) w2 b2 y
      = blkOf x wg wl bg bl w2 b2 ((Rect.unit (s := S2x1024x256) ![0, 0, 0] S1x1024x256.size inb_S2x1024x256_S1x1024x256_0_0_0).emb y) := by
  have h0 : (y 0).val < 1 := (y 0).isLt
  have h1 : (y 1).val < 1024 := (y 1).isLt
  have h2 : (y 2).val < 256 := (y 2).isLt
  unfold k0_pay17
  pointwise
  split
  · refine (pay14_eq x p q hp hq wg wl bg bl w2 b2 _ _).trans (val_at x wg wl bg bl w2 b2 _ _ _ ?_ ?_)
    · show (y 1).val / 2 = (0 + 1 * (y 1).val) / 2; omega
    · show (y 2).val = (0 + 1 * (y 0).val) * 512 + (0 + 1 * (y 1).val) % 2 * 256 + (0 + 1 * (y 2).val); omega
  · refine (pay14_eq x p q hp hq wg wl bg bl w2 b2 _ _).trans (val_at x wg wl bg bl w2 b2 _ _ _ ?_ ?_)
    · show (y 1).val / 2 = (0 + 1 * (y 1).val) / 2; omega
    · show 256 + (y 2).val = (0 + 1 * (y 0).val) * 512 + (0 + 1 * (y 1).val) % 2 * 256 + (0 + 1 * (y 2).val); omega

/-- What the body stores into the second plane. -/
theorem store1 (y : (Rect.unit (s := S2x1024x256) ![1, 0, 0] S1x1024x256.size inb_S2x1024x256_S1x1024x256_1_0_0).shape.Idx) :
    k0_pay4 (k0_pay15 (k0_pay12 p q wl bl) (k0_pay13 p q wg bg) w2 b2) (k0_pay16 (k0_pay12 p q wl bl) (k0_pay13 p q wg bg) w2 b2) y
      = blkOf x wg wl bg bl w2 b2 ((Rect.unit (s := S2x1024x256) ![1, 0, 0] S1x1024x256.size inb_S2x1024x256_S1x1024x256_1_0_0).emb y) := by
  have h0 : (y 0).val < 1 := (y 0).isLt
  have h1 : (y 1).val < 1024 := (y 1).isLt
  have h2 : (y 2).val < 256 := (y 2).isLt
  unfold k0_pay4
  pointwise
  split
  · unfold k0_pay15
    pointwise
    refine (pay14_eq x p q hp hq wg wl bg bl w2 b2 _ _).trans (val_at x wg wl bg bl w2 b2 _ _ _ ?_ ?_)
    · show (y 1).val / 2 = (0 + 1 * (y 1).val) / 2; omega
    · show 512 + (y 2).val = (1 + 1 * (y 0).val) * 512 + (0 + 1 * (y 1).val) % 2 * 256 + (0 + 1 * (y 2).val); omega
  · unfold k0_pay16
    pointwise
    refine (pay14_eq x p q hp hq wg wl bg bl w2 b2 _ _).trans (val_at x wg wl bg bl w2 b2 _ _ _ ?_ ?_)
    · show (y 1).val / 2 = (0 + 1 * (y 1).val) / 2; omega
    · show 768 + (y 2).val = (1 + 1 * (y 0).val) * 512 + (0 + 1 * (y 1).val) % 2 * 256 + (0 + 1 * (y 2).val); omega
end

theorem plane0 (arg4 : Memref sig .tc .vmem S2x1024x256 .bf16) (x : S2x1024x256.Idx → Elt Ideal .bf16) (a : Fin 1024) (b : Fin 256) :
    View.readAt (Elt Ideal) arg4.view (Rect.unit (s := S2x1024x256) ![0, 0, 0] S1x1024x256.size inb_S2x1024x256_S1x1024x256_0_0_0).toLoadRect (arg4.view.rep x)
      (ix3 (n0 := 1) (n1 := 1024) (n2 := 256) 0 a b) = x (ix3 (n0 := 2) 0 a b) := by
  rw [View.readAt_rep_unit _ _ _ rfl inb_S2x1024x256_S1x1024x256_0_0_0]
  refine congrArg x (ix3_ext ?_ ?_ ?_)
  · rfl
  · show 0 + 1 * a.val = a.val; omega
  · show 0 + 1 * b.val = b.val; omega

theorem plane1 (arg4 : Memref sig .tc .vmem S2x1024x256 .bf16) (x : S2x1024x256.Idx → Elt Ideal .bf16) (a : Fin 1024) (b : Fin 256) :
    View.readAt (Elt Ideal) arg4.view (Rect.unit (s := S2x1024x256) ![1, 0, 0] S1x1024x256.size inb_S2x1024x256_S1x1024x256_1_0_0).toLoadRect (arg4.view.rep x)
      (ix3 (n0 := 1) (n1 := 1024) (n2 := 256) 0 a b) = x (ix3 (n0 := 2) 1 a b) := by
  rw [View.readAt_rep_unit _ _ _ rfl inb_S2x1024x256_S1x1024x256_1_0_0]
  refine congrArg x (ix3_ext ?_ ?_ ?_)
  · rfl
  · show 0 + 1 * a.val = a.val; omega
  · show 0 + 1 * b.val = b.val; omega

theorem bias_read (a : Memref sig .tc .vmem S1x1x1024 .f32) (x : S1x1x1024.Idx → Elt Ideal .f32) :
    View.readAt (Elt Ideal) a.view (Rect.unit ![0, 0, 0] S1x1x1024.size inb_S1x1x1024_S1x1x1024_0_0_0).toLoadRect (a.view.rep x) = x :=
  View.readAt_rep_full _ _ _

theorem hold0 (f : (View.whole cc0_scratch0).ty.Contents (Elt Ideal)) :
    View.readAt (Elt Ideal) (Memref.view (Memref.whole cc0_scratch0 : Memref sig .tc .vmem S1024x1024 .bf16)) (Rect.unit ![0, 0] S1024x1024.size inb_S1024x1024_S1024x1024_0_0).toLoadRect f = f :=
  View.readAt_full scM0_0.view f _

theorem back0 (a : Memref sig .tc .vmem S1x2048x1024 .bf16) (x : S1x2048x1024.Idx → Elt Ideal .bf16) : kernelRun0_A.sl.v33 a x = wgOf x := by
  unfold kernelRun0_A.sl.v33 View.readCov
  rw [hold0]
  exact scr0 a x _

theorem hold1 (f : (View.whole cc0_scratch1).ty.Contents (Elt Ideal)) :
    View.readAt (Elt Ideal) (Memref.view (Memref.whole cc0_scratch1 : Memref sig .tc .vmem S1024x1024 .bf16)) (Rect.unit ![0, 0] S1024x1024.size inb_S1024x1024_S1024x1024_0_0).toLoadRect f = f :=
  View.readAt_full scM0_1.view f _

theorem back1 (a : Memref sig .tc .vmem S1x2048x1024 .bf16) (x : S1x2048x1024.Idx → Elt Ideal .bf16) : kernelRun0_A.sl.v39 a x = wlOf x := by
  unfold kernelRun0_A.sl.v39 View.readCov
  rw [hold1]
  exact scr1 a x _

theorem hold2 (f : (View.whole cc0_scratch2).ty.Contents (Elt Ideal)) :
    View.readAt (Elt Ideal) (Memref.view (Memref.whole cc0_scratch2 : Memref sig .tc .vmem S1024x1024 .bf16)) (Rect.unit ![0, 0] S1024x1024.size inb_S1024x1024_S1024x1024_0_0).toLoadRect f = f :=
  View.readAt_full scM0_2.view f _

theorem back2 (a : Memref sig .tc .vmem S1x2048x512 .bf16) (x : S1x2048x512.Idx → Elt Ideal .bf16) : kernelRun0_A.sl.v59 a x = w2Of x := by
  unfold kernelRun0_A.sl.v59 View.readCov
  rw [hold2]
  exact scr2 a x _

/-- The block the body leaves at a point that unpacks the weights. -/
theorem outA (arg4 : Memref sig .tc .vmem S2x1024x256 .bf16) (arg5 : Memref sig .tc .vmem S1x2048x1024 .bf16) (arg6 arg7 : Memref sig .tc .vmem S1x1x1024 .f32)
    (arg8 : Memref sig .tc .vmem S1x2048x512 .bf16) (arg9 : Memref sig .tc .vmem S1x1x1024 .f32)
    (x0 : S2x1024x256.Idx → Elt Ideal .bf16) (x1 : S1x2048x1024.Idx → Elt Ideal .bf16) (x2 x3 : S1x1x1024.Idx → Elt Ideal .f32)
    (x4 : S1x2048x512.Idx → Elt Ideal .bf16) (x5 : S1x1x1024.Idx → Elt Ideal .f32) :
    VO0_6.read (Elt Ideal) (VO0_6.writes (Elt Ideal) VO0_6.junk (kernelRun0_A.sl.HO6_2 arg4 arg5 arg6 arg7 arg8 arg9 x0 x1 x2 x3 x4 x5))
      = blkOf x0 (wgOf x1) (wlOf x1) x2 x3 (w2Of x4) x5 := by
  funext y
  refine read_two VO0_6 _ _ _ (blkOf x0 (wgOf x1) (wlOf x1) x2 x3 (w2Of x4) x5) ?_ ?_ y
    (View.cover_of_tiledL (kernelRun0_A.sl.HO6_2 arg4 arg5 arg6 arg7 arg8 arg9 x0 x1 x2 x3 x4 x5) S1x1024x256.size (by sl_kernel_rfl) y)
  · intro z
    dsimp only
    unfold kernelRun0_A.sl.r_7 kernelRun0_A.sl.r_8 kernelRun0_A.sl.r_5 kernelRun0_A.sl.r_6
    rw [back0, back1, back2, bias_read, bias_read, bias_read]
    exact store1 x0 _ _ (plane0 arg4 x0) (plane1 arg4 x0) _ _ _ _ _ _ z
  · intro z
    dsimp only
    unfold kernelRun0_A.sl.r_5 kernelRun0_A.sl.r_6
    rw [back0, back1, back2, bias_read, bias_read, bias_read]
    exact store0 x0 _ _ (plane0 arg4 x0) (plane1 arg4 x0) _ _ _ _ _ _ z

theorem scratch0_read (c : Dev nD) (x : Buf (Elt Ideal) ((c : Thread nD τ).loc cc0_scratch0)) :
    View.readAt (Elt Ideal) scM0_0.view (Rect.unit ![0, 0] S1024x1024.size inb_S1024x1024_S1024x1024_0_0).toLoadRect x = x :=
  View.readAt_full scM0_0.view x _
theorem scratch1_read (c : Dev nD) (x : Buf (Elt Ideal) ((c : Thread nD τ).loc cc0_scratch1)) :
    View.readAt (Elt Ideal) scM0_1.view (Rect.unit ![0, 0] S1024x1024.size inb_S1024x1024_S1024x1024_0_0).toLoadRect x = x :=
  View.readAt_full scM0_1.view x _
theorem scratch2_read (c : Dev nD) (x : Buf (Elt Ideal) ((c : Thread nD τ).loc cc0_scratch2)) :
    View.readAt (Elt Ideal) scM0_2.view (Rect.unit ![0, 0] S1024x1024.size inb_S1024x1024_S1024x1024_0_0).toLoadRect x = x :=
  View.readAt_full scM0_2.view x _

/-- The block the body leaves at a point that finds the weights unpacked. -/
theorem outB (c : Dev nD) (arg4 : Memref sig .tc .vmem S2x1024x256 .bf16) (arg6 arg7 : Memref sig .tc .vmem S1x1x1024 .f32)
    (arg9 : Memref sig .tc .vmem S1x1x1024 .f32)
    (x0 : S2x1024x256.Idx → Elt Ideal .bf16) (x2 x3 : S1x1x1024.Idx → Elt Ideal .f32) (x5 : S1x1x1024.Idx → Elt Ideal .f32)
    (xa0 : Buf (Elt Ideal) ((c : Thread nD τ).loc cc0_scratch0)) (xa1 : Buf (Elt Ideal) ((c : Thread nD τ).loc cc0_scratch1))
    (xa2 : Buf (Elt Ideal) ((c : Thread nD τ).loc cc0_scratch2)) :
    VO0_6.read (Elt Ideal) (VO0_6.writes (Elt Ideal) VO0_6.junk (kernelRun0_B.sl.HO6_2 c arg4 arg6 arg7 arg9 x0 x2 x3 x5 xa0 xa1 xa2))
      = blkOf x0 xa0 xa1 x2 x3 xa2 x5 := by
  funext y
  refine read_two VO0_6 _ _ _ (blkOf x0 xa0 xa1 x2 x3 xa2 x5) ?_ ?_ y
    (View.cover_of_tiledL (kernelRun0_B.sl.HO6_2 c arg4 arg6 arg7 arg9 x0 x2 x3 x5 xa0 xa1 xa2) S1x1024x256.size (by sl_kernel_rfl) y)
  · intro z
    dsimp only
    unfold kernelRun0_B.sl.r_4 kernelRun0_B.sl.r_5 kernelRun0_B.sl.r_2 kernelRun0_B.sl.r_3
    rw [scratch0_read c, scratch1_read c, scratch2_read c, bias_read, bias_read, bias_read]
    exact store1 x0 _ _ (plane0 arg4 x0) (plane1 arg4 x0) _ _ _ _ _ _ z
  · intro z
    dsimp only
    unfold kernelRun0_B.sl.r_2 kernelRun0_B.sl.r_3
    rw [scratch0_read c, scratch1_read c, scratch2_read c, bias_read, bias_read, bias_read]
    exact store0 x0 _ _ (plane0 arg4 x0) (plane1 arg4 x0) _ _ _ _ _ _ z

end Cert.KernelIdeal.Moe
-- ==== Proof.Ideal.Blocks.lean ====
module

public import proofs.«01_k».proof.Proof.Ideal.Frame
public import proofs.«01_k».proof.Proof.Ideal.Arrays
public import proofs.«01_k».proof.Proof.Ideal.Block

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! # The blocks the body is handed at a live point, in terms of the program's arguments (program `KernelIdeal`) -/

open Cert.Moe

variable (m : (ℓ : Loc nD τ sig) → Buf (Elt Ideal) ℓ) (ok : Tab.Ok (teOf m) (naOf m))

/-- The expert in force at tile `n`, as an index. -/
def exF (n : ℕ) : Fin 32 := ⟨ex m n, Tab.expert_lt ok n⟩

theorem index0 (t : Fin (cfgA m ok).N) : ((cfgA m ok).win (0 : Fin 7)).index t = ![0, min t.val (lv m - 1), 0] := index6 m ok t

theorem index1 (t : Fin (cfgA m ok).N) : ((cfgA m ok).win (1 : Fin 7)).index t = ![ex m t.val, 0, 0] := by
  have h := tr_w m (crd m ok t)
  rw [show ((crd m ok t) 0).val = t.val from crd_val t] at h
  exact h
theorem index2 (t : Fin (cfgA m ok).N) : ((cfgA m ok).win (2 : Fin 7)).index t = ![ex m t.val, 0, 0] := index1 m ok t
theorem index3 (t : Fin (cfgA m ok).N) : ((cfgA m ok).win (3 : Fin 7)).index t = ![ex m t.val, 0, 0] := index1 m ok t
theorem index4 (t : Fin (cfgA m ok).N) : ((cfgA m ok).win (4 : Fin 7)).index t = ![ex m t.val, 0, 0] := index1 m ok t
theorem index5 (t : Fin (cfgA m ok).N) : ((cfgA m ok).win (5 : Fin 7)).index t = ![ex m t.val, 0, 0] := index1 m ok t

theorem blk0 (c : Dev nD) (t : Fin (cfgA m ok).N) (j : Fin 2) (a : Fin 1024) (b : Fin 256) (h : t.val < lv m) :
    iblk m ok c (0 : Fin 7) t (ix3 (n0 := 2) (n1 := 1024) (n2 := 256) j a b) = V₀ m c (Proc.devRef .tc main_v21) (ix3 (n0 := 2) (n1 := 163840) (n2 := 256) j ⟨t.val * 1024 + a.val, by have ht : t.val < 160 := t.isLt; omega⟩ b) := by
  unfold iblk
  rw [View.read_apply]
  refine congrArg (V₀ m c (Proc.devRef .tc main_v21)) (ix3_ext (n0 := 2) (n1 := 163840) (n2 := 256) ?_ ?_ ?_)
  · refine (Window.rect_emb_val ((cfgA m ok).win (0 : Fin 7)) t _ (0 : Fin 3)).trans ?_
    rw [index0]
    show 0 * 2 + j.val = j.val
    omega
  · refine (Window.rect_emb_val ((cfgA m ok).win (0 : Fin 7)) t _ (1 : Fin 3)).trans ?_
    rw [index0]
    show min t.val (lv m - 1) * 1024 + a.val = t.val * 1024 + a.val
    rw [Nat.min_eq_left (by omega)]
  · refine (Window.rect_emb_val ((cfgA m ok).win (0 : Fin 7)) t _ (2 : Fin 3)).trans ?_
    rw [index0]
    show 0 * 256 + b.val = b.val
    omega

theorem blk1 (c : Dev nD) (t : Fin (cfgA m ok).N) (a : Fin 2048) (b : Fin 1024) :
    iblk m ok c (1 : Fin 7) t (ix3 (n0 := 1) (n1 := 2048) (n2 := 1024) 0 a b) = V₀ m c (Proc.devRef .tc main_v25) (ix3 (exF m ok t.val) a b) := by
  unfold iblk
  rw [View.read_apply]
  refine congrArg (V₀ m c (Proc.devRef .tc main_v25)) (ix3_ext (n0 := 32) (n1 := 2048) (n2 := 1024) ?_ ?_ ?_)
  · refine (Window.rect_emb_val ((cfgA m ok).win (1 : Fin 7)) t _ (0 : Fin 3)).trans ?_
    rw [index1]
    show ex m t.val * 1 + 0 = ex m t.val
    omega
  · refine (Window.rect_emb_val ((cfgA m ok).win (1 : Fin 7)) t _ (1 : Fin 3)).trans ?_
    rw [index1]
    show 0 * 2048 + a.val = a.val
    omega
  · refine (Window.rect_emb_val ((cfgA m ok).win (1 : Fin 7)) t _ (2 : Fin 3)).trans ?_
    rw [index1]
    show 0 * 1024 + b.val = b.val
    omega

theorem blk2 (c : Dev nD) (t : Fin (cfgA m ok).N) (b : Fin 1024) :
    iblk m ok c (2 : Fin 7) t (ix3 (n0 := 1) (n1 := 1) (n2 := 1024) 0 0 b) = V₀ m c (Proc.devRef .tc main_v31) (ix3 (exF m ok t.val) 0 b) := by
  unfold iblk
  rw [View.read_apply]
  refine congrArg (V₀ m c (Proc.devRef .tc main_v31)) (ix3_ext (n0 := 32) (n1 := 1) (n2 := 1024) ?_ ?_ ?_)
  · refine (Window.rect_emb_val ((cfgA m ok).win (2 : Fin 7)) t _ (0 : Fin 3)).trans ?_
    rw [index2]
    show ex m t.val * 1 + 0 = ex m t.val
    omega
  · refine (Window.rect_emb_val ((cfgA m ok).win (2 : Fin 7)) t _ (1 : Fin 3)).trans ?_
    rw [index2]
    show 0 * 1 + 0 = 0
    omega
  · refine (Window.rect_emb_val ((cfgA m ok).win (2 : Fin 7)) t _ (2 : Fin 3)).trans ?_
    rw [index2]
    show 0 * 1024 + b.val = b.val
    omega

theorem blk3 (c : Dev nD) (t : Fin (cfgA m ok).N) (b : Fin 1024) :
    iblk m ok c (3 : Fin 7) t (ix3 (n0 := 1) (n1 := 1) (n2 := 1024) 0 0 b) = V₀ m c (Proc.devRef .tc main_v34) (ix3 (exF m ok t.val) 0 b) := by
  unfold iblk
  rw [View.read_apply]
  refine congrArg (V₀ m c (Proc.devRef .tc main_v34)) (ix3_ext (n0 := 32) (n1 := 1) (n2 := 1024) ?_ ?_ ?_)
  · refine (Window.rect_emb_val ((cfgA m ok).win (3 : Fin 7)) t _ (0 : Fin 3)).trans ?_
    rw [index3]
    show ex m t.val * 1 + 0 = ex m t.val
    omega
  · refine (Window.rect_emb_val ((cfgA m ok).win (3 : Fin 7)) t _ (1 : Fin 3)).trans ?_
    rw [index3]
    show 0 * 1 + 0 = 0
    omega
  · refine (Window.rect_emb_val ((cfgA m ok).win (3 : Fin 7)) t _ (2 : Fin 3)).trans ?_
    rw [index3]
    show 0 * 1024 + b.val = b.val
    omega

theorem blk4 (c : Dev nD) (t : Fin (cfgA m ok).N) (a : Fin 2048) (b : Fin 512) :
    iblk m ok c (4 : Fin 7) t (ix3 (n0 := 1) (n1 := 2048) (n2 := 512) 0 a b) = V₀ m c (Proc.devRef .tc main_v27) (ix3 (exF m ok t.val) a b) := by
  unfold iblk
  rw [View.read_apply]
  refine congrArg (V₀ m c (Proc.devRef .tc main_v27)) (ix3_ext (n0 := 32) (n1 := 2048) (n2 := 512) ?_ ?_ ?_)
  · refine (Window.rect_emb_val ((cfgA m ok).win (4 : Fin 7)) t _ (0 : Fin 3)).trans ?_
    rw [index4]
    show ex m t.val * 1 + 0 = ex m t.val
    omega
  · refine (Window.rect_emb_val ((cfgA m ok).win (4 : Fin 7)) t _ (1 : Fin 3)).trans ?_
    rw [index4]
    show 0 * 2048 + a.val = a.val
    omega
  · refine (Window.rect_emb_val ((cfgA m ok).win (4 : Fin 7)) t _ (2 : Fin 3)).trans ?_
    rw [index4]
    show 0 * 512 + b.val = b.val
    omega

theorem blk5 (c : Dev nD) (t : Fin (cfgA m ok).N) (b : Fin 1024) :
    iblk m ok c (5 : Fin 7) t (ix3 (n0 := 1) (n1 := 1) (n2 := 1024) 0 0 b) = V₀ m c (Proc.devRef .tc main_v35) (ix3 (exF m ok t.val) 0 b) := by
  unfold iblk
  rw [View.read_apply]
  refine congrArg (V₀ m c (Proc.devRef .tc main_v35)) (ix3_ext (n0 := 32) (n1 := 1) (n2 := 1024) ?_ ?_ ?_)
  · refine (Window.rect_emb_val ((cfgA m ok).win (5 : Fin 7)) t _ (0 : Fin 3)).trans ?_
    rw [index5]
    show ex m t.val * 1 + 0 = ex m t.val
    omega
  · refine (Window.rect_emb_val ((cfgA m ok).win (5 : Fin 7)) t _ (1 : Fin 3)).trans ?_
    rw [index5]
    show 0 * 1 + 0 = 0
    omega
  · refine (Window.rect_emb_val ((cfgA m ok).win (5 : Fin 7)) t _ (2 : Fin 3)).trans ?_
    rw [index5]
    show 0 * 1024 + b.val = b.val
    omega

/-- Row `r` of a live tile's block is row `512 t + r` of the rows. -/
theorem row_eq (c : Dev nD) (t : Fin (cfgA m ok).N) (h : t.val < lv m) (r : Fin 512) (k : Fin 1024) :
    rowOf (iblk m ok c (0 : Fin 7) t) r k = xOf m (ix2 (n0 := 81920) (n1 := 1024) ⟨t.val * 512 + r.val, by have ht : t.val < 160 := t.isLt; omega⟩ k) := by
  unfold rowOf
  rw [blk0 m ok c t _ _ _ h, at_x]
  have hk := k.isLt
  have hr := r.isLt
  refine congrArg (xOf m) (congrArg₂ (ix2 (n0 := 81920) (n1 := 1024)) (Fin.ext ?_) (Fin.ext ?_))
  · show (t.val * 1024 + (2 * r.val + k.val / 256 % 2)) / 2 = t.val * 512 + r.val
    omega
  · show k.val / 512 * 512 + (t.val * 1024 + (2 * r.val + k.val / 256 % 2)) % 2 * 256 + k.val % 256 = k.val
    omega

theorem wg_eq (c : Dev nD) (t : Fin (cfgA m ok).N) (k f : Fin 1024) :
    wgOf (iblk m ok c (1 : Fin 7) t) (ix2 k f) = w1Of m (ix3 (n0 := 32) (n1 := 1024) (n2 := 2048) (exF m ok t.val) k ⟨2 * f.val, by omega⟩) := by
  unfold wgOf
  rw [blk1, at_w1]
  have hk := k.isLt
  have hf := f.isLt
  refine congrArg (w1Of m) (congrArg₂ (ix3 (n0 := 32) (n1 := 1024) (n2 := 2048) (exF m ok t.val)) (Fin.ext ?_) (Fin.ext ?_))
  · show (2 * k.val + f.val / 512) / 2 = k.val
    omega
  · show (2 * k.val + f.val / 512) % 2 * 1024 + f.val % 512 % 512 * 2 + f.val % 512 / 512 = 2 * f.val
    omega

theorem wl_eq (c : Dev nD) (t : Fin (cfgA m ok).N) (k f : Fin 1024) :
    wlOf (iblk m ok c (1 : Fin 7) t) (ix2 k f) = w1Of m (ix3 (n0 := 32) (n1 := 1024) (n2 := 2048) (exF m ok t.val) k ⟨1 + 2 * f.val, by omega⟩) := by
  unfold wlOf
  rw [blk1, at_w1]
  have hk := k.isLt
  have hf := f.isLt
  refine congrArg (w1Of m) (congrArg₂ (ix3 (n0 := 32) (n1 := 1024) (n2 := 2048) (exF m ok t.val)) (Fin.ext ?_) (Fin.ext ?_))
  · show (2 * k.val + f.val / 512) / 2 = k.val
    omega
  · show (2 * k.val + f.val / 512) % 2 * 1024 + (512 + f.val % 512) % 512 * 2 + (512 + f.val % 512) / 512 = 1 + 2 * f.val
    omega

theorem w2_eq (c : Dev nD) (t : Fin (cfgA m ok).N) (f k : Fin 1024) :
    w2Of (iblk m ok c (4 : Fin 7) t) (ix2 f k) = w2In m (ix3 (n0 := 32) (n1 := 1024) (n2 := 1024) (exF m ok t.val) f k) := by
  unfold w2Of
  rw [blk4, at_w2]
  have hk := k.isLt
  have hf := f.isLt
  refine congrArg (w2In m) (congrArg₂ (ix3 (n0 := 32) (n1 := 1024) (n2 := 1024) (exF m ok t.val)) (Fin.ext ?_) (Fin.ext ?_))
  · show (2 * f.val + k.val / 512) / 2 = f.val
    omega
  · show (2 * f.val + k.val / 512) % 2 * 512 + k.val % 512 = k.val
    omega

/-- The unpacked weights in force at point `t`. -/
def WG (t : ℕ) : S1024x1024.Idx → Elt Ideal .bf16 := fun j =>
  w1Of m (ix3 (n0 := 32) (n1 := 1024) (n2 := 2048) (exF m ok t) (j 0) ⟨2 * (j 1).val, by have h : (j 1).val < 1024 := (j 1).isLt; omega⟩)
def WL (t : ℕ) : S1024x1024.Idx → Elt Ideal .bf16 := fun j =>
  w1Of m (ix3 (n0 := 32) (n1 := 1024) (n2 := 2048) (exF m ok t) (j 0) ⟨1 + 2 * (j 1).val, by have h : (j 1).val < 1024 := (j 1).isLt; omega⟩)
def W2 (t : ℕ) : S1024x1024.Idx → Elt Ideal .bf16 := fun j =>
  w2In m (ix3 (n0 := 32) (n1 := 1024) (n2 := 1024) (exF m ok t) (j 0) (j 1))

theorem WG_eq (c : Dev nD) (t : Fin (cfgA m ok).N) : wgOf (iblk m ok c (1 : Fin 7) t) = WG m ok t.val := by
  funext j
  rw [eq_ix2 j]
  exact wg_eq m ok c t _ _
theorem WL_eq (c : Dev nD) (t : Fin (cfgA m ok).N) : wlOf (iblk m ok c (1 : Fin 7) t) = WL m ok t.val := by
  funext j
  rw [eq_ix2 j]
  exact wl_eq m ok c t _ _
theorem W2_eq (c : Dev nD) (t : Fin (cfgA m ok).N) : w2Of (iblk m ok c (4 : Fin 7) t) = W2 m ok t.val := by
  funext j
  rw [eq_ix2 j]
  exact w2_eq m ok c t _ _

/-- The expert of tile `t` on row `512 t + r`, at column `k`, from the program's arguments. -/
def tileVal (e : Fin 32) (row : Fin 81920) (k : Fin 1024) : EReal :=
  ffn (fun i => xOf m (ix2 row i)) (fun i f => w1Of m (ix3 (n0 := 32) (n1 := 1024) (n2 := 2048) e i ⟨2 * f.val, by omega⟩))
    (fun i f => w1Of m (ix3 (n0 := 32) (n1 := 1024) (n2 := 2048) e i ⟨1 + 2 * f.val, by omega⟩))
    (fun f => b1Of m (ix2 (n0 := 32) (n1 := 2048) e ⟨2 * f.val, by omega⟩)) (fun f => b1Of m (ix2 (n0 := 32) (n1 := 2048) e ⟨1 + 2 * f.val, by omega⟩))
    (fun f c => w2In m (ix3 e f c)) (fun c => b2Of m (ix2 e c)) k

theorem val_eq (c : Dev nD) (t : Fin (cfgA m ok).N) (h : t.val < lv m) (r : Fin 512) (k : Fin 1024) :
    valOf (iblk m ok c (0 : Fin 7) t) (WG m ok t.val) (WL m ok t.val) (iblk m ok c (2 : Fin 7) t) (iblk m ok c (3 : Fin 7) t) (W2 m ok t.val)
      (iblk m ok c (5 : Fin 7) t) r k
      = tileVal m (exF m ok t.val) ⟨t.val * 512 + r.val, by have ht : t.val < 160 := t.isLt; omega⟩ k := by
  unfold valOf tileVal
  rw [show rowOf (iblk m ok c (0 : Fin 7) t) r = (fun i => xOf m (ix2 (n0 := 81920) (n1 := 1024) ⟨t.val * 512 + r.val, by have ht : t.val < 160 := t.isLt; omega⟩ i)) from
    funext fun i => row_eq m ok c t h r i]
  rw [show (fun f : Fin 1024 => (iblk m ok c (2 : Fin 7) t (ix3 (n0 := 1) (n1 := 1) 0 0 f) : EReal)) = (fun f : Fin 1024 => b1Of m (ix2 (n0 := 32) (n1 := 2048) (exF m ok t.val) ⟨2 * f.val, by omega⟩)) from
    funext fun f => (blk2 m ok c t f).trans ((at_bg m c _ f).trans (congrArg (b1Of m) (congrArg (ix2 _) (Fin.ext (Nat.mul_comm f.val 2)))))]
  rw [show (fun f : Fin 1024 => (iblk m ok c (3 : Fin 7) t (ix3 (n0 := 1) (n1 := 1) 0 0 f) : EReal)) = (fun f : Fin 1024 => b1Of m (ix2 (n0 := 32) (n1 := 2048) (exF m ok t.val) ⟨1 + 2 * f.val, by omega⟩)) from
    funext fun f => (blk3 m ok c t f).trans ((at_bl m c _ f).trans (congrArg (b1Of m) (congrArg (ix2 _) (Fin.ext (by show f.val * 2 + 1 = 1 + 2 * f.val; omega)))))]
  rw [show (fun f : Fin 1024 => (iblk m ok c (5 : Fin 7) t (ix3 (n0 := 1) (n1 := 1) 0 0 f) : EReal)) = (fun f : Fin 1024 => b2Of m (ix2 (exF m ok t.val) f)) from
    funext fun f => (blk5 m ok c t f).trans (at_b2 m c _ f)]
  rfl

end Cert.KernelIdeal.Moe
-- ==== Proof.Ideal.Traj.lean ====
module

public import proofs.«01_k».proof.Proof.Ideal.Blocks

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
/-! # What the result's buffer and the weight scratches hold after every grid point (program `KernelIdeal`) -/

open Cert.Moe

variable (m : (ℓ : Loc nD τ sig) → Buf (Elt Ideal) ℓ) (ok : Tab.Ok (teOf m) (naOf m))

/-- The result, packed as the rows are: what the window's array holds on the live tiles' rows. -/
def G6 : S2x163840x256.Idx → Elt Ideal .bf16 := fun j =>
  tileVal m (exF m ok ((j 1).val / 1024)) ⟨(j 1).val / 2, by have h : (j 1).val < 163840 := (j 1).isLt; omega⟩
    ⟨(j 0).val * 512 + (j 1).val % 2 * 256 + (j 2).val, by
      have h0 : (j 0).val < 2 := (j 0).isLt; have h2 : (j 2).val < 256 := (j 2).isLt; omega⟩

/-- Block `n` of the result. -/
def B6 (n : ℕ) (hn : n < 160) : S2x1024x256.Idx → Elt Ideal .bf16 := fun j =>
  G6 m ok (ix3 (n0 := 2) (n1 := 163840) (n2 := 256) (j 0) ⟨n * 1024 + (j 1).val, by have h : (j 1).val < 1024 := (j 1).isLt; omega⟩ (j 2))

theorem B6_congr {n n' : ℕ} (h : n = n') (hn : n < 160) (hn' : n' < 160) : B6 m ok n hn = B6 m ok n' hn' := by
  subst h
  rfl

theorem tileVal_congr {e e' : Fin 32} {r r' : Fin 81920} {k k' : Fin 1024} (he : e = e') (hr : r = r') (hk : k = k') :
    tileVal m e r k = tileVal m e' r' k' := by
  subst he; subst hr; subst hk; rfl

theorem blk_eq (c : Dev nD) (t : Fin (cfgA m ok).N) (h : t.val < lv m) :
    blkOf (iblk m ok c (0 : Fin 7) t) (WG m ok t.val) (WL m ok t.val) (iblk m ok c (2 : Fin 7) t) (iblk m ok c (3 : Fin 7) t) (W2 m ok t.val)
      (iblk m ok c (5 : Fin 7) t) = B6 m ok t.val t.isLt := by
  funext j
  have h1 : (j 1).val < 1024 := (j 1).isLt
  refine (val_eq m ok c t h _ _).trans ?_
  unfold B6 G6
  refine tileVal_congr m (Fin.ext ?_) (Fin.ext ?_) (Fin.ext ?_)
  · show ex m t.val = ex m ((t.val * 1024 + (j 1).val) / 1024)
    rw [show (t.val * 1024 + (j 1).val) / 1024 = t.val from by omega]
  · show t.val * 512 + (j 1).val / 2 = (t.val * 1024 + (j 1).val) / 2
    omega
  · show (j 0).val * 512 + (j 1).val % 2 * 256 + (j 2).val = (j 0).val * 512 + (t.val * 1024 + (j 1).val) % 2 * 256 + (j 2).val
    omega

theorem stepA (c : Dev nD) (t : Fin (cfgA m ok).N) (prev) (q0 : P0_0 m ok t) :
    step0 m ok c t prev = (B6 m ok t.val t.isLt, WG m ok t.val, WL m ok t.val, W2 m ok t.val) := by
  have hl : t.val < lv m := ((P0_0_iff m ok t).1 q0).1
  rw [step0_A m ok c t prev q0]
  refine congrArg₂ Prod.mk ?_ (congrArg₂ Prod.mk ?_ (congrArg₂ Prod.mk ?_ ?_))
  · unfold out0_A_6 kernelRun0_A
    dsimp only
    rw [outA, WG_eq, WL_eq, W2_eq]
    exact blk_eq m ok c t hl
  · unfold kernelRun0_A
    dsimp only
    exact (scr0 _ _ _).trans (WG_eq m ok c t)
  · unfold kernelRun0_A
    dsimp only
    exact (scr1 _ _ _).trans (WL_eq m ok c t)
  · unfold kernelRun0_A
    dsimp only
    exact (scr2 _ _ _).trans (W2_eq m ok c t)

theorem stepB (c : Dev nD) (t : Fin (cfgA m ok).N) (p6) (q0 : ¬ P0_0 m ok t) (q1 : P0_1 m ok t) :
    step0 m ok c t (p6, WG m ok t.val, WL m ok t.val, W2 m ok t.val) = (B6 m ok t.val t.isLt, WG m ok t.val, WL m ok t.val, W2 m ok t.val) := by
  have hl : t.val < lv m := (P0_1_iff m ok t).1 q1
  rw [step0_B m ok c t _ q0 q1]
  refine congrArg₂ Prod.mk ?_ rfl
  unfold out0_B_6 kernelRun0_B
  dsimp only
  rw [outB]
  exact blk_eq m ok c t hl

theorem stepC (c : Dev nD) (t : Fin (cfgA m ok).N) (p) (q0 : ¬ P0_0 m ok t) (q1 : ¬ P0_1 m ok t) : step0 m ok c t p = p := by
  rw [step0_C m ok c t _ q0 q1, fresh_past m ok t q1]
  rfl

theorem exF_keep (t : Fin (cfgA m ok).N) (h : ¬ P0_0 m ok t) (h0 : t.val ≠ 0) : exF m ok t.val = exF m ok (t.val - 1) :=
  Fin.ext (show ex m t.val = ex m (t.val - 1) from congrArg (fun b : BitVec 32 => b.toNat) (ex_keep m ok t h h0))

/-- After every point: the result's buffer holds the block of the point, or of the last live tile past it; the scratches hold the
    unpacked weights of the expert in force. -/
theorem traj_eq (c : Dev nD) : ∀ (n : ℕ) (h : n < (cfgA m ok).N),
    traj0 m ok c n h = (B6 m ok (min n (lv m - 1)) (by have h' : n < 160 := h; omega), WG m ok n, WL m ok n, W2 m ok n)
  | 0, h => by
    refine (traj0_eq m ok c ⟨0, h⟩).trans ((stepA m ok c ⟨0, h⟩ _ (P0_0_first m ok ⟨0, h⟩ rfl)).trans ?_)
    refine congrArg₂ Prod.mk (B6_congr m ok ?_ _ _) rfl
    show 0 = min 0 (lv m - 1)
    omega
  | n + 1, h => by
    have ih := traj_eq c n (Nat.lt_of_succ_lt h)
    have hs : traj0 m ok c (n + 1) h = step0 m ok c ⟨n + 1, h⟩ (traj0 m ok c n (Nat.lt_of_succ_lt h)) := rfl
    rw [hs]
    by_cases q0 : P0_0 m ok ⟨n + 1, h⟩
    · have hl : n + 1 < lv m := ((P0_0_iff m ok ⟨n + 1, h⟩).1 q0).1
      refine (stepA m ok c ⟨n + 1, h⟩ _ q0).trans (congrArg₂ Prod.mk (B6_congr m ok ?_ _ _) rfl)
      show n + 1 = min (n + 1) (lv m - 1)
      omega
    · have hk : exF m ok (n + 1) = exF m ok n := exF_keep m ok ⟨n + 1, h⟩ q0 (Nat.succ_ne_zero n)
      have hg : WG m ok n = WG m ok (n + 1) := by unfold WG; rw [hk]
      have hl : WL m ok n = WL m ok (n + 1) := by unfold WL; rw [hk]
      have h2 : W2 m ok n = W2 m ok (n + 1) := by unfold W2; rw [hk]
      rw [ih, hg, hl, h2]
      by_cases q1 : P0_1 m ok ⟨n + 1, h⟩
      · have hl : n + 1 < lv m := (P0_1_iff m ok ⟨n + 1, h⟩).1 q1
        refine (stepB m ok c ⟨n + 1, h⟩ _ q0 q1).trans (congrArg₂ Prod.mk (B6_congr m ok ?_ _ _) rfl)
        show n + 1 = min (n + 1) (lv m - 1)
        omega
      · have hl : ¬ n + 1 < lv m := fun e => q1 ((P0_1_iff m ok ⟨n + 1, h⟩).2 e)
        refine (stepC m ok c ⟨n + 1, h⟩ _ q0 q1).trans (congrArg₂ Prod.mk (B6_congr m ok ?_ _ _) rfl)
        omega

/-- The block is written back where it changes next: at every live point but the last, … -/
theorem flush_live (t : Fin (cfgA m ok).N) (h : t.val + 1 < lv m) (hN : t.val + 1 < (cfgA m ok).N) : ((cfgA m ok).win (6 : Fin 7)).flush t = true := by
  unfold Window.flush
  have hi : ∃ h : t.val + 1 < (cfgA m ok).grid.N, ((cfgA m ok).win (6 : Fin 7)).index ⟨t.val + 1, h⟩ ≠ ((cfgA m ok).win (6 : Fin 7)).index t := by
    refine ⟨hN, fun e => ?_⟩
    rw [index6 m ok t, index6 m ok ⟨t.val + 1, hN⟩] at e
    have e1 : min (t.val + 1) (lv m - 1) = min t.val (lv m - 1) := congrFun e 1
    omega
  rw [decide_eq_true hi, Bool.or_true]
  rfl

/-- … and at the last point. -/
theorem flush_last (t : Fin (cfgA m ok).N) (h : t.val + 1 = (cfgA m ok).N) : ((cfgA m ok).win (6 : Fin 7)).flush t = true := by
  unfold Window.flush
  rw [show decide (t.val + 1 = (cfgA m ok).grid.N) = true from decide_eq_true h, Bool.true_or]
  rfl

/-- A written-back block is the result's block. -/
theorem flushed_eq (c : Dev nD) (t : Fin (cfgA m ok).N) :
    (dats m ok 0 c).flushed (6 : Fin 7) t = (((cfgA m ok).win (6 : Fin 7)).blk t).view.read (Elt Ideal) (G6 m ok) := by
  funext j
  rw [View.read_apply]
  refine (congrFun (congrArg Prod.fst (traj_eq m ok c t.val t.isLt)) j).trans ?_
  refine congrArg (G6 m ok) (ix3_ext (n0 := 2) (n1 := 163840) (n2 := 256) ?_ ?_ ?_)
  · refine Eq.symm ((Window.rect_emb_val ((cfgA m ok).win (6 : Fin 7)) t _ (0 : Fin 3)).trans ?_)
    rw [index6]
    show 0 * 2 + (j 0).val = (j 0).val
    omega
  · refine Eq.symm ((Window.rect_emb_val ((cfgA m ok).win (6 : Fin 7)) t _ (1 : Fin 3)).trans ?_)
    rw [index6]
    rfl
  · refine Eq.symm ((Window.rect_emb_val ((cfgA m ok).win (6 : Fin 7)) t _ (2 : Fin 3)).trans ?_)
    rw [index6]
    show 0 * 256 + (j 2).val = (j 2).val
    omega

/-- After the run the result's array holds `G6` on the live tiles' rows. -/
theorem arr6 (c : Dev nD) (a : Fin 2) (b : Fin 163840) (d : Fin 256) (h : b.val / 1024 < lv m) :
    (dats m ok 0 c).arrAt (6 : Fin 7) (cfgA m ok).N (ix3 (n0 := 2) (n1 := 163840) (n2 := 256) a b d) = G6 m ok (ix3 (n0 := 2) (n1 := 163840) (n2 := 256) a b d) := by
  have hb := b.isLt
  have hlv : lv m ≤ 160 := ok.le
  obtain ⟨t, hf, ht⟩ : ∃ t : Fin (cfgA m ok).N, ((cfgA m ok).win (6 : Fin 7)).flush t = true ∧ min t.val (lv m - 1) = b.val / 1024 := by
    by_cases hl : b.val / 1024 + 1 < lv m
    · exact ⟨⟨b.val / 1024, show b.val / 1024 < 160 by omega⟩, flush_live m ok _ hl (show b.val / 1024 + 1 < 160 by omega), by show min (b.val / 1024) (lv m - 1) = _; omega⟩
    · exact ⟨⟨159, show 159 < 160 by omega⟩, flush_last m ok _ rfl, by show min 159 (lv m - 1) = _; omega⟩
  refine (dats m ok 0 c).arrAt_apply_of_mem (6 : Fin 7) (G6 m ok) (fun t _ => flushed_eq m ok c t) _ t _ t.isLt hf ?_
  have e : ix3 (n0 := 2) (n1 := 163840) (n2 := 256) a b d
      = (((cfgA m ok).win (6 : Fin 7)).blk t).view.emb (ix3 (n0 := 2) (n1 := 1024) (n2 := 256) a ⟨b.val % 1024, Nat.mod_lt _ (by omega)⟩ d) := by
    refine (ix3_ext (n0 := 2) (n1 := 163840) (n2 := 256) ?_ ?_ ?_)
    · refine Eq.symm ((Window.rect_emb_val ((cfgA m ok).win (6 : Fin 7)) t _ (0 : Fin 3)).trans ?_)
      rw [index6]
      show 0 * 2 + a.val = a.val
      omega
    · refine Eq.symm ((Window.rect_emb_val ((cfgA m ok).win (6 : Fin 7)) t _ (1 : Fin 3)).trans ?_)
      rw [index6]
      show min t.val (lv m - 1) * 1024 + b.val % 1024 = b.val
      rw [ht]
      omega
    · refine Eq.symm ((Window.rect_emb_val ((cfgA m ok).win (6 : Fin 7)) t _ (2 : Fin 3)).trans ?_)
      rw [index6]
      show 0 * 256 + d.val = d.val
      omega
  rw [e]
  exact View.emb_mem_set _ _

end Cert.KernelIdeal.Moe
-- ==== Proof.Ideal.Tail.lean ====
module

public import proofs.«01_k».proof.Proof.Ideal.Traj
public import proofs.«01_k».proof.Proof.Ideal.Run

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
/-! # The result of the run, at a live row (program `KernelIdeal`) -/

open Cert.Moe

/-- The closing host operations: the result unpacked, as an expression of the window's array. -/
def unpacked (X : FVec Ideal S2x163840x256 .bf16) : FVec Ideal S81920x1024 .f32 :=
  extf (F := Ideal) .f32 (shapeCast S81920x1024 (transpose S81920x2x2x256 [1, 0, 2, 3] (shapeCast S2x81920x2x256 X shapeCasts_S2x163840x256_S2x81920x2x256)
    transposes_S2x81920x2x256_S81920x2x2x256_1_0_2_3) shapeCasts_S81920x2x2x256_S81920x1024) bitsLt_bf16_f32

theorem after_v40 (V : Valuation τ sig (Elt Ideal)) :
    StableHlo.after hostOps1 V (Proc.devRef .tc main_v40) = unpacked (V (Proc.devRef .tc main_v36)) := by
  after_results_simp
  rfl

theorem unpacked_at (X : FVec Ideal S2x163840x256 .bf16) (r : Fin 81920) (k : Fin 1024) :
    unpacked X (ix2 r k) = X (ix3 (n0 := 2) (n1 := 163840) (n2 := 256) ⟨k.val / 512, by omega⟩ ⟨r.val * 2 + k.val / 256 % 2, by omega⟩ ⟨k.val % 256, by omega⟩) := by
  unfold unpacked
  pointwise

theorem arr_inj : Function.Injective (Pipeline.arrRef spec0) := by
  decide

variable (m : (ℓ : Loc nD τ sig) → Buf (Elt Ideal) ℓ) (ok : Tab.Ok (teOf m) (naOf m))

theorem tail_eq (c : Dev nD) : tailV m ok c main_v40 = unpacked ((dats m ok 0 c).arrAt (6 : Fin 7) (cfgA m ok).N) := by
  refine (after_v40 _).trans (congrArg unpacked ?_)
  exact Pipeline.withArrays_arr spec0 arr_inj c _ _ (6 : Fin 7)

theorem tail_at (c : Dev nD) (r : Fin 81920) (k : Fin 1024) (h : r.val / 512 < lv m) :
    tailV m ok c main_v40 (ix2 (n0 := 81920) (n1 := 1024) r k) = tileVal m (exF m ok (r.val / 512)) r k := by
  rw [tail_eq, unpacked_at, arr6]
  · unfold G6
    refine tileVal_congr m (Fin.ext ?_) (Fin.ext ?_) (Fin.ext ?_)
    · show ex m ((r.val * 2 + k.val / 256 % 2) / 1024) = ex m (r.val / 512)
      rw [show (r.val * 2 + k.val / 256 % 2) / 1024 = r.val / 512 from by omega]
    · show (r.val * 2 + k.val / 256 % 2) / 2 = r.val
      omega
    · show k.val / 512 * 512 + (r.val * 2 + k.val / 256 % 2) % 2 * 256 + k.val % 256 = k.val
      omega
  · show (r.val * 2 + k.val / 256 % 2) / 1024 < lv m
    omega

end Cert.KernelIdeal.Moe
-- ==== Proof.Ref.Out.lean ====
/- The reference's result at an index: the expert the row's tile names, on the row. -/
module

public import proofs.«01_k».proof.Proof.Gen.ReferenceIdeal.Run
public import proofs.«01_k».proof.Proof.Ffn
public import Idealize.ShloMosaic.Lib.Pointwise

@[expose] public section

set_option maxRecDepth 16384
set_option Elab.async false

noncomputable section

namespace Cert.ReferenceIdeal.Moe

open Cert.ReferenceIdeal Cert.ReferenceIdeal.Gen Idealize.ShloMosaic Idealize.ShloMosaic.StableHlo
open Cert.Moe

/-- The reference's result, as an expression of its arguments. -/
def out (a0 : IVec S160 32) (a2 : FVec Ideal S81920x1024 .f32) (a3 : FVec Ideal S32x1024x2048 .f32) (a4 : FVec Ideal S32x2048 .f32)
    (a5 : FVec Ideal S32x1024x1024 .f32) (a6 : FVec Ideal S32x1024 .f32) : FVec Ideal S81920x1024 .f32 :=
  Host.reduceAdd (mulf (broadcastInDim S32x81920x1024 ![0, 1, 2] bcast_S32x81920x1_S32x81920x1024_0_1_2 (broadcastInDim S32x81920x1 ![0, 1] bcast_S32x81920_S32x81920x1_0_1 (transpose S32x81920 [1, 0] (uitofp .f32 (cmpi .eq (broadcastInDim S81920x32 ![0, 1] bcast_S81920x1_S81920x32_0_1 (broadcastInDim S81920x1 ![0] bcast_S81920_S81920x1_0 (shapeCast _ (broadcastInDim S160x512 ![0, 1] bcast_S160x1_S160x512_0_1 (broadcastInDim S160x1 ![0] bcast_S160_S160x1_0 a0)) shapeCasts_S160x512_S81920))) (broadcastInDim S81920x32 ![0, 1] bcast_S1x32_S81920x32_0_1 (iotaInDim S1x32 32 1)))) transposes_S81920x32_S32x81920_1_0))) (addf (Host.dotGeneral dot_S81920x32x1024_S32x1024x1024_S32x81920x1024_2_1_0_2_1_0 none (mulf (mulf (minimumf (Host.slice S81920x32x1024 ![0, 0, 0] ![1, 1, 2] (addf (Host.dotGeneral dot_S81920x1024_S32x1024x2048_S81920x32x2048_1_1_0_02_n_n none a2 a3) (broadcastInDim S81920x32x2048 ![0, 1, 2] bcast_S1x32x2048_S81920x32x2048_0_1_2 (broadcastInDim S1x32x2048 ![1, 2] bcast_S32x2048_S1x32x2048_1_2 a4))) slicesBy_S81920x32x2048_S81920x32x1024_0s1_0s1_0s2) (broadcastInDim S81920x32x1024 ![] bcast_S_S81920x32x1024 (constant S_ .f32 0x40E00000#32))) (Host.divf (broadcastInDim S81920x32x1024 ![] bcast_S_S81920x32x1024 (constant S_ .f32 0x3F800000#32)) (addf (broadcastInDim S81920x32x1024 ![] bcast_S_S81920x32x1024 (constant S_ .f32 0x3F800000#32)) (Host.exp (Host.negf (mulf (broadcastInDim S81920x32x1024 ![] bcast_S_S81920x32x1024 (constant S_ .f32 0x3FD9DB23#32)) (minimumf (Host.slice S81920x32x1024 ![0, 0, 0] ![1, 1, 2] (addf (Host.dotGeneral dot_S81920x1024_S32x1024x2048_S81920x32x2048_1_1_0_02_n_n none a2 a3) (broadcastInDim S81920x32x2048 ![0, 1, 2] bcast_S1x32x2048_S81920x32x2048_0_1_2 (broadcastInDim S1x32x2048 ![1, 2] bcast_S32x2048_S1x32x2048_1_2 a4))) slicesBy_S81920x32x2048_S81920x32x1024_0s1_0s1_0s2) (broadcastInDim S81920x32x1024 ![] bcast_S_S81920x32x1024 (constant S_ .f32 0x40E00000#32))))))))) (addf (minimumf (broadcastInDim S81920x32x1024 ![] bcast_S_S81920x32x1024 (id (constant S_ .f32 0x40E00000#32))) (maximumf (broadcastInDim S81920x32x1024 ![] bcast_S_S81920x32x1024 (id (constant S_ .f32 0xC0E00000#32))) (Host.slice S81920x32x1024 ![0, 0, 1] ![1, 1, 2] (addf (Host.dotGeneral dot_S81920x1024_S32x1024x2048_S81920x32x2048_1_1_0_02_n_n none a2 a3) (broadcastInDim S81920x32x2048 ![0, 1, 2] bcast_S1x32x2048_S81920x32x2048_0_1_2 (broadcastInDim S1x32x2048 ![1, 2] bcast_S32x2048_S1x32x2048_1_2 a4))) slicesBy_S81920x32x2048_S81920x32x1024_0s1_0s1_1s2))) (broadcastInDim S81920x32x1024 ![] bcast_S_S81920x32x1024 (constant S_ .f32 0x3F800000#32)))) a5) (broadcastInDim S32x81920x1024 ![0, 1, 2] bcast_S32x1x1024_S32x81920x1024_0_1_2 (broadcastInDim S32x1x1024 ![0, 2] bcast_S32x1024_S32x1x1024_0_2 a6)))) (constant S_ .f32 0x00000000#32) reducesTo_S32x81920x1024_S81920x1024_d0 h_S_

variable (a0 : IVec S160 32) (a2 : FVec Ideal S81920x1024 .f32) (a3 : FVec Ideal S32x1024x2048 .f32) (a4 : FVec Ideal S32x2048 .f32)
  (a5 : FVec Ideal S32x1024x1024 .f32) (a6 : FVec Ideal S32x1024 .f32)

/-- Expert `e` on row `r`. -/
def expertAt (r : Fin 81920) (e : Fin 32) (k : Fin 1024) : EReal :=
  ffn (fun i => a2 (ix2 r i)) (fun i f => a3 (ix3 (n0 := 32) (n1 := 1024) (n2 := 2048) e i ⟨2 * f.val, by omega⟩))
    (fun i f => a3 (ix3 (n0 := 32) (n1 := 1024) (n2 := 2048) e i ⟨1 + 2 * f.val, by omega⟩))
    (fun f => a4 (ix2 (n0 := 32) (n1 := 2048) e ⟨2 * f.val, by omega⟩)) (fun f => a4 (ix2 (n0 := 32) (n1 := 2048) e ⟨1 + 2 * f.val, by omega⟩))
    (fun f c => a5 (ix3 e f c)) (fun c => a6 (ix2 e c)) k

/-- The weight of expert `e` on row `r`: one for the expert the row's tile names, zero for the others. -/
def weight (r : Fin 81920) (e : Fin 32) : EReal :=
  FloatOps.uitofp (F := Ideal) .f32 (IntOp.cmpi .eq (a0 (ix1 (n0 := 160) ⟨r.val / 512, by omega⟩)) (BitVec.ofNat 32 e.val))

theorem out_at (r : Fin 81920) (k : Fin 1024) :
    out a0 a2 a3 a4 a5 a6 (ix2 r k) = ∑ e : Fin 32, weight a0 r e * expertAt a2 a3 a4 a5 a6 r e k := by
  unfold out
  pointwise
  rfl

theorem weight_self (r : Fin 81920) (e : Fin 32) (h : (a0 (ix1 (n0 := 160) ⟨r.val / 512, by omega⟩)).toNat = e.val) : weight a0 r e = 1 := by
  unfold weight
  rw [show a0 (ix1 (n0 := 160) ⟨r.val / 512, by omega⟩) = BitVec.ofNat 32 e.val from by rw [← h, BitVec.ofNat_toNat, BitVec.setWidth_eq]]
  simp [IntOp.cmpi, FloatOps.uitofp]

theorem weight_other (r : Fin 81920) (e e' : Fin 32) (h : (a0 (ix1 (n0 := 160) ⟨r.val / 512, by omega⟩)).toNat = e.val) (hne : e' ≠ e) :
    weight a0 r e' = 0 := by
  unfold weight
  have hn : a0 (ix1 (n0 := 160) ⟨r.val / 512, by omega⟩) ≠ BitVec.ofNat 32 e'.val := by
    intro hh
    rw [hh, BitVec.toNat_ofNat] at h
    exact hne (Fin.ext (by omega))
  simp [IntOp.cmpi, FloatOps.uitofp, hn]

/-- Of the sum over the experts only the one the row's tile names remains. -/
theorem out_expert (r : Fin 81920) (e : Fin 32) (k : Fin 1024) (h : (a0 (ix1 (n0 := 160) ⟨r.val / 512, by omega⟩)).toNat = e.val) :
    out a0 a2 a3 a4 a5 a6 (ix2 r k) = expertAt a2 a3 a4 a5 a6 r e k := by
  rw [out_at, Finset.sum_eq_single e]
  · rw [weight_self a0 r e h, one_mul]
  · intro e' _ hne
    rw [weight_other a0 r e e' h hne, zero_mul]
  · intro hh
    exact absurd (Finset.mem_univ e) hh

end Cert.ReferenceIdeal.Moe
-- ==== Proof.Value.lean ====
/- The value: on the live tiles' rows the idealized program and the reference end with the same result. -/
module

public import proofs.«01_k».proof.Defs
public import proofs.«01_k».proof.Proof.Ideal.Args
public import proofs.«01_k».proof.Proof.Ideal.Tail
public import proofs.«01_k».proof.Proof.Ref.Out
public import proofs.«01_k».proof.Proof.Gen.On_live_rows

@[expose] public section

set_option maxRecDepth 16384

noncomputable section

namespace Cert.Value

open Idealize.ShloMosaic Idealize.SL.Sem
open Cert.KernelIdeal.Moe

/-- The mask selects the rows below `512 · live`. -/
theorem mask_live (a0 : IVec Cert.On_live_rows.S160 32) (a1 : IVec Cert.On_live_rows.S1 32) (a2 : FVec Ideal Cert.On_live_rows.S81920x1024 .f32)
    (a3 : FVec Ideal Cert.On_live_rows.S32x1024x2048 .f32) (a4 : FVec Ideal Cert.On_live_rows.S32x2048 .f32)
    (a5 : FVec Ideal Cert.On_live_rows.S32x1024x1024 .f32) (a6 : FVec Ideal Cert.On_live_rows.S32x1024 .f32)
    (hle : Cert.Tab.live a1 ≤ 160) (r : Fin 81920) (k : Fin 1024)
    (h : @Cert.On_live_rows.fn Cert.On_live_rows.Gen.facts Ideal _ a0 a1 a2 a3 a4 a5 a6 (ix2 r k) = 1#1) : r.val / 512 < Cert.Tab.live a1 := by
  unfold Cert.On_live_rows.fn at h
  pointwise at h
  have hr := r.isLt
  have hz : a1 (ix1 (n0 := 1) 0) = a1 (Shape.Idx.ofFin (0 : Fin 1)) := congrArg a1 (one_idx _)
  have hv : (a1 (ix1 (n0 := 1) 0)).toNat = Cert.Tab.live a1 := by rw [hz]; rfl
  have hm : (a1 (ix1 (n0 := 1) 0) * 512#32).toNat = Cert.Tab.live a1 * 512 := by
    rw [BitVec.toNat_mul, hv]
    show Cert.Tab.live a1 * 512 % 2 ^ 32 = _
    omega
  have hs : (BitVec.ofNat 32 r.val).toNat = r.val := by
    rw [BitVec.toNat_ofNat]
    omega
  have hc := (slt_live (a := BitVec.ofNat 32 r.val) (b := a1 (ix1 (n0 := 1) 0) * 512#32) (by omega) (by omega)).1 h
  omega

section
variable (m : (ℓ : Loc Cert.KernelIdeal.nD Cert.KernelIdeal.τ Cert.KernelIdeal.sig) → Buf (Elt Ideal) ℓ)
  (ok : Cert.Tab.Ok (teOf m) (naOf m))

/-- On a live row the reference, run on the program's arguments, ends with the same extended real. -/
theorem same (r : Fin 81920) (k : Fin 1024) (h : r.val / 512 < lv m) :
    Cert.ReferenceIdeal.Moe.out (teOf m) (xOf m) (w1Of m) (b1Of m) (w2In m) (b2Of m) (ix2 r k) = tileVal m (exF m ok (r.val / 512)) r k := by
  have hr := r.isLt
  refine Cert.ReferenceIdeal.Moe.out_expert (teOf m) (xOf m) (w1Of m) (b1Of m) (w2In m) (b2Of m) r (exF m ok (r.val / 512)) k ?_
  show _ = (Cert.Tab.expert (teOf m) (naOf m) (r.val / 512)).toNat
  rw [Cert.Tab.expert_live h (show r.val / 512 < 160 by omega)]
  unfold Cert.Tab.at160
  refine congrArg (fun x => (teOf m x).toNat) ?_
  exact (Cert.Tab.ofFin_eta (n := 160) _).symm

end

theorem rest_v40 : Cert.KernelIdeal.main_v40 ∈ Pipeline.restRefs Cert.KernelIdeal.sig Cert.KernelIdeal.spec0 :=
  Pipeline.mem_restRefs_of _ rfl (by decide)

theorem algebraic : @Cert.algebraic_KernelIdeal_ReferenceIdeal_on_live_rows Cert.KernelIdeal.Gen.facts Cert.ReferenceIdeal.Gen.facts
    Cert.Pre_tables.Gen.facts Cert.On_live_rows.Gen.facts := by
  intro m g m' g' hpre harg
  have ok : Cert.Tab.Ok (teOf m) (naOf m) := Cert.Tab.ok_of_pre _ _ _ _ _ _ _ (hpre 0)
  refine ⟨fun c => tailV m ok c Cert.KernelIdeal.main_v40, ?_, ?_⟩
  · exact (θ_run _ _ _).mono (fun r h c =>
      ⟨fun i _ => congrFun ((h.1 c).2 Cert.KernelIdeal.main_v40 rest_v40) i,
        ((h.1 c).2 Cert.KernelIdeal.main_arg0 rest_arg0).trans (tail_arg0 m ok c),
        ((h.1 c).2 Cert.KernelIdeal.main_arg1 rest_arg1).trans (tail_arg1 m ok c),
        ((h.1 c).2 Cert.KernelIdeal.main_arg2 rest_arg2).trans (tail_arg2 m ok c),
        ((h.1 c).2 Cert.KernelIdeal.main_arg3 rest_arg3).trans (tail_arg3 m ok c),
        ((h.1 c).2 Cert.KernelIdeal.main_arg4 rest_arg4).trans (tail_arg4 m ok c),
        ((h.1 c).2 Cert.KernelIdeal.main_arg5 rest_arg5).trans (tail_arg5 m ok c),
        ((h.1 c).2 Cert.KernelIdeal.main_arg6 rest_arg6).trans (tail_arg6 m ok c)⟩) (run_main m ok g)
  · refine (θ_run _ _ _).mono (fun r h c => ⟨fun i hi => ?_, (h c).2⟩) (Cert.ReferenceIdeal.Value.run m' g')
    obtain rfl : c = 0 := Subsingleton.elim _ _
    obtain ⟨e0, e1, e2, e3, e4, e5, e6⟩ := harg 0
    have hl : (i 0).val / 512 < lv m := mask_live _ _ _ _ _ _ _ ok.le (i 0) (i 1) (by rw [← eq_ix2 i]; exact hi)
    refine (congrFun (h 0).1 i).trans ?_
    rw [e0, e2, e3, e4, e5, e6, eq_ix2 i]
    exact (same m ok (i 0) (i 1) hl).trans (tail_at m ok 0 (i 0) (i 1) hl).symm

end Cert.Value
-- ==== Proof.Final.Mix.lean ====
/- The combining call's result on one row, as plain mathematics over the extended reals. -/
module

public import Idealize.ShloMosaic.Lib.Pointwise

@[expose] public section

noncomputable section

namespace Cert.Final

open Idealize.ShloMosaic

/-- The row before its norm: the row given, plus the gate times the weighted sum of the four experts' rows. -/
def mixed (x g : Fin 1024 → EReal) (w : Fin 4 → EReal) (y : Fin 4 → Fin 1024 → EReal) (k : Fin 1024) : EReal :=
  x k + g k * ∑ i, w i * y i k

/-- The row of the result: the mixed row, scaled by the reciprocal root of its mean square (a small constant added) and by the norm's weights. -/
def finalOf (x g gf : Fin 1024 → EReal) (w : Fin 4 → EReal) (y : Fin 4 → Fin 1024 → EReal) (c : Fin 1024) : EReal :=
  mixed x g w y c * Ideal.rsqrt (Ideal.div (∑ k, mixed x g w y k * mixed x g w y k) (Ideal.ofBits .f32 1149239296#32) + Ideal.ofBits .f32 925353388#32) * gf c

theorem finalOf_congr {x x' g g' gf gf' : Fin 1024 → EReal} {w w' : Fin 4 → EReal} {y y' : Fin 4 → Fin 1024 → EReal} (hx : ∀ k, x k = x' k)
    (hg : ∀ k, g k = g' k) (hf : ∀ k, gf k = gf' k) (hw : ∀ i, w i = w' i) (hy : ∀ i k, y i k = y' i k) (c : Fin 1024) :
    finalOf x g gf w y c = finalOf x' g' gf' w' y' c := by
  rw [funext hx, funext hg, funext hf, funext hw, funext fun i => funext (hy i)]

end Cert.Final
-- ==== Proof.Final.Body.lean ====
/- What the combining call's body stores at one point, at an index: the row, the weighted expert rows, the norm. -/
module

public import proofs.«01_k».proof.Proof.Gen.Kernel2Ideal.Frame
public import Idealize.ShloMosaic.Lib.Pipeline.Value
public import Idealize.ShloMosaic.Lib.Pointwise
public import proofs.«01_k».proof.Proof.Final.Mix

@[expose] public section

set_option maxRecDepth 16384
set_option Elab.async false

noncomputable section

namespace Cert.Final

open Cert.Kernel2Ideal Cert.Kernel2Ideal.Gen Idealize.ShloMosaic

theorem ix4_ext {n0 n1 n2 n3 : ℕ} {i j : (⟨4, ![n0, n1, n2, n3]⟩ : Shape).Idx} (h0 : (i 0).val = (j 0).val) (h1 : (i 1).val = (j 1).val)
    (h2 : (i 2).val = (j 2).val) (h3 : (i 3).val = (j 3).val) : i = j := by
  funext a
  fin_cases a
  · exact Fin.ext h0
  · exact Fin.ext h1
  · exact Fin.ext h2
  · exact Fin.ext h3

/-- Row `r` of expert rows `i` in a packed block. -/
def packedRow (x1 : Vec Ideal S2x4x1024x256 .bf16) (r : Fin 512) (i : Fin 4) (k : Fin 1024) : EReal :=
  x1 (ix4 (n0 := 2) (n1 := 4) (n2 := 1024) (n3 := 256) ⟨k.val / 512, by omega⟩ i ⟨2 * r.val + k.val / 256 % 2, by omega⟩ ⟨k.val % 256, by omega⟩)

theorem moe_at (x1 : Vec Ideal S2x4x1024x256 .bf16) (P2 : Vec Ideal S512x4 .f32) (P3 P4 P5 P6 P7 P8 P9 P10 : Vec Ideal S1x1x1024x256 .bf16)
    (h3 : ∀ a b, P3 (ix4 0 0 a b) = x1 (ix4 (n0 := 2) (n1 := 4) 0 0 a b)) (h4 : ∀ a b, P4 (ix4 0 0 a b) = x1 (ix4 (n0 := 2) (n1 := 4) 0 1 a b))
    (h5 : ∀ a b, P5 (ix4 0 0 a b) = x1 (ix4 (n0 := 2) (n1 := 4) 0 2 a b)) (h6 : ∀ a b, P6 (ix4 0 0 a b) = x1 (ix4 (n0 := 2) (n1 := 4) 0 3 a b))
    (h7 : ∀ a b, P7 (ix4 0 0 a b) = x1 (ix4 (n0 := 2) (n1 := 4) 1 0 a b)) (h8 : ∀ a b, P8 (ix4 0 0 a b) = x1 (ix4 (n0 := 2) (n1 := 4) 1 1 a b))
    (h9 : ∀ a b, P9 (ix4 0 0 a b) = x1 (ix4 (n0 := 2) (n1 := 4) 1 2 a b)) (h10 : ∀ a b, P10 (ix4 0 0 a b) = x1 (ix4 (n0 := 2) (n1 := 4) 1 3 a b))
    (r : Fin 512) (c : Fin 1024) :
    (k0_pay17 P2 (k0_pay10 P2 (k0_pay4 P2 P3 P4) (k0_pay7 P5) P6) (k0_pay11 P2 (k0_pay5 P2 P3 P4) (k0_pay6 P5) P6)
      (k0_pay13 P2 P7) (k0_pay14 P2 P7) (k0_pay15 P8) (k0_pay16 P8) P9 P10) (ix2 r c) = ∑ i, P2 (ix2 r i) * packedRow x1 r i c := by
  have hc := c.isLt
  have hr := r.isLt
  have key : ∀ (j : Fin 2) (a : Fin 1024) (b : Fin 256), j.val = c.val / 512 → a.val = 2 * r.val + c.val / 256 % 2 → b.val = c.val % 256 →
      ∀ i : Fin 4, x1 (ix4 (n0 := 2) (n1 := 4) (n2 := 1024) (n3 := 256) j i a b) = packedRow x1 r i c := fun j a b hj ha hb i => by
    unfold packedRow
    exact congrArg x1 (ix4_ext hj rfl ha hb)
  rw [Fin.sum_univ_four]
  unfold k0_pay17 k0_pay10 k0_pay11 k0_pay4 k0_pay5 k0_pay7 k0_pay6 k0_pay13 k0_pay14 k0_pay15 k0_pay16
  pointwise
  unfold k0_pay2 k0_pay3 k0_pay8 k0_pay9 k0_pay12
  pointwise
  simp only [h3, h4, h5, h6, h7, h8, h9, h10]
  by_cases h1 : c.val < 256
  · rw [dif_pos h1]
    simp only [key 0 ⟨2 * r.val, _⟩ ⟨c.val, _⟩ (by show 0 = c.val / 512; omega) (by show 2 * r.val = _; omega) (by show c.val = _; omega)]
  · rw [dif_neg h1]
    by_cases h2 : c.val - 256 < 256
    · rw [dif_pos h2]
      simp only [key 0 ⟨2 * r.val + 1, _⟩ ⟨c.val - 256, _⟩ (by show 0 = c.val / 512; omega) (by show 2 * r.val + 1 = _; omega) (by show c.val - 256 = _; omega)]
    · rw [dif_neg h2]
      by_cases h3 : c.val - 256 - 256 < 256
      · rw [dif_pos h3]
        simp only [key 1 ⟨2 * r.val, _⟩ ⟨c.val - 256 - 256, _⟩ (by show 1 = c.val / 512; omega) (by show 2 * r.val = _; omega) (by show c.val - 256 - 256 = _; omega)]
      · rw [dif_neg h3]
        simp only [key 1 ⟨2 * r.val + 1, _⟩ ⟨c.val - 256 - 256 - 256, _⟩ (by show 1 = c.val / 512; omega) (by show 2 * r.val + 1 = _; omega) (by show c.val - 256 - 256 - 256 = _; omega)]

theorem norm_at (P0 M : Vec Ideal S512x1024 .f32) (P1 P11 : Vec Ideal S1x1024 .f32) (w : Fin 4 → EReal) (y : Fin 4 → Fin 1024 → EReal) (r : Fin 512) (c : Fin 1024)
    (hM : ∀ k, M (ix2 r k) = ∑ i, w i * y i k) :
    (k0_pay1 M P0 P1 P11) (ix2 r c) = finalOf (fun k => P0 (ix2 r k)) (fun k => P1 (ix2 0 k)) (fun k => P11 (ix2 0 k)) w y c := by
  unfold k0_pay1
  pointwise
  simp only [hM]
  rfl

/-! The loads: the weights, the eight packed pieces, the row and the two vectors. -/

theorem ld1 (x1 : Vec Ideal S2x4x1024x256 .bf16) (a : Fin 1024) (b : Fin 256) :
    View.ld x1 r0_1 (ix4 (n0 := 1) (n1 := 1) 0 0 a b) = x1 (ix4 (n0 := 2) (n1 := 4) 0 0 a b) :=
  congrArg x1 (ix4_ext rfl rfl (by show 0 + 1 * a.val = a.val; omega) (by show 0 + 1 * b.val = b.val; omega))
theorem ld2 (x1 : Vec Ideal S2x4x1024x256 .bf16) (a : Fin 1024) (b : Fin 256) :
    View.ld x1 r0_2 (ix4 (n0 := 1) (n1 := 1) 0 0 a b) = x1 (ix4 (n0 := 2) (n1 := 4) 0 1 a b) :=
  congrArg x1 (ix4_ext rfl rfl (by show 0 + 1 * a.val = a.val; omega) (by show 0 + 1 * b.val = b.val; omega))
theorem ld3 (x1 : Vec Ideal S2x4x1024x256 .bf16) (a : Fin 1024) (b : Fin 256) :
    View.ld x1 r0_3 (ix4 (n0 := 1) (n1 := 1) 0 0 a b) = x1 (ix4 (n0 := 2) (n1 := 4) 0 2 a b) :=
  congrArg x1 (ix4_ext rfl rfl (by show 0 + 1 * a.val = a.val; omega) (by show 0 + 1 * b.val = b.val; omega))
theorem ld4 (x1 : Vec Ideal S2x4x1024x256 .bf16) (a : Fin 1024) (b : Fin 256) :
    View.ld x1 r0_4 (ix4 (n0 := 1) (n1 := 1) 0 0 a b) = x1 (ix4 (n0 := 2) (n1 := 4) 0 3 a b) :=
  congrArg x1 (ix4_ext rfl rfl (by show 0 + 1 * a.val = a.val; omega) (by show 0 + 1 * b.val = b.val; omega))
theorem ld5 (x1 : Vec Ideal S2x4x1024x256 .bf16) (a : Fin 1024) (b : Fin 256) :
    View.ld x1 r0_5 (ix4 (n0 := 1) (n1 := 1) 0 0 a b) = x1 (ix4 (n0 := 2) (n1 := 4) 1 0 a b) :=
  congrArg x1 (ix4_ext rfl rfl (by show 0 + 1 * a.val = a.val; omega) (by show 0 + 1 * b.val = b.val; omega))
theorem ld6 (x1 : Vec Ideal S2x4x1024x256 .bf16) (a : Fin 1024) (b : Fin 256) :
    View.ld x1 r0_6 (ix4 (n0 := 1) (n1 := 1) 0 0 a b) = x1 (ix4 (n0 := 2) (n1 := 4) 1 1 a b) :=
  congrArg x1 (ix4_ext rfl rfl (by show 0 + 1 * a.val = a.val; omega) (by show 0 + 1 * b.val = b.val; omega))
theorem ld7 (x1 : Vec Ideal S2x4x1024x256 .bf16) (a : Fin 1024) (b : Fin 256) :
    View.ld x1 r0_7 (ix4 (n0 := 1) (n1 := 1) 0 0 a b) = x1 (ix4 (n0 := 2) (n1 := 4) 1 2 a b) :=
  congrArg x1 (ix4_ext rfl rfl (by show 0 + 1 * a.val = a.val; omega) (by show 0 + 1 * b.val = b.val; omega))
theorem ld8 (x1 : Vec Ideal S2x4x1024x256 .bf16) (a : Fin 1024) (b : Fin 256) :
    View.ld x1 r0_8 (ix4 (n0 := 1) (n1 := 1) 0 0 a b) = x1 (ix4 (n0 := 2) (n1 := 4) 1 3 a b) :=
  congrArg x1 (ix4_ext rfl rfl (by show 0 + 1 * a.val = a.val; omega) (by show 0 + 1 * b.val = b.val; omega))

theorem ix2_ext {n0 n1 : ℕ} {i j : (⟨2, ![n0, n1]⟩ : Shape).Idx} (h0 : (i 0).val = (j 0).val) (h1 : (i 1).val = (j 1).val) : i = j := by
  funext a
  fin_cases a
  · exact Fin.ext h0
  · exact Fin.ext h1

theorem ld0 (x2 : Vec Ideal S512x4 .f32) (r : Fin 512) (i : Fin 4) : View.ld x2 r0_0 (ix2 r i) = x2 (ix2 r i) :=
  congrArg x2 (ix2_ext (by show 0 + 1 * r.val = r.val; omega) (by show 0 + 1 * i.val = i.val; omega))
theorem ld9 (x0 : Vec Ideal S512x1024 .f32) (r : Fin 512) (k : Fin 1024) : View.ld x0 r0_9 (ix2 r k) = x0 (ix2 r k) :=
  congrArg x0 (ix2_ext (by show 0 + 1 * r.val = r.val; omega) (by show 0 + 1 * k.val = k.val; omega))
theorem ld10 (x3 : Vec Ideal S1x1024 .f32) (k : Fin 1024) : View.ld x3 r0_10 (ix2 (n0 := 1) 0 k) = x3 (ix2 (n0 := 1) 0 k) :=
  congrArg x3 (ix2_ext rfl (by show 0 + 1 * k.val = k.val; omega))

/-- One store over the whole block leaves its value. -/
theorem canon_whole (p : Vec Ideal S512x1024 .f32) (y : S512x1024.Idx) :
    View.canon ([⟨r0_9, p⟩] : List (View.Piece (Elt Ideal) S512x1024 .f32)) y = p y := by
  refine View.canon_apply_of_pieces p _ ?_ y (cover0_5 p y)
  intro q hq x
  obtain rfl := List.mem_singleton.1 hq
  exact congrArg p (ix2_ext (by show (x 0).val = 0 + 1 * (x 0).val; omega) (by show (x 1).val = 0 + 1 * (x 1).val; omega))

/-- The block the body stores, at an index. -/
theorem out_at (x0 : Vec Ideal S512x1024 .f32) (x1 : Vec Ideal S2x4x1024x256 .bf16) (x2 : Vec Ideal S512x4 .f32) (x3 x4 : Vec Ideal S1x1024 .f32)
    (r : Fin 512) (c : Fin 1024) : out0_5 x0 x1 x2 x3 x4 (ix2 r c) = finalOf (fun k => x0 (ix2 r k)) (fun k => x3 (ix2 (n0 := 1) 0 k))
      (fun k => x4 (ix2 (n0 := 1) 0 k)) (fun i => x2 (ix2 r i)) (packedRow x1 r) c := by
  have h := norm_at (View.ld x0 r0_9) _ (View.ld x3 r0_10) (View.ld x4 r0_10) (fun i => View.ld x2 r0_0 (ix2 r i)) (packedRow x1 r) r c
    (fun k => moe_at x1 (View.ld x2 r0_0) _ _ _ _ _ _ _ _ (ld1 x1) (ld2 x1) (ld3 x1) (ld4 x1) (ld5 x1) (ld6 x1) (ld7 x1) (ld8 x1) r k)
  refine Eq.trans ?_ (h.trans (finalOf_congr (ld9 x0 r) (ld10 x3) (ld10 x4) (ld0 x2 r) (fun _ _ => rfl) c))
  unfold out0_5
  exact canon_whole _ _

end Cert.Final
-- ==== Proof.Final.Blocks.lean ====
/- The combining call's blocks in terms of the program's arguments, and its result's array. -/
module

public import proofs.«01_k».proof.Proof.Gen.Kernel2Ideal.Value
public import proofs.«01_k».proof.Proof.Final.Body

@[expose] public section

set_option maxRecDepth 16384
set_option Elab.async false

noncomputable section

namespace Cert.Final

open Cert.Kernel2Ideal Cert.Kernel2Ideal.Gen
open Idealize.ShloMosaic Idealize.ShloMosaic.TcCoe
open Idealize.ShloMosaic.Pipeline (Dat Window)

variable (m : (ℓ : Loc nD τ sig) → Buf (Elt Ideal) ℓ)

/-- The program's arguments: the rows, the experts' rows, their weights, the gate and the norm's weights. -/
abbrev xF : FVec Ideal S16384x1024 .f32 := m (((0 : Dev nD) : Thread nD τ).loc main_arg0)
abbrev yF : FVec Ideal S4x16384x1024 .f32 := m (((0 : Dev nD) : Thread nD τ).loc main_arg1)
abbrev wF : FVec Ideal S16384x4 .f32 := m (((0 : Dev nD) : Thread nD τ).loc main_arg2)
abbrev gF : FVec Ideal S1x1024 .f32 := m (((0 : Dev nD) : Thread nD τ).loc main_arg3)
abbrev nF : FVec Ideal S1024 .f32 := m (((0 : Dev nD) : Thread nD τ).loc main_arg4)

theorem V_y (c : Dev nD) : V m c main_v3 = shapeCast S2x4x32768x256 (transpose S2x4x16384x2x256 [2, 0, 1, 3, 4]
    (shapeCast S4x16384x2x2x256 (truncf .bf16 (yF m) bitsLt_bf16_f32) shapeCasts_S4x16384x1024_S4x16384x2x2x256)
      transposes_S4x16384x2x2x256_S2x4x16384x2x256_2_0_1_3_4) shapeCasts_S2x4x16384x2x256_S2x4x32768x256 := by
  obtain rfl : c = 0 := Subsingleton.elim _ _
  unfold V
  after_results_simp
  rfl

theorem V_n (c : Dev nD) : V m c main_v4 = shapeCast S1x1024 (nF m) shapeCasts_S1024_S1x1024 := by
  obtain rfl : c = 0 := Subsingleton.elim _ _
  unfold V
  after_results_simp
  rfl

theorem at_y (c : Dev nD) (j : Fin 2) (i : Fin 4) (r : Fin 32768) (k : Fin 256) : V m c main_v3 (ix4 j i r k)
    = yF m (ix3 (n0 := 4) (n1 := 16384) (n2 := 1024) i ⟨r.val / 2, by omega⟩ ⟨j.val * 512 + r.val % 2 * 256 + k.val, by omega⟩) := by
  rw [V_y]
  pointwise

theorem at_n (c : Dev nD) (k : Fin 1024) : V m c main_v4 (ix2 (n0 := 1) 0 k) = nF m (ix1 k) := by
  rw [V_n]
  pointwise

theorem index0 : ∀ t : Fin grid0.N, win0_0.index t = ![t.val, 0] := by decide +kernel
theorem index1 : ∀ t : Fin grid0.N, win0_1.index t = ![0, 0, t.val, 0] := by decide +kernel
theorem index2 : ∀ t : Fin grid0.N, win0_2.index t = ![t.val, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![t.val, 0] := by decide +kernel
theorem flush5 : ∀ t : Fin grid0.N, win0_5.flush t = true := by decide +kernel

theorem blk0 (t : Fin cfg0.N) (r : Fin 512) (k : Fin 1024) :
    iblk m 0 0 t (ix2 (n0 := 512) (n1 := 1024) r k) = xF m (ix2 (n0 := 16384) (n1 := 1024) ⟨t.val * 512 + r.val, by have ht : t.val < 32 := t.isLt; omega⟩ k) := by
  refine Eq.trans ?_ (congrFun (V_main_arg0 m 0) _)
  unfold iblk
  rw [View.read_apply]
  refine congrArg (V m 0 main_arg0) (ix2_ext (n0 := 16384) (n1 := 1024) ?_ ?_)
  · refine (Window.rect_emb_val (cfg0.win 0) t _ (0 : Fin 2)).trans ?_
    rw [show (cfg0.win 0).index t = _ from index0 t]
    rfl
  · refine (Window.rect_emb_val (cfg0.win 0) t _ (1 : Fin 2)).trans ?_
    rw [show (cfg0.win 0).index t = _ from index0 t]
    show 0 * 1024 + k.val = k.val
    omega

theorem blk1 (t : Fin cfg0.N) (j : Fin 2) (i : Fin 4) (a : Fin 1024) (b : Fin 256) :
    iblk m 0 1 t (ix4 (n0 := 2) (n1 := 4) (n2 := 1024) (n3 := 256) j i a b)
      = V m 0 main_v3 (ix4 (n0 := 2) (n1 := 4) (n2 := 32768) (n3 := 256) j i ⟨t.val * 1024 + a.val, by have ht : t.val < 32 := t.isLt; omega⟩ b) := by
  unfold iblk
  rw [View.read_apply]
  refine congrArg (V m 0 main_v3) (ix4_ext (n0 := 2) (n1 := 4) (n2 := 32768) (n3 := 256) ?_ ?_ ?_ ?_)
  · refine (Window.rect_emb_val (cfg0.win 1) t _ (0 : Fin 4)).trans ?_
    rw [show (cfg0.win 1).index t = _ from index1 t]
    show 0 * 2 + j.val = j.val
    omega
  · refine (Window.rect_emb_val (cfg0.win 1) t _ (1 : Fin 4)).trans ?_
    rw [show (cfg0.win 1).index t = _ from index1 t]
    show 0 * 4 + i.val = i.val
    omega
  · refine (Window.rect_emb_val (cfg0.win 1) t _ (2 : Fin 4)).trans ?_
    rw [show (cfg0.win 1).index t = _ from index1 t]
    rfl
  · refine (Window.rect_emb_val (cfg0.win 1) t _ (3 : Fin 4)).trans ?_
    rw [show (cfg0.win 1).index t = _ from index1 t]
    show 0 * 256 + b.val = b.val
    omega

theorem blk2 (t : Fin cfg0.N) (r : Fin 512) (i : Fin 4) :
    iblk m 0 2 t (ix2 (n0 := 512) (n1 := 4) r i) = wF m (ix2 (n0 := 16384) (n1 := 4) ⟨t.val * 512 + r.val, by have ht : t.val < 32 := t.isLt; omega⟩ i) := by
  refine Eq.trans ?_ (congrFun (V_main_arg2 m 0) _)
  unfold iblk
  rw [View.read_apply]
  refine congrArg (V m 0 main_arg2) (ix2_ext (n0 := 16384) (n1 := 4) ?_ ?_)
  · refine (Window.rect_emb_val (cfg0.win 2) t _ (0 : Fin 2)).trans ?_
    rw [show (cfg0.win 2).index t = _ from index2 t]
    rfl
  · refine (Window.rect_emb_val (cfg0.win 2) t _ (1 : Fin 2)).trans ?_
    rw [show (cfg0.win 2).index t = _ from index2 t]
    show 0 * 4 + i.val = i.val
    omega

theorem blk3 (t : Fin cfg0.N) (k : Fin 1024) : iblk m 0 3 t (ix2 (n0 := 1) (n1 := 1024) 0 k) = gF m (ix2 (n0 := 1) (n1 := 1024) 0 k) := by
  refine Eq.trans ?_ (congrFun (V_main_arg3 m 0) _)
  unfold iblk
  rw [View.read_apply]
  refine congrArg (V m 0 main_arg3) (ix2_ext (n0 := 1) (n1 := 1024) ?_ ?_)
  · refine (Window.rect_emb_val (cfg0.win 3) t _ (0 : Fin 2)).trans ?_
    rw [show (cfg0.win 3).index t = _ from index3 t]
    rfl
  · refine (Window.rect_emb_val (cfg0.win 3) t _ (1 : Fin 2)).trans ?_
    rw [show (cfg0.win 3).index t = _ from index3 t]
    show 0 * 1024 + k.val = k.val
    omega

theorem blk4 (t : Fin cfg0.N) (k : Fin 1024) : iblk m 0 4 t (ix2 (n0 := 1) (n1 := 1024) 0 k) = nF m (ix1 k) := by
  refine Eq.trans ?_ (at_n m 0 k)
  unfold iblk
  rw [View.read_apply]
  refine congrArg (V m 0 main_v4) (ix2_ext (n0 := 1) (n1 := 1024) ?_ ?_)
  · refine (Window.rect_emb_val (cfg0.win 4) t _ (0 : Fin 2)).trans ?_
    rw [show (cfg0.win 4).index t = _ from index4 t]
    rfl
  · refine (Window.rect_emb_val (cfg0.win 4) t _ (1 : Fin 2)).trans ?_
    rw [show (cfg0.win 4).index t = _ from index4 t]
    show 0 * 1024 + k.val = k.val
    omega

/-- The result, at an index. -/
def G5 : FVec Ideal S16384x1024 .f32 := fun i =>
  finalOf (fun k => xF m (ix2 (n0 := 16384) (n1 := 1024) (i 0) k)) (fun k => gF m (ix2 (n0 := 1) 0 k)) (fun k => nF m (ix1 k))
    (fun e => wF m (ix2 (n0 := 16384) (n1 := 4) (i 0) e)) (fun e k => yF m (ix3 (n0 := 4) (n1 := 16384) (n2 := 1024) e (i 0) k)) (i 1)

theorem packedRow_at (t : Fin cfg0.N) (r : Fin 512) (i : Fin 4) (k : Fin 1024) : packedRow (iblk m 0 1 t) r i k
    = yF m (ix3 (n0 := 4) (n1 := 16384) (n2 := 1024) i ⟨t.val * 512 + r.val, by have ht : t.val < 32 := t.isLt; omega⟩ k) := by
  unfold packedRow
  refine (blk1 m t _ i _ _).trans ((at_y m 0 _ i _ _).trans (congrArg (yF m) ?_))
  funext a
  fin_cases a
  · rfl
  · refine Fin.ext ?_
    show (t.val * 1024 + (2 * r.val + k.val / 256 % 2)) / 2 = t.val * 512 + r.val
    omega
  · refine Fin.ext ?_
    show k.val / 512 * 512 + (t.val * 1024 + (2 * r.val + k.val / 256 % 2)) % 2 * 256 + k.val % 256 = k.val
    omega

/-- What a point stores, at an index of its block. -/
theorem body_at (t : Fin cfg0.N) (r : Fin 512) (k : Fin 1024) :
    out0_5 (iblk m 0 0 t) (iblk m 0 1 t) (iblk m 0 2 t) (iblk m 0 3 t) (iblk m 0 4 t) (ix2 r k)
      = G5 m (ix2 (n0 := 16384) (n1 := 1024) ⟨t.val * 512 + r.val, by have ht : t.val < 32 := t.isLt; omega⟩ k) :=
  (out_at (iblk m 0 0 t) (iblk m 0 1 t) (iblk m 0 2 t) (iblk m 0 3 t) (iblk m 0 4 t) r k).trans
    (finalOf_congr (blk0 m t r) (blk3 m t) (blk4 m t) (blk2 m t r) (packedRow_at m t r) k)

theorem emb5 (t : Fin cfg0.N) (r : Fin 512) (k : Fin 1024) : ((cfg0.win 5).blk t).view.emb (ix2 (n0 := 512) (n1 := 1024) r k)
    = ix2 (n0 := 16384) (n1 := 1024) ⟨t.val * 512 + r.val, by have ht : t.val < 32 := t.isLt; omega⟩ k := by
  refine ix2_ext (n0 := 16384) (n1 := 1024) ?_ ?_
  · refine (Window.rect_emb_val (cfg0.win 5) t _ (0 : Fin 2)).trans ?_
    rw [show (cfg0.win 5).index t = _ from index5 t]
    rfl
  · refine (Window.rect_emb_val (cfg0.win 5) t _ (1 : Fin 2)).trans ?_
    rw [show (cfg0.win 5).index t = _ from index5 t]
    show 0 * 1024 + k.val = k.val
    omega

theorem flushed_eq (t : Fin cfg0.N) : (dats m 0 0).flushed 5 t = ((cfg0.win 5).blk t).view.read (Elt Ideal) (G5 m) := by
  rw [Cert.Kernel2Ideal.Value.flushed5]
  funext j
  rw [View.read_apply]
  refine Eq.trans ?_ (congrArg (G5 m) ((emb5 t (j 0) (j 1)).symm.trans (congrArg _ (eq_ix2 (n0 := 512) (n1 := 1024) j).symm)))
  refine Eq.trans ?_ (body_at m t (j 0) (j 1))
  exact congrArg (out0_5 (iblk m 0 0 t) (iblk m 0 1 t) (iblk m 0 2 t) (iblk m 0 3 t) (iblk m 0 4 t)) (eq_ix2 (n0 := 512) (n1 := 1024) j)

/-- After the run the result's array is `G5`. -/
theorem arr5 (r : Fin 16384) (k : Fin 1024) : (dats m 0 0).arrAt 5 cfg0.N (ix2 (n0 := 16384) (n1 := 1024) r k) = G5 m (ix2 r k) := by
  have hr := r.isLt
  have ht : r.val / 512 < cfg0.N := show r.val / 512 < 32 by omega
  refine (dats m 0 0).arrAt_apply_of_mem 5 (G5 m) (fun t _ => flushed_eq m t) _ ⟨r.val / 512, ht⟩ _ ht (flush5 _) ?_
  have e : ix2 (n0 := 16384) (n1 := 1024) r k
      = ((cfg0.win 5).blk ⟨r.val / 512, ht⟩).view.emb (ix2 (n0 := 512) (n1 := 1024) ⟨r.val % 512, Nat.mod_lt _ (by omega)⟩ k) := by
    rw [emb5]
    refine ix2_ext ?_ rfl
    show r.val = r.val / 512 * 512 + r.val % 512
    omega
  rw [e]
  exact View.emb_mem_set _ _

end Cert.Final
-- ==== Proof.Final.RefOut.lean ====
/- The combining call's reference, at an index. -/
module

public import proofs.«01_k».proof.Proof.Gen.Reference2Ideal.Run
public import proofs.«01_k».proof.Proof.Final.Mix

@[expose] public section

set_option maxRecDepth 16384
set_option Elab.async false

noncomputable section

namespace Cert.Reference2Ideal.Final

open Cert.Reference2Ideal Cert.Reference2Ideal.Gen Idealize.ShloMosaic Idealize.ShloMosaic.StableHlo
open Cert.Final

/-- The reference's result, as an expression of its arguments. -/
def out (a0 : FVec Ideal S16384x1024 .f32) (a1 : FVec Ideal S4x16384x1024 .f32) (a2 : FVec Ideal S16384x4 .f32)
    (a3 : FVec Ideal S1x1024 .f32) (a4 : FVec Ideal S1024 .f32) : FVec Ideal S16384x1024 .f32 :=
  mulf (mulf (addf a0 (mulf (broadcastInDim S16384x1024 ![0, 1] bcast_S1x1024_S16384x1024_0_1 a3) (Host.dotGeneral dot_S16384x4_S4x16384x1024_S16384x1024_1_0_n_2_0_1 none a2 a1))) (broadcastInDim S16384x1024 ![0, 1] bcast_S16384x1_S16384x1024_0_1 (Host.rsqrt (addf (Host.divf (broadcastInDim S16384x1 ![0] bcast_S16384_S16384x1_0 (Host.reduceAdd (mulf (addf a0 (mulf (broadcastInDim S16384x1024 ![0, 1] bcast_S1x1024_S16384x1024_0_1 a3) (Host.dotGeneral dot_S16384x4_S4x16384x1024_S16384x1024_1_0_n_2_0_1 none a2 a1))) (addf a0 (mulf (broadcastInDim S16384x1024 ![0, 1] bcast_S1x1024_S16384x1024_0_1 a3) (Host.dotGeneral dot_S16384x4_S4x16384x1024_S16384x1024_1_0_n_2_0_1 none a2 a1)))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 a4))

theorem out_at (a0 : FVec Ideal S16384x1024 .f32) (a1 : FVec Ideal S4x16384x1024 .f32) (a2 : FVec Ideal S16384x4 .f32)
    (a3 : FVec Ideal S1x1024 .f32) (a4 : FVec Ideal S1024 .f32) (r : Fin 16384) (c : Fin 1024) :
    out a0 a1 a2 a3 a4 (ix2 r c) = finalOf (fun k => a0 (ix2 r k)) (fun k => a3 (ix2 (n0 := 1) 0 k)) (fun k => a4 (ix1 k))
      (fun i => a2 (ix2 r i)) (fun i k => a1 (ix3 i r k)) c := by
  unfold out
  pointwise
  rfl

end Cert.Reference2Ideal.Final
-- ==== Proof.Final.Value.lean ====
/- The combining call's value: the idealized program and the reference end with the same result. -/
module

public import proofs.«01_k».proof.Defs
public import proofs.«01_k».proof.Proof.Final.Blocks
public import proofs.«01_k».proof.Proof.Final.RefOut

@[expose] public section

set_option maxRecDepth 16384

noncomputable section

namespace Cert.Final

open Idealize.ShloMosaic Idealize.SL.Sem

theorem algebraic : @Cert.algebraic_Kernel2Ideal_Reference2Ideal Cert.Kernel2Ideal.Gen.facts Cert.Reference2Ideal.Gen.facts := by
  intro m g m' g' _ harg
  refine ⟨fun c => G5 m, ?_, ?_⟩
  · refine (θ_run _ _ _).mono (fun r h c => ⟨(h c).1.trans ?_, (h c).2⟩) (Cert.Kernel2Ideal.Value.run_blocks m g)
    obtain rfl : c = 0 := Subsingleton.elim _ _
    funext i
    rw [eq_ix2 (n0 := 16384) (n1 := 1024) i]
    exact arr5 m (i 0) (i 1)
  · refine (θ_run _ _ _).mono (fun r h c => ⟨(h c).1.trans ?_, (h c).2⟩) (Cert.Reference2Ideal.Value.run m' g')
    obtain rfl : c = 0 := Subsingleton.elim _ _
    obtain ⟨e0, e1, e2, e3, e4⟩ := harg 0
    rw [e0, e1, e2, e3, e4]
    funext i
    rw [eq_ix2 (n0 := 16384) (n1 := 1024) i]
    exact Cert.Reference2Ideal.Final.out_at (xF m) (yF m) (wF m) (gF m) (nF m) (i 0) (i 1)

end Cert.Final
-- ==== Proof.Route.Pick.lean ====
/- The router's four picks on one row of 32 scores: take the largest, the first position that holds it, put minus infinity there, and
   again. On a row whose four largest scores are above minus infinity these are the first four of the row sorted by score, equal scores
   by position. -/
module

public import Idealize.ShloMosaic.Lib.Pointwise
public import Idealize.ShloMosaic.Lib.SortPrefix

@[expose] public section

noncomputable section

namespace Cert.Route

open Idealize.ShloMosaic

abbrev Row := Fin 32 → EReal

/-- The word that stands for minus infinity. -/
abbrev negInf : EReal := Ideal.ofBits .f32 4286578688#32

theorem negInf_eq : negInf = ⊥ := by
  unfold negInf
  norm_num [Ideal.ofBits]
  try rfl

/-- The largest score. -/
def big (w : Row) : EReal := Finset.fold max negInf w Finset.univ

/-- The first position of the largest score, as a word. -/
def firstOf (w : Row) : BitVec 32 :=
  Finset.fold IntOp.minsi 2147483647#32 (fun x : Fin 32 => if w x = big w then BitVec.ofNat 32 x.val else 32#32) Finset.univ

/-- The row with minus infinity at the position given. -/
def knock (w : Row) (b : BitVec 32) : Row := fun j => if BitVec.ofNat 32 j.val = b then negInf else w j

/-- The row after `k` picks. -/
def work (w : Row) : ℕ → Row
  | 0 => w
  | k + 1 => knock (work w k) (firstOf (work w k))

/-- The score of pick `k`. -/
def val (w : Row) (k : ℕ) : EReal := big (work w k)
/-- The position of pick `k`. -/
def pos (w : Row) (k : ℕ) : BitVec 32 := firstOf (work w k)

/-- Position `i` is before position `j`: a larger score, or the same and an earlier position. -/
def Above (w : Row) (i j : Fin 32) : Prop := w j < w i ∨ (w i = w j ∧ i < j)

theorem big_eq (w : Row) (q : Fin 32) (h : ∀ i, w i ≤ w q) : big w = w q := by
  unfold big
  refine le_antisymm ?_ ?_
  · rw [Finset.fold_max_le]
    exact ⟨by rw [negInf_eq]; exact bot_le, fun i _ => h i⟩
  · rw [Finset.le_fold_max]
    exact Or.inr ⟨q, Finset.mem_univ q, le_refl _⟩

theorem fold_minsi {ι : Type} [DecidableEq ι] (s : Finset ι) (f : ι → BitVec 32) (b c : BitVec 32)
    (hb : IntOp.minsi b c = c) (hf : ∀ x ∈ s, IntOp.minsi (f x) c = c) :
    IntOp.minsi (Finset.fold IntOp.minsi b f s) c = c := by
  induction s using Finset.induction with
  | empty => simpa using hb
  | insert a s ha ih =>
    rw [Finset.fold_insert ha, Std.Associative.assoc (op := IntOp.minsi), ih fun x hx => hf x (Finset.mem_insert_of_mem hx)]
    exact hf a (Finset.mem_insert_self a s)

theorem firstOf_eq (w : Row) (q : Fin 32) (h : w q = big w) (hf : ∀ i, i < q → w i ≠ big w) :
    firstOf w = BitVec.ofNat 32 q.val := by
  have h1 : ∀ x q : Fin 32, q ≤ x → IntOp.minsi (BitVec.ofNat 32 x.val) (BitVec.ofNat 32 q.val) = BitVec.ofNat 32 q.val := by
    decide +kernel
  have h2 : ∀ q : Fin 32, IntOp.minsi 32#32 (BitVec.ofNat 32 q.val) = BitVec.ofNat 32 q.val := by decide +kernel
  have h3 : ∀ q : Fin 32, IntOp.minsi 2147483647#32 (BitVec.ofNat 32 q.val) = BitVec.ofNat 32 q.val := by decide +kernel
  unfold firstOf
  conv_lhs => rw [← Finset.insert_erase (Finset.mem_univ q)]
  rw [Finset.fold_insert (Finset.notMem_erase q _), if_pos h, Std.Commutative.comm (op := IntOp.minsi)]
  refine fold_minsi _ _ _ _ (h3 q) fun x _ => ?_
  split
  · rename_i hx
    exact h1 x q (not_lt.mp fun hl => hf x hl hx)
  · exact h2 q

theorem word_eq (i j : Fin 32) : BitVec.ofNat 32 i.val = BitVec.ofNat 32 j.val ↔ i = j := by
  revert i j; decide +kernel

/-- `p` lists the first four positions of the row sorted, all of a score above minus infinity. -/
structure Top (w : Row) (p : Fin 4 → Fin 32) : Prop where
  inj : Function.Injective p
  ord : ∀ i j, i < j → Above w (p i) (p j)
  dom : ∀ i x, (∀ j, p j ≠ x) → Above w (p i) x
  fin : ∀ i, ⊥ < w (p i)

/-- Position `i` is one of the first `k` listed. -/
def Taken (p : Fin 4 → Fin 32) (k : ℕ) (i : Fin 32) : Prop := ∃ j : Fin 4, j.val < k ∧ p j = i

theorem pick {w u : Row} {p : Fin 4 → Fin 32} (t : Top w p) (k : Fin 4) (h1 : ∀ i, Taken p k.val i → u i = ⊥)
    (h2 : ∀ i, ¬ Taken p k.val i → u i = w i) : big u = w (p k) ∧ firstOf u = BitVec.ofNat 32 (p k).val := by
  have hk : ¬ Taken p k.val (p k) := fun ⟨j, hj, e⟩ => absurd (congrArg Fin.val (t.inj e)) hj.ne
  have ek : u (p k) = w (p k) := h2 _ hk
  have hR : ∀ i, ¬ Taken p k.val i → i = p k ∨ Above w (p k) i := by
    intro i hi
    by_cases hx : ∃ j, p j = i
    · obtain ⟨j, rfl⟩ := hx
      rcases lt_trichotomy j k with h | h | h
      · exact absurd ⟨j, h, rfl⟩ hi
      · exact Or.inl (by rw [h])
      · exact Or.inr (t.ord k j h)
    · exact Or.inr (t.dom k i fun j e => hx ⟨j, e⟩)
  have hb : big u = w (p k) := by
    rw [← ek]
    refine big_eq u (p k) fun i => ?_
    rw [ek]
    by_cases hi : Taken p k.val i
    · rw [h1 i hi]; exact bot_le
    · rw [h2 i hi]
      rcases hR i hi with rfl | h | h
      · exact le_refl _
      · exact h.le
      · exact h.1.ge
  refine ⟨hb, firstOf_eq u (p k) (by rw [ek, hb]) fun i hi => ?_⟩
  rw [hb]
  by_cases hn : Taken p k.val i
  · rw [h1 i hn]; exact (t.fin k).ne
  · rw [h2 i hn]
    rcases hR i hn with rfl | h | h
    · exact absurd hi (lt_irrefl _)
    · exact h.ne
    · exact absurd (hi.trans h.2) (lt_irrefl _)

theorem work_eq {w : Row} {p : Fin 4 → Fin 32} (t : Top w p) :
    ∀ k : ℕ, k < 4 → (∀ i, Taken p k i → work w k i = ⊥) ∧ ∀ i, ¬ Taken p k i → work w k i = w i
  | 0, _ => ⟨fun i ⟨j, h, _⟩ => absurd h (Nat.not_lt_zero _), fun i _ => rfl⟩
  | k + 1, h => by
    have ih := work_eq t k (by omega)
    have e : firstOf (work w k) = BitVec.ofNat 32 (p ⟨k, by omega⟩).val := (pick t ⟨k, by omega⟩ (u := work w k) ih.1 ih.2).2
    have ew : work w (k + 1) = knock (work w k) (firstOf (work w k)) := rfl
    rw [e] at ew
    rw [ew]
    refine ⟨fun i ⟨j, hj, ej⟩ => ?_, fun i hi => ?_⟩
    · unfold knock
      split
      · exact negInf_eq
      · rename_i hn
        refine ih.1 i ⟨j, ?_, ej⟩
        rcases Nat.lt_succ_iff_lt_or_eq.mp hj with h2 | h2
        · exact h2
        · refine absurd ((word_eq i _).mpr ?_) hn
          rw [← ej]
          exact congrArg p (Fin.ext h2)
    · unfold knock
      rw [if_neg fun hh => hi ⟨⟨k, by omega⟩, Nat.lt_succ_self k, ((word_eq i _).mp hh).symm⟩]
      exact ih.2 i fun ⟨j, hj, ej⟩ => hi ⟨j, by omega, ej⟩

theorem val_eq {w : Row} {p : Fin 4 → Fin 32} (t : Top w p) (k : Fin 4) : val w k.val = w (p k) :=
  (pick t k (work_eq t k.val k.isLt).1 (work_eq t k.val k.isLt).2).1

theorem pos_eq {w : Row} {p : Fin 4 → Fin 32} (t : Top w p) (k : Fin 4) : pos w k.val = BitVec.ofNat 32 (p k).val :=
  (pick t k (work_eq t k.val k.isLt).1 (work_eq t k.val k.isLt).2).2

/-! ## The sort -/

/-- The sort's comparison of two positions. -/
def gtKey (w : Row) (i j : Fin 32) : Bool := decide (w j < w i)
/-- The same, equal scores by position. -/
def gtPos (w : Row) (i j : Fin 32) : Bool := decide (w j < w i) || (decide (w i = w j) && decide (i < j))

theorem total (w : Row) : StrictTotalBefore (gtPos w) :=
  StrictTotalBefore.of_key_then_position (fun a b : EReal => decide (b < a)) w (fun a => by simp)
    (fun a b c h h' => by
      simp only [decide_eq_true_eq] at h h' ⊢
      exact h'.trans h)
    (fun a b => by
      simp only [decide_eq_true_eq]
      rcases lt_trichotomy a b with h | h | h
      · exact Or.inr (Or.inr h)
      · exact Or.inr (Or.inl h)
      · exact Or.inl h)

theorem stable (w : Row) (l : List (Fin 32)) (hl : l.Pairwise (· < ·)) : stableSort (gtKey w) l = stableSort (gtPos w) l := by
  induction l with
  | nil => rfl
  | cons a l ih =>
    rw [List.pairwise_cons] at hl
    unfold stableSort
    rw [ih hl.2]
    refine insertBefore_congr _ _ a _ fun b hb => ?_
    have hab : a < b := hl.1 b ((perm_stableSort (gtPos w) l).mem_iff.mp hb)
    unfold gtKey gtPos
    rw [show decide (b < a) = false from decide_eq_false (not_lt.mpr hab.le), Bool.and_false, Bool.or_false]

theorem sortedFrom_of {n : ℕ} {R R' : Fin n → Fin n → Bool} (h : sortPositions n R = sortPositions n R') :
    sortedFrom R = sortedFrom R' := by
  funext k
  unfold sortedFrom
  rw [List.get_of_eq h]
  rfl

theorem stable_positions (w : Row) : sortPositions 32 (gtKey w) = sortPositions 32 (gtPos w) := by
  unfold sortPositions
  exact stable w _ (List.pairwise_lt_finRange 32)

theorem sortedFrom_key (w : Row) : sortedFrom (gtKey w) = sortedFrom (gtPos w) := sortedFrom_of (stable_positions w)

/-- The first four positions of the row sorted. -/
def topPos (w : Row) (k : Fin 4) : Fin 32 := sortedFrom (gtKey w) (k.castLE (by decide))

theorem above_of {w : Row} {i j : Fin 32} (hne : i ≠ j) (h : gtPos w j i = false) : Above w i j := by
  rcases (total w).total i j hne with h1 | h1
  · simp only [gtPos, Bool.or_eq_true, Bool.and_eq_true, decide_eq_true_eq] at h1
    exact h1
  · rw [h] at h1; exact absurd h1 (by decide)

theorem sorted (w : Row) (i j : Fin 32) (h : i < j) : Above w (sortedFrom (gtKey w) i) (sortedFrom (gtKey w) j) := by
  rw [sortedFrom_key]
  exact above_of (fun e => h.ne (sortedFrom_injective _ e))
    (sortedFrom_noInversion (gtPos w) (gtPos w) (total w).asymm (fun _ _ h => h) (total w).negTrans i j h)

theorem top (w : Row) (h : ∀ k, ⊥ < w (topPos w k)) : Top w (topPos w) where
  inj i j e := by
    have := sortedFrom_injective _ e
    exact Fin.ext (congrArg (fun x : Fin 32 => x.val) this)
  ord i j hij := sorted w _ _ hij
  dom i x hx := by
    obtain ⟨k, rfl⟩ := sortedFrom_surjective (gtKey w) x
    refine sorted w _ _ ?_
    have hk : 4 ≤ k.val := by
      by_contra hlt
      exact hx ⟨k.val, by omega⟩ rfl
    show i.val < k.val
    exact lt_of_lt_of_le i.isLt hk
  fin := h

end Cert.Route
-- ==== Proof.Route.Row.lean ====
/- One token's row through the output projection, the norm and the router's scores, as plain mathematics over the extended reals. -/
module

public import Idealize.ShloMosaic.Lib.Pointwise

@[expose] public section

noncomputable section

namespace Cert.Route

open Idealize.ShloMosaic

/-- The residual's row: the row given, plus the gate times the gated sum of the two projected branches, projected once more. -/
def x1Of (x gt sga sgb : Fin 1024 → EReal) (ya yb : Fin 512 → EReal) (pa pb : Fin 512 → Fin 1024 → EReal)
    (wo : Fin 1024 → Fin 1024 → EReal) (c : Fin 1024) : EReal :=
  x c + gt c * ∑ k, (sga k * (∑ j, ya j * pa j k) + sgb k * ∑ j, yb j * pb j k) * wo k c

/-- The row normed by its mean square and modulated. -/
def uOf (x1 g sh sc : Fin 1024 → EReal) (c : Fin 1024) : EReal :=
  x1 c * Ideal.rsqrt (Ideal.div (∑ k, x1 k * x1 k) (Ideal.ofBits .f32 1149239296#32) + Ideal.ofBits .f32 925353388#32) * g c
    * (1 + sc c) + sh c

/-- The router's score of expert `e`. -/
def scoreOf (u : Fin 1024 → EReal) (wr : Fin 1024 → Fin 32 → EReal) (br : Fin 32 → EReal) (e : Fin 32) : EReal :=
  (∑ k, u k * wr k e) + br e

/-- The weight of pick `k`, from the four scores picked: the exponential of its distance from the first, over the sum of the four. -/
def weightOf (v : Fin 4 → EReal) (k : Fin 4) : EReal :=
  Ideal.div (Ideal.exp (v k - v 0)) (Ideal.exp (v 0 - v 0) + Ideal.exp (v 1 - v 0) + Ideal.exp (v 2 - v 0) + Ideal.exp (v 3 - v 0))

theorem x1Of_congr {x x' gt gt' sga sga' sgb sgb' : Fin 1024 → EReal} {ya ya' yb yb' : Fin 512 → EReal} {pa pa' pb pb' : Fin 512 → Fin 1024 → EReal}
    {wo wo' : Fin 1024 → Fin 1024 → EReal} (h0 : ∀ k, x k = x' k) (h1 : ∀ k, gt k = gt' k) (h2 : ∀ k, sga k = sga' k) (h3 : ∀ k, sgb k = sgb' k)
    (h4 : ∀ k, ya k = ya' k) (h5 : ∀ k, yb k = yb' k) (h6 : ∀ j k, pa j k = pa' j k) (h7 : ∀ j k, pb j k = pb' j k)
    (h8 : ∀ j k, wo j k = wo' j k) (c : Fin 1024) : x1Of x gt sga sgb ya yb pa pb wo c = x1Of x' gt' sga' sgb' ya' yb' pa' pb' wo' c := by
  rw [funext h0, funext h1, funext h2, funext h3, funext h4, funext h5, funext fun j => funext (h6 j), funext fun j => funext (h7 j),
    funext fun j => funext (h8 j)]

end Cert.Route
-- ==== Proof.Route.Pays.lean ====
/- The router call's body, value by value, at an index: the residual's row, the normed row, the scores, the picks, the weights. -/
module

public import proofs.«01_k».proof.Proof.Gen.Kernel3Ideal.Skeleton
public import proofs.«01_k».proof.Proof.Route.Pick
public import proofs.«01_k».proof.Proof.Route.Row
public import Idealize.ShloMosaic.Lib.Pointwise

@[expose] public section

set_option maxRecDepth 16384
set_option Elab.async false

noncomputable section

namespace Cert.Route

open Cert.Kernel3Ideal Cert.Kernel3Ideal.Gen Idealize.ShloMosaic

theorem pay5_at (sga : Vec Ideal S512x1024 .bf16) (ya : Vec Ideal S512x512 .bf16) (pa sgb : Vec Ideal S512x1024 .bf16)
    (yb : Vec Ideal S512x512 .bf16) (pb : Vec Ideal S512x1024 .bf16) (x : Vec Ideal S512x1024 .f32) (gt : Vec Ideal S1x1024 .f32)
    (wo : Vec Ideal S1024x1024 .bf16) (r : Fin 512) (c : Fin 1024) :
    k0_pay5 sga ya pa sgb yb pb x gt wo (ix2 r c) = x1Of (fun k => x (ix2 r k)) (fun k => gt (ix2 0 k)) (fun k => sga (ix2 r k))
      (fun k => sgb (ix2 r k)) (fun j => ya (ix2 r j)) (fun j => yb (ix2 r j)) (fun j k => pa (ix2 j k)) (fun j k => pb (ix2 j k))
      (fun j k => wo (ix2 j k)) c := by
  unfold k0_pay5
  pointwise
  rfl

theorem pay6_at (X : FVec Ideal S512x1024 .f32) (g sc sh : Vec Ideal S1x1024 .f32) (r : Fin 512) (c : Fin 1024) :
    k0_pay6 X g sc sh (ix2 r c) = uOf (fun k => X (ix2 r k)) (fun k => g (ix2 0 k)) (fun k => sh (ix2 0 k)) (fun k => sc (ix2 0 k)) c := by
  unfold k0_pay6
  pointwise
  rfl

theorem pay13_at (U : FVec Ideal S512x1024 .f32) (wr : Vec Ideal S1024x32 .bf16) (br : Vec Ideal S1x32 .f32) (r : Fin 512) (e : Fin 32) :
    k0_pay13 U wr br (ix2 r e) = scoreOf (fun k => U (ix2 r k)) (fun k e => wr (ix2 k e)) (fun e => br (ix2 0 e)) e := by
  unfold k0_pay13
  pointwise
  rfl

/-- The positions along a row of scores. -/
abbrev lanes : IVec S512x32 32 := iota .tc S512x32 32 [1] iota_S512x32_d1_w32
/-- The positions along a row of the sixteen columns turned over at the end. -/
abbrev slots : IVec S512x16 32 := iota .tc S512x16 32 [1] iota_S512x16_d1_w32

theorem select_eq {α : Type} (a b : BitVec 32) (x y : α) : Scalar.select (IntOp.cmpi .eq a b) x y = if a = b then x else y := by
  by_cases h : a = b
  · rw [if_pos h]
    subst h
    simp [Scalar.select, IntOp.cmpi]
  · rw [if_neg h]
    have e : (a == b) = false := beq_eq_false_iff_ne.mpr h
    simp [Scalar.select, IntOp.cmpi, e]

section picks

variable (U : FVec Ideal S512x1024 .f32) (wr : Vec Ideal S1024x32 .bf16) (br : Vec Ideal S1x32 .f32) (r : Fin 512)

/-- The scores of row `r`. -/
abbrev scores : Row := fun e => k0_pay13 U wr br (ix2 r e)

theorem pay14_at : k0_pay14 U wr br (ix2 (n1 := 1) r 0) = val (scores U wr br r) 0 := by
  unfold k0_pay14
  pointwise
  rfl

theorem pay15_at : k0_pay15 U wr br (ix2 (n1 := 1) r 0) = pos (scores U wr br r) 0 := by
  unfold k0_pay15
  pointwise
  simp only [pay14_at]
  rfl

theorem pay17_at (j : Fin 32) : k0_pay17 U wr br (ix2 r j) = work (scores U wr br r) 1 j := by
  unfold k0_pay17 k0_pay16
  pointwise
  rw [pay15_at, select_eq]
  rfl

theorem pay18_at : k0_pay18 U wr br (ix2 (n1 := 1) r 0) = val (scores U wr br r) 1 := by
  unfold k0_pay18
  pointwise
  simp only [pay17_at]
  rfl

theorem pay19_at : k0_pay19 U wr br (ix2 (n1 := 1) r 0) = pos (scores U wr br r) 1 := by
  unfold k0_pay19
  pointwise
  simp only [pay17_at, pay18_at]
  rfl

theorem pay22_at (j : Fin 32) : k0_pay22 U wr br (ix2 r j) = work (scores U wr br r) 2 j := by
  unfold k0_pay22 k0_pay20
  pointwise
  rw [pay19_at, select_eq, pay17_at]
  rfl

theorem pay23_at : k0_pay23 (k0_pay22 U wr br) (ix2 (n1 := 1) r 0) = val (scores U wr br r) 2 := by
  unfold k0_pay23
  pointwise
  simp only [pay22_at]
  rfl

theorem pay24_at : k0_pay24 lanes (k0_pay22 U wr br) (ix2 (n1 := 1) r 0) = pos (scores U wr br r) 2 := by
  unfold k0_pay24
  pointwise
  simp only [pay22_at, pay23_at]
  rfl

theorem pay26_at (j : Fin 32) : k0_pay26 lanes (k0_pay22 U wr br) (ix2 r j) = work (scores U wr br r) 3 j := by
  unfold k0_pay26 k0_pay25
  pointwise
  rw [pay24_at, select_eq, pay22_at]
  rfl

theorem pay27_at : k0_pay27 lanes (k0_pay22 U wr br) (ix2 (n1 := 1) r 0) = val (scores U wr br r) 3 := by
  unfold k0_pay27
  pointwise
  simp only [pay26_at]
  rfl

theorem pay28_at : k0_pay28 lanes (k0_pay22 U wr br) (ix2 (n1 := 1) r 0) = pos (scores U wr br r) 3 := by
  unfold k0_pay28
  pointwise
  simp only [pay26_at, pay27_at]
  rfl

/-- The four scores picked. -/
abbrev vals : Fin 4 → EReal := fun k => val (scores U wr br r) k.val

theorem exp0_at : k0_pay29 (k0_pay14 U wr br) (ix2 (n1 := 1) r 0) = Ideal.exp (vals U wr br r 0 - vals U wr br r 0) := by
  unfold k0_pay29
  pointwise
  simp only [pay14_at]
  rfl
theorem exp1_at : k0_pay30 (k0_pay14 U wr br) (k0_pay18 U wr br) (ix2 (n1 := 1) r 0) = Ideal.exp (vals U wr br r 1 - vals U wr br r 0) := by
  unfold k0_pay30
  pointwise
  simp only [pay14_at, pay18_at]
  rfl
theorem exp2_at : k0_pay31 (k0_pay14 U wr br) (k0_pay22 U wr br) (ix2 (n1 := 1) r 0) = Ideal.exp (vals U wr br r 2 - vals U wr br r 0) := by
  unfold k0_pay31
  pointwise
  simp only [pay14_at, pay23_at]
  rfl
theorem exp3_at : k0_pay32 lanes (k0_pay14 U wr br) (k0_pay22 U wr br) (ix2 (n1 := 1) r 0) = Ideal.exp (vals U wr br r 3 - vals U wr br r 0) := by
  unfold k0_pay32
  pointwise
  simp only [pay14_at, pay27_at]
  rfl

theorem sum_at : k0_pay33 lanes (k0_pay14 U wr br) (k0_pay18 U wr br) (k0_pay22 U wr br) (ix2 (n1 := 1) r 0)
    = Ideal.exp (vals U wr br r 0 - vals U wr br r 0) + Ideal.exp (vals U wr br r 1 - vals U wr br r 0)
      + Ideal.exp (vals U wr br r 2 - vals U wr br r 0) + Ideal.exp (vals U wr br r 3 - vals U wr br r 0) := by
  unfold k0_pay33
  pointwise
  simp only [exp0_at, exp1_at, exp2_at, exp3_at]

theorem weight0_at : k0_pay39 (k0_pay29 (k0_pay14 U wr br)) (k0_pay33 lanes (k0_pay14 U wr br) (k0_pay18 U wr br) (k0_pay22 U wr br)) (ix2 (n1 := 1) r 0)
    = weightOf (vals U wr br r) 0 := by
  unfold k0_pay39
  pointwise
  simp only [exp0_at, sum_at]
  rfl
theorem weight1_at : k0_pay42 (k0_pay30 (k0_pay14 U wr br) (k0_pay18 U wr br)) (k0_pay33 lanes (k0_pay14 U wr br) (k0_pay18 U wr br) (k0_pay22 U wr br))
    (ix2 (n1 := 1) r 0) = weightOf (vals U wr br r) 1 := by
  unfold k0_pay42
  pointwise
  simp only [exp1_at, sum_at]
  rfl
theorem weight2_at : k0_pay48 (k0_pay31 (k0_pay14 U wr br) (k0_pay22 U wr br)) (k0_pay33 lanes (k0_pay14 U wr br) (k0_pay18 U wr br) (k0_pay22 U wr br))
    (ix2 (n1 := 1) r 0) = weightOf (vals U wr br r) 2 := by
  unfold k0_pay48
  pointwise
  simp only [exp2_at, sum_at]
  rfl
theorem weight3_at : k0_pay50 (k0_pay32 lanes (k0_pay14 U wr br) (k0_pay22 U wr br)) (k0_pay33 lanes (k0_pay14 U wr br) (k0_pay18 U wr br) (k0_pay22 U wr br))
    (ix2 (n1 := 1) r 0) = weightOf (vals U wr br r) 3 := by
  unfold k0_pay50
  pointwise
  simp only [exp3_at, sum_at]
  rfl

/-! ## The positions, turned over by a product with the unit matrix -/

/-- The sixteen columns: four of positions, the others of ranks. -/
abbrev columns (carried : FVec Ideal S512x32 .f32) : FVec Ideal S512x16 .f32 :=
  k0_pay49 lanes (k0_pay28 lanes (k0_pay22 U wr br)) carried slots
    (k0_pay41 lanes (k0_pay19 U wr br) carried slots (k0_pay38 lanes (k0_pay15 U wr br) carried) (k0_pay40 (k0_pay19 U wr br)))
    (k0_pay44 lanes (k0_pay24 lanes (k0_pay22 U wr br)) carried) (k0_pay45 lanes (k0_pay24 lanes (k0_pay22 U wr br)) carried)
    (k0_pay46 slots) (k0_pay47 (k0_pay24 lanes (k0_pay22 U wr br)))

theorem columns_at (carried : FVec Ideal S512x32 .f32) (k : Fin 4) :
    columns U wr br carried (ix2 (n1 := 16) r ⟨k.val, by omega⟩) = FloatOps.sitofp (F := Ideal) .f32 (pos (scores U wr br r) k.val) := by
  unfold columns k0_pay49 k0_pay46 k0_pay47
  pointwise
  unfold k0_pay41
  pointwise
  unfold k0_pay38
  pointwise
  simp only [pay15_at, pay19_at, pay24_at, pay28_at, select_eq]
  fin_cases k
  all_goals simp

/-- A small word turned into a float and back. -/
theorem back (b : BitVec 32) (h : b.toNat < 32) : FloatOps.fptosi (F := Ideal) (φ := .f32) 32 (FloatOps.sitofp (F := Ideal) .f32 b) = b := by
  have e : b.toInt = (b.toNat : ℤ) := BitVec.toInt_eq_toNat_of_lt (by omega)
  show Ideal.fptosi 32 (((b.toInt : ℝ) : EReal)) = b
  unfold Ideal.fptosi
  rw [Ideal.toIntClamped_coe, if_pos (by rw [e]; positivity), Int.floor_intCast, min_eq_right (by rw [e]; norm_num <;> omega),
    max_eq_right (by rw [e]; norm_num <;> omega), BitVec.ofInt_toInt]

theorem sitofp_one : FloatOps.sitofp (F := Ideal) .f32 1#32 = (1 : EReal) := by
  show (((1#32 : BitVec 32).toInt : ℝ) : EReal) = 1
  norm_num

theorem sitofp_zero : FloatOps.sitofp (F := Ideal) .f32 0#32 = (0 : EReal) := by
  show (((0#32 : BitVec 32).toInt : ℝ) : EReal) = 0
  norm_num

theorem cmpi_same (a : BitVec 32) : BitVec.setWidth 32 (IntOp.cmpi .eq a a) = 1#32 := by
  simp [IntOp.cmpi]

theorem cmpi_diff : ∀ (k : Fin 4) (x : Fin 16), x ≠ ⟨k.val, by omega⟩ →
    BitVec.setWidth 32 (IntOp.cmpi .eq (BitVec.ofNat 32 k.val) (BitVec.ofNat 32 x.val)) = 0#32 := by decide +kernel

theorem picks_at (carried : FVec Ideal S512x32 .f32) (k : Fin 4) (h : (pos (scores U wr br r) k.val).toNat < 32) :
    k0_pay2 (columns U wr br carried) (iota .tc S16x16 32 [0] iota_S16x16_d0_w32) (ix2 k r) = pos (scores U wr br r) k.val := by
  unfold k0_pay2 k0_pay1
  pointwise
  rw [Finset.sum_eq_single (⟨k.val, by omega⟩ : Fin 16)]
  · rw [columns_at, cmpi_same, sitofp_one, one_mul]
    exact back _ h
  · intro x _ hx
    rw [cmpi_diff k x hx, sitofp_zero, zero_mul]
  · exact fun hh => absurd (Finset.mem_univ _) hh

end picks

end Cert.Route
-- ==== Proof.Route.Body.lean ====
/- What the router call's body leaves in the residual, the picks and the weights at one point, in both of its cases. -/
module

public import proofs.«01_k».proof.Proof.Gen.Kernel3Ideal.Frame
public import proofs.«01_k».proof.Proof.Route.Pays
public import Idealize.ShloMosaic.Lib.Pipeline.Value

@[expose] public section

set_option maxRecDepth 16384
set_option Elab.async false

noncomputable section

namespace Cert.Route

open Cert.Kernel3Ideal Cert.Kernel3Ideal.Gen Idealize.ShloMosaic

theorem hz : (![0, 0] : Fin 2 → Nat) = fun _ => 0 := funext fun a => by fin_cases a <;> rfl

section blocks

variable (x0 : Vec Ideal S512x1024 .f32) (x1 : Vec Ideal S512x512 .bf16) (x2 : Vec Ideal S512x512 .bf16) (x3 : Vec Ideal S512x1024 .bf16)
  (x4 : Vec Ideal S512x1024 .bf16) (x5 : Vec Ideal S512x1024 .bf16) (x6 : Vec Ideal S512x1024 .bf16) (x7 : Vec Ideal S1024x1024 .bf16)
  (x8 : Vec Ideal S1x1024 .f32) (x9 : Vec Ideal S1x1024 .f32) (x10 : Vec Ideal S1x1024 .f32) (x11 : Vec Ideal S1x1024 .f32)
  (x12 : Vec Ideal S1024x32 .bf16) (x13 : Vec Ideal S1x32 .f32)

/-- The residual's block. -/
def bX : FVec Ideal S512x1024 .f32 := k0_pay5 x3 x1 x5 x4 x2 x6 x0 x8 x7
/-- The normed rows' block. -/
def bU : FVec Ideal S512x1024 .f32 := k0_pay6 (bX x0 x1 x2 x3 x4 x5 x6 x7 x8) x9 x11 x10
/-- The tokens chosen before these rows, row by row, over what the points before chose. -/
def bC (xs0 : Vec Ideal S1x32 .f32) : FVec Ideal S512x32 .f32 :=
  k0_pay35 lanes (k0_pay21 (bU x0 x1 x2 x3 x4 x5 x6 x7 x8 x9 x10 x11) x12 x13) (k0_pay22 (bU x0 x1 x2 x3 x4 x5 x6 x7 x8 x9 x10 x11) x12 x13) xs0
/-- The picks' block. -/
def bE (xs0 : Vec Ideal S1x32 .f32) : IVec S4x512 32 :=
  k0_pay2 (columns (bU x0 x1 x2 x3 x4 x5 x6 x7 x8 x9 x10 x11) x12 x13 (bC x0 x1 x2 x3 x4 x5 x6 x7 x8 x9 x10 x11 x12 x13 xs0)) (iota .tc S16x16 32 [0] iota_S16x16_d0_w32)

/-- The weights' block. -/
def bW (y : S512x4.Idx) : EReal := weightOf (vals (bU x0 x1 x2 x3 x4 x5 x6 x7 x8 x9 x10 x11) x12 x13 (y 0)) (y 1)

end blocks

theorem one_column (x : S512x1.Idx) : x = ix2 (n0 := 512) (n1 := 1) (x 0) 0 :=
  (eq_ix2 (n0 := 512) (n1 := 1) x).trans (congrArg (ix2 (n0 := 512) (n1 := 1) (x 0)) (Subsingleton.elim (α := Fin 1) _ _))

theorem columns_pieces (U : FVec Ideal S512x1024 .f32) (x12 : Vec Ideal S1024x32 .bf16) (x13 : Vec Ideal S1x32 .f32) :
    ∀ p ∈ ([⟨Rect.unit ![0, 3] ![512, 1] inb_S512x4_S512x1_0_3, k0_pay50 (k0_pay32 lanes (k0_pay14 U x12 x13) (k0_pay22 U x12 x13)) (k0_pay33 lanes (k0_pay14 U x12 x13) (k0_pay18 U x12 x13) (k0_pay22 U x12 x13))⟩,
      ⟨Rect.unit ![0, 2] ![512, 1] inb_S512x4_S512x1_0_2, k0_pay48 (k0_pay31 (k0_pay14 U x12 x13) (k0_pay22 U x12 x13)) (k0_pay33 lanes (k0_pay14 U x12 x13) (k0_pay18 U x12 x13) (k0_pay22 U x12 x13))⟩,
      ⟨Rect.unit ![0, 1] ![512, 1] inb_S512x4_S512x1_0_1, k0_pay42 (k0_pay30 (k0_pay14 U x12 x13) (k0_pay18 U x12 x13)) (k0_pay33 lanes (k0_pay14 U x12 x13) (k0_pay18 U x12 x13) (k0_pay22 U x12 x13))⟩,
      ⟨Rect.unit ![0, 0] ![512, 1] inb_S512x4_S512x1_0_0, k0_pay39 (k0_pay29 (k0_pay14 U x12 x13)) (k0_pay33 lanes (k0_pay14 U x12 x13) (k0_pay18 U x12 x13) (k0_pay22 U x12 x13))⟩] : List (View.Piece (Elt Ideal) S512x4 .f32)),
      ∀ x : p.1.shape.Idx, p.2 x = (fun y : S512x4.Idx => weightOf (vals U x12 x13 (y 0)) (y 1)) (p.1.emb x) := by
  intro p hp x
  simp only [List.mem_cons, List.not_mem_nil, or_false] at hp
  rcases hp with rfl | rfl | rfl | rfl
  · refine (congrArg _ (one_column x)).trans ?_
    refine (weight3_at U x12 x13 (x 0)).trans ?_
    exact congrArg₂ (fun a k => weightOf (vals U x12 x13 a) k) (Fin.ext (by show (x 0).val = 0 + 1 * (x 0).val; omega))
      (Fin.ext (by show 3 = 3 + 1 * (x 1).val; have h1 : (x 1).val < 1 := (x 1).isLt; omega))
  · refine (congrArg _ (one_column x)).trans ?_
    refine (weight2_at U x12 x13 (x 0)).trans ?_
    exact congrArg₂ (fun a k => weightOf (vals U x12 x13 a) k) (Fin.ext (by show (x 0).val = 0 + 1 * (x 0).val; omega))
      (Fin.ext (by show 2 = 2 + 1 * (x 1).val; have h1 : (x 1).val < 1 := (x 1).isLt; omega))
  · refine (congrArg _ (one_column x)).trans ?_
    refine (weight1_at U x12 x13 (x 0)).trans ?_
    exact congrArg₂ (fun a k => weightOf (vals U x12 x13 a) k) (Fin.ext (by show (x 0).val = 0 + 1 * (x 0).val; omega))
      (Fin.ext (by show 1 = 1 + 1 * (x 1).val; have h1 : (x 1).val < 1 := (x 1).isLt; omega))
  · refine (congrArg _ (one_column x)).trans ?_
    refine (weight0_at U x12 x13 (x 0)).trans ?_
    exact congrArg₂ (fun a k => weightOf (vals U x12 x13 a) k) (Fin.ext (by show (x 0).val = 0 + 1 * (x 0).val; omega))
      (Fin.ext (by show 0 = 0 + 1 * (x 1).val; have h1 : (x 1).val < 1 := (x 1).isLt; omega))

theorem outB_14 (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x32 .bf16) (harg13 : arg13.IsWhole) (arg14 : Memref sig .tc .vmem S1x32 .f32) (harg14 : arg14.IsWhole) (arg15 : Memref sig .tc .vmem S512x1024 .f32) (harg15 : arg15.IsWhole) (arg16 : Memref sig .tc .vmem S2x1024x256 .bf16) (harg16 : arg16.IsWhole) (arg17 : Memref sig .tc .vmem S4x512 .i32) (harg17 : arg17.IsWhole) (arg18 : Memref sig .tc .vmem S4x512 .i32) (harg18 : arg18.IsWhole) (arg19 : Memref sig .tc .vmem S512x4 .f32) (harg19 : arg19.IsWhole) (arg20 : Memref sig .tc .vmem S1x32 .f32) (harg20 : arg20.IsWhole) (arg21 : Memref sig .tc .vmem S1x32 .f32) (harg21 : arg21.IsWhole) (hc0 : ¬cond0_0 i)
    (x0 : Vec Ideal S512x1024 .f32) (x1 : Vec Ideal S512x512 .bf16) (x2 : Vec Ideal S512x512 .bf16) (x3 : Vec Ideal S512x1024 .bf16) (x4 : Vec Ideal S512x1024 .bf16) (x5 : Vec Ideal S512x1024 .bf16) (x6 : Vec Ideal S512x1024 .bf16) (x7 : Vec Ideal S1024x1024 .bf16) (x8 : Vec Ideal S1x1024 .f32) (x9 : Vec Ideal S1x1024 .f32) (x10 : Vec Ideal S1x1024 .f32) (x11 : Vec Ideal S1x1024 .f32) (x12 : Vec Ideal S1024x32 .bf16) (x13 : Vec Ideal S1x32 .f32) (xs0 : Vec Ideal S1x32 .f32) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 xs0 = bX x0 x1 x2 x3 x4 x5 x6 x7 x8 := by
  unfold out0_B_14
  rw [View.read_writes_eq_canon _ _ _ (cover0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S512x1024) hz, View.ld_unit_zero (S := S512x512) hz, View.ld_unit_zero (S := S1024x1024) hz, View.ld_unit_zero (S := S1x1024) hz, View.ld_unit_zero (S := S1024x32) hz, View.ld_unit_zero (S := S1x32) hz, shapeCast_self]
  rfl

theorem outB_16 (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x32 .bf16) (harg13 : arg13.IsWhole) (arg14 : Memref sig .tc .vmem S1x32 .f32) (harg14 : arg14.IsWhole) (arg15 : Memref sig .tc .vmem S512x1024 .f32) (harg15 : arg15.IsWhole) (arg16 : Memref sig .tc .vmem S2x1024x256 .bf16) (harg16 : arg16.IsWhole) (arg17 : Memref sig .tc .vmem S4x512 .i32) (harg17 : arg17.IsWhole) (arg18 : Memref sig .tc .vmem S4x512 .i32) (harg18 : arg18.IsWhole) (arg19 : Memref sig .tc .vmem S512x4 .f32) (harg19 : arg19.IsWhole) (arg20 : Memref sig .tc .vmem S1x32 .f32) (harg20 : arg20.IsWhole) (arg21 : Memref sig .tc .vmem S1x32 .f32) (harg21 : arg21.IsWhole) (hc0 : ¬cond0_0 i)
    (x0 : Vec Ideal S512x1024 .f32) (x1 : Vec Ideal S512x512 .bf16) (x2 : Vec Ideal S512x512 .bf16) (x3 : Vec Ideal S512x1024 .bf16) (x4 : Vec Ideal S512x1024 .bf16) (x5 : Vec Ideal S512x1024 .bf16) (x6 : Vec Ideal S512x1024 .bf16) (x7 : Vec Ideal S1024x1024 .bf16) (x8 : Vec Ideal S1x1024 .f32) (x9 : Vec Ideal S1x1024 .f32) (x10 : Vec Ideal S1x1024 .f32) (x11 : Vec Ideal S1x1024 .f32) (x12 : Vec Ideal S1024x32 .bf16) (x13 : Vec Ideal S1x32 .f32) (xs0 : Vec Ideal S1x32 .f32) :
    out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 xs0 = bE x0 x1 x2 x3 x4 x5 x6 x7 x8 x9 x10 x11 x12 x13 xs0 := by
  unfold out0_B_16
  rw [View.read_writes_eq_canon _ _ _ (cover0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S512x1024) hz, View.ld_unit_zero (S := S512x512) hz, View.ld_unit_zero (S := S1024x1024) hz, View.ld_unit_zero (S := S1x1024) hz, View.ld_unit_zero (S := S1024x32) hz, View.ld_unit_zero (S := S1x32) hz, shapeCast_self]
  rfl

theorem outA_14 (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x32 .bf16) (harg13 : arg13.IsWhole) (arg14 : Memref sig .tc .vmem S1x32 .f32) (harg14 : arg14.IsWhole) (arg15 : Memref sig .tc .vmem S512x1024 .f32) (harg15 : arg15.IsWhole) (arg16 : Memref sig .tc .vmem S2x1024x256 .bf16) (harg16 : arg16.IsWhole) (arg17 : Memref sig .tc .vmem S4x512 .i32) (harg17 : arg17.IsWhole) (arg18 : Memref sig .tc .vmem S4x512 .i32) (harg18 : arg18.IsWhole) (arg19 : Memref sig .tc .vmem S512x4 .f32) (harg19 : arg19.IsWhole) (arg20 : Memref sig .tc .vmem S1x32 .f32) (harg20 : arg20.IsWhole) (arg21 : Memref sig .tc .vmem S1x32 .f32) (harg21 : arg21.IsWhole) (hc0 : cond0_0 i)
    (x0 : Vec Ideal S512x1024 .f32) (x1 : Vec Ideal S512x512 .bf16) (x2 : Vec Ideal S512x512 .bf16) (x3 : Vec Ideal S512x1024 .bf16) (x4 : Vec Ideal S512x1024 .bf16) (x5 : Vec Ideal S512x1024 .bf16) (x6 : Vec Ideal S512x1024 .bf16) (x7 : Vec Ideal S1024x1024 .bf16) (x8 : Vec Ideal S1x1024 .f32) (x9 : Vec Ideal S1x1024 .f32) (x10 : Vec Ideal S1x1024 .f32) (x11 : Vec Ideal S1x1024 .f32) (x12 : Vec Ideal S1024x32 .bf16) (x13 : Vec Ideal S1x32 .f32) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 = bX x0 x1 x2 x3 x4 x5 x6 x7 x8 := by
  unfold out0_A_14
  rw [View.read_writes_eq_canon _ _ _ (cover0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S512x1024) hz, View.ld_unit_zero (S := S512x512) hz, View.ld_unit_zero (S := S1024x1024) hz, View.ld_unit_zero (S := S1x1024) hz, View.ld_unit_zero (S := S1024x32) hz, View.ld_unit_zero (S := S1x32) hz, shapeCast_self]
  rfl

theorem outA_16 (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x32 .bf16) (harg13 : arg13.IsWhole) (arg14 : Memref sig .tc .vmem S1x32 .f32) (harg14 : arg14.IsWhole) (arg15 : Memref sig .tc .vmem S512x1024 .f32) (harg15 : arg15.IsWhole) (arg16 : Memref sig .tc .vmem S2x1024x256 .bf16) (harg16 : arg16.IsWhole) (arg17 : Memref sig .tc .vmem S4x512 .i32) (harg17 : arg17.IsWhole) (arg18 : Memref sig .tc .vmem S4x512 .i32) (harg18 : arg18.IsWhole) (arg19 : Memref sig .tc .vmem S512x4 .f32) (harg19 : arg19.IsWhole) (arg20 : Memref sig .tc .vmem S1x32 .f32) (harg20 : arg20.IsWhole) (arg21 : Memref sig .tc .vmem S1x32 .f32) (harg21 : arg21.IsWhole) (hc0 : cond0_0 i)
    (x0 : Vec Ideal S512x1024 .f32) (x1 : Vec Ideal S512x512 .bf16) (x2 : Vec Ideal S512x512 .bf16) (x3 : Vec Ideal S512x1024 .bf16) (x4 : Vec Ideal S512x1024 .bf16) (x5 : Vec Ideal S512x1024 .bf16) (x6 : Vec Ideal S512x1024 .bf16) (x7 : Vec Ideal S1024x1024 .bf16) (x8 : Vec Ideal S1x1024 .f32) (x9 : Vec Ideal S1x1024 .f32) (x10 : Vec Ideal S1x1024 .f32) (x11 : Vec Ideal S1x1024 .f32) (x12 : Vec Ideal S1024x32 .bf16) (x13 : Vec Ideal S1x32 .f32) :
    ∃ z, out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 = bE x0 x1 x2 x3 x4 x5 x6 x7 x8 x9 x10 x11 x12 x13 z := by
  unfold out0_A_16
  rw [View.read_writes_eq_canon _ _ _ (cover0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S512x1024) hz, View.ld_unit_zero (S := S512x512) hz, View.ld_unit_zero (S := S1024x1024) hz, View.ld_unit_zero (S := S1x1024) hz, View.ld_unit_zero (S := S1024x32) hz, View.ld_unit_zero (S := S1x32) hz, shapeCast_self]
  exact ⟨_, rfl⟩

theorem outA_18 (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x32 .bf16) (harg13 : arg13.IsWhole) (arg14 : Memref sig .tc .vmem S1x32 .f32) (harg14 : arg14.IsWhole) (arg15 : Memref sig .tc .vmem S512x1024 .f32) (harg15 : arg15.IsWhole) (arg16 : Memref sig .tc .vmem S2x1024x256 .bf16) (harg16 : arg16.IsWhole) (arg17 : Memref sig .tc .vmem S4x512 .i32) (harg17 : arg17.IsWhole) (arg18 : Memref sig .tc .vmem S4x512 .i32) (harg18 : arg18.IsWhole) (arg19 : Memref sig .tc .vmem S512x4 .f32) (harg19 : arg19.IsWhole) (arg20 : Memref sig .tc .vmem S1x32 .f32) (harg20 : arg20.IsWhole) (arg21 : Memref sig .tc .vmem S1x32 .f32) (harg21 : arg21.IsWhole) (hc0 : cond0_0 i)
    (x0 : Vec Ideal S512x1024 .f32) (x1 : Vec Ideal S512x512 .bf16) (x2 : Vec Ideal S512x512 .bf16) (x3 : Vec Ideal S512x1024 .bf16) (x4 : Vec Ideal S512x1024 .bf16) (x5 : Vec Ideal S512x1024 .bf16) (x6 : Vec Ideal S512x1024 .bf16) (x7 : Vec Ideal S1024x1024 .bf16) (x8 : Vec Ideal S1x1024 .f32) (x9 : Vec Ideal S1x1024 .f32) (x10 : Vec Ideal S1x1024 .f32) (x11 : Vec Ideal S1x1024 .f32) (x12 : Vec Ideal S1024x32 .bf16) (x13 : Vec Ideal S1x32 .f32) (y : S512x4.Idx) :
    out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 y = bW x0 x1 x2 x3 x4 x5 x6 x7 x8 x9 x10 x11 x12 x13 y := by
  have cv := cover0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13
  unfold out0_A_18
  rw [View.read_writes_eq_canon _ _ _ cv]
  replace cv := cv y
  revert cv
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S512x1024) hz, View.ld_unit_zero (S := S512x512) hz, View.ld_unit_zero (S := S1024x1024) hz, View.ld_unit_zero (S := S1x1024) hz, View.ld_unit_zero (S := S1024x32) hz, View.ld_unit_zero (S := S1x32) hz, shapeCast_self]
  intro cv
  refine View.canon_apply_of_pieces (bW x0 x1 x2 x3 x4 x5 x6 x7 x8 x9 x10 x11 x12 x13) _ ?_ y cv
  exact columns_pieces (bU x0 x1 x2 x3 x4 x5 x6 x7 x8 x9 x10 x11) x12 x13

theorem outB_18 (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x32 .bf16) (harg13 : arg13.IsWhole) (arg14 : Memref sig .tc .vmem S1x32 .f32) (harg14 : arg14.IsWhole) (arg15 : Memref sig .tc .vmem S512x1024 .f32) (harg15 : arg15.IsWhole) (arg16 : Memref sig .tc .vmem S2x1024x256 .bf16) (harg16 : arg16.IsWhole) (arg17 : Memref sig .tc .vmem S4x512 .i32) (harg17 : arg17.IsWhole) (arg18 : Memref sig .tc .vmem S4x512 .i32) (harg18 : arg18.IsWhole) (arg19 : Memref sig .tc .vmem S512x4 .f32) (harg19 : arg19.IsWhole) (arg20 : Memref sig .tc .vmem S1x32 .f32) (harg20 : arg20.IsWhole) (arg21 : Memref sig .tc .vmem S1x32 .f32) (harg21 : arg21.IsWhole) (hc0 : ¬cond0_0 i)
    (x0 : Vec Ideal S512x1024 .f32) (x1 : Vec Ideal S512x512 .bf16) (x2 : Vec Ideal S512x512 .bf16) (x3 : Vec Ideal S512x1024 .bf16) (x4 : Vec Ideal S512x1024 .bf16) (x5 : Vec Ideal S512x1024 .bf16) (x6 : Vec Ideal S512x1024 .bf16) (x7 : Vec Ideal S1024x1024 .bf16) (x8 : Vec Ideal S1x1024 .f32) (x9 : Vec Ideal S1x1024 .f32) (x10 : Vec Ideal S1x1024 .f32) (x11 : Vec Ideal S1x1024 .f32) (x12 : Vec Ideal S1024x32 .bf16) (x13 : Vec Ideal S1x32 .f32) (xs0 : Vec Ideal S1x32 .f32) (y : S512x4.Idx) :
    out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 xs0 y = bW x0 x1 x2 x3 x4 x5 x6 x7 x8 x9 x10 x11 x12 x13 y := by
  have cv := cover0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 xs0
  unfold out0_B_18
  rw [View.read_writes_eq_canon _ _ _ cv]
  replace cv := cv y
  revert cv
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S512x1024) hz, View.ld_unit_zero (S := S512x512) hz, View.ld_unit_zero (S := S1024x1024) hz, View.ld_unit_zero (S := S1x1024) hz, View.ld_unit_zero (S := S1024x32) hz, View.ld_unit_zero (S := S1x32) hz, shapeCast_self]
  intro cv
  refine View.canon_apply_of_pieces (bW x0 x1 x2 x3 x4 x5 x6 x7 x8 x9 x10 x11 x12 x13) _ ?_ y cv
  exact columns_pieces (bU x0 x1 x2 x3 x4 x5 x6 x7 x8 x9 x10 x11) x12 x13

end Cert.Route
-- ==== Proof.Route.Blocks.lean ====
/- The router call's blocks in terms of the program's arguments, and the arrays of its three results. -/
module

public import proofs.«01_k».proof.Proof.Gen.Kernel3Ideal.Value
public import proofs.«01_k».proof.Proof.Route.Body

@[expose] public section

set_option maxRecDepth 16384
set_option Elab.async false

noncomputable section

namespace Cert.Route

open Cert.Kernel3Ideal Cert.Kernel3Ideal.Gen
open Idealize.ShloMosaic Idealize.ShloMosaic.TcCoe
open Idealize.ShloMosaic.Pipeline (Dat Window)

theorem ix2_ext {n0 n1 : ℕ} {i j : (⟨2, ![n0, n1]⟩ : Shape).Idx} (h0 : (i 0).val = (j 0).val) (h1 : (i 1).val = (j 1).val) : i = j := by
  funext a
  fin_cases a
  · exact Fin.ext h0
  · exact Fin.ext h1

variable (m : (ℓ : Loc nD τ sig) → Buf (Elt Ideal) ℓ)

/-- The program's arguments, in order: the rows, the two branches, their two gates, their two projections, the output projection,
    the gate row, the norm's three rows, the router and its bias. -/
abbrev a0 : FVec Ideal S16384x1024 .f32 := m (((0 : Dev nD) : Thread nD τ).loc main_arg0)
abbrev a1 : FVec Ideal S16384x512 .f32 := m (((0 : Dev nD) : Thread nD τ).loc main_arg1)
abbrev a2 : FVec Ideal S16384x512 .f32 := m (((0 : Dev nD) : Thread nD τ).loc main_arg2)
abbrev a3 : FVec Ideal S16384x1024 .f32 := m (((0 : Dev nD) : Thread nD τ).loc main_arg3)
abbrev a4 : FVec Ideal S16384x1024 .f32 := m (((0 : Dev nD) : Thread nD τ).loc main_arg4)
abbrev a5 : FVec Ideal S512x1024 .f32 := m (((0 : Dev nD) : Thread nD τ).loc main_arg5)
abbrev a6 : FVec Ideal S512x1024 .f32 := m (((0 : Dev nD) : Thread nD τ).loc main_arg6)
abbrev a7 : FVec Ideal S1024x1024 .f32 := m (((0 : Dev nD) : Thread nD τ).loc main_arg7)
abbrev a8 : FVec Ideal S1x1024 .f32 := m (((0 : Dev nD) : Thread nD τ).loc main_arg8)
abbrev a9 : FVec Ideal S1x1024 .f32 := m (((0 : Dev nD) : Thread nD τ).loc main_arg9)
abbrev a10 : FVec Ideal S1x1024 .f32 := m (((0 : Dev nD) : Thread nD τ).loc main_arg10)
abbrev a11 : FVec Ideal S1x1024 .f32 := m (((0 : Dev nD) : Thread nD τ).loc main_arg11)
abbrev a12 : FVec Ideal S1024x32 .f32 := m (((0 : Dev nD) : Thread nD τ).loc main_arg12)
abbrev a13 : FVec Ideal S1x32 .f32 := m (((0 : Dev nD) : Thread nD τ).loc main_arg13)

theorem at0 (j : S16384x1024.Idx) : V m 0 main_arg0 j = a0 m j := congrFun (V_main_arg0 m 0) j

theorem V_1 : V m 0 main_v0 = truncf (F := Ideal) .bf16 (a1 m) bitsLt_bf16_f32 := by
  unfold V
  after_results_simp

theorem at1 (j : S16384x512.Idx) : V m 0 main_v0 j = a1 m j := congrFun (V_1 m) j

theorem V_2 : V m 0 main_v1 = truncf (F := Ideal) .bf16 (a2 m) bitsLt_bf16_f32 := by
  unfold V
  after_results_simp

theorem at2 (j : S16384x512.Idx) : V m 0 main_v1 j = a2 m j := congrFun (V_2 m) j

theorem V_3 : V m 0 main_v2 = truncf (F := Ideal) .bf16 (a3 m) bitsLt_bf16_f32 := by
  unfold V
  after_results_simp

theorem at3 (j : S16384x1024.Idx) : V m 0 main_v2 j = a3 m j := congrFun (V_3 m) j

theorem V_4 : V m 0 main_v3 = truncf (F := Ideal) .bf16 (a4 m) bitsLt_bf16_f32 := by
  unfold V
  after_results_simp

theorem at4 (j : S16384x1024.Idx) : V m 0 main_v3 j = a4 m j := congrFun (V_4 m) j

theorem V_5 : V m 0 main_v4 = truncf (F := Ideal) .bf16 (a5 m) bitsLt_bf16_f32 := by
  unfold V
  after_results_simp

theorem at5 (j : S512x1024.Idx) : V m 0 main_v4 j = a5 m j := congrFun (V_5 m) j

theorem V_6 : V m 0 main_v5 = truncf (F := Ideal) .bf16 (a6 m) bitsLt_bf16_f32 := by
  unfold V
  after_results_simp

theorem at6 (j : S512x1024.Idx) : V m 0 main_v5 j = a6 m j := congrFun (V_6 m) j

theorem V_7 : V m 0 main_v6 = truncf (F := Ideal) .bf16 (a7 m) bitsLt_bf16_f32 := by
  unfold V
  after_results_simp

theorem at7 (j : S1024x1024.Idx) : V m 0 main_v6 j = a7 m j := congrFun (V_7 m) j

theorem at8 (j : S1x1024.Idx) : V m 0 main_arg8 j = a8 m j := congrFun (V_main_arg8 m 0) j

theorem at9 (j : S1x1024.Idx) : V m 0 main_arg9 j = a9 m j := congrFun (V_main_arg9 m 0) j

theorem at10 (j : S1x1024.Idx) : V m 0 main_arg10 j = a10 m j := congrFun (V_main_arg10 m 0) j

theorem at11 (j : S1x1024.Idx) : V m 0 main_arg11 j = a11 m j := congrFun (V_main_arg11 m 0) j

theorem V_12 : V m 0 main_v7 = truncf (F := Ideal) .bf16 (a12 m) bitsLt_bf16_f32 := by
  unfold V
  after_results_simp

theorem at12 (j : S1024x32.Idx) : V m 0 main_v7 j = a12 m j := congrFun (V_12 m) j

theorem at13 (j : S1x32.Idx) : V m 0 main_arg13 j = a13 m j := congrFun (V_main_arg13 m 0) j

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![t.val, 0] := by decide +kernel
theorem index4 : ∀ t : Fin grid0.N, win0_4.index t = ![t.val, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![0, 0] := by decide +kernel
theorem index10 : ∀ t : Fin grid0.N, win0_10.index t = ![0, 0] := by decide +kernel
theorem index11 : ∀ t : Fin grid0.N, win0_11.index t = ![0, 0] := by decide +kernel
theorem index12 : ∀ t : Fin grid0.N, win0_12.index t = ![0, 0] := by decide +kernel
theorem index13 : ∀ t : Fin grid0.N, win0_13.index t = ![0, 0] := by decide +kernel
theorem index14 : ∀ t : Fin grid0.N, win0_14.index t = ![t.val, 0] := by decide +kernel
theorem index18 : ∀ t : Fin grid0.N, win0_18.index t = ![t.val, 0] := by decide +kernel
theorem index16 : ∀ t : Fin grid0.N, win0_16.index t = ![0, t.val] := by decide +kernel
theorem flush14 : ∀ t : Fin grid0.N, win0_14.flush t = true := by decide +kernel
theorem flush16 : ∀ t : Fin grid0.N, win0_16.flush t = true := by decide +kernel
theorem flush18 : ∀ t : Fin grid0.N, win0_18.flush t = true := by decide +kernel

theorem blk0 (t : Fin cfg0.N) (r : Fin 512) (k : Fin 1024) :
    iblk m 0 0 t (ix2 (n0 := 512) (n1 := 1024) r k) = a0 m (ix2 (n0 := 16384) (n1 := 1024) ⟨t.val * 512 + r.val, by have ht : t.val < 32 := t.isLt; omega⟩ k) := by
  refine Eq.trans ?_ (at0 m _)
  unfold iblk
  rw [View.read_apply]
  refine congrArg (V m 0 main_arg0) (ix2_ext (n0 := 16384) (n1 := 1024) ?_ ?_)
  · refine (Window.rect_emb_val (cfg0.win 0) t _ (0 : Fin 2)).trans ?_
    rw [show (cfg0.win 0).index t = _ from index0 t]
    rfl
  · refine (Window.rect_emb_val (cfg0.win 0) t _ (1 : Fin 2)).trans ?_
    rw [show (cfg0.win 0).index t = _ from index0 t]
    show 0 * 1024 + k.val = k.val
    omega

theorem blk1 (t : Fin cfg0.N) (r : Fin 512) (k : Fin 512) :
    iblk m 0 1 t (ix2 (n0 := 512) (n1 := 512) r k) = a1 m (ix2 (n0 := 16384) (n1 := 512) ⟨t.val * 512 + r.val, by have ht : t.val < 32 := t.isLt; omega⟩ k) := by
  refine Eq.trans ?_ (at1 m _)
  unfold iblk
  rw [View.read_apply]
  refine congrArg (V m 0 main_v0) (ix2_ext (n0 := 16384) (n1 := 512) ?_ ?_)
  · refine (Window.rect_emb_val (cfg0.win 1) t _ (0 : Fin 2)).trans ?_
    rw [show (cfg0.win 1).index t = _ from index1 t]
    rfl
  · refine (Window.rect_emb_val (cfg0.win 1) t _ (1 : Fin 2)).trans ?_
    rw [show (cfg0.win 1).index t = _ from index1 t]
    show 0 * 512 + k.val = k.val
    omega

theorem blk2 (t : Fin cfg0.N) (r : Fin 512) (k : Fin 512) :
    iblk m 0 2 t (ix2 (n0 := 512) (n1 := 512) r k) = a2 m (ix2 (n0 := 16384) (n1 := 512) ⟨t.val * 512 + r.val, by have ht : t.val < 32 := t.isLt; omega⟩ k) := by
  refine Eq.trans ?_ (at2 m _)
  unfold iblk
  rw [View.read_apply]
  refine congrArg (V m 0 main_v1) (ix2_ext (n0 := 16384) (n1 := 512) ?_ ?_)
  · refine (Window.rect_emb_val (cfg0.win 2) t _ (0 : Fin 2)).trans ?_
    rw [show (cfg0.win 2).index t = _ from index2 t]
    rfl
  · refine (Window.rect_emb_val (cfg0.win 2) t _ (1 : Fin 2)).trans ?_
    rw [show (cfg0.win 2).index t = _ from index2 t]
    show 0 * 512 + k.val = k.val
    omega

theorem blk3 (t : Fin cfg0.N) (r : Fin 512) (k : Fin 1024) :
    iblk m 0 3 t (ix2 (n0 := 512) (n1 := 1024) r k) = a3 m (ix2 (n0 := 16384) (n1 := 1024) ⟨t.val * 512 + r.val, by have ht : t.val < 32 := t.isLt; omega⟩ k) := by
  refine Eq.trans ?_ (at3 m _)
  unfold iblk
  rw [View.read_apply]
  refine congrArg (V m 0 main_v2) (ix2_ext (n0 := 16384) (n1 := 1024) ?_ ?_)
  · refine (Window.rect_emb_val (cfg0.win 3) t _ (0 : Fin 2)).trans ?_
    rw [show (cfg0.win 3).index t = _ from index3 t]
    rfl
  · refine (Window.rect_emb_val (cfg0.win 3) t _ (1 : Fin 2)).trans ?_
    rw [show (cfg0.win 3).index t = _ from index3 t]
    show 0 * 1024 + k.val = k.val
    omega

theorem blk4 (t : Fin cfg0.N) (r : Fin 512) (k : Fin 1024) :
    iblk m 0 4 t (ix2 (n0 := 512) (n1 := 1024) r k) = a4 m (ix2 (n0 := 16384) (n1 := 1024) ⟨t.val * 512 + r.val, by have ht : t.val < 32 := t.isLt; omega⟩ k) := by
  refine Eq.trans ?_ (at4 m _)
  unfold iblk
  rw [View.read_apply]
  refine congrArg (V m 0 main_v3) (ix2_ext (n0 := 16384) (n1 := 1024) ?_ ?_)
  · refine (Window.rect_emb_val (cfg0.win 4) t _ (0 : Fin 2)).trans ?_
    rw [show (cfg0.win 4).index t = _ from index4 t]
    rfl
  · refine (Window.rect_emb_val (cfg0.win 4) t _ (1 : Fin 2)).trans ?_
    rw [show (cfg0.win 4).index t = _ from index4 t]
    show 0 * 1024 + k.val = k.val
    omega

theorem blk5 (t : Fin cfg0.N) (r : Fin 512) (k : Fin 1024) :
    iblk m 0 5 t (ix2 (n0 := 512) (n1 := 1024) r k) = a5 m (ix2 (n0 := 512) (n1 := 1024) r k) := by
  refine Eq.trans ?_ (at5 m _)
  unfold iblk
  rw [View.read_apply]
  refine congrArg (V m 0 main_v4) (ix2_ext (n0 := 512) (n1 := 1024) ?_ ?_)
  · refine (Window.rect_emb_val (cfg0.win 5) t _ (0 : Fin 2)).trans ?_
    rw [show (cfg0.win 5).index t = _ from index5 t]
    show 0 * 512 + r.val = r.val
    omega
  · refine (Window.rect_emb_val (cfg0.win 5) t _ (1 : Fin 2)).trans ?_
    rw [show (cfg0.win 5).index t = _ from index5 t]
    show 0 * 1024 + k.val = k.val
    omega

theorem blk6 (t : Fin cfg0.N) (r : Fin 512) (k : Fin 1024) :
    iblk m 0 6 t (ix2 (n0 := 512) (n1 := 1024) r k) = a6 m (ix2 (n0 := 512) (n1 := 1024) r k) := by
  refine Eq.trans ?_ (at6 m _)
  unfold iblk
  rw [View.read_apply]
  refine congrArg (V m 0 main_v5) (ix2_ext (n0 := 512) (n1 := 1024) ?_ ?_)
  · refine (Window.rect_emb_val (cfg0.win 6) t _ (0 : Fin 2)).trans ?_
    rw [show (cfg0.win 6).index t = _ from index6 t]
    show 0 * 512 + r.val = r.val
    omega
  · refine (Window.rect_emb_val (cfg0.win 6) t _ (1 : Fin 2)).trans ?_
    rw [show (cfg0.win 6).index t = _ from index6 t]
    show 0 * 1024 + k.val = k.val
    omega

theorem blk7 (t : Fin cfg0.N) (r : Fin 1024) (k : Fin 1024) :
    iblk m 0 7 t (ix2 (n0 := 1024) (n1 := 1024) r k) = a7 m (ix2 (n0 := 1024) (n1 := 1024) r k) := by
  refine Eq.trans ?_ (at7 m _)
  unfold iblk
  rw [View.read_apply]
  refine congrArg (V m 0 main_v6) (ix2_ext (n0 := 1024) (n1 := 1024) ?_ ?_)
  · refine (Window.rect_emb_val (cfg0.win 7) t _ (0 : Fin 2)).trans ?_
    rw [show (cfg0.win 7).index t = _ from index7 t]
    show 0 * 1024 + r.val = r.val
    omega
  · refine (Window.rect_emb_val (cfg0.win 7) t _ (1 : Fin 2)).trans ?_
    rw [show (cfg0.win 7).index t = _ from index7 t]
    show 0 * 1024 + k.val = k.val
    omega

theorem blk8 (t : Fin cfg0.N) (r : Fin 1) (k : Fin 1024) :
    iblk m 0 8 t (ix2 (n0 := 1) (n1 := 1024) r k) = a8 m (ix2 (n0 := 1) (n1 := 1024) r k) := by
  refine Eq.trans ?_ (at8 m _)
  unfold iblk
  rw [View.read_apply]
  refine congrArg (V m 0 main_arg8) (ix2_ext (n0 := 1) (n1 := 1024) ?_ ?_)
  · refine (Window.rect_emb_val (cfg0.win 8) t _ (0 : Fin 2)).trans ?_
    rw [show (cfg0.win 8).index t = _ from index8 t]
    show 0 * 1 + r.val = r.val
    omega
  · refine (Window.rect_emb_val (cfg0.win 8) t _ (1 : Fin 2)).trans ?_
    rw [show (cfg0.win 8).index t = _ from index8 t]
    show 0 * 1024 + k.val = k.val
    omega

theorem blk9 (t : Fin cfg0.N) (r : Fin 1) (k : Fin 1024) :
    iblk m 0 9 t (ix2 (n0 := 1) (n1 := 1024) r k) = a9 m (ix2 (n0 := 1) (n1 := 1024) r k) := by
  refine Eq.trans ?_ (at9 m _)
  unfold iblk
  rw [View.read_apply]
  refine congrArg (V m 0 main_arg9) (ix2_ext (n0 := 1) (n1 := 1024) ?_ ?_)
  · refine (Window.rect_emb_val (cfg0.win 9) t _ (0 : Fin 2)).trans ?_
    rw [show (cfg0.win 9).index t = _ from index9 t]
    show 0 * 1 + r.val = r.val
    omega
  · refine (Window.rect_emb_val (cfg0.win 9) t _ (1 : Fin 2)).trans ?_
    rw [show (cfg0.win 9).index t = _ from index9 t]
    show 0 * 1024 + k.val = k.val
    omega

theorem blk10 (t : Fin cfg0.N) (r : Fin 1) (k : Fin 1024) :
    iblk m 0 10 t (ix2 (n0 := 1) (n1 := 1024) r k) = a10 m (ix2 (n0 := 1) (n1 := 1024) r k) := by
  refine Eq.trans ?_ (at10 m _)
  unfold iblk
  rw [View.read_apply]
  refine congrArg (V m 0 main_arg10) (ix2_ext (n0 := 1) (n1 := 1024) ?_ ?_)
  · refine (Window.rect_emb_val (cfg0.win 10) t _ (0 : Fin 2)).trans ?_
    rw [show (cfg0.win 10).index t = _ from index10 t]
    show 0 * 1 + r.val = r.val
    omega
  · refine (Window.rect_emb_val (cfg0.win 10) t _ (1 : Fin 2)).trans ?_
    rw [show (cfg0.win 10).index t = _ from index10 t]
    show 0 * 1024 + k.val = k.val
    omega

theorem blk11 (t : Fin cfg0.N) (r : Fin 1) (k : Fin 1024) :
    iblk m 0 11 t (ix2 (n0 := 1) (n1 := 1024) r k) = a11 m (ix2 (n0 := 1) (n1 := 1024) r k) := by
  refine Eq.trans ?_ (at11 m _)
  unfold iblk
  rw [View.read_apply]
  refine congrArg (V m 0 main_arg11) (ix2_ext (n0 := 1) (n1 := 1024) ?_ ?_)
  · refine (Window.rect_emb_val (cfg0.win 11) t _ (0 : Fin 2)).trans ?_
    rw [show (cfg0.win 11).index t = _ from index11 t]
    show 0 * 1 + r.val = r.val
    omega
  · refine (Window.rect_emb_val (cfg0.win 11) t _ (1 : Fin 2)).trans ?_
    rw [show (cfg0.win 11).index t = _ from index11 t]
    show 0 * 1024 + k.val = k.val
    omega

theorem blk12 (t : Fin cfg0.N) (r : Fin 1024) (k : Fin 32) :
    iblk m 0 12 t (ix2 (n0 := 1024) (n1 := 32) r k) = a12 m (ix2 (n0 := 1024) (n1 := 32) r k) := by
  refine Eq.trans ?_ (at12 m _)
  unfold iblk
  rw [View.read_apply]
  refine congrArg (V m 0 main_v7) (ix2_ext (n0 := 1024) (n1 := 32) ?_ ?_)
  · refine (Window.rect_emb_val (cfg0.win 12) t _ (0 : Fin 2)).trans ?_
    rw [show (cfg0.win 12).index t = _ from index12 t]
    show 0 * 1024 + r.val = r.val
    omega
  · refine (Window.rect_emb_val (cfg0.win 12) t _ (1 : Fin 2)).trans ?_
    rw [show (cfg0.win 12).index t = _ from index12 t]
    show 0 * 32 + k.val = k.val
    omega

theorem blk13 (t : Fin cfg0.N) (r : Fin 1) (k : Fin 32) :
    iblk m 0 13 t (ix2 (n0 := 1) (n1 := 32) r k) = a13 m (ix2 (n0 := 1) (n1 := 32) r k) := by
  refine Eq.trans ?_ (at13 m _)
  unfold iblk
  rw [View.read_apply]
  refine congrArg (V m 0 main_arg13) (ix2_ext (n0 := 1) (n1 := 32) ?_ ?_)
  · refine (Window.rect_emb_val (cfg0.win 13) t _ (0 : Fin 2)).trans ?_
    rw [show (cfg0.win 13).index t = _ from index13 t]
    show 0 * 1 + r.val = r.val
    omega
  · refine (Window.rect_emb_val (cfg0.win 13) t _ (1 : Fin 2)).trans ?_
    rw [show (cfg0.win 13).index t = _ from index13 t]
    show 0 * 32 + k.val = k.val
    omega

/-- Token `r`'s residual row. -/
def tokX (r : Fin 16384) (c : Fin 1024) : EReal :=
  x1Of (fun k => a0 m (ix2 (n0 := 16384) (n1 := 1024) r k)) (fun k => a8 m (ix2 (n0 := 1) (n1 := 1024) 0 k))
    (fun k => a3 m (ix2 (n0 := 16384) (n1 := 1024) r k)) (fun k => a4 m (ix2 (n0 := 16384) (n1 := 1024) r k))
    (fun j => a1 m (ix2 (n0 := 16384) (n1 := 512) r j)) (fun j => a2 m (ix2 (n0 := 16384) (n1 := 512) r j))
    (fun j k => a5 m (ix2 (n0 := 512) (n1 := 1024) j k)) (fun j k => a6 m (ix2 (n0 := 512) (n1 := 1024) j k))
    (fun j k => a7 m (ix2 (n0 := 1024) (n1 := 1024) j k)) c
/-- Token `r`'s normed row. -/
def tokU (r : Fin 16384) (c : Fin 1024) : EReal :=
  uOf (tokX m r) (fun k => a9 m (ix2 (n0 := 1) (n1 := 1024) 0 k)) (fun k => a10 m (ix2 (n0 := 1) (n1 := 1024) 0 k))
    (fun k => a11 m (ix2 (n0 := 1) (n1 := 1024) 0 k)) c
/-- Token `r`'s scores. -/
def tokS (r : Fin 16384) : Row :=
  scoreOf (tokU m r) (fun k e => a12 m (ix2 (n0 := 1024) (n1 := 32) k e)) (fun e => a13 m (ix2 (n0 := 1) (n1 := 32) 0 e))
/-- Every token's four largest scores are above minus infinity. -/
def Scored : Prop := ∀ r k, ⊥ < tokS m r (topPos (tokS m r) k)

def outX : FVec Ideal S16384x1024 .f32 := fun i => tokX m (i 0) (i 1)
def outE : IVec S4x16384 32 := fun i => BitVec.ofNat 32 (topPos (tokS m (i 1)) (i 0)).val
def outW : FVec Ideal S16384x4 .f32 := fun i => weightOf (fun k => tokS m (i 0) (topPos (tokS m (i 0)) k)) (i 1)

theorem bX_at (t : Fin cfg0.N) (r : Fin 512) (c : Fin 1024) : bX (iblk m 0 0 t) (iblk m 0 1 t) (iblk m 0 2 t) (iblk m 0 3 t) (iblk m 0 4 t) (iblk m 0 5 t) (iblk m 0 6 t) (iblk m 0 7 t) (iblk m 0 8 t) (ix2 r c) = tokX m ⟨t.val * 512 + r.val, by have ht : t.val < 32 := t.isLt; omega⟩ c := by
  unfold bX
  exact (pay5_at _ _ _ _ _ _ _ _ _ r c).trans (x1Of_congr (blk0 m t r) (blk8 m t 0) (blk3 m t r) (blk4 m t r) (blk1 m t r) (blk2 m t r)
    (blk5 m t) (blk6 m t) (blk7 m t) c)

theorem bU_at (t : Fin cfg0.N) (r : Fin 512) (c : Fin 1024) : bU (iblk m 0 0 t) (iblk m 0 1 t) (iblk m 0 2 t) (iblk m 0 3 t) (iblk m 0 4 t) (iblk m 0 5 t) (iblk m 0 6 t) (iblk m 0 7 t) (iblk m 0 8 t) (iblk m 0 9 t) (iblk m 0 10 t) (iblk m 0 11 t) (ix2 r c) = tokU m ⟨t.val * 512 + r.val, by have ht : t.val < 32 := t.isLt; omega⟩ c := by
  unfold bU
  refine (pay6_at _ _ _ _ r c).trans ?_
  unfold tokU
  rw [funext (bX_at m t r), funext (blk9 m t 0), funext (blk10 m t 0), funext (blk11 m t 0)]

theorem scores_at (t : Fin cfg0.N) (r : Fin 512) : scores (bU (iblk m 0 0 t) (iblk m 0 1 t) (iblk m 0 2 t) (iblk m 0 3 t) (iblk m 0 4 t) (iblk m 0 5 t) (iblk m 0 6 t) (iblk m 0 7 t) (iblk m 0 8 t) (iblk m 0 9 t) (iblk m 0 10 t) (iblk m 0 11 t)) (iblk m 0 12 t) (iblk m 0 13 t) r = tokS m ⟨t.val * 512 + r.val, by have ht : t.val < 32 := t.isLt; omega⟩ := by
  funext e
  refine (pay13_at _ _ _ r e).trans ?_
  unfold tokS
  rw [funext (bU_at m t r), funext fun j => funext (blk12 m t j), funext (blk13 m t 0)]

theorem bE_at (h : Scored m) (t : Fin cfg0.N) (z : Vec Ideal S1x32 .f32) (k : Fin 4) (r : Fin 512) : bE (iblk m 0 0 t) (iblk m 0 1 t) (iblk m 0 2 t) (iblk m 0 3 t) (iblk m 0 4 t) (iblk m 0 5 t) (iblk m 0 6 t) (iblk m 0 7 t) (iblk m 0 8 t) (iblk m 0 9 t) (iblk m 0 10 t) (iblk m 0 11 t) (iblk m 0 12 t) (iblk m 0 13 t) z (ix2 k r)
    = outE m (ix2 (n0 := 4) (n1 := 16384) k ⟨t.val * 512 + r.val, by have ht : t.val < 32 := t.isLt; omega⟩) := by
  have e := pos_eq (top (tokS m ⟨t.val * 512 + r.val, by have ht : t.val < 32 := t.isLt; omega⟩) (h _)) k
  unfold bE
  refine (picks_at _ _ _ r _ k ?_).trans ?_
  · rw [scores_at, e, BitVec.toNat_ofNat]
    have := (topPos (tokS m ⟨t.val * 512 + r.val, by have ht : t.val < 32 := t.isLt; omega⟩) k).isLt
    omega
  · rw [scores_at, e]
    rfl

theorem bW_at (h : Scored m) (t : Fin cfg0.N) (r : Fin 512) (k : Fin 4) : bW (iblk m 0 0 t) (iblk m 0 1 t) (iblk m 0 2 t) (iblk m 0 3 t) (iblk m 0 4 t) (iblk m 0 5 t) (iblk m 0 6 t) (iblk m 0 7 t) (iblk m 0 8 t) (iblk m 0 9 t) (iblk m 0 10 t) (iblk m 0 11 t) (iblk m 0 12 t) (iblk m 0 13 t) (ix2 r k)
    = outW m (ix2 (n0 := 16384) (n1 := 4) ⟨t.val * 512 + r.val, by have ht : t.val < 32 := t.isLt; omega⟩ k) := by
  unfold bW
  show weightOf (vals (bU (iblk m 0 0 t) (iblk m 0 1 t) (iblk m 0 2 t) (iblk m 0 3 t) (iblk m 0 4 t) (iblk m 0 5 t) (iblk m 0 6 t) (iblk m 0 7 t) (iblk m 0 8 t) (iblk m 0 9 t) (iblk m 0 10 t) (iblk m 0 11 t)) (iblk m 0 12 t) (iblk m 0 13 t) r) k = _
  unfold vals
  rw [scores_at]
  exact congrArg (fun v => weightOf v k) (funext fun k' => val_eq (top (tokS m ⟨t.val * 512 + r.val, by have ht : t.val < 32 := t.isLt; omega⟩) (h _)) k')

theorem emb14 (t : Fin cfg0.N) (r : Fin 512) (k : Fin 1024) : ((cfg0.win 14).blk t).view.emb (ix2 (n0 := 512) (n1 := 1024) r k) = ix2 (n0 := 16384) (n1 := 1024) ⟨t.val * 512 + r.val, by have ht : t.val < 32 := t.isLt; omega⟩ k := by
  refine ix2_ext (n0 := 16384) (n1 := 1024) ?_ ?_
  · refine (Window.rect_emb_val (cfg0.win 14) t _ (0 : Fin 2)).trans ?_
    rw [show (cfg0.win 14).index t = _ from index14 t]
    rfl
  · refine (Window.rect_emb_val (cfg0.win 14) t _ (1 : Fin 2)).trans ?_
    rw [show (cfg0.win 14).index t = _ from index14 t]
    show 0 * 1024 + k.val = k.val
    omega

theorem flushed14_eq (t : Fin cfg0.N) : (dats m 0 0).flushed 14 t = ((cfg0.win 14).blk t).view.read (Elt Ideal) (outX m) := by
  funext j
  rw [View.read_apply]
  refine Eq.trans ?_ (congrArg (outX m) ((emb14 t (j 0) (j 1)).symm.trans (congrArg _ (eq_ix2 (n0 := 512) (n1 := 1024) j).symm)))
  by_cases h0 : t.val % 32 = 0
  · rw [Cert.Kernel3Ideal.Value.flushed14_A m 0 t h0]
    exact (congrFun (outA_14 ..) _).trans ((congrArg _ (eq_ix2 (n0 := 512) (n1 := 1024) j)).trans (bX_at m t (j 0) (j 1)))
  · rw [Cert.Kernel3Ideal.Value.flushed14_B m 0 t h0]
    exact (congrFun (outB_14 ..) _).trans ((congrArg _ (eq_ix2 (n0 := 512) (n1 := 1024) j)).trans (bX_at m t (j 0) (j 1)))

theorem arr14 (r : Fin 16384) (k : Fin 1024) : (dats m 0 0).arrAt 14 cfg0.N (ix2 (n0 := 16384) (n1 := 1024) r k) = outX m (ix2 (n0 := 16384) (n1 := 1024) r k) := by
  have hr := r.isLt
  have ht : r.val / 512 < cfg0.N := show r.val / 512 < 32 by omega
  refine (dats m 0 0).arrAt_apply_of_mem 14 (outX m) (fun t _ => flushed14_eq m t) _ ⟨r.val / 512, ht⟩ _ ht (flush14 _) ?_
  have e : ix2 (n0 := 16384) (n1 := 1024) r k
      = ((cfg0.win 14).blk ⟨r.val / 512, ht⟩).view.emb (ix2 (n0 := 512) (n1 := 1024) ⟨r.val % 512, Nat.mod_lt _ (by omega)⟩ k) := by
    rw [emb14]
    refine ix2_ext ?_ rfl
    show r.val = r.val / 512 * 512 + r.val % 512
    omega
  rw [e]
  exact View.emb_mem_set _ _

theorem emb16 (t : Fin cfg0.N) (k : Fin 4) (r : Fin 512) : ((cfg0.win 16).blk t).view.emb (ix2 (n0 := 4) (n1 := 512) k r) = ix2 (n0 := 4) (n1 := 16384) k ⟨t.val * 512 + r.val, by have ht : t.val < 32 := t.isLt; omega⟩ := by
  refine ix2_ext (n0 := 4) (n1 := 16384) ?_ ?_
  · refine (Window.rect_emb_val (cfg0.win 16) t _ (0 : Fin 2)).trans ?_
    rw [show (cfg0.win 16).index t = _ from index16 t]
    show 0 * 4 + k.val = k.val
    omega
  · refine (Window.rect_emb_val (cfg0.win 16) t _ (1 : Fin 2)).trans ?_
    rw [show (cfg0.win 16).index t = _ from index16 t]
    rfl

theorem flushed16_eq (h : Scored m) (t : Fin cfg0.N) : (dats m 0 0).flushed 16 t = ((cfg0.win 16).blk t).view.read (Elt Ideal) (outE m) := by
  funext j
  rw [View.read_apply]
  refine Eq.trans ?_ (congrArg (outE m) ((emb16 t (j 0) (j 1)).symm.trans (congrArg _ (eq_ix2 (n0 := 4) (n1 := 512) j).symm)))
  by_cases h0 : t.val % 32 = 0
  · rw [Cert.Kernel3Ideal.Value.flushed16_A m 0 t h0]
    obtain ⟨z, ez⟩ := outA_16 0 (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (iblk m 0 0 t) (iblk m 0 1 t) (iblk m 0 2 t) (iblk m 0 3 t) (iblk m 0 4 t) (iblk m 0 5 t) (iblk m 0 6 t) (iblk m 0 7 t) (iblk m 0 8 t) (iblk m 0 9 t) (iblk m 0 10 t) (iblk m 0 11 t) (iblk m 0 12 t) (iblk m 0 13 t)
    exact (congrFun ez _).trans ((congrArg _ (eq_ix2 (n0 := 4) (n1 := 512) j)).trans (bE_at m h t z (j 0) (j 1)))
  · rw [Cert.Kernel3Ideal.Value.flushed16_B m 0 t h0]
    exact (congrFun (outB_16 ..) _).trans ((congrArg _ (eq_ix2 (n0 := 4) (n1 := 512) j)).trans (bE_at m h t _ (j 0) (j 1)))

theorem arr16 (h : Scored m) (k : Fin 4) (r : Fin 16384) : (dats m 0 0).arrAt 16 cfg0.N (ix2 (n0 := 4) (n1 := 16384) k r) = outE m (ix2 (n0 := 4) (n1 := 16384) k r) := by
  have hr := r.isLt
  have ht : r.val / 512 < cfg0.N := show r.val / 512 < 32 by omega
  refine (dats m 0 0).arrAt_apply_of_mem 16 (outE m) (fun t _ => flushed16_eq m h t) _ ⟨r.val / 512, ht⟩ _ ht (flush16 _) ?_
  have e : ix2 (n0 := 4) (n1 := 16384) k r
      = ((cfg0.win 16).blk ⟨r.val / 512, ht⟩).view.emb (ix2 (n0 := 4) (n1 := 512) k ⟨r.val % 512, Nat.mod_lt _ (by omega)⟩) := by
    rw [emb16]
    refine ix2_ext rfl ?_
    show r.val = r.val / 512 * 512 + r.val % 512
    omega
  rw [e]
  exact View.emb_mem_set _ _

theorem emb18 (t : Fin cfg0.N) (r : Fin 512) (k : Fin 4) : ((cfg0.win 18).blk t).view.emb (ix2 (n0 := 512) (n1 := 4) r k) = ix2 (n0 := 16384) (n1 := 4) ⟨t.val * 512 + r.val, by have ht : t.val < 32 := t.isLt; omega⟩ k := by
  refine ix2_ext (n0 := 16384) (n1 := 4) ?_ ?_
  · refine (Window.rect_emb_val (cfg0.win 18) t _ (0 : Fin 2)).trans ?_
    rw [show (cfg0.win 18).index t = _ from index18 t]
    rfl
  · refine (Window.rect_emb_val (cfg0.win 18) t _ (1 : Fin 2)).trans ?_
    rw [show (cfg0.win 18).index t = _ from index18 t]
    show 0 * 4 + k.val = k.val
    omega

theorem flushed18_eq (h : Scored m) (t : Fin cfg0.N) : (dats m 0 0).flushed 18 t = ((cfg0.win 18).blk t).view.read (Elt Ideal) (outW m) := by
  funext j
  rw [View.read_apply]
  refine Eq.trans ?_ (congrArg (outW m) ((emb18 t (j 0) (j 1)).symm.trans (congrArg _ (eq_ix2 (n0 := 512) (n1 := 4) j).symm)))
  by_cases h0 : t.val % 32 = 0
  · rw [Cert.Kernel3Ideal.Value.flushed18_A m 0 t h0]
    exact (outA_18 ..).trans ((congrArg _ (eq_ix2 (n0 := 512) (n1 := 4) j)).trans (bW_at m h t (j 0) (j 1)))
  · rw [Cert.Kernel3Ideal.Value.flushed18_B m 0 t h0]
    exact (outB_18 ..).trans ((congrArg _ (eq_ix2 (n0 := 512) (n1 := 4) j)).trans (bW_at m h t (j 0) (j 1)))

theorem arr18 (h : Scored m) (r : Fin 16384) (k : Fin 4) : (dats m 0 0).arrAt 18 cfg0.N (ix2 (n0 := 16384) (n1 := 4) r k) = outW m (ix2 (n0 := 16384) (n1 := 4) r k) := by
  have hr := r.isLt
  have ht : r.val / 512 < cfg0.N := show r.val / 512 < 32 by omega
  refine (dats m 0 0).arrAt_apply_of_mem 18 (outW m) (fun t _ => flushed18_eq m h t) _ ⟨r.val / 512, ht⟩ _ ht (flush18 _) ?_
  have e : ix2 (n0 := 16384) (n1 := 4) r k
      = ((cfg0.win 18).blk ⟨r.val / 512, ht⟩).view.emb (ix2 (n0 := 512) (n1 := 4) ⟨r.val % 512, Nat.mod_lt _ (by omega)⟩ k) := by
    rw [emb18]
    refine ix2_ext ?_ rfl
    show r.val = r.val / 512 * 512 + r.val % 512
    omega
  rw [e]
  exact View.emb_mem_set _ _

end Cert.Route
-- ==== Proof.Route.RefOut.lean ====
/- The router call's reference, at an index. -/
module

public import proofs.«01_k».proof.Proof.Gen.Reference3Ideal.Run
public import proofs.«01_k».proof.Proof.Route.Pick
public import proofs.«01_k».proof.Proof.Route.Row
public import Idealize.ShloMosaic.Lib.Pointwise

@[expose] public section

set_option maxRecDepth 16384
set_option Elab.async false

noncomputable section

namespace Cert.Reference3Ideal.Route

open Cert.Reference3Ideal Cert.Reference3Ideal.Gen Idealize.ShloMosaic Idealize.ShloMosaic.StableHlo
open Cert.Route

/-- The residual, as an expression of the arguments. -/
def resX (a0 : FVec Ideal S16384x1024 .f32) (a1 : FVec Ideal S16384x512 .f32) (a2 : FVec Ideal S16384x512 .f32) (a3 : FVec Ideal S16384x1024 .f32) (a4 : FVec Ideal S16384x1024 .f32) (a5 : FVec Ideal S512x1024 .f32) (a6 : FVec Ideal S512x1024 .f32) (a7 : FVec Ideal S1024x1024 .f32) (a8 : FVec Ideal S1x1024 .f32) : FVec Ideal S16384x1024 .f32 :=
  addf a0 (mulf (broadcastInDim S16384x1024 ![0, 1] bcast_S1x1024_S16384x1024_0_1 a8) (Host.dotGeneral dot_S16384x1024_S1024x1024_S16384x1024_1_0_0_1_n_n none (addf (mulf a3 (Host.dotGeneral dot_S16384x512_S512x1024_S16384x1024_1_0_0_1_n_n none a1 a5)) (mulf a4 (Host.dotGeneral dot_S16384x512_S512x1024_S16384x1024_1_0_0_1_n_n none a2 a6))) a7))

/-- The normed rows, of the residual. -/
def normed (X : FVec Ideal S16384x1024 .f32) (a9 : FVec Ideal S1x1024 .f32) (a10 : FVec Ideal S1x1024 .f32) (a11 : FVec Ideal S1x1024 .f32) : FVec Ideal S16384x1024 .f32 :=
  addf (mulf (mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 a9)) (broadcastInDim S16384x1024 ![0, 1] bcast_S1x1024_S16384x1024_0_1 (addf (broadcastInDim S1x1024 ![] bcast_S_S1x1024 (constant S_ .f32 0x3F800000#32)) a11))) (broadcastInDim S16384x1024 ![0, 1] bcast_S1x1024_S16384x1024_0_1 a10)

/-- The scores, of the normed rows. -/
def scored (U : FVec Ideal S16384x1024 .f32) (a12 : FVec Ideal S1024x32 .f32) (a13 : FVec Ideal S1x32 .f32) : FVec Ideal S16384x32 .f32 :=
  addf (Host.dotGeneral dot_S16384x1024_S1024x32_S16384x32_1_0_0_1_n_n none U a12) (broadcastInDim S16384x32 ![0, 1] bcast_S1x32_S16384x32_0_1 a13)

/-- The weights before they are divided by their sum, of the scores picked. -/
def expo (T : FVec Ideal S16384x4 .f32) : FVec Ideal S16384x4 .f32 :=
  Host.exp (subf T (broadcastInDim S16384x4 ![0, 1] bcast_S16384x1_S16384x4_0_1 (broadcastInDim S16384x1 ![0] bcast_S16384_S16384x1_0 (maximumf (broadcastInDim S16384 ![] bcast_S_S16384 (constant S_ .f32 0xFF800000#32)) (Host.reduce FloatOps.maximumf T (constant S_ .f32 0xFF800000#32) reducesTo_S16384x4_S16384_d1 h_S_)))))

/-- The weights, of the scores picked. -/
def soft (E : FVec Ideal S16384x4 .f32) : FVec Ideal S16384x4 .f32 :=
  Host.divf E (broadcastInDim S16384x4 ![0, 1] bcast_S16384x1_S16384x4_0_1 (broadcastInDim S16384x1 ![0] bcast_S16384_S16384x1_0 (Host.reduceAdd E (constant S_ .f32 0x00000000#32) reducesTo_S16384x4_S16384_d1 h_S_)))

theorem resX_at (a0 : FVec Ideal S16384x1024 .f32) (a1 : FVec Ideal S16384x512 .f32) (a2 : FVec Ideal S16384x512 .f32) (a3 : FVec Ideal S16384x1024 .f32) (a4 : FVec Ideal S16384x1024 .f32) (a5 : FVec Ideal S512x1024 .f32) (a6 : FVec Ideal S512x1024 .f32) (a7 : FVec Ideal S1024x1024 .f32) (a8 : FVec Ideal S1x1024 .f32) (r : Fin 16384) (c : Fin 1024) :
    resX a0 a1 a2 a3 a4 a5 a6 a7 a8 (ix2 r c) = x1Of (fun k => a0 (ix2 r k)) (fun k => a8 (ix2 (n0 := 1) 0 k)) (fun k => a3 (ix2 r k)) (fun k => a4 (ix2 r k))
      (fun j => a1 (ix2 r j)) (fun j => a2 (ix2 r j)) (fun j k => a5 (ix2 j k)) (fun j k => a6 (ix2 j k)) (fun j k => a7 (ix2 j k)) c := by
  unfold resX
  pointwise
  rfl

theorem normed_at (X : FVec Ideal S16384x1024 .f32) (a9 : FVec Ideal S1x1024 .f32) (a10 : FVec Ideal S1x1024 .f32) (a11 : FVec Ideal S1x1024 .f32) (r : Fin 16384) (c : Fin 1024) :
    normed X a9 a10 a11 (ix2 r c) = uOf (fun k => X (ix2 r k)) (fun k => a9 (ix2 (n0 := 1) 0 k)) (fun k => a10 (ix2 (n0 := 1) 0 k))
      (fun k => a11 (ix2 (n0 := 1) 0 k)) c := by
  unfold normed
  pointwise
  rfl

theorem scored_at (U : FVec Ideal S16384x1024 .f32) (a12 : FVec Ideal S1024x32 .f32) (a13 : FVec Ideal S1x32 .f32) (r : Fin 16384) (e : Fin 32) :
    scored U a12 a13 (ix2 r e) = scoreOf (fun k => U (ix2 r k)) (fun k e => a12 (ix2 k e)) (fun e => a13 (ix2 (n0 := 1) 0 e)) e := by
  unfold scored
  pointwise
  rfl

theorem total_gt (x y : EReal) : (FloatOps.cmpfTotal (F := Ideal) (φ := .f32) .gt x y == 1#1) = decide (y < x) := by
  show (Ideal.cmp .ogt x y == 1#1) = _
  by_cases h : y < x <;> simp [Ideal.cmp, h]

theorem along_at (r : Fin 16384) (q e : Fin 32) :
    Shape.Idx.along (s := S16384x32) (ix2 (n0 := 16384) (n1 := 32) r q) (1 : Fin 2) e = ix2 (n0 := 16384) (n1 := 32) r e := by
  funext a
  fin_cases a <;> rfl

/-- The sort of a row of scores, largest first, carrying any second row along. -/
theorem sort_at {β : Type} (L : FVec Ideal S16384x32 .f32) (y : S16384x32.Idx → β) (r : Fin 16384) (q : Fin 32) :
    (Host.sort2 S16384x32 1 (fun l r => FloatOps.cmpfTotal .gt l.1 r.1) L y).1 (ix2 r q)
        = L (ix2 r (sortedFrom (gtKey fun e => L (ix2 r e)) q))
      ∧ (Host.sort2 S16384x32 1 (fun l r => FloatOps.cmpfTotal .gt l.1 r.1) L y).2 (ix2 r q)
        = y (ix2 r (sortedFrom (gtKey fun e => L (ix2 r e)) q)) := by
  have key : (fun k k' : Fin 32 => FloatOps.cmpfTotal (F := Ideal) (φ := .f32) .gt
      (L (Shape.Idx.along (s := S16384x32) (ix2 (n0 := 16384) (n1 := 32) r q) (1 : Fin 2) k))
      (L (Shape.Idx.along (s := S16384x32) (ix2 (n0 := 16384) (n1 := 32) r q) (1 : Fin 2) k')) == 1#1) = gtKey fun e => L (ix2 r e) := by
    funext k k'
    rw [along_at, along_at, total_gt]
    rfl
  unfold Host.sort2
  rw [dif_pos (show 1 < S16384x32.rank by decide)]
  dsimp only
  constructor
  · refine congrArg L ((along_at r q _).trans (congrArg (ix2 (n0 := 16384) (n1 := 32) r) ?_))
    exact congrArg (fun f : Fin 32 → Fin 32 → Bool => sortedFrom f q) key
  · refine congrArg y ((along_at r q _).trans (congrArg (ix2 (n0 := 16384) (n1 := 32) r) ?_))
    exact congrArg (fun f : Fin 32 → Fin 32 → Bool => sortedFrom f q) key

theorem cut_at {α : Type} (x : S16384x32.Idx → α) (r : Fin 16384) (k : Fin 4) :
    extractStridedSlice S16384x4 (fun _ => 0) x sliceFits_S16384x32_S16384x4 (ix2 (n0 := 16384) (n1 := 4) r k)
      = x (ix2 (n0 := 16384) (n1 := 32) r (k.castLE (by decide))) := by
  refine (Pointwise.extractStridedSlice_apply _ _ _ _).trans (congrArg x ?_)
  funext a
  fin_cases a
  · exact Fin.ext (Nat.zero_add _)
  · exact Fin.ext (Nat.zero_add _)

theorem topVal_at (L : FVec Ideal S16384x32 .f32) (r : Fin 16384) (k : Fin 4) :
    (Host.topK S16384x4 1 (FloatOps.cmpfTotal .gt) L sliceFits_S16384x32_S16384x4).1 (ix2 r k)
      = L (ix2 r (topPos (fun e => L (ix2 r e)) k)) := by
  unfold Host.topK
  dsimp only
  exact (cut_at (Host.sort2 S16384x32 1 (fun l r => FloatOps.cmpfTotal .gt l.1 r.1) L (fun i => if hd : 1 < S16384x32.rank then iotaInDim S16384x32 32 ⟨1, hd⟩ i else 0#32)).1 r k).trans (sort_at L (fun i => if hd : 1 < S16384x32.rank then iotaInDim S16384x32 32 ⟨1, hd⟩ i else 0#32) r _).1

theorem topPos_at (L : FVec Ideal S16384x32 .f32) (r : Fin 16384) (k : Fin 4) :
    (Host.topK S16384x4 1 (FloatOps.cmpfTotal .gt) L sliceFits_S16384x32_S16384x4).2 (ix2 r k)
      = BitVec.ofNat 32 (topPos (fun e => L (ix2 r e)) k).val := by
  unfold Host.topK
  dsimp only
  exact (cut_at (Host.sort2 S16384x32 1 (fun l r => FloatOps.cmpfTotal .gt l.1 r.1) L (fun i => if hd : 1 < S16384x32.rank then iotaInDim S16384x32 32 ⟨1, hd⟩ i else 0#32)).2 r k).trans (sort_at L (fun i => if hd : 1 < S16384x32.rank then iotaInDim S16384x32 32 ⟨1, hd⟩ i else 0#32) r _).2

theorem expo_at (T : FVec Ideal S16384x4 .f32) (r : Fin 16384) (k : Fin 4) (h : ∀ k, T (ix2 r k) ≤ T (ix2 r 0)) :
    expo T (ix2 r k) = Ideal.exp (T (ix2 r k) - T (ix2 r 0)) := by
  unfold expo
  pointwise
  have e : Ideal.ofBits .f32 4286578688#32 = ⊥ := negInf_eq
  rw [e, max_eq_right bot_le]
  refine congrArg (fun v => Ideal.exp (T (ix2 r k) - v)) (le_antisymm ?_ ?_)
  · exact (Finset.fold_max_le _).mpr ⟨bot_le, fun x _ => h x⟩
  · exact (Finset.le_fold_max _).mpr (Or.inr ⟨0, Finset.mem_univ _, le_rfl⟩)

theorem soft_at (E : FVec Ideal S16384x4 .f32) (r : Fin 16384) (k : Fin 4) :
    soft E (ix2 r k) = Ideal.div (E (ix2 r k)) (E (ix2 r 0) + E (ix2 r 1) + E (ix2 r 2) + E (ix2 r 3)) := by
  unfold soft
  pointwise
  rw [Fin.sum_univ_four]

end Cert.Reference3Ideal.Route
-- ==== Proof.Route.Scored.lean ====
/- The router call's precondition, read: every token's four largest scores are above minus infinity. -/
module

public import proofs.«01_k».proof.Defs
public import proofs.«01_k».proof.Proof.Route.RefOut
public import Idealize.ShloMosaic.Lib.StableHlo.Predicate
public import Idealize.ShloMosaic.Lib.ReduceAll

@[expose] public section

set_option maxRecDepth 16384
set_option Elab.async false

noncomputable section

/-- The precondition's shapes fit. -/
theorem Cert.Pre_scored.shapes : Cert.Pre_scored.Facts where
  bcast_S1x1024_S16384x1024_0_1 := by decide
  reducesTo_S16384x1024_S16384_d1 := by decide
  h_S_ := by decide
  bcast_S16384_S16384x1_0 := by decide
  bcast_S_S16384x1 := by decide
  bcast_S16384x1_S16384x1024_0_1 := by decide
  bcast_S_S1x1024 := by decide
  bcast_S1x32_S16384x32_0_1 := by decide
  sliceFits_S16384x32_S16384x4 := by decide
  bcast_S_S16384x4 := by decide
  reducesTo_S16384x4_S_d0_1 := by decide
  dot_S16384x512_S512x1024_S16384x1024_1_0_0_1_n_n_wf := by decide
  dot_S16384x1024_S1024x1024_S16384x1024_1_0_0_1_n_n_wf := by decide
  dot_S16384x1024_S1024x32_S16384x32_1_0_0_1_n_n_wf := by decide

namespace Cert.Reference3Ideal.Route

open Cert.Reference3Ideal Cert.Reference3Ideal.Gen Idealize.ShloMosaic Idealize.ShloMosaic.StableHlo
open Cert.Route

/-- The reference's scores, of its arguments. -/
def refS (a0 : FVec Ideal S16384x1024 .f32) (a1 : FVec Ideal S16384x512 .f32) (a2 : FVec Ideal S16384x512 .f32) (a3 : FVec Ideal S16384x1024 .f32) (a4 : FVec Ideal S16384x1024 .f32) (a5 : FVec Ideal S512x1024 .f32) (a6 : FVec Ideal S512x1024 .f32) (a7 : FVec Ideal S1024x1024 .f32) (a8 : FVec Ideal S1x1024 .f32) (a9 : FVec Ideal S1x1024 .f32) (a10 : FVec Ideal S1x1024 .f32) (a11 : FVec Ideal S1x1024 .f32) (a12 : FVec Ideal S1024x32 .f32) (a13 : FVec Ideal S1x32 .f32) : FVec Ideal S16384x32 .f32 := scored (normed (resX a0 a1 a2 a3 a4 a5 a6 a7 a8) a9 a10 a11) a12 a13

/-- The reference's scores picked, of its arguments. -/
def refT (a0 : FVec Ideal S16384x1024 .f32) (a1 : FVec Ideal S16384x512 .f32) (a2 : FVec Ideal S16384x512 .f32) (a3 : FVec Ideal S16384x1024 .f32) (a4 : FVec Ideal S16384x1024 .f32) (a5 : FVec Ideal S512x1024 .f32) (a6 : FVec Ideal S512x1024 .f32) (a7 : FVec Ideal S1024x1024 .f32) (a8 : FVec Ideal S1x1024 .f32) (a9 : FVec Ideal S1x1024 .f32) (a10 : FVec Ideal S1x1024 .f32) (a11 : FVec Ideal S1x1024 .f32) (a12 : FVec Ideal S1024x32 .f32) (a13 : FVec Ideal S1x32 .f32) : FVec Ideal S16384x4 .f32 :=
  (Host.topK S16384x4 1 (FloatOps.cmpfTotal .gt) (refS a0 a1 a2 a3 a4 a5 a6 a7 a8 a9 a10 a11 a12 a13) sliceFits_S16384x32_S16384x4).1

theorem pre_eq (a0 : FVec Ideal S16384x1024 .f32) (a1 : FVec Ideal S16384x512 .f32) (a2 : FVec Ideal S16384x512 .f32) (a3 : FVec Ideal S16384x1024 .f32) (a4 : FVec Ideal S16384x1024 .f32) (a5 : FVec Ideal S512x1024 .f32) (a6 : FVec Ideal S512x1024 .f32) (a7 : FVec Ideal S1024x1024 .f32) (a8 : FVec Ideal S1x1024 .f32) (a9 : FVec Ideal S1x1024 .f32) (a10 : FVec Ideal S1x1024 .f32) (a11 : FVec Ideal S1x1024 .f32) (a12 : FVec Ideal S1024x32 .f32) (a13 : FVec Ideal S1x32 .f32) :
    @Cert.Pre_scored.fn Cert.Pre_scored.shapes Ideal _ a0 a1 a2 a3 a4 a5 a6 a7 a8 a9 a10 a11 a12 a13
      = @Host.reduce _ _ _ _ _ IntOp.andi (cmpf .ogt (refT a0 a1 a2 a3 a4 a5 a6 a7 a8 a9 a10 a11 a12 a13) (broadcastInDim S16384x4 ![] Cert.Pre_scored.shapes.bcast_S_S16384x4 (constant S_ .f32 0xFF800000#32)))
        (constantI S_ 1 1#1) Cert.Pre_scored.shapes.reducesTo_S16384x4_S_d0_1 Cert.Pre_scored.shapes.h_S_ := by
  rfl

theorem above_of_pre (a0 : FVec Ideal S16384x1024 .f32) (a1 : FVec Ideal S16384x512 .f32) (a2 : FVec Ideal S16384x512 .f32) (a3 : FVec Ideal S16384x1024 .f32) (a4 : FVec Ideal S16384x1024 .f32) (a5 : FVec Ideal S512x1024 .f32) (a6 : FVec Ideal S512x1024 .f32) (a7 : FVec Ideal S1024x1024 .f32) (a8 : FVec Ideal S1x1024 .f32) (a9 : FVec Ideal S1x1024 .f32) (a10 : FVec Ideal S1x1024 .f32) (a11 : FVec Ideal S1x1024 .f32) (a12 : FVec Ideal S1024x32 .f32) (a13 : FVec Ideal S1x32 .f32)
    (h : @Cert.Pre_scored.fn Cert.Pre_scored.shapes Ideal _ a0 a1 a2 a3 a4 a5 a6 a7 a8 a9 a10 a11 a12 a13 = fun _ => 1#1) (r : Fin 16384) (k : Fin 4) : ⊥ < refT a0 a1 a2 a3 a4 a5 a6 a7 a8 a9 a10 a11 a12 a13 (ix2 r k) := by
  have e := congrFun h (Shape.Idx.first Cert.Pre_scored.shapes.h_S_)
  rw [pre_eq] at e
  haveI : Subsingleton S_.Idx := ⟨fun a b => funext fun i => Fin.elim0 i⟩
  have e1 := Host.reduce_andi_all _ _ _ _ _ e (ix2 r k)
  have e2 : Ideal.cmp .ogt (refT a0 a1 a2 a3 a4 a5 a6 a7 a8 a9 a10 a11 a12 a13 (ix2 r k)) negInf = 1#1 := e1
  rw [negInf_eq] at e2
  by_contra hc
  simp [Ideal.cmp, hc] at e2

end Cert.Reference3Ideal.Route
-- ==== Proof.Route.Value.lean ====
/- The router call's values: under its precondition the idealized program and the reference end with the same three results. -/
module

public import proofs.«01_k».proof.Defs
public import proofs.«01_k».proof.Proof.Route.Blocks
public import proofs.«01_k».proof.Proof.Route.Scored

@[expose] public section

set_option maxRecDepth 16384

noncomputable section

namespace Cert.Route

open Idealize.ShloMosaic Idealize.SL.Sem
open Cert.Kernel3Ideal (nD τ sig)
open Cert.Reference3Ideal.Route (resX normed scored refS refT soft expo)

variable (m : (ℓ : Loc nD τ sig) → Buf (Elt Ideal) ℓ)

theorem refX_tok (r : Fin 16384) (c : Fin 1024) : resX (a0 m) (a1 m) (a2 m) (a3 m) (a4 m) (a5 m) (a6 m) (a7 m) (a8 m) (ix2 r c) = tokX m r c :=
  Cert.Reference3Ideal.Route.resX_at (a0 m) (a1 m) (a2 m) (a3 m) (a4 m) (a5 m) (a6 m) (a7 m) (a8 m) r c

theorem refS_tok (r : Fin 16384) : (fun e => refS (a0 m) (a1 m) (a2 m) (a3 m) (a4 m) (a5 m) (a6 m) (a7 m) (a8 m) (a9 m) (a10 m) (a11 m) (a12 m) (a13 m) (ix2 r e)) = tokS m r := by
  funext e
  unfold refS
  refine (Cert.Reference3Ideal.Route.scored_at _ (a12 m) (a13 m) r e).trans ?_
  have hu : (fun k => normed (resX (a0 m) (a1 m) (a2 m) (a3 m) (a4 m) (a5 m) (a6 m) (a7 m) (a8 m)) (a9 m) (a10 m) (a11 m) (ix2 r k)) = tokU m r := by
    funext k
    refine (Cert.Reference3Ideal.Route.normed_at _ (a9 m) (a10 m) (a11 m) r k).trans ?_
    rw [funext (refX_tok m r)]
    rfl
  rw [hu]
  rfl

theorem refT_tok (r : Fin 16384) (k : Fin 4) : refT (a0 m) (a1 m) (a2 m) (a3 m) (a4 m) (a5 m) (a6 m) (a7 m) (a8 m) (a9 m) (a10 m) (a11 m) (a12 m) (a13 m) (ix2 r k) = tokS m r (topPos (tokS m r) k) := by
  unfold refT
  refine (Cert.Reference3Ideal.Route.topVal_at _ r k).trans ?_
  rw [refS_tok]
  exact congrFun (refS_tok m r) _

theorem scored_of_pre (h : @Cert.Pre_scored.fn Cert.Pre_scored.shapes Ideal _ (a0 m) (a1 m) (a2 m) (a3 m) (a4 m) (a5 m) (a6 m) (a7 m) (a8 m) (a9 m) (a10 m) (a11 m) (a12 m) (a13 m) = fun _ => 1#1) : Scored m := fun r k => by
  rw [← refT_tok]
  exact Cert.Reference3Ideal.Route.above_of_pre _ _ _ _ _ _ _ _ _ _ _ _ _ _ h r k

theorem above_le {w : Row} {i j : Fin 32} (h : Above w i j) : w j ≤ w i := by
  unfold Above at h
  rcases h with h | h
  · exact h.le
  · exact h.1.ge

theorem refW_tok (h : Scored m) (r : Fin 16384) (k : Fin 4) : soft (expo (refT (a0 m) (a1 m) (a2 m) (a3 m) (a4 m) (a5 m) (a6 m) (a7 m) (a8 m) (a9 m) (a10 m) (a11 m) (a12 m) (a13 m))) (ix2 r k) = outW m (ix2 r k) := by
  have hle : ∀ k, refT (a0 m) (a1 m) (a2 m) (a3 m) (a4 m) (a5 m) (a6 m) (a7 m) (a8 m) (a9 m) (a10 m) (a11 m) (a12 m) (a13 m) (ix2 r k) ≤ refT (a0 m) (a1 m) (a2 m) (a3 m) (a4 m) (a5 m) (a6 m) (a7 m) (a8 m) (a9 m) (a10 m) (a11 m) (a12 m) (a13 m) (ix2 r 0) := fun k => by
    rw [refT_tok, refT_tok]
    rcases eq_or_ne k 0 with rfl | hk
    · exact le_rfl
    · have o := (top (tokS m r) (h r)).ord 0 k (Fin.pos_of_ne_zero hk)
      exact above_le o
  refine (Cert.Reference3Ideal.Route.soft_at _ r k).trans ?_
  rw [Cert.Reference3Ideal.Route.expo_at _ r k hle, Cert.Reference3Ideal.Route.expo_at _ r 0 hle, Cert.Reference3Ideal.Route.expo_at _ r 1 hle,
    Cert.Reference3Ideal.Route.expo_at _ r 2 hle, Cert.Reference3Ideal.Route.expo_at _ r 3 hle]
  simp only [refT_tok]
  rfl

theorem refE_tok (k : Fin 4) (r : Fin 16384) :
    transpose Cert.Reference3Ideal.S4x16384 [1, 0] (Host.topK Cert.Reference3Ideal.S16384x4 1 (FloatOps.cmpfTotal .gt) (refS (a0 m) (a1 m) (a2 m) (a3 m) (a4 m) (a5 m) (a6 m) (a7 m) (a8 m) (a9 m) (a10 m) (a11 m) (a12 m) (a13 m))
      Cert.Reference3Ideal.Gen.facts.sliceFits_S16384x32_S16384x4).2 Cert.Reference3Ideal.Gen.facts.transposes_S16384x4_S4x16384_1_0 (ix2 (n0 := 4) (n1 := 16384) k r)
      = outE m (ix2 k r) := by
  pointwise
  refine (Cert.Reference3Ideal.Route.topPos_at _ r k).trans ?_
  rw [refS_tok]
  rfl

theorem algebraic : @Cert.algebraic_Kernel3Ideal_Reference3Ideal_pre_scored Cert.Kernel3Ideal.Gen.facts Cert.Reference3Ideal.Gen.facts
    Cert.Pre_scored.shapes := by
  intro m g m' g' hpre harg
  have hs : Scored m := scored_of_pre m (hpre 0)
  refine ⟨fun c => outX m, fun c => outE m, fun c => outW m, ?_, ?_⟩
  · refine (θ_run _ _ _).mono (fun r h c => ⟨(h c).1.trans ?_, (h c).2.2.1.trans ?_, (h c).2.2.2.2.1.trans ?_, (h c).2.2.2.2.2.2⟩)
      (Cert.Kernel3Ideal.Value.run_blocks m g)
    · obtain rfl : c = 0 := Subsingleton.elim _ _
      funext i
      rw [eq_ix2 (n0 := 16384) (n1 := 1024) i]
      exact arr14 m (i 0) (i 1)
    · obtain rfl : c = 0 := Subsingleton.elim _ _
      funext i
      rw [eq_ix2 (n0 := 4) (n1 := 16384) i]
      exact arr16 m hs (i 0) (i 1)
    · obtain rfl : c = 0 := Subsingleton.elim _ _
      funext i
      rw [eq_ix2 (n0 := 16384) (n1 := 4) i]
      exact arr18 m hs (i 0) (i 1)
  · refine (θ_run _ _ _).mono (fun r h c => ⟨(h c).1.trans ?_, (h c).2.1.trans ?_, (h c).2.2.1.trans ?_, (h c).2.2.2⟩)
      (Cert.Reference3Ideal.Value.run m' g')
    · obtain rfl : c = 0 := Subsingleton.elim _ _
      obtain ⟨e0, e1, e2, e3, e4, e5, e6, e7, e8, e9, e10, e11, e12, e13⟩ := harg 0
      rw [e0, e1, e2, e3, e4, e5, e6, e7, e8]
      funext i
      rw [eq_ix2 (n0 := 16384) (n1 := 1024) i]
      exact refX_tok m (i 0) (i 1)
    · obtain rfl : c = 0 := Subsingleton.elim _ _
      obtain ⟨e0, e1, e2, e3, e4, e5, e6, e7, e8, e9, e10, e11, e12, e13⟩ := harg 0
      rw [e0, e1, e2, e3, e4, e5, e6, e7, e8, e9, e10, e11, e12, e13]
      funext i
      rw [eq_ix2 (n0 := 4) (n1 := 16384) i]
      exact refE_tok m (i 0) (i 1)
    · obtain rfl : c = 0 := Subsingleton.elim _ _
      obtain ⟨e0, e1, e2, e3, e4, e5, e6, e7, e8, e9, e10, e11, e12, e13⟩ := harg 0
      unfold Cert.Reference3Ideal.Value.res_main_v41
      rw [e0, e1, e2, e3, e4, e5, e6, e7, e8, e9, e10, e11, e12, e13]
      funext i
      rw [eq_ix2 (n0 := 16384) (n1 := 4) i]
      exact refW_tok m hs (i 0) (i 1)

end Cert.Route
-- ==== Proof.Inproj.Row.lean ====
/- One row of the input projection, as plain mathematics: the normed row through one column of the weight. -/
module

public import proofs.«01_k».proof.Proof.Route.Row

@[expose] public section

noncomputable section

namespace Cert.Inproj

open Idealize.ShloMosaic

/-- The normed row times column `c` of a weight. -/
def proj {n : ℕ} (u : Fin 1024 → EReal) (w : Fin 1024 → Fin n → EReal) (c : Fin n) : EReal := ∑ k, u k * w k c

/-- The attention's scale in base two: the float nearest log₂ e / 8. -/
def scale : EReal := Ideal.ofBits .f32 1043900987#32

/-- The logistic function. -/
def gate (x : EReal) : EReal := Ideal.div 1 (1 + Ideal.exp (-x))

/-- The key column shown at lane `c`: each head's 64 columns stand twice. -/
def keyLane (c : Fin 256) : Fin 128 := ⟨c.val / 128 * 64 + c.val % 64, by omega⟩

theorem proj_congr {n n' : ℕ} {u u' : Fin 1024 → EReal} {w : Fin 1024 → Fin n → EReal} {w' : Fin 1024 → Fin n' → EReal} {c : Fin n} {c' : Fin n'}
    (hu : ∀ k, u k = u' k) (hw : ∀ k, w k c = w' k c') : proj u w c = proj u' w' c' := by
  unfold proj
  exact Finset.sum_congr rfl fun k _ => by rw [hu k, hw k]

end Cert.Inproj
-- ==== Proof.Inproj.Pays.lean ====
/- The input projection's body, value by value, at an index. -/
module

public import proofs.«01_k».proof.Proof.Gen.Kernel4Ideal.Skeleton
public import proofs.«01_k».proof.Proof.Inproj.Row
public import Idealize.ShloMosaic.Lib.Pointwise

@[expose] public section

set_option maxRecDepth 16384
set_option Elab.async false

noncomputable section

namespace Cert.Inproj

open Cert.Kernel4Ideal Cert.Kernel4Ideal.Gen Idealize.ShloMosaic

theorem pay5_at (x : Vec Ideal S512x1024 .f32) (g sc sh : Vec Ideal S1x1024 .f32) (r : Fin 512) (c : Fin 1024) :
    k0_pay5 x g sc sh (ix2 r c) = Cert.Route.uOf (fun k => x (ix2 r k)) (fun k => g (ix2 0 k)) (fun k => sh (ix2 0 k)) (fun k => sc (ix2 0 k)) c := by
  unfold k0_pay5
  pointwise
  rfl

theorem pay6_at (x : Vec Ideal S512x1024 .f32) (g sc sh : Vec Ideal S1x1024 .f32) (w : Vec Ideal S1024x768 .bf16) (r : Fin 512) (c : Fin 768) :
    k0_pay6 x g sc sh w (ix2 r c) = proj (fun k => k0_pay5 x g sc sh (ix2 r k)) (fun k c => w (ix2 k c)) c := by
  unfold k0_pay6
  pointwise
  rfl

theorem pay7_at (x : Vec Ideal S512x1024 .f32) (g sc sh : Vec Ideal S1x1024 .f32) (w : Vec Ideal S1024x768 .bf16) (r : Fin 512) (c : Fin 512) :
    k0_pay7 x g sc sh w (ix2 r c) = proj (fun k => k0_pay5 x g sc sh (ix2 r k)) (fun k c => w (ix2 k c)) ⟨c.val, by omega⟩ * scale := by
  unfold k0_pay7
  pointwise
  rw [pay6_at]
  rfl

theorem pay8_at (x : Vec Ideal S512x1024 .f32) (g sc sh : Vec Ideal S1x1024 .f32) (w : Vec Ideal S1024x768 .bf16) (r : Fin 512) (c : Fin 256) :
    k0_pay8 x g sc sh w (ix2 r c) = proj (fun k => k0_pay5 x g sc sh (ix2 r k)) (fun k c => w (ix2 k c)) ⟨512 + c.val, by omega⟩ := by
  unfold k0_pay8
  pointwise
  rw [pay6_at]

variable (U : FVec Ideal S512x1024 .bf16)

theorem pay9_at (w : Vec Ideal S1024x1152 .bf16) (r : Fin 512) (c : Fin 1152) :
    k0_pay9 U w (ix2 r c) = proj (fun k => U (ix2 r k)) (fun k c => w (ix2 k c)) c := by
  unfold k0_pay9
  pointwise
  rfl

theorem pay10_at (w : Vec Ideal S1024x1152 .bf16) (r : Fin 512) (c : Fin 512) :
    k0_pay10 U w (ix2 r c) = proj (fun k => U (ix2 r k)) (fun k c => w (ix2 k c)) ⟨c.val, by omega⟩ * scale := by
  unfold k0_pay10
  pointwise
  rw [pay9_at]
  rfl

theorem pay11_at (w : Vec Ideal S1024x1152 .bf16) (r : Fin 512) (c : Fin 512) :
    k0_pay11 U w (ix2 r c) = proj (fun k => U (ix2 r k)) (fun k c => w (ix2 k c)) ⟨512 + c.val, by omega⟩ := by
  unfold k0_pay11
  pointwise
  rw [pay9_at]

theorem pay12_at (w : Vec Ideal S640x1024 .bf16) (c : Fin 640) (r : Fin 512) :
    k0_pay12 U w (ix2 c r) = proj (fun k => U (ix2 r k)) (fun k c => w (ix2 c k)) c := by
  unfold k0_pay12
  pointwise
  exact Finset.sum_congr rfl fun k _ => mul_comm _ _

theorem pay13_at (w : Vec Ideal S640x1024 .bf16) (c r : Fin 512) :
    k0_pay13 U w (ix2 c r) = proj (fun k => U (ix2 r k)) (fun k c => w (ix2 c k)) ⟨c.val, by omega⟩ := by
  unfold k0_pay13
  pointwise
  rw [pay12_at]

theorem pay14_at (w : Vec Ideal S640x1024 .bf16) (c : Fin 128) (r : Fin 512) :
    k0_pay14 U w (ix2 c r) = proj (fun k => U (ix2 r k)) (fun k c => w (ix2 c k)) ⟨512 + c.val, by omega⟩ := by
  unfold k0_pay14
  pointwise
  rw [pay12_at]

theorem pay24_at (w : Vec Ideal S1024x2048 .bf16) (r : Fin 512) (c : Fin 2048) :
    k0_pay24 U w (ix2 r c) = gate (proj (fun k => U (ix2 r k)) (fun k c => w (ix2 k c)) c) := by
  unfold k0_pay24
  pointwise
  rfl

theorem pay25_at (w : Vec Ideal S1024x2048 .bf16) (r : Fin 512) (c : Fin 1024) :
    k0_pay25 U w (ix2 r c) = gate (proj (fun k => U (ix2 r k)) (fun k c => w (ix2 k c)) ⟨c.val, by omega⟩) := by
  unfold k0_pay25
  pointwise
  rw [pay24_at]

theorem pay26_at (w : Vec Ideal S1024x2048 .bf16) (r : Fin 512) (c : Fin 1024) :
    k0_pay26 U w (ix2 r c) = gate (proj (fun k => U (ix2 r k)) (fun k c => w (ix2 k c)) ⟨1024 + c.val, by omega⟩) := by
  unfold k0_pay26
  pointwise
  rw [pay24_at]

end Cert.Inproj
-- ==== Proof.Inproj.Body.lean ====
/- What the input projection's body leaves in each of eight of its results' blocks, in both of its cases. -/
module

public import proofs.«01_k».proof.Proof.Gen.Kernel4Ideal.Frame
public import proofs.«01_k».proof.Proof.Inproj.Pays
public import Idealize.ShloMosaic.Lib.Pipeline.Value

@[expose] public section

set_option maxRecDepth 16384
set_option Elab.async false

noncomputable section

namespace Cert.Inproj

open Cert.Kernel4Ideal Cert.Kernel4Ideal.Gen Idealize.ShloMosaic

theorem hz : (![0, 0] : Fin 2 → Nat) = fun _ => 0 := funext fun a => by fin_cases a <;> rfl

theorem outA_11 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x768 .bf16) (harg5 : arg5.IsWhole) (arg6 : Memref sig .tc .vmem S1024x1152 .bf16) (harg6 : arg6.IsWhole) (arg7 : Memref sig .tc .vmem S640x1024 .bf16) (harg7 : arg7.IsWhole) (arg8 : Memref sig .tc .vmem S1024x2048 .bf16) (harg8 : arg8.IsWhole) (arg9 : Memref sig .tc .vmem S1x8 .f32) (harg9 : arg9.IsWhole) (arg10 : Memref sig .tc .vmem S512x8 .bf16) (harg10 : arg10.IsWhole) (arg11 : Memref sig .tc .vmem S3x8x128 .bf16) (harg11 : arg11.IsWhole) (arg12 : Memref sig .tc .vmem S512x512 .bf16) (harg12 : arg12.IsWhole) (arg13 : Memref sig .tc .vmem S512x256 .bf16) (harg13 : arg13.IsWhole) (arg14 : Memref sig .tc .vmem S128x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x128 .bf16) (harg20 : arg20.IsWhole) (arg21 : Memref sig .tc .vmem S2x1x8 .f32) (harg21 : arg21.IsWhole) (arg22 : Memref sig .tc .vmem S2x1x8 .f32) (harg22 : arg22.IsWhole) (arg23 : Memref sig .tc .vmem S2x1x8 .f32) (harg23 : arg23.IsWhole) (arg24 : Memref sig .tc .vmem S2x1x8 .f32) (harg24 : arg24.IsWhole) (arg25 : Memref sig .tc .vmem S2x1x8 .f32) (harg25 : arg25.IsWhole) (arg26 : Memref sig .tc .vmem S1x8 .f32) (harg26 : arg26.IsWhole) (hc0 : cond0_0 i)
    (x0 : Vec Ideal S512x1024 .f32) (x1 : Vec Ideal S1x1024 .f32) (x2 : Vec Ideal S1x1024 .f32) (x3 : Vec Ideal S1x1024 .f32) (x4 : Vec Ideal S1024x768 .bf16) (x5 : Vec Ideal S1024x1152 .bf16) (x6 : Vec Ideal S640x1024 .bf16) (x7 : Vec Ideal S1024x2048 .bf16) (x8 : Vec Ideal S1x8 .f32) (x9 : Vec Ideal S512x8 .bf16) (x10 : Vec Ideal S3x8x128 .bf16) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 = k0_pay7 x0 x1 x3 x2 x4 := by
  unfold out0_A_11
  rw [View.read_writes_eq_canon _ _ _ (cover0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S512x1024) hz, View.ld_unit_zero (S := S1x1024) hz, View.ld_unit_zero (S := S1024x768) hz, View.ld_unit_zero (S := S1024x1152) hz, View.ld_unit_zero (S := S640x1024) hz, View.ld_unit_zero (S := S1024x2048) hz, View.ld_unit_zero (S := S1x8) hz, View.ld_unit_zero (S := S512x8) hz, shapeCast_self]

theorem outA_12 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x768 .bf16) (harg5 : arg5.IsWhole) (arg6 : Memref sig .tc .vmem S1024x1152 .bf16) (harg6 : arg6.IsWhole) (arg7 : Memref sig .tc .vmem S640x1024 .bf16) (harg7 : arg7.IsWhole) (arg8 : Memref sig .tc .vmem S1024x2048 .bf16) (harg8 : arg8.IsWhole) (arg9 : Memref sig .tc .vmem S1x8 .f32) (harg9 : arg9.IsWhole) (arg10 : Memref sig .tc .vmem S512x8 .bf16) (harg10 : arg10.IsWhole) (arg11 : Memref sig .tc .vmem S3x8x128 .bf16) (harg11 : arg11.IsWhole) (arg12 : Memref sig .tc .vmem S512x512 .bf16) (harg12 : arg12.IsWhole) (arg13 : Memref sig .tc .vmem S512x256 .bf16) (harg13 : arg13.IsWhole) (arg14 : Memref sig .tc .vmem S128x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x128 .bf16) (harg20 : arg20.IsWhole) (arg21 : Memref sig .tc .vmem S2x1x8 .f32) (harg21 : arg21.IsWhole) (arg22 : Memref sig .tc .vmem S2x1x8 .f32) (harg22 : arg22.IsWhole) (arg23 : Memref sig .tc .vmem S2x1x8 .f32) (harg23 : arg23.IsWhole) (arg24 : Memref sig .tc .vmem S2x1x8 .f32) (harg24 : arg24.IsWhole) (arg25 : Memref sig .tc .vmem S2x1x8 .f32) (harg25 : arg25.IsWhole) (arg26 : Memref sig .tc .vmem S1x8 .f32) (harg26 : arg26.IsWhole) (hc0 : cond0_0 i)
    (x0 : Vec Ideal S512x1024 .f32) (x1 : Vec Ideal S1x1024 .f32) (x2 : Vec Ideal S1x1024 .f32) (x3 : Vec Ideal S1x1024 .f32) (x4 : Vec Ideal S1024x768 .bf16) (x5 : Vec Ideal S1024x1152 .bf16) (x6 : Vec Ideal S640x1024 .bf16) (x7 : Vec Ideal S1024x2048 .bf16) (x8 : Vec Ideal S1x8 .f32) (x9 : Vec Ideal S512x8 .bf16) (x10 : Vec Ideal S3x8x128 .bf16) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 = k0_pay8 x0 x1 x3 x2 x4 := by
  unfold out0_A_12
  rw [View.read_writes_eq_canon _ _ _ (cover0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S512x1024) hz, View.ld_unit_zero (S := S1x1024) hz, View.ld_unit_zero (S := S1024x768) hz, View.ld_unit_zero (S := S1024x1152) hz, View.ld_unit_zero (S := S640x1024) hz, View.ld_unit_zero (S := S1024x2048) hz, View.ld_unit_zero (S := S1x8) hz, View.ld_unit_zero (S := S512x8) hz, shapeCast_self]

theorem outA_13 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x768 .bf16) (harg5 : arg5.IsWhole) (arg6 : Memref sig .tc .vmem S1024x1152 .bf16) (harg6 : arg6.IsWhole) (arg7 : Memref sig .tc .vmem S640x1024 .bf16) (harg7 : arg7.IsWhole) (arg8 : Memref sig .tc .vmem S1024x2048 .bf16) (harg8 : arg8.IsWhole) (arg9 : Memref sig .tc .vmem S1x8 .f32) (harg9 : arg9.IsWhole) (arg10 : Memref sig .tc .vmem S512x8 .bf16) (harg10 : arg10.IsWhole) (arg11 : Memref sig .tc .vmem S3x8x128 .bf16) (harg11 : arg11.IsWhole) (arg12 : Memref sig .tc .vmem S512x512 .bf16) (harg12 : arg12.IsWhole) (arg13 : Memref sig .tc .vmem S512x256 .bf16) (harg13 : arg13.IsWhole) (arg14 : Memref sig .tc .vmem S128x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x128 .bf16) (harg20 : arg20.IsWhole) (arg21 : Memref sig .tc .vmem S2x1x8 .f32) (harg21 : arg21.IsWhole) (arg22 : Memref sig .tc .vmem S2x1x8 .f32) (harg22 : arg22.IsWhole) (arg23 : Memref sig .tc .vmem S2x1x8 .f32) (harg23 : arg23.IsWhole) (arg24 : Memref sig .tc .vmem S2x1x8 .f32) (harg24 : arg24.IsWhole) (arg25 : Memref sig .tc .vmem S2x1x8 .f32) (harg25 : arg25.IsWhole) (arg26 : Memref sig .tc .vmem S1x8 .f32) (harg26 : arg26.IsWhole) (hc0 : cond0_0 i)
    (x0 : Vec Ideal S512x1024 .f32) (x1 : Vec Ideal S1x1024 .f32) (x2 : Vec Ideal S1x1024 .f32) (x3 : Vec Ideal S1x1024 .f32) (x4 : Vec Ideal S1024x768 .bf16) (x5 : Vec Ideal S1024x1152 .bf16) (x6 : Vec Ideal S640x1024 .bf16) (x7 : Vec Ideal S1024x2048 .bf16) (x8 : Vec Ideal S1x8 .f32) (x9 : Vec Ideal S512x8 .bf16) (x10 : Vec Ideal S3x8x128 .bf16) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 = k0_pay14 (k0_pay5 x0 x1 x3 x2) x6 := by
  unfold out0_A_13
  rw [View.read_writes_eq_canon _ _ _ (cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S512x1024) hz, View.ld_unit_zero (S := S1x1024) hz, View.ld_unit_zero (S := S1024x768) hz, View.ld_unit_zero (S := S1024x1152) hz, View.ld_unit_zero (S := S640x1024) hz, View.ld_unit_zero (S := S1024x2048) hz, View.ld_unit_zero (S := S1x8) hz, View.ld_unit_zero (S := S512x8) hz, shapeCast_self]

theorem outA_14 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x768 .bf16) (harg5 : arg5.IsWhole) (arg6 : Memref sig .tc .vmem S1024x1152 .bf16) (harg6 : arg6.IsWhole) (arg7 : Memref sig .tc .vmem S640x1024 .bf16) (harg7 : arg7.IsWhole) (arg8 : Memref sig .tc .vmem S1024x2048 .bf16) (harg8 : arg8.IsWhole) (arg9 : Memref sig .tc .vmem S1x8 .f32) (harg9 : arg9.IsWhole) (arg10 : Memref sig .tc .vmem S512x8 .bf16) (harg10 : arg10.IsWhole) (arg11 : Memref sig .tc .vmem S3x8x128 .bf16) (harg11 : arg11.IsWhole) (arg12 : Memref sig .tc .vmem S512x512 .bf16) (harg12 : arg12.IsWhole) (arg13 : Memref sig .tc .vmem S512x256 .bf16) (harg13 : arg13.IsWhole) (arg14 : Memref sig .tc .vmem S128x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x128 .bf16) (harg20 : arg20.IsWhole) (arg21 : Memref sig .tc .vmem S2x1x8 .f32) (harg21 : arg21.IsWhole) (arg22 : Memref sig .tc .vmem S2x1x8 .f32) (harg22 : arg22.IsWhole) (arg23 : Memref sig .tc .vmem S2x1x8 .f32) (harg23 : arg23.IsWhole) (arg24 : Memref sig .tc .vmem S2x1x8 .f32) (harg24 : arg24.IsWhole) (arg25 : Memref sig .tc .vmem S2x1x8 .f32) (harg25 : arg25.IsWhole) (arg26 : Memref sig .tc .vmem S1x8 .f32) (harg26 : arg26.IsWhole) (hc0 : cond0_0 i)
    (x0 : Vec Ideal S512x1024 .f32) (x1 : Vec Ideal S1x1024 .f32) (x2 : Vec Ideal S1x1024 .f32) (x3 : Vec Ideal S1x1024 .f32) (x4 : Vec Ideal S1024x768 .bf16) (x5 : Vec Ideal S1024x1152 .bf16) (x6 : Vec Ideal S640x1024 .bf16) (x7 : Vec Ideal S1024x2048 .bf16) (x8 : Vec Ideal S1x8 .f32) (x9 : Vec Ideal S512x8 .bf16) (x10 : Vec Ideal S3x8x128 .bf16) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 = k0_pay10 (k0_pay5 x0 x1 x3 x2) x5 := by
  unfold out0_A_14
  rw [View.read_writes_eq_canon _ _ _ (cover0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S512x1024) hz, View.ld_unit_zero (S := S1x1024) hz, View.ld_unit_zero (S := S1024x768) hz, View.ld_unit_zero (S := S1024x1152) hz, View.ld_unit_zero (S := S640x1024) hz, View.ld_unit_zero (S := S1024x2048) hz, View.ld_unit_zero (S := S1x8) hz, View.ld_unit_zero (S := S512x8) hz, shapeCast_self]

theorem outA_15 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x768 .bf16) (harg5 : arg5.IsWhole) (arg6 : Memref sig .tc .vmem S1024x1152 .bf16) (harg6 : arg6.IsWhole) (arg7 : Memref sig .tc .vmem S640x1024 .bf16) (harg7 : arg7.IsWhole) (arg8 : Memref sig .tc .vmem S1024x2048 .bf16) (harg8 : arg8.IsWhole) (arg9 : Memref sig .tc .vmem S1x8 .f32) (harg9 : arg9.IsWhole) (arg10 : Memref sig .tc .vmem S512x8 .bf16) (harg10 : arg10.IsWhole) (arg11 : Memref sig .tc .vmem S3x8x128 .bf16) (harg11 : arg11.IsWhole) (arg12 : Memref sig .tc .vmem S512x512 .bf16) (harg12 : arg12.IsWhole) (arg13 : Memref sig .tc .vmem S512x256 .bf16) (harg13 : arg13.IsWhole) (arg14 : Memref sig .tc .vmem S128x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x128 .bf16) (harg20 : arg20.IsWhole) (arg21 : Memref sig .tc .vmem S2x1x8 .f32) (harg21 : arg21.IsWhole) (arg22 : Memref sig .tc .vmem S2x1x8 .f32) (harg22 : arg22.IsWhole) (arg23 : Memref sig .tc .vmem S2x1x8 .f32) (harg23 : arg23.IsWhole) (arg24 : Memref sig .tc .vmem S2x1x8 .f32) (harg24 : arg24.IsWhole) (arg25 : Memref sig .tc .vmem S2x1x8 .f32) (harg25 : arg25.IsWhole) (arg26 : Memref sig .tc .vmem S1x8 .f32) (harg26 : arg26.IsWhole) (hc0 : cond0_0 i)
    (x0 : Vec Ideal S512x1024 .f32) (x1 : Vec Ideal S1x1024 .f32) (x2 : Vec Ideal S1x1024 .f32) (x3 : Vec Ideal S1x1024 .f32) (x4 : Vec Ideal S1024x768 .bf16) (x5 : Vec Ideal S1024x1152 .bf16) (x6 : Vec Ideal S640x1024 .bf16) (x7 : Vec Ideal S1024x2048 .bf16) (x8 : Vec Ideal S1x8 .f32) (x9 : Vec Ideal S512x8 .bf16) (x10 : Vec Ideal S3x8x128 .bf16) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 = k0_pay11 (k0_pay5 x0 x1 x3 x2) x5 := by
  unfold out0_A_15
  rw [View.read_writes_eq_canon _ _ _ (cover0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S512x1024) hz, View.ld_unit_zero (S := S1x1024) hz, View.ld_unit_zero (S := S1024x768) hz, View.ld_unit_zero (S := S1024x1152) hz, View.ld_unit_zero (S := S640x1024) hz, View.ld_unit_zero (S := S1024x2048) hz, View.ld_unit_zero (S := S1x8) hz, View.ld_unit_zero (S := S512x8) hz, shapeCast_self]

theorem outA_16 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x768 .bf16) (harg5 : arg5.IsWhole) (arg6 : Memref sig .tc .vmem S1024x1152 .bf16) (harg6 : arg6.IsWhole) (arg7 : Memref sig .tc .vmem S640x1024 .bf16) (harg7 : arg7.IsWhole) (arg8 : Memref sig .tc .vmem S1024x2048 .bf16) (harg8 : arg8.IsWhole) (arg9 : Memref sig .tc .vmem S1x8 .f32) (harg9 : arg9.IsWhole) (arg10 : Memref sig .tc .vmem S512x8 .bf16) (harg10 : arg10.IsWhole) (arg11 : Memref sig .tc .vmem S3x8x128 .bf16) (harg11 : arg11.IsWhole) (arg12 : Memref sig .tc .vmem S512x512 .bf16) (harg12 : arg12.IsWhole) (arg13 : Memref sig .tc .vmem S512x256 .bf16) (harg13 : arg13.IsWhole) (arg14 : Memref sig .tc .vmem S128x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x128 .bf16) (harg20 : arg20.IsWhole) (arg21 : Memref sig .tc .vmem S2x1x8 .f32) (harg21 : arg21.IsWhole) (arg22 : Memref sig .tc .vmem S2x1x8 .f32) (harg22 : arg22.IsWhole) (arg23 : Memref sig .tc .vmem S2x1x8 .f32) (harg23 : arg23.IsWhole) (arg24 : Memref sig .tc .vmem S2x1x8 .f32) (harg24 : arg24.IsWhole) (arg25 : Memref sig .tc .vmem S2x1x8 .f32) (harg25 : arg25.IsWhole) (arg26 : Memref sig .tc .vmem S1x8 .f32) (harg26 : arg26.IsWhole) (hc0 : cond0_0 i)
    (x0 : Vec Ideal S512x1024 .f32) (x1 : Vec Ideal S1x1024 .f32) (x2 : Vec Ideal S1x1024 .f32) (x3 : Vec Ideal S1x1024 .f32) (x4 : Vec Ideal S1024x768 .bf16) (x5 : Vec Ideal S1024x1152 .bf16) (x6 : Vec Ideal S640x1024 .bf16) (x7 : Vec Ideal S1024x2048 .bf16) (x8 : Vec Ideal S1x8 .f32) (x9 : Vec Ideal S512x8 .bf16) (x10 : Vec Ideal S3x8x128 .bf16) :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 = k0_pay13 (k0_pay5 x0 x1 x3 x2) x6 := by
  unfold out0_A_16
  rw [View.read_writes_eq_canon _ _ _ (cover0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S512x1024) hz, View.ld_unit_zero (S := S1x1024) hz, View.ld_unit_zero (S := S1024x768) hz, View.ld_unit_zero (S := S1024x1152) hz, View.ld_unit_zero (S := S640x1024) hz, View.ld_unit_zero (S := S1024x2048) hz, View.ld_unit_zero (S := S1x8) hz, View.ld_unit_zero (S := S512x8) hz, shapeCast_self]

theorem outA_17 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x768 .bf16) (harg5 : arg5.IsWhole) (arg6 : Memref sig .tc .vmem S1024x1152 .bf16) (harg6 : arg6.IsWhole) (arg7 : Memref sig .tc .vmem S640x1024 .bf16) (harg7 : arg7.IsWhole) (arg8 : Memref sig .tc .vmem S1024x2048 .bf16) (harg8 : arg8.IsWhole) (arg9 : Memref sig .tc .vmem S1x8 .f32) (harg9 : arg9.IsWhole) (arg10 : Memref sig .tc .vmem S512x8 .bf16) (harg10 : arg10.IsWhole) (arg11 : Memref sig .tc .vmem S3x8x128 .bf16) (harg11 : arg11.IsWhole) (arg12 : Memref sig .tc .vmem S512x512 .bf16) (harg12 : arg12.IsWhole) (arg13 : Memref sig .tc .vmem S512x256 .bf16) (harg13 : arg13.IsWhole) (arg14 : Memref sig .tc .vmem S128x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x128 .bf16) (harg20 : arg20.IsWhole) (arg21 : Memref sig .tc .vmem S2x1x8 .f32) (harg21 : arg21.IsWhole) (arg22 : Memref sig .tc .vmem S2x1x8 .f32) (harg22 : arg22.IsWhole) (arg23 : Memref sig .tc .vmem S2x1x8 .f32) (harg23 : arg23.IsWhole) (arg24 : Memref sig .tc .vmem S2x1x8 .f32) (harg24 : arg24.IsWhole) (arg25 : Memref sig .tc .vmem S2x1x8 .f32) (harg25 : arg25.IsWhole) (arg26 : Memref sig .tc .vmem S1x8 .f32) (harg26 : arg26.IsWhole) (hc0 : cond0_0 i)
    (x0 : Vec Ideal S512x1024 .f32) (x1 : Vec Ideal S1x1024 .f32) (x2 : Vec Ideal S1x1024 .f32) (x3 : Vec Ideal S1x1024 .f32) (x4 : Vec Ideal S1024x768 .bf16) (x5 : Vec Ideal S1024x1152 .bf16) (x6 : Vec Ideal S640x1024 .bf16) (x7 : Vec Ideal S1024x2048 .bf16) (x8 : Vec Ideal S1x8 .f32) (x9 : Vec Ideal S512x8 .bf16) (x10 : Vec Ideal S3x8x128 .bf16) :
    out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 = k0_pay25 (k0_pay5 x0 x1 x3 x2) x7 := by
  unfold out0_A_17
  rw [View.read_writes_eq_canon _ _ _ (cover0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S512x1024) hz, View.ld_unit_zero (S := S1x1024) hz, View.ld_unit_zero (S := S1024x768) hz, View.ld_unit_zero (S := S1024x1152) hz, View.ld_unit_zero (S := S640x1024) hz, View.ld_unit_zero (S := S1024x2048) hz, View.ld_unit_zero (S := S1x8) hz, View.ld_unit_zero (S := S512x8) hz, shapeCast_self]

theorem outA_18 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x768 .bf16) (harg5 : arg5.IsWhole) (arg6 : Memref sig .tc .vmem S1024x1152 .bf16) (harg6 : arg6.IsWhole) (arg7 : Memref sig .tc .vmem S640x1024 .bf16) (harg7 : arg7.IsWhole) (arg8 : Memref sig .tc .vmem S1024x2048 .bf16) (harg8 : arg8.IsWhole) (arg9 : Memref sig .tc .vmem S1x8 .f32) (harg9 : arg9.IsWhole) (arg10 : Memref sig .tc .vmem S512x8 .bf16) (harg10 : arg10.IsWhole) (arg11 : Memref sig .tc .vmem S3x8x128 .bf16) (harg11 : arg11.IsWhole) (arg12 : Memref sig .tc .vmem S512x512 .bf16) (harg12 : arg12.IsWhole) (arg13 : Memref sig .tc .vmem S512x256 .bf16) (harg13 : arg13.IsWhole) (arg14 : Memref sig .tc .vmem S128x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x128 .bf16) (harg20 : arg20.IsWhole) (arg21 : Memref sig .tc .vmem S2x1x8 .f32) (harg21 : arg21.IsWhole) (arg22 : Memref sig .tc .vmem S2x1x8 .f32) (harg22 : arg22.IsWhole) (arg23 : Memref sig .tc .vmem S2x1x8 .f32) (harg23 : arg23.IsWhole) (arg24 : Memref sig .tc .vmem S2x1x8 .f32) (harg24 : arg24.IsWhole) (arg25 : Memref sig .tc .vmem S2x1x8 .f32) (harg25 : arg25.IsWhole) (arg26 : Memref sig .tc .vmem S1x8 .f32) (harg26 : arg26.IsWhole) (hc0 : cond0_0 i)
    (x0 : Vec Ideal S512x1024 .f32) (x1 : Vec Ideal S1x1024 .f32) (x2 : Vec Ideal S1x1024 .f32) (x3 : Vec Ideal S1x1024 .f32) (x4 : Vec Ideal S1024x768 .bf16) (x5 : Vec Ideal S1024x1152 .bf16) (x6 : Vec Ideal S640x1024 .bf16) (x7 : Vec Ideal S1024x2048 .bf16) (x8 : Vec Ideal S1x8 .f32) (x9 : Vec Ideal S512x8 .bf16) (x10 : Vec Ideal S3x8x128 .bf16) :
    out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 = k0_pay26 (k0_pay5 x0 x1 x3 x2) x7 := by
  unfold out0_A_18
  rw [View.read_writes_eq_canon _ _ _ (cover0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S512x1024) hz, View.ld_unit_zero (S := S1x1024) hz, View.ld_unit_zero (S := S1024x768) hz, View.ld_unit_zero (S := S1024x1152) hz, View.ld_unit_zero (S := S640x1024) hz, View.ld_unit_zero (S := S1024x2048) hz, View.ld_unit_zero (S := S1x8) hz, View.ld_unit_zero (S := S512x8) hz, shapeCast_self]

theorem outB_11 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x768 .bf16) (harg5 : arg5.IsWhole) (arg6 : Memref sig .tc .vmem S1024x1152 .bf16) (harg6 : arg6.IsWhole) (arg7 : Memref sig .tc .vmem S640x1024 .bf16) (harg7 : arg7.IsWhole) (arg8 : Memref sig .tc .vmem S1024x2048 .bf16) (harg8 : arg8.IsWhole) (arg9 : Memref sig .tc .vmem S1x8 .f32) (harg9 : arg9.IsWhole) (arg10 : Memref sig .tc .vmem S512x8 .bf16) (harg10 : arg10.IsWhole) (arg11 : Memref sig .tc .vmem S3x8x128 .bf16) (harg11 : arg11.IsWhole) (arg12 : Memref sig .tc .vmem S512x512 .bf16) (harg12 : arg12.IsWhole) (arg13 : Memref sig .tc .vmem S512x256 .bf16) (harg13 : arg13.IsWhole) (arg14 : Memref sig .tc .vmem S128x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x128 .bf16) (harg20 : arg20.IsWhole) (arg21 : Memref sig .tc .vmem S2x1x8 .f32) (harg21 : arg21.IsWhole) (arg22 : Memref sig .tc .vmem S2x1x8 .f32) (harg22 : arg22.IsWhole) (arg23 : Memref sig .tc .vmem S2x1x8 .f32) (harg23 : arg23.IsWhole) (arg24 : Memref sig .tc .vmem S2x1x8 .f32) (harg24 : arg24.IsWhole) (arg25 : Memref sig .tc .vmem S2x1x8 .f32) (harg25 : arg25.IsWhole) (arg26 : Memref sig .tc .vmem S1x8 .f32) (harg26 : arg26.IsWhole) (hc0 : ¬cond0_0 i)
    (x0 : Vec Ideal S512x1024 .f32) (x1 : Vec Ideal S1x1024 .f32) (x2 : Vec Ideal S1x1024 .f32) (x3 : Vec Ideal S1x1024 .f32) (x4 : Vec Ideal S1024x768 .bf16) (x5 : Vec Ideal S1024x1152 .bf16) (x6 : Vec Ideal S640x1024 .bf16) (x7 : Vec Ideal S1024x2048 .bf16) (x8 : Vec Ideal S1x8 .f32) (x9 : Vec Ideal S512x8 .bf16) (x10 : Vec Ideal S3x8x128 .bf16) (xs0 : Vec Ideal S1x8 .f32) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 xs0 = k0_pay7 x0 x1 x3 x2 x4 := by
  unfold out0_B_11
  rw [View.read_writes_eq_canon _ _ _ (cover0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S512x1024) hz, View.ld_unit_zero (S := S1x1024) hz, View.ld_unit_zero (S := S1024x768) hz, View.ld_unit_zero (S := S1024x1152) hz, View.ld_unit_zero (S := S640x1024) hz, View.ld_unit_zero (S := S1024x2048) hz, View.ld_unit_zero (S := S1x8) hz, View.ld_unit_zero (S := S512x8) hz, shapeCast_self]

theorem outB_12 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x768 .bf16) (harg5 : arg5.IsWhole) (arg6 : Memref sig .tc .vmem S1024x1152 .bf16) (harg6 : arg6.IsWhole) (arg7 : Memref sig .tc .vmem S640x1024 .bf16) (harg7 : arg7.IsWhole) (arg8 : Memref sig .tc .vmem S1024x2048 .bf16) (harg8 : arg8.IsWhole) (arg9 : Memref sig .tc .vmem S1x8 .f32) (harg9 : arg9.IsWhole) (arg10 : Memref sig .tc .vmem S512x8 .bf16) (harg10 : arg10.IsWhole) (arg11 : Memref sig .tc .vmem S3x8x128 .bf16) (harg11 : arg11.IsWhole) (arg12 : Memref sig .tc .vmem S512x512 .bf16) (harg12 : arg12.IsWhole) (arg13 : Memref sig .tc .vmem S512x256 .bf16) (harg13 : arg13.IsWhole) (arg14 : Memref sig .tc .vmem S128x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x128 .bf16) (harg20 : arg20.IsWhole) (arg21 : Memref sig .tc .vmem S2x1x8 .f32) (harg21 : arg21.IsWhole) (arg22 : Memref sig .tc .vmem S2x1x8 .f32) (harg22 : arg22.IsWhole) (arg23 : Memref sig .tc .vmem S2x1x8 .f32) (harg23 : arg23.IsWhole) (arg24 : Memref sig .tc .vmem S2x1x8 .f32) (harg24 : arg24.IsWhole) (arg25 : Memref sig .tc .vmem S2x1x8 .f32) (harg25 : arg25.IsWhole) (arg26 : Memref sig .tc .vmem S1x8 .f32) (harg26 : arg26.IsWhole) (hc0 : ¬cond0_0 i)
    (x0 : Vec Ideal S512x1024 .f32) (x1 : Vec Ideal S1x1024 .f32) (x2 : Vec Ideal S1x1024 .f32) (x3 : Vec Ideal S1x1024 .f32) (x4 : Vec Ideal S1024x768 .bf16) (x5 : Vec Ideal S1024x1152 .bf16) (x6 : Vec Ideal S640x1024 .bf16) (x7 : Vec Ideal S1024x2048 .bf16) (x8 : Vec Ideal S1x8 .f32) (x9 : Vec Ideal S512x8 .bf16) (x10 : Vec Ideal S3x8x128 .bf16) (xs0 : Vec Ideal S1x8 .f32) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 xs0 = k0_pay8 x0 x1 x3 x2 x4 := by
  unfold out0_B_12
  rw [View.read_writes_eq_canon _ _ _ (cover0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S512x1024) hz, View.ld_unit_zero (S := S1x1024) hz, View.ld_unit_zero (S := S1024x768) hz, View.ld_unit_zero (S := S1024x1152) hz, View.ld_unit_zero (S := S640x1024) hz, View.ld_unit_zero (S := S1024x2048) hz, View.ld_unit_zero (S := S1x8) hz, View.ld_unit_zero (S := S512x8) hz, shapeCast_self]

theorem outB_13 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x768 .bf16) (harg5 : arg5.IsWhole) (arg6 : Memref sig .tc .vmem S1024x1152 .bf16) (harg6 : arg6.IsWhole) (arg7 : Memref sig .tc .vmem S640x1024 .bf16) (harg7 : arg7.IsWhole) (arg8 : Memref sig .tc .vmem S1024x2048 .bf16) (harg8 : arg8.IsWhole) (arg9 : Memref sig .tc .vmem S1x8 .f32) (harg9 : arg9.IsWhole) (arg10 : Memref sig .tc .vmem S512x8 .bf16) (harg10 : arg10.IsWhole) (arg11 : Memref sig .tc .vmem S3x8x128 .bf16) (harg11 : arg11.IsWhole) (arg12 : Memref sig .tc .vmem S512x512 .bf16) (harg12 : arg12.IsWhole) (arg13 : Memref sig .tc .vmem S512x256 .bf16) (harg13 : arg13.IsWhole) (arg14 : Memref sig .tc .vmem S128x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x128 .bf16) (harg20 : arg20.IsWhole) (arg21 : Memref sig .tc .vmem S2x1x8 .f32) (harg21 : arg21.IsWhole) (arg22 : Memref sig .tc .vmem S2x1x8 .f32) (harg22 : arg22.IsWhole) (arg23 : Memref sig .tc .vmem S2x1x8 .f32) (harg23 : arg23.IsWhole) (arg24 : Memref sig .tc .vmem S2x1x8 .f32) (harg24 : arg24.IsWhole) (arg25 : Memref sig .tc .vmem S2x1x8 .f32) (harg25 : arg25.IsWhole) (arg26 : Memref sig .tc .vmem S1x8 .f32) (harg26 : arg26.IsWhole) (hc0 : ¬cond0_0 i)
    (x0 : Vec Ideal S512x1024 .f32) (x1 : Vec Ideal S1x1024 .f32) (x2 : Vec Ideal S1x1024 .f32) (x3 : Vec Ideal S1x1024 .f32) (x4 : Vec Ideal S1024x768 .bf16) (x5 : Vec Ideal S1024x1152 .bf16) (x6 : Vec Ideal S640x1024 .bf16) (x7 : Vec Ideal S1024x2048 .bf16) (x8 : Vec Ideal S1x8 .f32) (x9 : Vec Ideal S512x8 .bf16) (x10 : Vec Ideal S3x8x128 .bf16) (xs0 : Vec Ideal S1x8 .f32) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 xs0 = k0_pay14 (k0_pay5 x0 x1 x3 x2) x6 := by
  unfold out0_B_13
  rw [View.read_writes_eq_canon _ _ _ (cover0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S512x1024) hz, View.ld_unit_zero (S := S1x1024) hz, View.ld_unit_zero (S := S1024x768) hz, View.ld_unit_zero (S := S1024x1152) hz, View.ld_unit_zero (S := S640x1024) hz, View.ld_unit_zero (S := S1024x2048) hz, View.ld_unit_zero (S := S1x8) hz, View.ld_unit_zero (S := S512x8) hz, shapeCast_self]

theorem outB_14 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x768 .bf16) (harg5 : arg5.IsWhole) (arg6 : Memref sig .tc .vmem S1024x1152 .bf16) (harg6 : arg6.IsWhole) (arg7 : Memref sig .tc .vmem S640x1024 .bf16) (harg7 : arg7.IsWhole) (arg8 : Memref sig .tc .vmem S1024x2048 .bf16) (harg8 : arg8.IsWhole) (arg9 : Memref sig .tc .vmem S1x8 .f32) (harg9 : arg9.IsWhole) (arg10 : Memref sig .tc .vmem S512x8 .bf16) (harg10 : arg10.IsWhole) (arg11 : Memref sig .tc .vmem S3x8x128 .bf16) (harg11 : arg11.IsWhole) (arg12 : Memref sig .tc .vmem S512x512 .bf16) (harg12 : arg12.IsWhole) (arg13 : Memref sig .tc .vmem S512x256 .bf16) (harg13 : arg13.IsWhole) (arg14 : Memref sig .tc .vmem S128x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x128 .bf16) (harg20 : arg20.IsWhole) (arg21 : Memref sig .tc .vmem S2x1x8 .f32) (harg21 : arg21.IsWhole) (arg22 : Memref sig .tc .vmem S2x1x8 .f32) (harg22 : arg22.IsWhole) (arg23 : Memref sig .tc .vmem S2x1x8 .f32) (harg23 : arg23.IsWhole) (arg24 : Memref sig .tc .vmem S2x1x8 .f32) (harg24 : arg24.IsWhole) (arg25 : Memref sig .tc .vmem S2x1x8 .f32) (harg25 : arg25.IsWhole) (arg26 : Memref sig .tc .vmem S1x8 .f32) (harg26 : arg26.IsWhole) (hc0 : ¬cond0_0 i)
    (x0 : Vec Ideal S512x1024 .f32) (x1 : Vec Ideal S1x1024 .f32) (x2 : Vec Ideal S1x1024 .f32) (x3 : Vec Ideal S1x1024 .f32) (x4 : Vec Ideal S1024x768 .bf16) (x5 : Vec Ideal S1024x1152 .bf16) (x6 : Vec Ideal S640x1024 .bf16) (x7 : Vec Ideal S1024x2048 .bf16) (x8 : Vec Ideal S1x8 .f32) (x9 : Vec Ideal S512x8 .bf16) (x10 : Vec Ideal S3x8x128 .bf16) (xs0 : Vec Ideal S1x8 .f32) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 xs0 = k0_pay10 (k0_pay5 x0 x1 x3 x2) x5 := by
  unfold out0_B_14
  rw [View.read_writes_eq_canon _ _ _ (cover0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S512x1024) hz, View.ld_unit_zero (S := S1x1024) hz, View.ld_unit_zero (S := S1024x768) hz, View.ld_unit_zero (S := S1024x1152) hz, View.ld_unit_zero (S := S640x1024) hz, View.ld_unit_zero (S := S1024x2048) hz, View.ld_unit_zero (S := S1x8) hz, View.ld_unit_zero (S := S512x8) hz, shapeCast_self]

theorem outB_15 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x768 .bf16) (harg5 : arg5.IsWhole) (arg6 : Memref sig .tc .vmem S1024x1152 .bf16) (harg6 : arg6.IsWhole) (arg7 : Memref sig .tc .vmem S640x1024 .bf16) (harg7 : arg7.IsWhole) (arg8 : Memref sig .tc .vmem S1024x2048 .bf16) (harg8 : arg8.IsWhole) (arg9 : Memref sig .tc .vmem S1x8 .f32) (harg9 : arg9.IsWhole) (arg10 : Memref sig .tc .vmem S512x8 .bf16) (harg10 : arg10.IsWhole) (arg11 : Memref sig .tc .vmem S3x8x128 .bf16) (harg11 : arg11.IsWhole) (arg12 : Memref sig .tc .vmem S512x512 .bf16) (harg12 : arg12.IsWhole) (arg13 : Memref sig .tc .vmem S512x256 .bf16) (harg13 : arg13.IsWhole) (arg14 : Memref sig .tc .vmem S128x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x128 .bf16) (harg20 : arg20.IsWhole) (arg21 : Memref sig .tc .vmem S2x1x8 .f32) (harg21 : arg21.IsWhole) (arg22 : Memref sig .tc .vmem S2x1x8 .f32) (harg22 : arg22.IsWhole) (arg23 : Memref sig .tc .vmem S2x1x8 .f32) (harg23 : arg23.IsWhole) (arg24 : Memref sig .tc .vmem S2x1x8 .f32) (harg24 : arg24.IsWhole) (arg25 : Memref sig .tc .vmem S2x1x8 .f32) (harg25 : arg25.IsWhole) (arg26 : Memref sig .tc .vmem S1x8 .f32) (harg26 : arg26.IsWhole) (hc0 : ¬cond0_0 i)
    (x0 : Vec Ideal S512x1024 .f32) (x1 : Vec Ideal S1x1024 .f32) (x2 : Vec Ideal S1x1024 .f32) (x3 : Vec Ideal S1x1024 .f32) (x4 : Vec Ideal S1024x768 .bf16) (x5 : Vec Ideal S1024x1152 .bf16) (x6 : Vec Ideal S640x1024 .bf16) (x7 : Vec Ideal S1024x2048 .bf16) (x8 : Vec Ideal S1x8 .f32) (x9 : Vec Ideal S512x8 .bf16) (x10 : Vec Ideal S3x8x128 .bf16) (xs0 : Vec Ideal S1x8 .f32) :
    out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 xs0 = k0_pay11 (k0_pay5 x0 x1 x3 x2) x5 := by
  unfold out0_B_15
  rw [View.read_writes_eq_canon _ _ _ (cover0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S512x1024) hz, View.ld_unit_zero (S := S1x1024) hz, View.ld_unit_zero (S := S1024x768) hz, View.ld_unit_zero (S := S1024x1152) hz, View.ld_unit_zero (S := S640x1024) hz, View.ld_unit_zero (S := S1024x2048) hz, View.ld_unit_zero (S := S1x8) hz, View.ld_unit_zero (S := S512x8) hz, shapeCast_self]

theorem outB_16 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x768 .bf16) (harg5 : arg5.IsWhole) (arg6 : Memref sig .tc .vmem S1024x1152 .bf16) (harg6 : arg6.IsWhole) (arg7 : Memref sig .tc .vmem S640x1024 .bf16) (harg7 : arg7.IsWhole) (arg8 : Memref sig .tc .vmem S1024x2048 .bf16) (harg8 : arg8.IsWhole) (arg9 : Memref sig .tc .vmem S1x8 .f32) (harg9 : arg9.IsWhole) (arg10 : Memref sig .tc .vmem S512x8 .bf16) (harg10 : arg10.IsWhole) (arg11 : Memref sig .tc .vmem S3x8x128 .bf16) (harg11 : arg11.IsWhole) (arg12 : Memref sig .tc .vmem S512x512 .bf16) (harg12 : arg12.IsWhole) (arg13 : Memref sig .tc .vmem S512x256 .bf16) (harg13 : arg13.IsWhole) (arg14 : Memref sig .tc .vmem S128x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x128 .bf16) (harg20 : arg20.IsWhole) (arg21 : Memref sig .tc .vmem S2x1x8 .f32) (harg21 : arg21.IsWhole) (arg22 : Memref sig .tc .vmem S2x1x8 .f32) (harg22 : arg22.IsWhole) (arg23 : Memref sig .tc .vmem S2x1x8 .f32) (harg23 : arg23.IsWhole) (arg24 : Memref sig .tc .vmem S2x1x8 .f32) (harg24 : arg24.IsWhole) (arg25 : Memref sig .tc .vmem S2x1x8 .f32) (harg25 : arg25.IsWhole) (arg26 : Memref sig .tc .vmem S1x8 .f32) (harg26 : arg26.IsWhole) (hc0 : ¬cond0_0 i)
    (x0 : Vec Ideal S512x1024 .f32) (x1 : Vec Ideal S1x1024 .f32) (x2 : Vec Ideal S1x1024 .f32) (x3 : Vec Ideal S1x1024 .f32) (x4 : Vec Ideal S1024x768 .bf16) (x5 : Vec Ideal S1024x1152 .bf16) (x6 : Vec Ideal S640x1024 .bf16) (x7 : Vec Ideal S1024x2048 .bf16) (x8 : Vec Ideal S1x8 .f32) (x9 : Vec Ideal S512x8 .bf16) (x10 : Vec Ideal S3x8x128 .bf16) (xs0 : Vec Ideal S1x8 .f32) :
    out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 xs0 = k0_pay13 (k0_pay5 x0 x1 x3 x2) x6 := by
  unfold out0_B_16
  rw [View.read_writes_eq_canon _ _ _ (cover0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S512x1024) hz, View.ld_unit_zero (S := S1x1024) hz, View.ld_unit_zero (S := S1024x768) hz, View.ld_unit_zero (S := S1024x1152) hz, View.ld_unit_zero (S := S640x1024) hz, View.ld_unit_zero (S := S1024x2048) hz, View.ld_unit_zero (S := S1x8) hz, View.ld_unit_zero (S := S512x8) hz, shapeCast_self]

theorem outB_17 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x768 .bf16) (harg5 : arg5.IsWhole) (arg6 : Memref sig .tc .vmem S1024x1152 .bf16) (harg6 : arg6.IsWhole) (arg7 : Memref sig .tc .vmem S640x1024 .bf16) (harg7 : arg7.IsWhole) (arg8 : Memref sig .tc .vmem S1024x2048 .bf16) (harg8 : arg8.IsWhole) (arg9 : Memref sig .tc .vmem S1x8 .f32) (harg9 : arg9.IsWhole) (arg10 : Memref sig .tc .vmem S512x8 .bf16) (harg10 : arg10.IsWhole) (arg11 : Memref sig .tc .vmem S3x8x128 .bf16) (harg11 : arg11.IsWhole) (arg12 : Memref sig .tc .vmem S512x512 .bf16) (harg12 : arg12.IsWhole) (arg13 : Memref sig .tc .vmem S512x256 .bf16) (harg13 : arg13.IsWhole) (arg14 : Memref sig .tc .vmem S128x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x128 .bf16) (harg20 : arg20.IsWhole) (arg21 : Memref sig .tc .vmem S2x1x8 .f32) (harg21 : arg21.IsWhole) (arg22 : Memref sig .tc .vmem S2x1x8 .f32) (harg22 : arg22.IsWhole) (arg23 : Memref sig .tc .vmem S2x1x8 .f32) (harg23 : arg23.IsWhole) (arg24 : Memref sig .tc .vmem S2x1x8 .f32) (harg24 : arg24.IsWhole) (arg25 : Memref sig .tc .vmem S2x1x8 .f32) (harg25 : arg25.IsWhole) (arg26 : Memref sig .tc .vmem S1x8 .f32) (harg26 : arg26.IsWhole) (hc0 : ¬cond0_0 i)
    (x0 : Vec Ideal S512x1024 .f32) (x1 : Vec Ideal S1x1024 .f32) (x2 : Vec Ideal S1x1024 .f32) (x3 : Vec Ideal S1x1024 .f32) (x4 : Vec Ideal S1024x768 .bf16) (x5 : Vec Ideal S1024x1152 .bf16) (x6 : Vec Ideal S640x1024 .bf16) (x7 : Vec Ideal S1024x2048 .bf16) (x8 : Vec Ideal S1x8 .f32) (x9 : Vec Ideal S512x8 .bf16) (x10 : Vec Ideal S3x8x128 .bf16) (xs0 : Vec Ideal S1x8 .f32) :
    out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 xs0 = k0_pay25 (k0_pay5 x0 x1 x3 x2) x7 := by
  unfold out0_B_17
  rw [View.read_writes_eq_canon _ _ _ (cover0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S512x1024) hz, View.ld_unit_zero (S := S1x1024) hz, View.ld_unit_zero (S := S1024x768) hz, View.ld_unit_zero (S := S1024x1152) hz, View.ld_unit_zero (S := S640x1024) hz, View.ld_unit_zero (S := S1024x2048) hz, View.ld_unit_zero (S := S1x8) hz, View.ld_unit_zero (S := S512x8) hz, shapeCast_self]

theorem outB_18 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x768 .bf16) (harg5 : arg5.IsWhole) (arg6 : Memref sig .tc .vmem S1024x1152 .bf16) (harg6 : arg6.IsWhole) (arg7 : Memref sig .tc .vmem S640x1024 .bf16) (harg7 : arg7.IsWhole) (arg8 : Memref sig .tc .vmem S1024x2048 .bf16) (harg8 : arg8.IsWhole) (arg9 : Memref sig .tc .vmem S1x8 .f32) (harg9 : arg9.IsWhole) (arg10 : Memref sig .tc .vmem S512x8 .bf16) (harg10 : arg10.IsWhole) (arg11 : Memref sig .tc .vmem S3x8x128 .bf16) (harg11 : arg11.IsWhole) (arg12 : Memref sig .tc .vmem S512x512 .bf16) (harg12 : arg12.IsWhole) (arg13 : Memref sig .tc .vmem S512x256 .bf16) (harg13 : arg13.IsWhole) (arg14 : Memref sig .tc .vmem S128x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S512x128 .bf16) (harg20 : arg20.IsWhole) (arg21 : Memref sig .tc .vmem S2x1x8 .f32) (harg21 : arg21.IsWhole) (arg22 : Memref sig .tc .vmem S2x1x8 .f32) (harg22 : arg22.IsWhole) (arg23 : Memref sig .tc .vmem S2x1x8 .f32) (harg23 : arg23.IsWhole) (arg24 : Memref sig .tc .vmem S2x1x8 .f32) (harg24 : arg24.IsWhole) (arg25 : Memref sig .tc .vmem S2x1x8 .f32) (harg25 : arg25.IsWhole) (arg26 : Memref sig .tc .vmem S1x8 .f32) (harg26 : arg26.IsWhole) (hc0 : ¬cond0_0 i)
    (x0 : Vec Ideal S512x1024 .f32) (x1 : Vec Ideal S1x1024 .f32) (x2 : Vec Ideal S1x1024 .f32) (x3 : Vec Ideal S1x1024 .f32) (x4 : Vec Ideal S1024x768 .bf16) (x5 : Vec Ideal S1024x1152 .bf16) (x6 : Vec Ideal S640x1024 .bf16) (x7 : Vec Ideal S1024x2048 .bf16) (x8 : Vec Ideal S1x8 .f32) (x9 : Vec Ideal S512x8 .bf16) (x10 : Vec Ideal S3x8x128 .bf16) (xs0 : Vec Ideal S1x8 .f32) :
    out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 xs0 = k0_pay26 (k0_pay5 x0 x1 x3 x2) x7 := by
  unfold out0_B_18
  rw [View.read_writes_eq_canon _ _ _ (cover0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, View.ld_unit_zero (S := S512x1024) hz, View.ld_unit_zero (S := S1x1024) hz, View.ld_unit_zero (S := S1024x768) hz, View.ld_unit_zero (S := S1024x1152) hz, View.ld_unit_zero (S := S640x1024) hz, View.ld_unit_zero (S := S1024x2048) hz, View.ld_unit_zero (S := S1x8) hz, View.ld_unit_zero (S := S512x8) hz, shapeCast_self]

end Cert.Inproj
-- ==== Proof.Inproj.Weights.lean ====
/- The four weights the input projection is handed, laid out of the one weight matrix, at an index. -/
module

public import proofs.«01_k».proof.Proof.Gen.Kernel4Ideal.Skeleton
public import proofs.«01_k».proof.Proof.Inproj.Row
public import Idealize.ShloMosaic.Lib.Pointwise

@[expose] public section

set_option maxRecDepth 16384
set_option Elab.async false

noncomputable section

namespace Cert.Inproj

open Cert.Kernel4Ideal Cert.Kernel4Ideal.Gen Idealize.ShloMosaic

variable (w : FVec Ideal S1024x4360 .f32)

/-- The first branch's query columns, then its key columns, each head twice. -/
def wA : FVec Ideal S1024x768 .bf16 :=
  truncf (F := Ideal) .bf16 (concatenate S1024x768 1 [⟨S1024x512, extractStridedSlice S1024x512 ![0, 0] w slices_S1024x4360_S1024x512_0_0⟩,
    ⟨S1024x256, concatenate S1024x256 1
      [⟨S1024x64, extractStridedSlice S1024x64 ![0, 0] (extractStridedSlice S1024x128 ![0, 512] w slices_S1024x4360_S1024x128_0_512) slices_S1024x128_S1024x64_0_0⟩,
       ⟨S1024x64, extractStridedSlice S1024x64 ![0, 0] (extractStridedSlice S1024x128 ![0, 512] w slices_S1024x4360_S1024x128_0_512) slices_S1024x128_S1024x64_0_0⟩,
       ⟨S1024x64, extractStridedSlice S1024x64 ![0, 64] (extractStridedSlice S1024x128 ![0, 512] w slices_S1024x4360_S1024x128_0_512) slices_S1024x128_S1024x64_0_64⟩,
       ⟨S1024x64, extractStridedSlice S1024x64 ![0, 64] (extractStridedSlice S1024x128 ![0, 512] w slices_S1024x4360_S1024x128_0_512) slices_S1024x128_S1024x64_0_64⟩]
      concatenates_S1024x64_S1024x64_S1024x64_S1024x64_S1024x256_d1⟩] concatenates_S1024x512_S1024x256_S1024x768_d1) bitsLt_bf16_f32

/-- The second branch's query and key columns, its forget columns, and zeros. -/
def wB : FVec Ideal S1024x1152 .bf16 :=
  truncf (F := Ideal) .bf16 (concatenate S1024x1152 1 [⟨S1024x1024, extractStridedSlice S1024x1024 ![0, 768] w slices_S1024x4360_S1024x1024_0_768⟩,
    ⟨S1024x8, extractStridedSlice S1024x8 ![0, 2304] w slices_S1024x4360_S1024x8_0_2304⟩,
    ⟨S1024x120, broadcastInDim S1024x120 ![] bcast_S_S1024x120 (constant S_ .f32 0x00000000#32)⟩]
    concatenates_S1024x1024_S1024x8_S1024x120_S1024x1152_d1) bitsLt_bf16_f32

/-- The two branches' value columns, as rows. -/
def wV : FVec Ideal S640x1024 .bf16 :=
  truncf (F := Ideal) .bf16 (transpose S640x1024 [1, 0] (concatenate S1024x640 1
    [⟨S1024x512, extractStridedSlice S1024x512 ![0, 1792] w slices_S1024x4360_S1024x512_0_1792⟩,
     ⟨S1024x128, extractStridedSlice S1024x128 ![0, 640] w slices_S1024x4360_S1024x128_0_640⟩] concatenates_S1024x512_S1024x128_S1024x640_d1)
    transposes_S1024x640_S640x1024_1_0) bitsLt_bf16_f32

/-- The gates' columns. -/
def wG : FVec Ideal S1024x2048 .bf16 :=
  truncf (F := Ideal) .bf16 (extractStridedSlice S1024x2048 ![0, 2312] w slices_S1024x4360_S1024x2048_0_2312) bitsLt_bf16_f32

theorem col_ext {k : Fin 1024} {c c' : Fin 4360} (h : c.val = c'.val) : w (ix2 (n0 := 1024) (n1 := 4360) k c) = w (ix2 (n0 := 1024) (n1 := 4360) k c') :=
  congrArg (fun c => w (ix2 (n0 := 1024) (n1 := 4360) k c)) (Fin.ext h)

theorem wA_query (k : Fin 1024) (c : Fin 512) : wA w (ix2 (n0 := 1024) (n1 := 768) k ⟨c.val, by omega⟩) = w (ix2 (n0 := 1024) (n1 := 4360) k ⟨c.val, by omega⟩) := by
  have hc := c.isLt
  unfold wA
  pointwise

theorem wA_key (k : Fin 1024) (c : Fin 256) :
    wA w (ix2 (n0 := 1024) (n1 := 768) k ⟨512 + c.val, by omega⟩) = w (ix2 (n0 := 1024) (n1 := 4360) k ⟨512 + (keyLane c).val, by omega⟩) := by
  have hc := c.isLt
  unfold wA
  pointwise
  unfold keyLane
  split_ifs <;> first | (exfalso; omega) | (refine col_ext w ?_; dsimp only; omega)

theorem wB_at (k : Fin 1024) (c : Fin 1024) :
    wB w (ix2 (n0 := 1024) (n1 := 1152) k ⟨c.val, by omega⟩) = w (ix2 (n0 := 1024) (n1 := 4360) k ⟨768 + c.val, by omega⟩) := by
  have hc := c.isLt
  unfold wB
  pointwise

theorem wV_B (k : Fin 1024) (c : Fin 512) :
    wV w (ix2 (n0 := 640) (n1 := 1024) ⟨c.val, by omega⟩ k) = w (ix2 (n0 := 1024) (n1 := 4360) k ⟨1792 + c.val, by omega⟩) := by
  have hc := c.isLt
  unfold wV
  pointwise

theorem wV_A (k : Fin 1024) (c : Fin 128) :
    wV w (ix2 (n0 := 640) (n1 := 1024) ⟨512 + c.val, by omega⟩ k) = w (ix2 (n0 := 1024) (n1 := 4360) k ⟨640 + c.val, by omega⟩) := by
  have hc := c.isLt
  unfold wV
  pointwise

theorem wG_at (k : Fin 1024) (c : Fin 2048) :
    wG w (ix2 (n0 := 1024) (n1 := 2048) k c) = w (ix2 (n0 := 1024) (n1 := 4360) k ⟨2312 + c.val, by omega⟩) := by
  unfold wG
  pointwise

end Cert.Inproj
-- ==== Proof.Inproj.HostW.lean ====
/- The four arranged weights the input projection's call is given. -/
module

public import proofs.«01_k».proof.Proof.Gen.Kernel4Ideal.Frame
public import proofs.«01_k».proof.Proof.Inproj.Weights

@[expose] public section

set_option maxRecDepth 16384
set_option Elab.async false

noncomputable section

namespace Cert.Inproj

open Cert.Kernel4Ideal Cert.Kernel4Ideal.Gen
open Idealize.ShloMosaic Idealize.ShloMosaic.TcCoe

variable (m : (ℓ : Loc nD τ sig) → Buf (Elt Ideal) ℓ)

theorem V_4 : V m 0 main_v8 = wA (m (((0 : Dev nD) : Thread nD τ).loc main_arg4)) := by
  unfold V
  after_results_simp
  rfl

theorem V_5 : V m 0 main_v13 = wB (m (((0 : Dev nD) : Thread nD τ).loc main_arg4)) := by
  unfold V
  after_results_simp
  rfl

theorem V_6 : V m 0 main_v18 = wV (m (((0 : Dev nD) : Thread nD τ).loc main_arg4)) := by
  unfold V
  after_results_simp
  rfl

theorem V_7 : V m 0 main_v20 = wG (m (((0 : Dev nD) : Thread nD τ).loc main_arg4)) := by
  unfold V
  after_results_simp
  rfl

end Cert.Inproj
-- ==== Proof.Inproj.Blocks.lean ====
/- The input projection's blocks in terms of the program's arguments, and the arrays of eight of its results. -/
module

public import proofs.«01_k».proof.Proof.Gen.Kernel4Ideal.Value
public import proofs.«01_k».proof.Proof.Inproj.Body
public import proofs.«01_k».proof.Proof.Inproj.HostW

@[expose] public section

set_option maxRecDepth 16384
set_option Elab.async false

noncomputable section

namespace Cert.Inproj

open Cert.Kernel4Ideal Cert.Kernel4Ideal.Gen
open Idealize.ShloMosaic Idealize.ShloMosaic.TcCoe
open Idealize.ShloMosaic.Pipeline (Dat Window)

theorem ix2_ext {n0 n1 : ℕ} {i j : (⟨2, ![n0, n1]⟩ : Shape).Idx} (h0 : (i 0).val = (j 0).val) (h1 : (i 1).val = (j 1).val) : i = j := by
  funext a
  fin_cases a
  · exact Fin.ext h0
  · exact Fin.ext h1

variable (m : (ℓ : Loc nD τ sig) → Buf (Elt Ideal) ℓ)

/-- The program's arguments, in order: the rows, the norm's three rows, the weight. -/
abbrev a0 : FVec Ideal S16384x1024 .f32 := m (((0 : Dev nD) : Thread nD τ).loc main_arg0)
abbrev a1 : FVec Ideal S1x1024 .f32 := m (((0 : Dev nD) : Thread nD τ).loc main_arg1)
abbrev a2 : FVec Ideal S1x1024 .f32 := m (((0 : Dev nD) : Thread nD τ).loc main_arg2)
abbrev a3 : FVec Ideal S1x1024 .f32 := m (((0 : Dev nD) : Thread nD τ).loc main_arg3)
abbrev a4 : FVec Ideal S1024x4360 .f32 := m (((0 : Dev nD) : Thread nD τ).loc main_arg4)

theorem at0 (j : S16384x1024.Idx) : V m 0 main_arg0 j = a0 m j := congrFun (V_main_arg0 m 0) j

theorem at1 (j : S1x1024.Idx) : V m 0 main_arg1 j = a1 m j := congrFun (V_main_arg1 m 0) j

theorem at2 (j : S1x1024.Idx) : V m 0 main_arg2 j = a2 m j := congrFun (V_main_arg2 m 0) j

theorem at3 (j : S1x1024.Idx) : V m 0 main_arg3 j = a3 m j := congrFun (V_main_arg3 m 0) j

theorem at4 (j : S1024x768.Idx) : V m 0 main_v8 j = wA (a4 m) j := congrFun (V_4 m) j

theorem at5 (j : S1024x1152.Idx) : V m 0 main_v13 j = wB (a4 m) j := congrFun (V_5 m) j

theorem at6 (j : S640x1024.Idx) : V m 0 main_v18 j = wV (a4 m) j := congrFun (V_6 m) j

theorem at7 (j : S1024x2048.Idx) : V m 0 main_v20 j = wG (a4 m) j := congrFun (V_7 m) j

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index11 : ∀ t : Fin grid0.N, win0_11.index t = ![t.val, 0] := by decide +kernel
theorem flush11 : ∀ t : Fin grid0.N, win0_11.flush t = true := by decide +kernel
theorem index12 : ∀ t : Fin grid0.N, win0_12.index t = ![t.val, 0] := by decide +kernel
theorem flush12 : ∀ t : Fin grid0.N, win0_12.flush t = true := by decide +kernel
theorem index13 : ∀ t : Fin grid0.N, win0_13.index t = ![0, t.val] := by decide +kernel
theorem flush13 : ∀ t : Fin grid0.N, win0_13.flush t = true := by decide +kernel
theorem index14 : ∀ t : Fin grid0.N, win0_14.index t = ![t.val, 0] := by decide +kernel
theorem flush14 : ∀ t : Fin grid0.N, win0_14.flush t = true := by decide +kernel
theorem index15 : ∀ t : Fin grid0.N, win0_15.index t = ![t.val, 0] := by decide +kernel
theorem flush15 : ∀ t : Fin grid0.N, win0_15.flush t = true := by decide +kernel
theorem index16 : ∀ t : Fin grid0.N, win0_16.index t = ![0, t.val] := by decide +kernel
theorem flush16 : ∀ t : Fin grid0.N, win0_16.flush t = true := by decide +kernel
theorem index17 : ∀ t : Fin grid0.N, win0_17.index t = ![t.val, 0] := by decide +kernel
theorem flush17 : ∀ t : Fin grid0.N, win0_17.flush t = true := by decide +kernel
theorem index18 : ∀ t : Fin grid0.N, win0_18.index t = ![t.val, 0] := by decide +kernel
theorem flush18 : ∀ t : Fin grid0.N, win0_18.flush t = true := by decide +kernel

theorem blk0 (t : Fin cfg0.N) (r : Fin 512) (k : Fin 1024) :
    iblk m 0 0 t (ix2 (n0 := 512) (n1 := 1024) r k) = a0 m (ix2 (n0 := 16384) (n1 := 1024) ⟨t.val * 512 + r.val, by have ht : t.val < 32 := t.isLt; omega⟩ k) := by
  refine Eq.trans ?_ (at0 m _)
  unfold iblk
  rw [View.read_apply]
  refine congrArg (V m 0 main_arg0) (ix2_ext (n0 := 16384) (n1 := 1024) ?_ ?_)
  · refine (Window.rect_emb_val (cfg0.win 0) t _ (0 : Fin 2)).trans ?_
    rw [show (cfg0.win 0).index t = _ from index0 t]
    rfl
  · refine (Window.rect_emb_val (cfg0.win 0) t _ (1 : Fin 2)).trans ?_
    rw [show (cfg0.win 0).index t = _ from index0 t]
    show 0 * 1024 + k.val = k.val
    omega

theorem blk1 (t : Fin cfg0.N) (r : Fin 1) (k : Fin 1024) :
    iblk m 0 1 t (ix2 (n0 := 1) (n1 := 1024) r k) = a1 m (ix2 (n0 := 1) (n1 := 1024) r k) := by
  refine Eq.trans ?_ (at1 m _)
  unfold iblk
  rw [View.read_apply]
  refine congrArg (V m 0 main_arg1) (ix2_ext (n0 := 1) (n1 := 1024) ?_ ?_)
  · refine (Window.rect_emb_val (cfg0.win 1) t _ (0 : Fin 2)).trans ?_
    rw [show (cfg0.win 1).index t = _ from index1 t]
    show 0 * 1 + r.val = r.val
    omega
  · refine (Window.rect_emb_val (cfg0.win 1) t _ (1 : Fin 2)).trans ?_
    rw [show (cfg0.win 1).index t = _ from index1 t]
    show 0 * 1024 + k.val = k.val
    omega

theorem blk2 (t : Fin cfg0.N) (r : Fin 1) (k : Fin 1024) :
    iblk m 0 2 t (ix2 (n0 := 1) (n1 := 1024) r k) = a2 m (ix2 (n0 := 1) (n1 := 1024) r k) := by
  refine Eq.trans ?_ (at2 m _)
  unfold iblk
  rw [View.read_apply]
  refine congrArg (V m 0 main_arg2) (ix2_ext (n0 := 1) (n1 := 1024) ?_ ?_)
  · refine (Window.rect_emb_val (cfg0.win 2) t _ (0 : Fin 2)).trans ?_
    rw [show (cfg0.win 2).index t = _ from index2 t]
    show 0 * 1 + r.val = r.val
    omega
  · refine (Window.rect_emb_val (cfg0.win 2) t _ (1 : Fin 2)).trans ?_
    rw [show (cfg0.win 2).index t = _ from index2 t]
    show 0 * 1024 + k.val = k.val
    omega

theorem blk3 (t : Fin cfg0.N) (r : Fin 1) (k : Fin 1024) :
    iblk m 0 3 t (ix2 (n0 := 1) (n1 := 1024) r k) = a3 m (ix2 (n0 := 1) (n1 := 1024) r k) := by
  refine Eq.trans ?_ (at3 m _)
  unfold iblk
  rw [View.read_apply]
  refine congrArg (V m 0 main_arg3) (ix2_ext (n0 := 1) (n1 := 1024) ?_ ?_)
  · refine (Window.rect_emb_val (cfg0.win 3) t _ (0 : Fin 2)).trans ?_
    rw [show (cfg0.win 3).index t = _ from index3 t]
    show 0 * 1 + r.val = r.val
    omega
  · refine (Window.rect_emb_val (cfg0.win 3) t _ (1 : Fin 2)).trans ?_
    rw [show (cfg0.win 3).index t = _ from index3 t]
    show 0 * 1024 + k.val = k.val
    omega

theorem blk4 (t : Fin cfg0.N) (r : Fin 1024) (k : Fin 768) :
    iblk m 0 4 t (ix2 (n0 := 1024) (n1 := 768) r k) = wA (a4 m) (ix2 (n0 := 1024) (n1 := 768) r k) := by
  refine Eq.trans ?_ (at4 m _)
  unfold iblk
  rw [View.read_apply]
  refine congrArg (V m 0 main_v8) (ix2_ext (n0 := 1024) (n1 := 768) ?_ ?_)
  · refine (Window.rect_emb_val (cfg0.win 4) t _ (0 : Fin 2)).trans ?_
    rw [show (cfg0.win 4).index t = _ from index4 t]
    show 0 * 1024 + r.val = r.val
    omega
  · refine (Window.rect_emb_val (cfg0.win 4) t _ (1 : Fin 2)).trans ?_
    rw [show (cfg0.win 4).index t = _ from index4 t]
    show 0 * 768 + k.val = k.val
    omega

theorem blk5 (t : Fin cfg0.N) (r : Fin 1024) (k : Fin 1152) :
    iblk m 0 5 t (ix2 (n0 := 1024) (n1 := 1152) r k) = wB (a4 m) (ix2 (n0 := 1024) (n1 := 1152) r k) := by
  refine Eq.trans ?_ (at5 m _)
  unfold iblk
  rw [View.read_apply]
  refine congrArg (V m 0 main_v13) (ix2_ext (n0 := 1024) (n1 := 1152) ?_ ?_)
  · refine (Window.rect_emb_val (cfg0.win 5) t _ (0 : Fin 2)).trans ?_
    rw [show (cfg0.win 5).index t = _ from index5 t]
    show 0 * 1024 + r.val = r.val
    omega
  · refine (Window.rect_emb_val (cfg0.win 5) t _ (1 : Fin 2)).trans ?_
    rw [show (cfg0.win 5).index t = _ from index5 t]
    show 0 * 1152 + k.val = k.val
    omega

theorem blk6 (t : Fin cfg0.N) (r : Fin 640) (k : Fin 1024) :
    iblk m 0 6 t (ix2 (n0 := 640) (n1 := 1024) r k) = wV (a4 m) (ix2 (n0 := 640) (n1 := 1024) r k) := by
  refine Eq.trans ?_ (at6 m _)
  unfold iblk
  rw [View.read_apply]
  refine congrArg (V m 0 main_v18) (ix2_ext (n0 := 640) (n1 := 1024) ?_ ?_)
  · refine (Window.rect_emb_val (cfg0.win 6) t _ (0 : Fin 2)).trans ?_
    rw [show (cfg0.win 6).index t = _ from index6 t]
    show 0 * 640 + r.val = r.val
    omega
  · refine (Window.rect_emb_val (cfg0.win 6) t _ (1 : Fin 2)).trans ?_
    rw [show (cfg0.win 6).index t = _ from index6 t]
    show 0 * 1024 + k.val = k.val
    omega

theorem blk7 (t : Fin cfg0.N) (r : Fin 1024) (k : Fin 2048) :
    iblk m 0 7 t (ix2 (n0 := 1024) (n1 := 2048) r k) = wG (a4 m) (ix2 (n0 := 1024) (n1 := 2048) r k) := by
  refine Eq.trans ?_ (at7 m _)
  unfold iblk
  rw [View.read_apply]
  refine congrArg (V m 0 main_v20) (ix2_ext (n0 := 1024) (n1 := 2048) ?_ ?_)
  · refine (Window.rect_emb_val (cfg0.win 7) t _ (0 : Fin 2)).trans ?_
    rw [show (cfg0.win 7).index t = _ from index7 t]
    show 0 * 1024 + r.val = r.val
    omega
  · refine (Window.rect_emb_val (cfg0.win 7) t _ (1 : Fin 2)).trans ?_
    rw [show (cfg0.win 7).index t = _ from index7 t]
    show 0 * 2048 + k.val = k.val
    omega

/-- Token `r`'s normed row. -/
def tokU (r : Fin 16384) (c : Fin 1024) : EReal :=
  Cert.Route.uOf (fun k => a0 m (ix2 (n0 := 16384) (n1 := 1024) r k)) (fun k => a1 m (ix2 (n0 := 1) (n1 := 1024) 0 k))
    (fun k => a2 m (ix2 (n0 := 1) (n1 := 1024) 0 k)) (fun k => a3 m (ix2 (n0 := 1) (n1 := 1024) 0 k)) c
/-- Token `r`'s normed row times column `c` of the weight. -/
def tokZ (r : Fin 16384) (c : Fin 4360) : EReal := proj (tokU m r) (fun k c => a4 m (ix2 (n0 := 1024) (n1 := 4360) k c)) c

def outQ : FVec Ideal S16384x512 .bf16 := fun i => tokZ m (i 0) ⟨(i 1).val, by have h : (i 1).val < 512 := (i 1).isLt; omega⟩ * scale
def outK : FVec Ideal S16384x256 .bf16 := fun i => tokZ m (i 0) ⟨512 + (keyLane (i 1)).val, by have h := (keyLane (i 1)).isLt; omega⟩
def outV : FVec Ideal S128x16384 .bf16 := fun i => tokZ m (i 1) ⟨640 + (i 0).val, by have h : (i 0).val < 128 := (i 0).isLt; omega⟩
def outQ2 : FVec Ideal S16384x512 .bf16 := fun i => tokZ m (i 0) ⟨768 + (i 1).val, by have h : (i 1).val < 512 := (i 1).isLt; omega⟩ * scale
def outK2 : FVec Ideal S16384x512 .bf16 := fun i => tokZ m (i 0) ⟨1280 + (i 1).val, by have h : (i 1).val < 512 := (i 1).isLt; omega⟩
def outV2 : FVec Ideal S512x16384 .bf16 := fun i => tokZ m (i 1) ⟨1792 + (i 0).val, by have h : (i 0).val < 512 := (i 0).isLt; omega⟩
def outG : FVec Ideal S16384x1024 .bf16 := fun i => gate (tokZ m (i 0) ⟨2312 + (i 1).val, by have h : (i 1).val < 1024 := (i 1).isLt; omega⟩)
def outG2 : FVec Ideal S16384x1024 .bf16 := fun i => gate (tokZ m (i 0) ⟨3336 + (i 1).val, by have h : (i 1).val < 1024 := (i 1).isLt; omega⟩)

theorem bU_at (t : Fin cfg0.N) (r : Fin 512) (c : Fin 1024) : (k0_pay5 (iblk m 0 0 t) (iblk m 0 1 t) (iblk m 0 3 t) (iblk m 0 2 t)) (ix2 r c) = tokU m ⟨t.val * 512 + r.val, by have ht : t.val < 32 := t.isLt; omega⟩ c := by
  refine (pay5_at _ _ _ _ r c).trans ?_
  unfold tokU
  rw [funext (blk0 m t r), funext (blk1 m t 0), funext (blk2 m t 0), funext (blk3 m t 0)]

theorem w_col (k : Fin 1024) {c c' : Fin 4360} (h : c.val = c'.val) : a4 m (ix2 (n0 := 1024) (n1 := 4360) k c) = a4 m (ix2 (n0 := 1024) (n1 := 4360) k c') :=
  congrArg (fun c => a4 m (ix2 (n0 := 1024) (n1 := 4360) k c)) (Fin.ext h)

theorem bQ_at (t : Fin cfg0.N) (r : Fin 512) (k : Fin 512) : k0_pay7 (iblk m 0 0 t) (iblk m 0 1 t) (iblk m 0 3 t) (iblk m 0 2 t) (iblk m 0 4 t) (ix2 (n0 := 512) (n1 := 512) r k) = outQ m (ix2 (n0 := 16384) (n1 := 512) ⟨t.val * 512 + r.val, by have ht : t.val < 32 := t.isLt; omega⟩ k) := by
  refine (pay7_at _ _ _ _ _ r k).trans ?_
  exact congrArg (· * scale) (proj_congr (w := fun j c => iblk m 0 4 t (ix2 (n0 := 1024) (n1 := 768) j c)) (w' := fun j c => a4 m (ix2 (n0 := 1024) (n1 := 4360) j c))
    (c := ⟨k.val, by omega⟩) (c' := ⟨k.val, by have h := k.isLt; omega⟩) (bU_at m t r) fun j => ((blk4 m t j _).trans (wA_query (a4 m) j k)))

theorem emb11 (t : Fin cfg0.N) (r : Fin 512) (k : Fin 512) : ((cfg0.win 11).blk t).view.emb (ix2 (n0 := 512) (n1 := 512) r k) = ix2 (n0 := 16384) (n1 := 512) ⟨t.val * 512 + r.val, by have ht : t.val < 32 := t.isLt; omega⟩ k := by
  refine ix2_ext (n0 := 16384) (n1 := 512) ?_ ?_
  · refine (Window.rect_emb_val (cfg0.win 11) t _ (0 : Fin 2)).trans ?_
    rw [show (cfg0.win 11).index t = _ from index11 t]
    rfl
  · refine (Window.rect_emb_val (cfg0.win 11) t _ (1 : Fin 2)).trans ?_
    rw [show (cfg0.win 11).index t = _ from index11 t]
    show 0 * 512 + k.val = k.val
    omega

theorem flushed11_eq (t : Fin cfg0.N) : (dats m 0 0).flushed 11 t = ((cfg0.win 11).blk t).view.read (Elt Ideal) (outQ m) := by
  funext j
  rw [View.read_apply]
  refine Eq.trans ?_ (congrArg (outQ m) ((emb11 t (j 0) (j 1)).symm.trans (congrArg _ (eq_ix2 (n0 := 512) (n1 := 512) j).symm)))
  by_cases h0 : t.val % 32 = 0
  · rw [Cert.Kernel4Ideal.Value.flushed11_A m 0 t h0]
    exact (congrFun (outA_11 ..) _).trans ((congrArg _ (eq_ix2 (n0 := 512) (n1 := 512) j)).trans (bQ_at m t (j 0) (j 1)))
  · rw [Cert.Kernel4Ideal.Value.flushed11_B m 0 t h0]
    exact (congrFun (outB_11 ..) _).trans ((congrArg _ (eq_ix2 (n0 := 512) (n1 := 512) j)).trans (bQ_at m t (j 0) (j 1)))

theorem arr11 (r : Fin 16384) (k : Fin 512) : (dats m 0 0).arrAt 11 cfg0.N (ix2 (n0 := 16384) (n1 := 512) r k) = outQ m (ix2 (n0 := 16384) (n1 := 512) r k) := by
  have hr := r.isLt
  have ht : r.val / 512 < cfg0.N := show r.val / 512 < 32 by omega
  refine (dats m 0 0).arrAt_apply_of_mem 11 (outQ m) (fun t _ => flushed11_eq m t) _ ⟨r.val / 512, ht⟩ _ ht (flush11 _) ?_
  have e : ix2 (n0 := 16384) (n1 := 512) r k
      = ((cfg0.win 11).blk ⟨r.val / 512, ht⟩).view.emb (ix2 (n0 := 512) (n1 := 512) ⟨r.val % 512, Nat.mod_lt _ (by omega)⟩ k) := by
    rw [emb11]
    refine ix2_ext ?_ rfl
    show r.val = r.val / 512 * 512 + r.val % 512
    omega
  rw [e]
  exact View.emb_mem_set _ _

theorem bK_at (t : Fin cfg0.N) (r : Fin 512) (k : Fin 256) : k0_pay8 (iblk m 0 0 t) (iblk m 0 1 t) (iblk m 0 3 t) (iblk m 0 2 t) (iblk m 0 4 t) (ix2 (n0 := 512) (n1 := 256) r k) = outK m (ix2 (n0 := 16384) (n1 := 256) ⟨t.val * 512 + r.val, by have ht : t.val < 32 := t.isLt; omega⟩ k) := by
  refine (pay8_at _ _ _ _ _ r k).trans ?_
  exact (proj_congr (w := fun j c => iblk m 0 4 t (ix2 (n0 := 1024) (n1 := 768) j c)) (w' := fun j c => a4 m (ix2 (n0 := 1024) (n1 := 4360) j c))
    (c := ⟨512 + k.val, by omega⟩) (c' := ⟨512 + (keyLane k).val, by have h := (keyLane k).isLt; omega⟩) (bU_at m t r) fun j => ((blk4 m t j _).trans (wA_key (a4 m) j k)))

theorem emb12 (t : Fin cfg0.N) (r : Fin 512) (k : Fin 256) : ((cfg0.win 12).blk t).view.emb (ix2 (n0 := 512) (n1 := 256) r k) = ix2 (n0 := 16384) (n1 := 256) ⟨t.val * 512 + r.val, by have ht : t.val < 32 := t.isLt; omega⟩ k := by
  refine ix2_ext (n0 := 16384) (n1 := 256) ?_ ?_
  · refine (Window.rect_emb_val (cfg0.win 12) t _ (0 : Fin 2)).trans ?_
    rw [show (cfg0.win 12).index t = _ from index12 t]
    rfl
  · refine (Window.rect_emb_val (cfg0.win 12) t _ (1 : Fin 2)).trans ?_
    rw [show (cfg0.win 12).index t = _ from index12 t]
    show 0 * 256 + k.val = k.val
    omega

theorem flushed12_eq (t : Fin cfg0.N) : (dats m 0 0).flushed 12 t = ((cfg0.win 12).blk t).view.read (Elt Ideal) (outK m) := by
  funext j
  rw [View.read_apply]
  refine Eq.trans ?_ (congrArg (outK m) ((emb12 t (j 0) (j 1)).symm.trans (congrArg _ (eq_ix2 (n0 := 512) (n1 := 256) j).symm)))
  by_cases h0 : t.val % 32 = 0
  · rw [Cert.Kernel4Ideal.Value.flushed12_A m 0 t h0]
    exact (congrFun (outA_12 ..) _).trans ((congrArg _ (eq_ix2 (n0 := 512) (n1 := 256) j)).trans (bK_at m t (j 0) (j 1)))
  · rw [Cert.Kernel4Ideal.Value.flushed12_B m 0 t h0]
    exact (congrFun (outB_12 ..) _).trans ((congrArg _ (eq_ix2 (n0 := 512) (n1 := 256) j)).trans (bK_at m t (j 0) (j 1)))

theorem arr12 (r : Fin 16384) (k : Fin 256) : (dats m 0 0).arrAt 12 cfg0.N (ix2 (n0 := 16384) (n1 := 256) r k) = outK m (ix2 (n0 := 16384) (n1 := 256) r k) := by
  have hr := r.isLt
  have ht : r.val / 512 < cfg0.N := show r.val / 512 < 32 by omega
  refine (dats m 0 0).arrAt_apply_of_mem 12 (outK m) (fun t _ => flushed12_eq m t) _ ⟨r.val / 512, ht⟩ _ ht (flush12 _) ?_
  have e : ix2 (n0 := 16384) (n1 := 256) r k
      = ((cfg0.win 12).blk ⟨r.val / 512, ht⟩).view.emb (ix2 (n0 := 512) (n1 := 256) ⟨r.val % 512, Nat.mod_lt _ (by omega)⟩ k) := by
    rw [emb12]
    refine ix2_ext ?_ rfl
    show r.val = r.val / 512 * 512 + r.val % 512
    omega
  rw [e]
  exact View.emb_mem_set _ _

theorem bV_at (t : Fin cfg0.N) (k : Fin 128) (r : Fin 512) : k0_pay14 (k0_pay5 (iblk m 0 0 t) (iblk m 0 1 t) (iblk m 0 3 t) (iblk m 0 2 t)) (iblk m 0 6 t) (ix2 (n0 := 128) (n1 := 512) k r) = outV m (ix2 (n0 := 128) (n1 := 16384) k ⟨t.val * 512 + r.val, by have ht : t.val < 32 := t.isLt; omega⟩) := by
  refine (pay14_at _ _ k r).trans ?_
  exact (proj_congr (w := fun j c => iblk m 0 6 t (ix2 (n0 := 640) (n1 := 1024) c j)) (w' := fun j c => a4 m (ix2 (n0 := 1024) (n1 := 4360) j c))
    (c := ⟨512 + k.val, by omega⟩) (c' := ⟨640 + k.val, by have h := k.isLt; omega⟩) (bU_at m t r) fun j => ((blk6 m t _ j).trans (wV_A (a4 m) j k)))

theorem emb13 (t : Fin cfg0.N) (k : Fin 128) (r : Fin 512) : ((cfg0.win 13).blk t).view.emb (ix2 (n0 := 128) (n1 := 512) k r) = ix2 (n0 := 128) (n1 := 16384) k ⟨t.val * 512 + r.val, by have ht : t.val < 32 := t.isLt; omega⟩ := by
  refine ix2_ext (n0 := 128) (n1 := 16384) ?_ ?_
  · refine (Window.rect_emb_val (cfg0.win 13) t _ (0 : Fin 2)).trans ?_
    rw [show (cfg0.win 13).index t = _ from index13 t]
    show 0 * 128 + k.val = k.val
    omega
  · refine (Window.rect_emb_val (cfg0.win 13) t _ (1 : Fin 2)).trans ?_
    rw [show (cfg0.win 13).index t = _ from index13 t]
    rfl

theorem flushed13_eq (t : Fin cfg0.N) : (dats m 0 0).flushed 13 t = ((cfg0.win 13).blk t).view.read (Elt Ideal) (outV m) := by
  funext j
  rw [View.read_apply]
  refine Eq.trans ?_ (congrArg (outV m) ((emb13 t (j 0) (j 1)).symm.trans (congrArg _ (eq_ix2 (n0 := 128) (n1 := 512) j).symm)))
  by_cases h0 : t.val % 32 = 0
  · rw [Cert.Kernel4Ideal.Value.flushed13_A m 0 t h0]
    exact (congrFun (outA_13 ..) _).trans ((congrArg _ (eq_ix2 (n0 := 128) (n1 := 512) j)).trans (bV_at m t (j 0) (j 1)))
  · rw [Cert.Kernel4Ideal.Value.flushed13_B m 0 t h0]
    exact (congrFun (outB_13 ..) _).trans ((congrArg _ (eq_ix2 (n0 := 128) (n1 := 512) j)).trans (bV_at m t (j 0) (j 1)))

theorem arr13 (k : Fin 128) (r : Fin 16384) : (dats m 0 0).arrAt 13 cfg0.N (ix2 (n0 := 128) (n1 := 16384) k r) = outV m (ix2 (n0 := 128) (n1 := 16384) k r) := by
  have hr := r.isLt
  have ht : r.val / 512 < cfg0.N := show r.val / 512 < 32 by omega
  refine (dats m 0 0).arrAt_apply_of_mem 13 (outV m) (fun t _ => flushed13_eq m t) _ ⟨r.val / 512, ht⟩ _ ht (flush13 _) ?_
  have e : ix2 (n0 := 128) (n1 := 16384) k r
      = ((cfg0.win 13).blk ⟨r.val / 512, ht⟩).view.emb (ix2 (n0 := 128) (n1 := 512) k ⟨r.val % 512, Nat.mod_lt _ (by omega)⟩) := by
    rw [emb13]
    refine ix2_ext rfl ?_
    show r.val = r.val / 512 * 512 + r.val % 512
    omega
  rw [e]
  exact View.emb_mem_set _ _

theorem bQ2_at (t : Fin cfg0.N) (r : Fin 512) (k : Fin 512) : k0_pay10 (k0_pay5 (iblk m 0 0 t) (iblk m 0 1 t) (iblk m 0 3 t) (iblk m 0 2 t)) (iblk m 0 5 t) (ix2 (n0 := 512) (n1 := 512) r k) = outQ2 m (ix2 (n0 := 16384) (n1 := 512) ⟨t.val * 512 + r.val, by have ht : t.val < 32 := t.isLt; omega⟩ k) := by
  refine (pay10_at _ _ r k).trans ?_
  exact congrArg (· * scale) (proj_congr (w := fun j c => iblk m 0 5 t (ix2 (n0 := 1024) (n1 := 1152) j c)) (w' := fun j c => a4 m (ix2 (n0 := 1024) (n1 := 4360) j c))
    (c := ⟨k.val, by omega⟩) (c' := ⟨768 + k.val, by have h := k.isLt; omega⟩) (bU_at m t r) fun j => ((blk5 m t j _).trans (wB_at (a4 m) j ⟨k.val, by omega⟩)))

theorem emb14 (t : Fin cfg0.N) (r : Fin 512) (k : Fin 512) : ((cfg0.win 14).blk t).view.emb (ix2 (n0 := 512) (n1 := 512) r k) = ix2 (n0 := 16384) (n1 := 512) ⟨t.val * 512 + r.val, by have ht : t.val < 32 := t.isLt; omega⟩ k := by
  refine ix2_ext (n0 := 16384) (n1 := 512) ?_ ?_
  · refine (Window.rect_emb_val (cfg0.win 14) t _ (0 : Fin 2)).trans ?_
    rw [show (cfg0.win 14).index t = _ from index14 t]
    rfl
  · refine (Window.rect_emb_val (cfg0.win 14) t _ (1 : Fin 2)).trans ?_
    rw [show (cfg0.win 14).index t = _ from index14 t]
    show 0 * 512 + k.val = k.val
    omega

theorem flushed14_eq (t : Fin cfg0.N) : (dats m 0 0).flushed 14 t = ((cfg0.win 14).blk t).view.read (Elt Ideal) (outQ2 m) := by
  funext j
  rw [View.read_apply]
  refine Eq.trans ?_ (congrArg (outQ2 m) ((emb14 t (j 0) (j 1)).symm.trans (congrArg _ (eq_ix2 (n0 := 512) (n1 := 512) j).symm)))
  by_cases h0 : t.val % 32 = 0
  · rw [Cert.Kernel4Ideal.Value.flushed14_A m 0 t h0]
    exact (congrFun (outA_14 ..) _).trans ((congrArg _ (eq_ix2 (n0 := 512) (n1 := 512) j)).trans (bQ2_at m t (j 0) (j 1)))
  · rw [Cert.Kernel4Ideal.Value.flushed14_B m 0 t h0]
    exact (congrFun (outB_14 ..) _).trans ((congrArg _ (eq_ix2 (n0 := 512) (n1 := 512) j)).trans (bQ2_at m t (j 0) (j 1)))

theorem arr14 (r : Fin 16384) (k : Fin 512) : (dats m 0 0).arrAt 14 cfg0.N (ix2 (n0 := 16384) (n1 := 512) r k) = outQ2 m (ix2 (n0 := 16384) (n1 := 512) r k) := by
  have hr := r.isLt
  have ht : r.val / 512 < cfg0.N := show r.val / 512 < 32 by omega
  refine (dats m 0 0).arrAt_apply_of_mem 14 (outQ2 m) (fun t _ => flushed14_eq m t) _ ⟨r.val / 512, ht⟩ _ ht (flush14 _) ?_
  have e : ix2 (n0 := 16384) (n1 := 512) r k
      = ((cfg0.win 14).blk ⟨r.val / 512, ht⟩).view.emb (ix2 (n0 := 512) (n1 := 512) ⟨r.val % 512, Nat.mod_lt _ (by omega)⟩ k) := by
    rw [emb14]
    refine ix2_ext ?_ rfl
    show r.val = r.val / 512 * 512 + r.val % 512
    omega
  rw [e]
  exact View.emb_mem_set _ _

theorem bK2_at (t : Fin cfg0.N) (r : Fin 512) (k : Fin 512) : k0_pay11 (k0_pay5 (iblk m 0 0 t) (iblk m 0 1 t) (iblk m 0 3 t) (iblk m 0 2 t)) (iblk m 0 5 t) (ix2 (n0 := 512) (n1 := 512) r k) = outK2 m (ix2 (n0 := 16384) (n1 := 512) ⟨t.val * 512 + r.val, by have ht : t.val < 32 := t.isLt; omega⟩ k) := by
  refine (pay11_at _ _ r k).trans ?_
  exact (proj_congr (w := fun j c => iblk m 0 5 t (ix2 (n0 := 1024) (n1 := 1152) j c)) (w' := fun j c => a4 m (ix2 (n0 := 1024) (n1 := 4360) j c))
    (c := ⟨512 + k.val, by omega⟩) (c' := ⟨1280 + k.val, by have h := k.isLt; omega⟩) (bU_at m t r) fun j => (((blk5 m t j _).trans (wB_at (a4 m) j ⟨512 + k.val, by omega⟩)).trans (w_col m j (c := ⟨768 + (512 + k.val), by omega⟩) (c' := ⟨1280 + k.val, by omega⟩) (by show 768 + (512 + k.val) = 1280 + k.val; omega))))

theorem emb15 (t : Fin cfg0.N) (r : Fin 512) (k : Fin 512) : ((cfg0.win 15).blk t).view.emb (ix2 (n0 := 512) (n1 := 512) r k) = ix2 (n0 := 16384) (n1 := 512) ⟨t.val * 512 + r.val, by have ht : t.val < 32 := t.isLt; omega⟩ k := by
  refine ix2_ext (n0 := 16384) (n1 := 512) ?_ ?_
  · refine (Window.rect_emb_val (cfg0.win 15) t _ (0 : Fin 2)).trans ?_
    rw [show (cfg0.win 15).index t = _ from index15 t]
    rfl
  · refine (Window.rect_emb_val (cfg0.win 15) t _ (1 : Fin 2)).trans ?_
    rw [show (cfg0.win 15).index t = _ from index15 t]
    show 0 * 512 + k.val = k.val
    omega

theorem flushed15_eq (t : Fin cfg0.N) : (dats m 0 0).flushed 15 t = ((cfg0.win 15).blk t).view.read (Elt Ideal) (outK2 m) := by
  funext j
  rw [View.read_apply]
  refine Eq.trans ?_ (congrArg (outK2 m) ((emb15 t (j 0) (j 1)).symm.trans (congrArg _ (eq_ix2 (n0 := 512) (n1 := 512) j).symm)))
  by_cases h0 : t.val % 32 = 0
  · rw [Cert.Kernel4Ideal.Value.flushed15_A m 0 t h0]
    exact (congrFun (outA_15 ..) _).trans ((congrArg _ (eq_ix2 (n0 := 512) (n1 := 512) j)).trans (bK2_at m t (j 0) (j 1)))
  · rw [Cert.Kernel4Ideal.Value.flushed15_B m 0 t h0]
    exact (congrFun (outB_15 ..) _).trans ((congrArg _ (eq_ix2 (n0 := 512) (n1 := 512) j)).trans (bK2_at m t (j 0) (j 1)))

theorem arr15 (r : Fin 16384) (k : Fin 512) : (dats m 0 0).arrAt 15 cfg0.N (ix2 (n0 := 16384) (n1 := 512) r k) = outK2 m (ix2 (n0 := 16384) (n1 := 512) r k) := by
  have hr := r.isLt
  have ht : r.val / 512 < cfg0.N := show r.val / 512 < 32 by omega
  refine (dats m 0 0).arrAt_apply_of_mem 15 (outK2 m) (fun t _ => flushed15_eq m t) _ ⟨r.val / 512, ht⟩ _ ht (flush15 _) ?_
  have e : ix2 (n0 := 16384) (n1 := 512) r k
      = ((cfg0.win 15).blk ⟨r.val / 512, ht⟩).view.emb (ix2 (n0 := 512) (n1 := 512) ⟨r.val % 512, Nat.mod_lt _ (by omega)⟩ k) := by
    rw [emb15]
    refine ix2_ext ?_ rfl
    show r.val = r.val / 512 * 512 + r.val % 512
    omega
  rw [e]
  exact View.emb_mem_set _ _

theorem bV2_at (t : Fin cfg0.N) (k : Fin 512) (r : Fin 512) : k0_pay13 (k0_pay5 (iblk m 0 0 t) (iblk m 0 1 t) (iblk m 0 3 t) (iblk m 0 2 t)) (iblk m 0 6 t) (ix2 (n0 := 512) (n1 := 512) k r) = outV2 m (ix2 (n0 := 512) (n1 := 16384) k ⟨t.val * 512 + r.val, by have ht : t.val < 32 := t.isLt; omega⟩) := by
  refine (pay13_at _ _ k r).trans ?_
  exact (proj_congr (w := fun j c => iblk m 0 6 t (ix2 (n0 := 640) (n1 := 1024) c j)) (w' := fun j c => a4 m (ix2 (n0 := 1024) (n1 := 4360) j c))
    (c := ⟨k.val, by omega⟩) (c' := ⟨1792 + k.val, by have h := k.isLt; omega⟩) (bU_at m t r) fun j => ((blk6 m t _ j).trans (wV_B (a4 m) j k)))

theorem emb16 (t : Fin cfg0.N) (k : Fin 512) (r : Fin 512) : ((cfg0.win 16).blk t).view.emb (ix2 (n0 := 512) (n1 := 512) k r) = ix2 (n0 := 512) (n1 := 16384) k ⟨t.val * 512 + r.val, by have ht : t.val < 32 := t.isLt; omega⟩ := by
  refine ix2_ext (n0 := 512) (n1 := 16384) ?_ ?_
  · refine (Window.rect_emb_val (cfg0.win 16) t _ (0 : Fin 2)).trans ?_
    rw [show (cfg0.win 16).index t = _ from index16 t]
    show 0 * 512 + k.val = k.val
    omega
  · refine (Window.rect_emb_val (cfg0.win 16) t _ (1 : Fin 2)).trans ?_
    rw [show (cfg0.win 16).index t = _ from index16 t]
    rfl

theorem flushed16_eq (t : Fin cfg0.N) : (dats m 0 0).flushed 16 t = ((cfg0.win 16).blk t).view.read (Elt Ideal) (outV2 m) := by
  funext j
  rw [View.read_apply]
  refine Eq.trans ?_ (congrArg (outV2 m) ((emb16 t (j 0) (j 1)).symm.trans (congrArg _ (eq_ix2 (n0 := 512) (n1 := 512) j).symm)))
  by_cases h0 : t.val % 32 = 0
  · rw [Cert.Kernel4Ideal.Value.flushed16_A m 0 t h0]
    exact (congrFun (outA_16 ..) _).trans ((congrArg _ (eq_ix2 (n0 := 512) (n1 := 512) j)).trans (bV2_at m t (j 0) (j 1)))
  · rw [Cert.Kernel4Ideal.Value.flushed16_B m 0 t h0]
    exact (congrFun (outB_16 ..) _).trans ((congrArg _ (eq_ix2 (n0 := 512) (n1 := 512) j)).trans (bV2_at m t (j 0) (j 1)))

theorem arr16 (k : Fin 512) (r : Fin 16384) : (dats m 0 0).arrAt 16 cfg0.N (ix2 (n0 := 512) (n1 := 16384) k r) = outV2 m (ix2 (n0 := 512) (n1 := 16384) k r) := by
  have hr := r.isLt
  have ht : r.val / 512 < cfg0.N := show r.val / 512 < 32 by omega
  refine (dats m 0 0).arrAt_apply_of_mem 16 (outV2 m) (fun t _ => flushed16_eq m t) _ ⟨r.val / 512, ht⟩ _ ht (flush16 _) ?_
  have e : ix2 (n0 := 512) (n1 := 16384) k r
      = ((cfg0.win 16).blk ⟨r.val / 512, ht⟩).view.emb (ix2 (n0 := 512) (n1 := 512) k ⟨r.val % 512, Nat.mod_lt _ (by omega)⟩) := by
    rw [emb16]
    refine ix2_ext rfl ?_
    show r.val = r.val / 512 * 512 + r.val % 512
    omega
  rw [e]
  exact View.emb_mem_set _ _

theorem bG_at (t : Fin cfg0.N) (r : Fin 512) (k : Fin 1024) : k0_pay25 (k0_pay5 (iblk m 0 0 t) (iblk m 0 1 t) (iblk m 0 3 t) (iblk m 0 2 t)) (iblk m 0 7 t) (ix2 (n0 := 512) (n1 := 1024) r k) = outG m (ix2 (n0 := 16384) (n1 := 1024) ⟨t.val * 512 + r.val, by have ht : t.val < 32 := t.isLt; omega⟩ k) := by
  refine (pay25_at _ _ r k).trans ?_
  exact congrArg gate (proj_congr (w := fun j c => iblk m 0 7 t (ix2 (n0 := 1024) (n1 := 2048) j c)) (w' := fun j c => a4 m (ix2 (n0 := 1024) (n1 := 4360) j c))
    (c := ⟨k.val, by omega⟩) (c' := ⟨2312 + k.val, by have h := k.isLt; omega⟩) (bU_at m t r) fun j => ((blk7 m t j _).trans (wG_at (a4 m) j ⟨k.val, by omega⟩)))

theorem emb17 (t : Fin cfg0.N) (r : Fin 512) (k : Fin 1024) : ((cfg0.win 17).blk t).view.emb (ix2 (n0 := 512) (n1 := 1024) r k) = ix2 (n0 := 16384) (n1 := 1024) ⟨t.val * 512 + r.val, by have ht : t.val < 32 := t.isLt; omega⟩ k := by
  refine ix2_ext (n0 := 16384) (n1 := 1024) ?_ ?_
  · refine (Window.rect_emb_val (cfg0.win 17) t _ (0 : Fin 2)).trans ?_
    rw [show (cfg0.win 17).index t = _ from index17 t]
    rfl
  · refine (Window.rect_emb_val (cfg0.win 17) t _ (1 : Fin 2)).trans ?_
    rw [show (cfg0.win 17).index t = _ from index17 t]
    show 0 * 1024 + k.val = k.val
    omega

theorem flushed17_eq (t : Fin cfg0.N) : (dats m 0 0).flushed 17 t = ((cfg0.win 17).blk t).view.read (Elt Ideal) (outG m) := by
  funext j
  rw [View.read_apply]
  refine Eq.trans ?_ (congrArg (outG m) ((emb17 t (j 0) (j 1)).symm.trans (congrArg _ (eq_ix2 (n0 := 512) (n1 := 1024) j).symm)))
  by_cases h0 : t.val % 32 = 0
  · rw [Cert.Kernel4Ideal.Value.flushed17_A m 0 t h0]
    exact (congrFun (outA_17 ..) _).trans ((congrArg _ (eq_ix2 (n0 := 512) (n1 := 1024) j)).trans (bG_at m t (j 0) (j 1)))
  · rw [Cert.Kernel4Ideal.Value.flushed17_B m 0 t h0]
    exact (congrFun (outB_17 ..) _).trans ((congrArg _ (eq_ix2 (n0 := 512) (n1 := 1024) j)).trans (bG_at m t (j 0) (j 1)))

theorem arr17 (r : Fin 16384) (k : Fin 1024) : (dats m 0 0).arrAt 17 cfg0.N (ix2 (n0 := 16384) (n1 := 1024) r k) = outG m (ix2 (n0 := 16384) (n1 := 1024) r k) := by
  have hr := r.isLt
  have ht : r.val / 512 < cfg0.N := show r.val / 512 < 32 by omega
  refine (dats m 0 0).arrAt_apply_of_mem 17 (outG m) (fun t _ => flushed17_eq m t) _ ⟨r.val / 512, ht⟩ _ ht (flush17 _) ?_
  have e : ix2 (n0 := 16384) (n1 := 1024) r k
      = ((cfg0.win 17).blk ⟨r.val / 512, ht⟩).view.emb (ix2 (n0 := 512) (n1 := 1024) ⟨r.val % 512, Nat.mod_lt _ (by omega)⟩ k) := by
    rw [emb17]
    refine ix2_ext ?_ rfl
    show r.val = r.val / 512 * 512 + r.val % 512
    omega
  rw [e]
  exact View.emb_mem_set _ _

theorem bG2_at (t : Fin cfg0.N) (r : Fin 512) (k : Fin 1024) : k0_pay26 (k0_pay5 (iblk m 0 0 t) (iblk m 0 1 t) (iblk m 0 3 t) (iblk m 0 2 t)) (iblk m 0 7 t) (ix2 (n0 := 512) (n1 := 1024) r k) = outG2 m (ix2 (n0 := 16384) (n1 := 1024) ⟨t.val * 512 + r.val, by have ht : t.val < 32 := t.isLt; omega⟩ k) := by
  refine (pay26_at _ _ r k).trans ?_
  exact congrArg gate (proj_congr (w := fun j c => iblk m 0 7 t (ix2 (n0 := 1024) (n1 := 2048) j c)) (w' := fun j c => a4 m (ix2 (n0 := 1024) (n1 := 4360) j c))
    (c := ⟨1024 + k.val, by omega⟩) (c' := ⟨3336 + k.val, by have h := k.isLt; omega⟩) (bU_at m t r) fun j => (((blk7 m t j _).trans (wG_at (a4 m) j ⟨1024 + k.val, by omega⟩)).trans (w_col m j (c := ⟨2312 + (1024 + k.val), by omega⟩) (c' := ⟨3336 + k.val, by omega⟩) (by show 2312 + (1024 + k.val) = 3336 + k.val; omega))))

theorem emb18 (t : Fin cfg0.N) (r : Fin 512) (k : Fin 1024) : ((cfg0.win 18).blk t).view.emb (ix2 (n0 := 512) (n1 := 1024) r k) = ix2 (n0 := 16384) (n1 := 1024) ⟨t.val * 512 + r.val, by have ht : t.val < 32 := t.isLt; omega⟩ k := by
  refine ix2_ext (n0 := 16384) (n1 := 1024) ?_ ?_
  · refine (Window.rect_emb_val (cfg0.win 18) t _ (0 : Fin 2)).trans ?_
    rw [show (cfg0.win 18).index t = _ from index18 t]
    rfl
  · refine (Window.rect_emb_val (cfg0.win 18) t _ (1 : Fin 2)).trans ?_
    rw [show (cfg0.win 18).index t = _ from index18 t]
    show 0 * 1024 + k.val = k.val
    omega

theorem flushed18_eq (t : Fin cfg0.N) : (dats m 0 0).flushed 18 t = ((cfg0.win 18).blk t).view.read (Elt Ideal) (outG2 m) := by
  funext j
  rw [View.read_apply]
  refine Eq.trans ?_ (congrArg (outG2 m) ((emb18 t (j 0) (j 1)).symm.trans (congrArg _ (eq_ix2 (n0 := 512) (n1 := 1024) j).symm)))
  by_cases h0 : t.val % 32 = 0
  · rw [Cert.Kernel4Ideal.Value.flushed18_A m 0 t h0]
    exact (congrFun (outA_18 ..) _).trans ((congrArg _ (eq_ix2 (n0 := 512) (n1 := 1024) j)).trans (bG2_at m t (j 0) (j 1)))
  · rw [Cert.Kernel4Ideal.Value.flushed18_B m 0 t h0]
    exact (congrFun (outB_18 ..) _).trans ((congrArg _ (eq_ix2 (n0 := 512) (n1 := 1024) j)).trans (bG2_at m t (j 0) (j 1)))

theorem arr18 (r : Fin 16384) (k : Fin 1024) : (dats m 0 0).arrAt 18 cfg0.N (ix2 (n0 := 16384) (n1 := 1024) r k) = outG2 m (ix2 (n0 := 16384) (n1 := 1024) r k) := by
  have hr := r.isLt
  have ht : r.val / 512 < cfg0.N := show r.val / 512 < 32 by omega
  refine (dats m 0 0).arrAt_apply_of_mem 18 (outG2 m) (fun t _ => flushed18_eq m t) _ ⟨r.val / 512, ht⟩ _ ht (flush18 _) ?_
  have e : ix2 (n0 := 16384) (n1 := 1024) r k
      = ((cfg0.win 18).blk ⟨r.val / 512, ht⟩).view.emb (ix2 (n0 := 512) (n1 := 1024) ⟨r.val % 512, Nat.mod_lt _ (by omega)⟩ k) := by
    rw [emb18]
    refine ix2_ext ?_ rfl
    show r.val = r.val / 512 * 512 + r.val % 512
    omega
  rw [e]
  exact View.emb_mem_set _ _

end Cert.Inproj
-- ==== Proof.Inproj.RefOut.lean ====
/- The input projection's reference, at an index. -/
module

public import proofs.«01_k».proof.Proof.Gen.Reference4Ideal.Run
public import proofs.«01_k».proof.Proof.Inproj.Row
public import Idealize.ShloMosaic.Lib.Pointwise

@[expose] public section

set_option maxRecDepth 16384
set_option Elab.async false

noncomputable section

namespace Cert.Reference4Ideal.Inproj

open Cert.Reference4Ideal Cert.Reference4Ideal.Gen Idealize.ShloMosaic Idealize.ShloMosaic.StableHlo
open Cert.Inproj

/-- The normed rows. -/
def normed (a0 : FVec Ideal S16384x1024 .f32) (a1 : FVec Ideal S1x1024 .f32) (a2 : FVec Ideal S1x1024 .f32) (a3 : FVec Ideal S1x1024 .f32) : FVec Ideal S16384x1024 .f32 :=
  addf (mulf (mulf (mulf a0 (broadcastInDim S16384x1024 ![0, 1] bcast_S16384x1_S16384x1024_0_1 (Host.rsqrt (addf (Host.divf (broadcastInDim S16384x1 ![0] bcast_S16384_S16384x1_0 (Host.reduceAdd (mulf a0 a0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 a1)) (broadcastInDim S16384x1024 ![0, 1] bcast_S1x1024_S16384x1024_0_1 (addf (broadcastInDim S1x1024 ![] bcast_S_S1x1024 (constant S_ .f32 0x3F800000#32)) a3))) (broadcastInDim S16384x1024 ![0, 1] bcast_S1x1024_S16384x1024_0_1 a2)

/-- The normed rows times the weight. -/
def all (U : FVec Ideal S16384x1024 .f32) (a4 : FVec Ideal S1024x4360 .f32) : FVec Ideal S16384x4360 .f32 :=
  Host.dotGeneral dot_S16384x1024_S1024x4360_S16384x4360_1_0_0_1_n_n none U a4

/-- The first branch's scaled queries. -/
def resQ (Z : FVec Ideal S16384x4360 .f32) : FVec Ideal S16384x512 .bf16 :=
  truncf .bf16 (mulf (extractStridedSlice S16384x512 ![0, 0] Z slices_S16384x4360_S16384x512_0_0) (broadcastInDim S16384x512 ![] bcast_S_S16384x512 (constant S_ .f32 0x3E38AA3B#32))) bitsLt_bf16_f32

/-- The first branch's keys, each head twice. -/
def resK (Z : FVec Ideal S16384x4360 .f32) : FVec Ideal S16384x256 .bf16 :=
  truncf .bf16 (shapeCast _ (broadcastInDim S16384x2x2x64 ![0, 1, 2, 3] bcast_S16384x2x1x64_S16384x2x2x64_0_1_2_3 (shapeCast _ (extractStridedSlice S16384x128 ![0, 512] Z slices_S16384x4360_S16384x128_0_512) shapeCasts_S16384x128_S16384x2x1x64)) shapeCasts_S16384x2x2x64_S16384x256) bitsLt_bf16_f32

/-- The first branch's values, as rows. -/
def resV (Z : FVec Ideal S16384x4360 .f32) : FVec Ideal S128x16384 .bf16 :=
  truncf .bf16 (transpose S128x16384 [1, 0] (extractStridedSlice S16384x128 ![0, 640] Z slices_S16384x4360_S16384x128_0_640) transposes_S16384x128_S128x16384_1_0) bitsLt_bf16_f32

/-- The second branch's scaled queries. -/
def resQ2 (Z : FVec Ideal S16384x4360 .f32) : FVec Ideal S16384x512 .bf16 :=
  truncf .bf16 (mulf (extractStridedSlice S16384x512 ![0, 768] Z slices_S16384x4360_S16384x512_0_768) (broadcastInDim S16384x512 ![] bcast_S_S16384x512 (constant S_ .f32 0x3E38AA3B#32))) bitsLt_bf16_f32

/-- The second branch's keys. -/
def resK2 (Z : FVec Ideal S16384x4360 .f32) : FVec Ideal S16384x512 .bf16 :=
  truncf .bf16 (extractStridedSlice S16384x512 ![0, 1280] Z slices_S16384x4360_S16384x512_0_1280) bitsLt_bf16_f32

/-- The second branch's values, as rows. -/
def resV2 (Z : FVec Ideal S16384x4360 .f32) : FVec Ideal S512x16384 .bf16 :=
  truncf .bf16 (transpose S512x16384 [1, 0] (extractStridedSlice S16384x512 ![0, 1792] Z slices_S16384x4360_S16384x512_0_1792) transposes_S16384x512_S512x16384_1_0) bitsLt_bf16_f32

/-- The first branch's gate. -/
def resG (Z : FVec Ideal S16384x4360 .f32) : FVec Ideal S16384x1024 .bf16 :=
  truncf .bf16 (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 2312] Z slices_S16384x4360_S16384x1024_0_2312))))) bitsLt_bf16_f32

/-- The second branch's gate. -/
def resG2 (Z : FVec Ideal S16384x4360 .f32) : FVec Ideal S16384x1024 .bf16 :=
  truncf .bf16 (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 3336] Z slices_S16384x4360_S16384x1024_0_3336))))) bitsLt_bf16_f32

theorem normed_at (a0 : FVec Ideal S16384x1024 .f32) (a1 : FVec Ideal S1x1024 .f32) (a2 : FVec Ideal S1x1024 .f32) (a3 : FVec Ideal S1x1024 .f32) (r : Fin 16384) (c : Fin 1024) :
    normed a0 a1 a2 a3 (ix2 r c) = Cert.Route.uOf (fun k => a0 (ix2 r k)) (fun k => a1 (ix2 (n0 := 1) 0 k)) (fun k => a2 (ix2 (n0 := 1) 0 k))
      (fun k => a3 (ix2 (n0 := 1) 0 k)) c := by
  unfold normed
  pointwise
  rfl

theorem all_at (U : FVec Ideal S16384x1024 .f32) (a4 : FVec Ideal S1024x4360 .f32) (r : Fin 16384) (c : Fin 4360) :
    all U a4 (ix2 r c) = proj (fun k => U (ix2 r k)) (fun k c => a4 (ix2 k c)) c := by
  unfold all
  pointwise
  rfl

variable (Z : FVec Ideal S16384x4360 .f32)

theorem col_ext {r r' : Fin 16384} {c c' : Fin 4360} (h0 : r.val = r'.val) (h : c.val = c'.val) :
    Z (ix2 (n0 := 16384) (n1 := 4360) r c) = Z (ix2 (n0 := 16384) (n1 := 4360) r' c') := by
  rw [Fin.ext h0, Fin.ext h]

theorem resQ_at (r : Fin 16384) (c : Fin 512) : resQ Z (ix2 r c) = Z (ix2 (n0 := 16384) (n1 := 4360) r ⟨c.val, by omega⟩) * scale := by
  unfold resQ
  pointwise
  rfl

theorem resK_at (r : Fin 16384) (c : Fin 256) : resK Z (ix2 r c) = Z (ix2 (n0 := 16384) (n1 := 4360) r ⟨512 + (keyLane c).val, by omega⟩) := by
  unfold resK
  pointwise
  unfold keyLane
  refine col_ext Z ?_ ?_ <;> dsimp only <;> omega

theorem resV_at (c : Fin 128) (r : Fin 16384) : resV Z (ix2 c r) = Z (ix2 (n0 := 16384) (n1 := 4360) r ⟨640 + c.val, by omega⟩) := by
  unfold resV
  pointwise

theorem resQ2_at (r : Fin 16384) (c : Fin 512) : resQ2 Z (ix2 r c) = Z (ix2 (n0 := 16384) (n1 := 4360) r ⟨768 + c.val, by omega⟩) * scale := by
  unfold resQ2
  pointwise
  rfl

theorem resK2_at (r : Fin 16384) (c : Fin 512) : resK2 Z (ix2 r c) = Z (ix2 (n0 := 16384) (n1 := 4360) r ⟨1280 + c.val, by omega⟩) := by
  unfold resK2
  pointwise

theorem resV2_at (c : Fin 512) (r : Fin 16384) : resV2 Z (ix2 c r) = Z (ix2 (n0 := 16384) (n1 := 4360) r ⟨1792 + c.val, by omega⟩) := by
  unfold resV2
  pointwise

theorem resG_at (r : Fin 16384) (c : Fin 1024) : resG Z (ix2 r c) = gate (Z (ix2 (n0 := 16384) (n1 := 4360) r ⟨2312 + c.val, by omega⟩)) := by
  unfold resG
  pointwise
  rfl

theorem resG2_at (r : Fin 16384) (c : Fin 1024) : resG2 Z (ix2 r c) = gate (Z (ix2 (n0 := 16384) (n1 := 4360) r ⟨3336 + c.val, by omega⟩)) := by
  unfold resG2
  pointwise
  rfl

end Cert.Reference4Ideal.Inproj
-- ==== Proof.Inproj.Value.lean ====
/- The input projection's values: the idealized program and the reference end with the same eight results. -/
module

public import proofs.«01_k».proof.Defs
public import proofs.«01_k».proof.Proof.Inproj.Blocks
public import proofs.«01_k».proof.Proof.Inproj.RefOut

@[expose] public section

set_option maxRecDepth 16384

noncomputable section

namespace Cert.Inproj

open Idealize.ShloMosaic Idealize.SL.Sem
open Cert.Kernel4Ideal (nD τ sig)
open Cert.Reference4Ideal.Inproj (normed all resQ resK resV resQ2 resK2 resV2 resG resG2)

variable (m : (ℓ : Loc nD τ sig) → Buf (Elt Ideal) ℓ)

/-- The reference's product, at an index. -/
theorem refZ_tok (r : Fin 16384) (c : Fin 4360) : all (normed (a0 m) (a1 m) (a2 m) (a3 m)) (a4 m) (ix2 r c) = tokZ m r c := by
  refine (Cert.Reference4Ideal.Inproj.all_at _ (a4 m) r c).trans ?_
  exact proj_congr (fun k => Cert.Reference4Ideal.Inproj.normed_at (a0 m) (a1 m) (a2 m) (a3 m) r k) (fun _ => rfl)

theorem refQ_tok (r : Fin 16384) (c : Fin 512) : resQ (all (normed (a0 m) (a1 m) (a2 m) (a3 m)) (a4 m)) (ix2 r c) = outQ m (ix2 r c) :=
  (Cert.Reference4Ideal.Inproj.resQ_at _ r c).trans (congrArg (· * scale) (refZ_tok m r _))

theorem refK_tok (r : Fin 16384) (c : Fin 256) : resK (all (normed (a0 m) (a1 m) (a2 m) (a3 m)) (a4 m)) (ix2 r c) = outK m (ix2 r c) :=
  (Cert.Reference4Ideal.Inproj.resK_at _ r c).trans (refZ_tok m r _)

theorem refV_tok (c : Fin 128) (r : Fin 16384) : resV (all (normed (a0 m) (a1 m) (a2 m) (a3 m)) (a4 m)) (ix2 c r) = outV m (ix2 c r) :=
  (Cert.Reference4Ideal.Inproj.resV_at _ c r).trans (refZ_tok m r _)

theorem refQ2_tok (r : Fin 16384) (c : Fin 512) : resQ2 (all (normed (a0 m) (a1 m) (a2 m) (a3 m)) (a4 m)) (ix2 r c) = outQ2 m (ix2 r c) :=
  (Cert.Reference4Ideal.Inproj.resQ2_at _ r c).trans (congrArg (· * scale) (refZ_tok m r _))

theorem refK2_tok (r : Fin 16384) (c : Fin 512) : resK2 (all (normed (a0 m) (a1 m) (a2 m) (a3 m)) (a4 m)) (ix2 r c) = outK2 m (ix2 r c) :=
  (Cert.Reference4Ideal.Inproj.resK2_at _ r c).trans (refZ_tok m r _)

theorem refV2_tok (c : Fin 512) (r : Fin 16384) : resV2 (all (normed (a0 m) (a1 m) (a2 m) (a3 m)) (a4 m)) (ix2 c r) = outV2 m (ix2 c r) :=
  (Cert.Reference4Ideal.Inproj.resV2_at _ c r).trans (refZ_tok m r _)

theorem refG_tok (r : Fin 16384) (c : Fin 1024) : resG (all (normed (a0 m) (a1 m) (a2 m) (a3 m)) (a4 m)) (ix2 r c) = outG m (ix2 r c) :=
  (Cert.Reference4Ideal.Inproj.resG_at _ r c).trans (congrArg gate (refZ_tok m r _))

theorem refG2_tok (r : Fin 16384) (c : Fin 1024) : resG2 (all (normed (a0 m) (a1 m) (a2 m) (a3 m)) (a4 m)) (ix2 r c) = outG2 m (ix2 r c) :=
  (Cert.Reference4Ideal.Inproj.resG2_at _ r c).trans (congrArg gate (refZ_tok m r _))

theorem algebraic : @Cert.algebraic_Kernel4Ideal_Reference4Ideal Cert.Kernel4Ideal.Gen.facts Cert.Reference4Ideal.Gen.facts := by
  intro m g m' g' _ harg
  refine ⟨fun c => outQ m, fun c => outK m, fun c => outV m, fun c => outQ2 m, fun c => outK2 m, fun c => outV2 m, fun c => outG m, fun c => outG2 m, ?_, ?_⟩
  · refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.2.2.2.2.2.2⟩)
      (Cert.Kernel4Ideal.Value.run_blocks m g)
    · obtain rfl : c = 0 := Subsingleton.elim _ _
      funext i
      rw [eq_ix2 (n0 := 16384) (n1 := 512) i]
      exact arr11 m (i 0) (i 1)
    · obtain rfl : c = 0 := Subsingleton.elim _ _
      funext i
      rw [eq_ix2 (n0 := 16384) (n1 := 256) i]
      exact arr12 m (i 0) (i 1)
    · obtain rfl : c = 0 := Subsingleton.elim _ _
      funext i
      rw [eq_ix2 (n0 := 128) (n1 := 16384) i]
      exact arr13 m (i 0) (i 1)
    · obtain rfl : c = 0 := Subsingleton.elim _ _
      funext i
      rw [eq_ix2 (n0 := 16384) (n1 := 512) i]
      exact arr14 m (i 0) (i 1)
    · obtain rfl : c = 0 := Subsingleton.elim _ _
      funext i
      rw [eq_ix2 (n0 := 16384) (n1 := 512) i]
      exact arr15 m (i 0) (i 1)
    · obtain rfl : c = 0 := Subsingleton.elim _ _
      funext i
      rw [eq_ix2 (n0 := 512) (n1 := 16384) i]
      exact arr16 m (i 0) (i 1)
    · obtain rfl : c = 0 := Subsingleton.elim _ _
      funext i
      rw [eq_ix2 (n0 := 16384) (n1 := 1024) i]
      exact arr17 m (i 0) (i 1)
    · obtain rfl : c = 0 := Subsingleton.elim _ _
      funext i
      rw [eq_ix2 (n0 := 16384) (n1 := 1024) i]
      exact arr18 m (i 0) (i 1)
  · refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩)
      (Cert.Reference4Ideal.Value.run m' g')
    · obtain rfl : c = 0 := Subsingleton.elim _ _
      obtain ⟨e0, e1, e2, e3, e4, e5⟩ := harg 0
      rw [e0, e1, e2, e3, e4]
      funext i
      rw [eq_ix2 (n0 := 16384) (n1 := 512) i]
      exact refQ_tok m (i 0) (i 1)
    · obtain rfl : c = 0 := Subsingleton.elim _ _
      obtain ⟨e0, e1, e2, e3, e4, e5⟩ := harg 0
      rw [e0, e1, e2, e3, e4]
      funext i
      rw [eq_ix2 (n0 := 16384) (n1 := 256) i]
      exact refK_tok m (i 0) (i 1)
    · obtain rfl : c = 0 := Subsingleton.elim _ _
      obtain ⟨e0, e1, e2, e3, e4, e5⟩ := harg 0
      rw [e0, e1, e2, e3, e4]
      funext i
      rw [eq_ix2 (n0 := 128) (n1 := 16384) i]
      exact refV_tok m (i 0) (i 1)
    · obtain rfl : c = 0 := Subsingleton.elim _ _
      obtain ⟨e0, e1, e2, e3, e4, e5⟩ := harg 0
      rw [e0, e1, e2, e3, e4]
      funext i
      rw [eq_ix2 (n0 := 16384) (n1 := 512) i]
      exact refQ2_tok m (i 0) (i 1)
    · obtain rfl : c = 0 := Subsingleton.elim _ _
      obtain ⟨e0, e1, e2, e3, e4, e5⟩ := harg 0
      rw [e0, e1, e2, e3, e4]
      funext i
      rw [eq_ix2 (n0 := 16384) (n1 := 512) i]
      exact refK2_tok m (i 0) (i 1)
    · obtain rfl : c = 0 := Subsingleton.elim _ _
      obtain ⟨e0, e1, e2, e3, e4, e5⟩ := harg 0
      rw [e0, e1, e2, e3, e4]
      funext i
      rw [eq_ix2 (n0 := 512) (n1 := 16384) i]
      exact refV2_tok m (i 0) (i 1)
    · obtain rfl : c = 0 := Subsingleton.elim _ _
      obtain ⟨e0, e1, e2, e3, e4, e5⟩ := harg 0
      rw [e0, e1, e2, e3, e4]
      funext i
      rw [eq_ix2 (n0 := 16384) (n1 := 1024) i]
      exact refG_tok m (i 0) (i 1)
    · obtain rfl : c = 0 := Subsingleton.elim _ _
      obtain ⟨e0, e1, e2, e3, e4, e5⟩ := harg 0
      rw [e0, e1, e2, e3, e4]
      funext i
      rw [eq_ix2 (n0 := 16384) (n1 := 1024) i]
      exact refG2_tok m (i 0) (i 1)

end Cert.Inproj
-- ==== Proof.Ada.Row.lean ====
/- One conditioning value: the conditioning vector through silu, times a weight's column, plus a bias. -/
module

public import proofs.«01_k».proof.Proof.Route.Row

@[expose] public section

noncomputable section

namespace Cert.Ada

open Idealize.ShloMosaic

/-- The logistic function. -/
def gate (x : EReal) : EReal := Ideal.div 1 (1 + Ideal.exp (-x))

/-- `silu c · w + b` for one column `w`. -/
def adaOf (c w : Fin 1024 → EReal) (b : EReal) : EReal := (∑ k, c k * gate (c k) * w k) + b

theorem adaOf_congr {c c' w w' : Fin 1024 → EReal} {b b' : EReal} (hc : ∀ k, c k = c' k) (hw : ∀ k, w k = w' k) (hb : b = b') :
    adaOf c w b = adaOf c' w' b' := by
  rw [funext hc, funext hw, hb]

end Cert.Ada
-- ==== Proof.Ada.Blocks.lean ====
/- The conditioning call's stored block at an index, its blocks in terms of the arguments, and its result's array. -/
module

public import proofs.«01_k».proof.Proof.Gen.Kernel5Ideal.Value
public import Idealize.ShloMosaic.Lib.Pipeline.Value
public import Idealize.ShloMosaic.Lib.Pointwise
public import proofs.«01_k».proof.Proof.Ada.Row

@[expose] public section

set_option maxRecDepth 16384
set_option Elab.async false

noncomputable section

namespace Cert.Ada

open Cert.Kernel5Ideal Cert.Kernel5Ideal.Gen
open Idealize.ShloMosaic Idealize.ShloMosaic.TcCoe
open Idealize.ShloMosaic.Pipeline (Dat Window)

theorem ix2_ext {n0 n1 : ℕ} {i j : (⟨2, ![n0, n1]⟩ : Shape).Idx} (h0 : (i 0).val = (j 0).val) (h1 : (i 1).val = (j 1).val) : i = j := by
  funext a
  fin_cases a
  · exact Fin.ext h0
  · exact Fin.ext h1

theorem hz : (![0, 0] : Fin 2 → Nat) = fun _ => 0 := funext fun a => by fin_cases a <;> rfl

/-- What the body computes, at a column. -/
theorem pay_at (x0 : Vec Ideal S1024x1 .f32) (x1 : Vec Ideal S1024x1024 .f32) (x2 : Vec Ideal S1x1024 .f32) (j : Fin 1024) :
    k0_pay1 x0 x1 x2 (ix2 (n0 := 1) 0 j) = adaOf (fun k => x0 (ix2 (n1 := 1) k 0)) (fun k => x1 (ix2 k j)) (x2 (ix2 (n0 := 1) 0 j)) := by
  unfold k0_pay1
  pointwise
  rfl

/-- The block the body stores, at a column. -/
theorem out_at (x0 : Vec Ideal S1024x1 .f32) (x1 : Vec Ideal S1024x1024 .f32) (x2 : Vec Ideal S1x1024 .f32) (j : Fin 1024) :
    out0_3 x0 x1 x2 (ix2 (n0 := 1) 0 j) = adaOf (fun k => x0 (ix2 (n1 := 1) k 0)) (fun k => x1 (ix2 k j)) (x2 (ix2 (n0 := 1) 0 j)) := by
  unfold out0_3
  rw [View.canon_unit_zero hz]
  simp only [View.ld_unit_zero (S := S1024x1) hz, View.ld_unit_zero (S := S1024x1024) hz, View.ld_unit_zero (S := S1x1024) hz]
  exact pay_at x0 x1 x2 j

variable (m : (ℓ : Loc nD τ sig) → Buf (Elt Ideal) ℓ)

/-- The program's arguments: the conditioning vector, the weight, the bias. -/
abbrev cA : FVec Ideal S1x1024 .f32 := m (((0 : Dev nD) : Thread nD τ).loc main_arg0)
abbrev wA : FVec Ideal S1024x6144 .f32 := m (((0 : Dev nD) : Thread nD τ).loc main_arg1)
abbrev bA : FVec Ideal S1x6144 .f32 := m (((0 : Dev nD) : Thread nD τ).loc main_arg2)

theorem V_c : V m 0 main_v0 = shapeCast S1024x1 (cA m) shapeCasts_S1x1024_S1024x1 := by
  unfold V
  after_results_simp
  rfl

theorem at_c (k : Fin 1024) : V m 0 main_v0 (ix2 (n1 := 1) k 0) = cA m (ix2 (n0 := 1) 0 k) := by
  rw [V_c]
  pointwise

theorem index0 : ∀ t : Fin grid0.N, win0_0.index t = ![0, 0] := by decide +kernel
theorem index1 : ∀ t : Fin grid0.N, win0_1.index t = ![0, t.val] := by decide +kernel
theorem index2 : ∀ t : Fin grid0.N, win0_2.index t = ![0, t.val] := by decide +kernel
theorem index3 : ∀ t : Fin grid0.N, win0_3.index t = ![0, t.val] := by decide +kernel
theorem flush3 : ∀ t : Fin grid0.N, win0_3.flush t = true := by decide +kernel

theorem blk0 (t : Fin cfg0.N) (k : Fin 1024) : iblk m 0 0 t (ix2 (n0 := 1024) (n1 := 1) k 0) = cA m (ix2 (n0 := 1) (n1 := 1024) 0 k) := by
  refine Eq.trans ?_ (at_c m k)
  unfold iblk
  rw [View.read_apply]
  refine congrArg (V m 0 main_v0) (ix2_ext (n0 := 1024) (n1 := 1) ?_ ?_)
  · refine (Window.rect_emb_val (cfg0.win 0) t _ (0 : Fin 2)).trans ?_
    rw [show (cfg0.win 0).index t = _ from index0 t]
    show 0 * 1024 + k.val = k.val
    omega
  · refine (Window.rect_emb_val (cfg0.win 0) t _ (1 : Fin 2)).trans ?_
    rw [show (cfg0.win 0).index t = _ from index0 t]
    rfl

theorem blk1 (t : Fin cfg0.N) (k j : Fin 1024) : iblk m 0 1 t (ix2 (n0 := 1024) (n1 := 1024) k j)
    = wA m (ix2 (n0 := 1024) (n1 := 6144) k ⟨t.val * 1024 + j.val, by have ht : t.val < 6 := t.isLt; omega⟩) := by
  refine Eq.trans ?_ (congrFun (V_main_arg1 m 0) _)
  unfold iblk
  rw [View.read_apply]
  refine congrArg (V m 0 main_arg1) (ix2_ext (n0 := 1024) (n1 := 6144) ?_ ?_)
  · refine (Window.rect_emb_val (cfg0.win 1) t _ (0 : Fin 2)).trans ?_
    rw [show (cfg0.win 1).index t = _ from index1 t]
    show 0 * 1024 + k.val = k.val
    omega
  · refine (Window.rect_emb_val (cfg0.win 1) t _ (1 : Fin 2)).trans ?_
    rw [show (cfg0.win 1).index t = _ from index1 t]
    rfl

theorem blk2 (t : Fin cfg0.N) (j : Fin 1024) : iblk m 0 2 t (ix2 (n0 := 1) (n1 := 1024) 0 j)
    = bA m (ix2 (n0 := 1) (n1 := 6144) 0 ⟨t.val * 1024 + j.val, by have ht : t.val < 6 := t.isLt; omega⟩) := by
  refine Eq.trans ?_ (congrFun (V_main_arg2 m 0) _)
  unfold iblk
  rw [View.read_apply]
  refine congrArg (V m 0 main_arg2) (ix2_ext (n0 := 1) (n1 := 6144) ?_ ?_)
  · refine (Window.rect_emb_val (cfg0.win 2) t _ (0 : Fin 2)).trans ?_
    rw [show (cfg0.win 2).index t = _ from index2 t]
    rfl
  · refine (Window.rect_emb_val (cfg0.win 2) t _ (1 : Fin 2)).trans ?_
    rw [show (cfg0.win 2).index t = _ from index2 t]
    rfl

/-- The result, at an index. -/
def rowOf : FVec Ideal S1x6144 .f32 := fun i =>
  adaOf (fun k => cA m (ix2 (n0 := 1) (n1 := 1024) 0 k)) (fun k => wA m (ix2 (n0 := 1024) (n1 := 6144) k (i 1))) (bA m (ix2 (n0 := 1) (n1 := 6144) 0 (i 1)))

/-- What a point stores, at a column of its block. -/
theorem body_at (t : Fin cfg0.N) (r : Fin 1) (j : Fin 1024) : out0_3 (iblk m 0 0 t) (iblk m 0 1 t) (iblk m 0 2 t) (ix2 r j)
    = rowOf m (ix2 (n0 := 1) (n1 := 6144) r ⟨t.val * 1024 + j.val, by have ht : t.val < 6 := t.isLt; omega⟩) := by
  obtain rfl : r = 0 := Subsingleton.elim _ _
  exact (out_at (iblk m 0 0 t) (iblk m 0 1 t) (iblk m 0 2 t) j).trans (adaOf_congr (blk0 m t) (fun k => blk1 m t k j) (blk2 m t j))

theorem emb3 (t : Fin cfg0.N) (r : Fin 1) (j : Fin 1024) : ((cfg0.win 3).blk t).view.emb (ix2 (n0 := 1) (n1 := 1024) r j)
    = ix2 (n0 := 1) (n1 := 6144) r ⟨t.val * 1024 + j.val, by have ht : t.val < 6 := t.isLt; omega⟩ := by
  refine ix2_ext (n0 := 1) (n1 := 6144) ?_ ?_
  · refine (Window.rect_emb_val (cfg0.win 3) t _ (0 : Fin 2)).trans ?_
    rw [show (cfg0.win 3).index t = _ from index3 t]
    show 0 * 1 + r.val = r.val
    omega
  · refine (Window.rect_emb_val (cfg0.win 3) t _ (1 : Fin 2)).trans ?_
    rw [show (cfg0.win 3).index t = _ from index3 t]
    rfl

theorem flushed_eq (t : Fin cfg0.N) : (dats m 0 0).flushed 3 t = ((cfg0.win 3).blk t).view.read (Elt Ideal) (rowOf m) := by
  rw [Cert.Kernel5Ideal.Value.flushed3]
  funext j
  rw [View.read_apply]
  refine Eq.trans ?_ (congrArg (rowOf m) ((emb3 t (j 0) (j 1)).symm.trans (congrArg _ (eq_ix2 (n0 := 1) (n1 := 1024) j).symm)))
  refine Eq.trans ?_ (body_at m t (j 0) (j 1))
  exact congrArg (out0_3 (iblk m 0 0 t) (iblk m 0 1 t) (iblk m 0 2 t)) (eq_ix2 (n0 := 1) (n1 := 1024) j)

/-- After the run the result's array is `rowOf`. -/
theorem arr3 (r : Fin 1) (j : Fin 6144) : (dats m 0 0).arrAt 3 cfg0.N (ix2 (n0 := 1) (n1 := 6144) r j) = rowOf m (ix2 (n0 := 1) (n1 := 6144) r j) := by
  have hr := j.isLt
  have ht : j.val / 1024 < cfg0.N := show j.val / 1024 < 6 by omega
  refine (dats m 0 0).arrAt_apply_of_mem 3 (rowOf m) (fun t _ => flushed_eq m t) _ ⟨j.val / 1024, ht⟩ _ ht (flush3 _) ?_
  have e : ix2 (n0 := 1) (n1 := 6144) r j
      = ((cfg0.win 3).blk ⟨j.val / 1024, ht⟩).view.emb (ix2 (n0 := 1) (n1 := 1024) r ⟨j.val % 1024, Nat.mod_lt _ (by omega)⟩) := by
    rw [emb3]
    refine ix2_ext rfl ?_
    show j.val = j.val / 1024 * 1024 + j.val % 1024
    omega
  rw [e]
  exact View.emb_mem_set _ _

end Cert.Ada
-- ==== Proof.Ada.RefOut.lean ====
/- The conditioning call's reference, at an index. -/
module

public import proofs.«01_k».proof.Proof.Gen.Reference5Ideal.Run
public import proofs.«01_k».proof.Proof.Ada.Row
public import Idealize.ShloMosaic.Lib.Pointwise

@[expose] public section

set_option maxRecDepth 16384
set_option Elab.async false

noncomputable section

namespace Cert.Reference5Ideal.Ada

open Cert.Reference5Ideal Cert.Reference5Ideal.Gen Idealize.ShloMosaic Idealize.ShloMosaic.StableHlo
open Cert.Ada

/-- The reference's result, as an expression of its arguments. -/
def out (a0 : FVec Ideal S1x1024 .f32) (a1 : FVec Ideal S1024x6144 .f32) (a2 : FVec Ideal S1x6144 .f32) : FVec Ideal S1x6144 .f32 :=
  addf (Host.dotGeneral dot_S1x1024_S1024x6144_S1x6144_1_0_0_1_n_n none
    (mulf a0 (Host.divf (broadcastInDim S1x1024 ![] bcast_S_S1x1024 (constant S_ .f32 0x3F800000#32))
      (addf (broadcastInDim S1x1024 ![] bcast_S_S1x1024 (constant S_ .f32 0x3F800000#32)) (Host.exp (Host.negf a0))))) a1) a2

theorem out_at (a0 : FVec Ideal S1x1024 .f32) (a1 : FVec Ideal S1024x6144 .f32) (a2 : FVec Ideal S1x6144 .f32) (j : Fin 6144) :
    out a0 a1 a2 (ix2 (n0 := 1) 0 j) = adaOf (fun k => a0 (ix2 (n0 := 1) 0 k)) (fun k => a1 (ix2 k j)) (a2 (ix2 (n0 := 1) 0 j)) := by
  unfold out
  pointwise
  rfl

theorem out_row (a0 : FVec Ideal S1x1024 .f32) (a1 : FVec Ideal S1024x6144 .f32) (a2 : FVec Ideal S1x6144 .f32) (r : Fin 1) (j : Fin 6144) :
    out a0 a1 a2 (ix2 (n0 := 1) r j) = adaOf (fun k => a0 (ix2 (n0 := 1) 0 k)) (fun k => a1 (ix2 k j)) (a2 (ix2 (n0 := 1) 0 j)) := by
  obtain rfl : r = 0 := Subsingleton.elim _ _
  exact out_at a0 a1 a2 j

end Cert.Reference5Ideal.Ada
-- ==== Proof.Ada.Value.lean ====
/- The conditioning call's value: the idealized program and the reference end with the same result. -/
module

public import proofs.«01_k».proof.Defs
public import proofs.«01_k».proof.Proof.Ada.Blocks
public import proofs.«01_k».proof.Proof.Ada.RefOut

@[expose] public section

set_option maxRecDepth 16384

noncomputable section

namespace Cert.Ada

open Idealize.ShloMosaic Idealize.SL.Sem

theorem algebraic : @Cert.algebraic_Kernel5Ideal_Reference5Ideal Cert.Kernel5Ideal.Gen.facts Cert.Reference5Ideal.Gen.facts := by
  intro m g m' g' _ harg
  refine ⟨fun c => rowOf m, ?_, ?_⟩
  · refine (θ_run _ _ _).mono (fun r h c => ⟨(h c).1.trans ?_, (h c).2⟩) (Cert.Kernel5Ideal.Value.run_blocks m g)
    obtain rfl : c = 0 := Subsingleton.elim _ _
    funext i
    rw [eq_ix2 (n0 := 1) (n1 := 6144) i]
    exact arr3 m (i 0) (i 1)
  · refine (θ_run _ _ _).mono (fun r h c => ⟨(h c).1.trans ?_, (h c).2⟩) (Cert.Reference5Ideal.Value.run m' g')
    obtain rfl : c = 0 := Subsingleton.elim _ _
    obtain ⟨e0, e1, e2⟩ := harg 0
    rw [e0, e1, e2]
    funext i
    rw [eq_ix2 (n0 := 1) (n1 := 6144) i]
    exact Cert.Reference5Ideal.Ada.out_row (cA m) (wA m) (bA m) (i 0) (i 1)

end Cert.Ada
-- ==== Proof.lean ====
module

public import proofs.«01_k».proof.Defs
public import proofs.«01_k».proof.Proof.Word.Args
public import proofs.«01_k».proof.Proof.Ideal.Args
public import proofs.«01_k».proof.Proof.Gen.ReferenceIdeal.Run
public import Idealize.ShloMosaic.Lib.Bf16Pair
public import proofs.«01_k».proof.Proof.Value
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Final.Value
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Route.Value
public import proofs.«01_k».proof.Proof.Inproj.Value
public import proofs.«01_k».proof.Proof.Ada.Value

@[expose] public section

noncomputable section

namespace Cert.Proof

open Idealize.ShloMosaic Idealize.SL.Sem

/-- The plain program's run. -/
theorem reference : @Cert.quiescent_ReferenceIdeal Cert.ReferenceIdeal.Gen.facts Cert.Pre_tables.Gen.facts := by
  intro m g _
  exact (θ_run _ _ _).mono (fun r h => ⟨fun c => (h c).2, sem_eq_zero_of_no_sems (by decide) r.2⟩) (Cert.ReferenceIdeal.Value.run m g)

/-- The rules' own statements at the blocks' shapes. -/
theorem preserves : Cert.preserves_Kernel_KernelIdeal :=
  ⟨IdealRules.bf16_pair.statement _ _, IdealRules.bf16_pair.statement _ _, IdealRules.bf16_pair.statement _ _,
    IdealRules.bf16_pair.statement _ _, IdealRules.bf16_pack.statement _⟩

/-- The combining call's plain program's run. -/
theorem reference2 : @Cert.quiescent_Reference2Ideal Cert.Reference2Ideal.Gen.facts := by
  intro m g _
  exact (θ_run _ _ _).mono (fun r h => ⟨fun c => (h c).2, sem_eq_zero_of_no_sems (by decide) r.2⟩) (Cert.Reference2Ideal.Value.run m g)

/-- The rules' own statements at the combining call's blocks. -/
theorem preserves2 : Cert.preserves_Kernel2_Kernel2Ideal :=
  ⟨IdealRules.bf16_pair.statement _ _, IdealRules.bf16_pair.statement _ _⟩

/-- The router call's plain program's run. -/
theorem reference3 : @Cert.quiescent_Reference3Ideal Cert.Reference3Ideal.Gen.facts := by
  intro m g _
  exact (θ_run _ _ _).mono (fun r h => ⟨fun c => (h c).2.2.2, sem_eq_zero_of_no_sems (by decide) r.2⟩) (Cert.Reference3Ideal.Value.run m g)

/-- The same under the call's precondition. -/
theorem reference3' : @Cert.quiescent_Reference3Ideal_pre_scored Cert.Reference3Ideal.Gen.facts Cert.Pre_scored.shapes := by
  intro m g _
  exact (θ_run _ _ _).mono (fun r h => ⟨fun c => (h c).2.2.2, sem_eq_zero_of_no_sems (by decide) r.2⟩) (Cert.Reference3Ideal.Value.run m g)

/-- The rules' own statements at the router call's blocks. -/
theorem preserves3 : Cert.preserves_Kernel3_Kernel3Ideal :=
  ⟨IdealRules.bf16_pair.statement _ _, IdealRules.bf16_pack.statement _⟩

/-- The input projection's plain program's run. -/
theorem reference4 : @Cert.quiescent_Reference4Ideal Cert.Reference4Ideal.Gen.facts := by
  intro m g _
  exact (θ_run _ _ _).mono (fun r h => ⟨fun c => (h c).2.2.2.2.2.2.2.2, sem_eq_zero_of_no_sems (by decide) r.2⟩) (Cert.Reference4Ideal.Value.run m g)

/-- The conditioning call's plain program's run. -/
theorem reference5 : @Cert.quiescent_Reference5Ideal Cert.Reference5Ideal.Gen.facts := by
  intro m g _
  exact (θ_run _ _ _).mono (fun r h => ⟨fun c => (h c).2, sem_eq_zero_of_no_sems (by decide) r.2⟩) (Cert.Reference5Ideal.Value.run m g)

/-- No operation of the input projection is replaced. -/
theorem preserves4 : Cert.preserves_Kernel4_Kernel4Ideal := trivial

/-- No operation of the conditioning call is replaced. -/
theorem preserves5 : Cert.preserves_Kernel5_Kernel5Ideal := trivial

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_tables.Gen.facts, Cert.Pre_scored.shapes, Cert.On_live_rows.Gen.facts,
    Cert.Kernel.Moe.quiescent, Cert.KernelIdeal.Moe.quiescent, reference,
    fun m ρ _ => Cert.Kernel2.Gen.frame m ρ, fun m ρ _ => Cert.Kernel2Ideal.Gen.frame m ρ, reference2,
    fun m ρ _ => Cert.Kernel3.Gen.frame m ρ, fun m ρ _ => Cert.Kernel3Ideal.Gen.frame m ρ, fun m ρ _ => Cert.Kernel3Ideal.Gen.frame m ρ,
    reference3, reference3',
    fun m ρ _ => Cert.Kernel4.Gen.frame m ρ, fun m ρ _ => Cert.Kernel4Ideal.Gen.frame m ρ, reference4,
    fun m ρ _ => Cert.Kernel5.Gen.frame m ρ, fun m ρ _ => Cert.Kernel5Ideal.Gen.frame m ρ, reference5,
    preserves, Cert.Value.algebraic, preserves2, Cert.Final.algebraic, preserves3, Cert.Route.algebraic,
    preserves4, Cert.Inproj.algebraic, preserves5, Cert.Ada.algebraic⟩

end Cert.Proof

end
